-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWIdeal_ffn_w_finite [hPre_ffn_w_finite : Cert.Pre_ffn_w_finite.Facts] (m : (ℓ : Loc Cert.FfnWIdeal.nD Cert.FfnWIdeal.τ Cert.FfnWIdeal.sig) → Buf (Elt Ideal) ℓ) : Prop :=
  ∀ c : Dev Cert.FfnWIdeal.nD,
    (Cert.Pre_ffn_w_finite.fn (F := Ideal) (m ((c.tc : Thread Cert.FfnWIdeal.nD Cert.FfnWIdeal.τ).loc Cert.FfnWIdeal.main_arg0)) (m ((c.tc : Thread Cert.FfnWIdeal.nD Cert.FfnWIdeal.τ).loc Cert.FfnWIdeal.main_arg1)) (m ((c.tc : Thread Cert.FfnWIdeal.nD Cert.FfnWIdeal.τ).loc Cert.FfnWIdeal.main_arg2)) (m ((c.tc : Thread Cert.FfnWIdeal.nD Cert.FfnWIdeal.τ).loc Cert.FfnWIdeal.main_arg3))) = (fun _ => 1#1)

def Pre_FfnWRefIdeal (m : (ℓ : Loc Cert.FfnWRefIdeal.nD Cert.FfnWRefIdeal.τ Cert.FfnWRefIdeal.sig) → Buf (Elt Ideal) ℓ) : Prop :=
  True

def Pre_FfnWRefIdeal_ffn_w_finite [hPre_ffn_w_finite : Cert.Pre_ffn_w_finite.Facts] (m : (ℓ : Loc Cert.FfnWRefIdeal.nD Cert.FfnWRefIdeal.τ Cert.FfnWRefIdeal.sig) → Buf (Elt Ideal) ℓ) : Prop :=
  ∀ c : Dev Cert.FfnWRefIdeal.nD,
    (Cert.Pre_ffn_w_finite.fn (F := Ideal) (m ((c.tc : Thread Cert.FfnWRefIdeal.nD Cert.FfnWRefIdeal.τ).loc Cert.FfnWRefIdeal.main_arg0)) (m ((c.tc : Thread Cert.FfnWRefIdeal.nD Cert.FfnWRefIdeal.τ).loc Cert.FfnWRefIdeal.main_arg1)) (m ((c.tc : Thread Cert.FfnWRefIdeal.nD Cert.FfnWRefIdeal.τ).loc Cert.FfnWRefIdeal.main_arg2)) (m ((c.tc : Thread Cert.FfnWRefIdeal.nD Cert.FfnWRefIdeal.τ).loc Cert.FfnWRefIdeal.main_arg3))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))) = (fun _ => 1#1)

def Pre_FfnX (m : (ℓ : Loc Cert.FfnX.nD Cert.FfnX.τ Cert.FfnX.sig) → Buf (Elt Bits) ℓ) : Prop :=
  True

def Pre_FfnXIdeal (m : (ℓ : Loc Cert.FfnXIdeal.nD Cert.FfnXIdeal.τ Cert.FfnXIdeal.sig) → Buf (Elt Ideal) ℓ) : Prop :=
  True

def Pre_FfnXIdeal_ffn_x_finite [hPre_ffn_x_finite : Cert.Pre_ffn_x_finite.Facts] (m : (ℓ : Loc Cert.FfnXIdeal.nD Cert.FfnXIdeal.τ Cert.FfnXIdeal.sig) → Buf (Elt Ideal) ℓ) : Prop :=
  ∀ c : Dev Cert.FfnXIdeal.nD,
    (Cert.Pre_ffn_x_finite.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6)) (m ((c.tc : Thread Cert.FfnXIdeal.nD Cert.FfnXIdeal.τ).loc Cert.FfnXIdeal.main_arg7))) = (fun _ => 1#1)

def Pre_FfnXRefIdeal (m : (ℓ : Loc Cert.FfnXRefIdeal.nD Cert.FfnXRefIdeal.τ Cert.FfnXRefIdeal.sig) → Buf (Elt Ideal) ℓ) : Prop :=
  True

def Pre_FfnXRefIdeal_ffn_x_finite [hPre_ffn_x_finite : Cert.Pre_ffn_x_finite.Facts] (m : (ℓ : Loc Cert.FfnXRefIdeal.nD Cert.FfnXRefIdeal.τ Cert.FfnXRefIdeal.sig) → Buf (Elt Ideal) ℓ) : Prop :=
  ∀ c : Dev Cert.FfnXRefIdeal.nD,
    (Cert.Pre_ffn_x_finite.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6)) (m ((c.tc : Thread Cert.FfnXRefIdeal.nD Cert.FfnXRefIdeal.τ).loc Cert.FfnXRefIdeal.main_arg7))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mixin_finite [hPre_mixin_finite : Cert.Pre_mixin_finite.Facts] (m : (ℓ : Loc Cert.MixIdeal.nD Cert.MixIdeal.τ Cert.MixIdeal.sig) → Buf (Elt Ideal) ℓ) : Prop :=
  ∀ c : Dev Cert.MixIdeal.nD,
    (Cert.Pre_mixin_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mixin_finite [hPre_mixin_finite : Cert.Pre_mixin_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mixin_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_small_finite [hPre_small_finite : Cert.Pre_small_finite.Facts] (m : (ℓ : Loc Cert.SmallIdeal.nD Cert.SmallIdeal.τ Cert.SmallIdeal.sig) → Buf (Elt Ideal) ℓ) : Prop :=
  ∀ c : Dev Cert.SmallIdeal.nD,
    (Cert.Pre_small_finite.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4)) (m ((c.tc : Thread Cert.SmallIdeal.nD Cert.SmallIdeal.τ).loc Cert.SmallIdeal.main_arg5)) (m ((c.tc : Thread Cert.SmallIdeal.nD Cert.SmallIdeal.τ).loc Cert.SmallIdeal.main_arg6)) (m ((c.tc : Thread Cert.SmallIdeal.nD Cert.SmallIdeal.τ).loc Cert.SmallIdeal.main_arg7)) (m ((c.tc : Thread Cert.SmallIdeal.nD Cert.SmallIdeal.τ).loc Cert.SmallIdeal.main_arg8)) (m ((c.tc : Thread Cert.SmallIdeal.nD Cert.SmallIdeal.τ).loc Cert.SmallIdeal.main_arg9)) (m ((c.tc : Thread Cert.SmallIdeal.nD Cert.SmallIdeal.τ).loc Cert.SmallIdeal.main_arg10)) (m ((c.tc : Thread Cert.SmallIdeal.nD Cert.SmallIdeal.τ).loc Cert.SmallIdeal.main_arg11)) (m ((c.tc : Thread Cert.SmallIdeal.nD Cert.SmallIdeal.τ).loc Cert.SmallIdeal.main_arg12)) (m ((c.tc : Thread Cert.SmallIdeal.nD Cert.SmallIdeal.τ).loc Cert.SmallIdeal.main_arg13)) (m ((c.tc : Thread Cert.SmallIdeal.nD Cert.SmallIdeal.τ).loc Cert.SmallIdeal.main_arg14)) (m ((c.tc : Thread Cert.SmallIdeal.nD Cert.SmallIdeal.τ).loc Cert.SmallIdeal.main_arg15)) (m ((c.tc : Thread Cert.SmallIdeal.nD Cert.SmallIdeal.τ).loc Cert.SmallIdeal.main_arg16)) (m ((c.tc : Thread Cert.SmallIdeal.nD Cert.SmallIdeal.τ).loc Cert.SmallIdeal.main_arg17)) (m ((c.tc : Thread Cert.SmallIdeal.nD Cert.SmallIdeal.τ).loc Cert.SmallIdeal.main_arg18)) (m ((c.tc : Thread Cert.SmallIdeal.nD Cert.SmallIdeal.τ).loc Cert.SmallIdeal.main_arg19)) (m ((c.tc : Thread Cert.SmallIdeal.nD Cert.SmallIdeal.τ).loc Cert.SmallIdeal.main_arg20)) (m ((c.tc : Thread Cert.SmallIdeal.nD Cert.SmallIdeal.τ).loc Cert.SmallIdeal.main_arg21)) (m ((c.tc : Thread Cert.SmallIdeal.nD Cert.SmallIdeal.τ).loc Cert.SmallIdeal.main_arg22)) (m ((c.tc : Thread Cert.SmallIdeal.nD Cert.SmallIdeal.τ).loc Cert.SmallIdeal.main_arg23)) (m ((c.tc : Thread Cert.SmallIdeal.nD Cert.SmallIdeal.τ).loc Cert.SmallIdeal.main_arg24)) (m ((c.tc : Thread Cert.SmallIdeal.nD Cert.SmallIdeal.τ).loc Cert.SmallIdeal.main_arg25)) (m ((c.tc : Thread Cert.SmallIdeal.nD Cert.SmallIdeal.τ).loc Cert.SmallIdeal.main_arg26)) (m ((c.tc : Thread Cert.SmallIdeal.nD Cert.SmallIdeal.τ).loc Cert.SmallIdeal.main_arg27)) (m ((c.tc : Thread Cert.SmallIdeal.nD Cert.SmallIdeal.τ).loc Cert.SmallIdeal.main_arg28)) (m ((c.tc : Thread Cert.SmallIdeal.nD Cert.SmallIdeal.τ).loc Cert.SmallIdeal.main_arg29)) (m ((c.tc : Thread Cert.SmallIdeal.nD Cert.SmallIdeal.τ).loc Cert.SmallIdeal.main_arg30))) = (fun _ => 1#1)

def Pre_SmallRefIdeal (m : (ℓ : Loc Cert.SmallRefIdeal.nD Cert.SmallRefIdeal.τ Cert.SmallRefIdeal.sig) → Buf (Elt Ideal) ℓ) : Prop :=
  True

def Pre_SmallRefIdeal_small_finite [hPre_small_finite : Cert.Pre_small_finite.Facts] (m : (ℓ : Loc Cert.SmallRefIdeal.nD Cert.SmallRefIdeal.τ Cert.SmallRefIdeal.sig) → Buf (Elt Ideal) ℓ) : Prop :=
  ∀ c : Dev Cert.SmallRefIdeal.nD,
    (Cert.Pre_small_finite.fn (F := Ideal) (m ((c.tc : Thread Cert.SmallRefIdeal.nD Cert.SmallRefIdeal.τ).loc Cert.SmallRefIdeal.main_arg0)) (m ((c.tc : Thread Cert.SmallRefIdeal.nD Cert.SmallRefIdeal.τ).loc Cert.SmallRefIdeal.main_arg1)) (m ((c.tc : Thread Cert.SmallRefIdeal.nD Cert.SmallRefIdeal.τ).loc Cert.SmallRefIdeal.main_arg2)) (m ((c.tc : Thread Cert.SmallRefIdeal.nD Cert.SmallRefIdeal.τ).loc Cert.SmallRefIdeal.main_arg3)) (m ((c.tc : Thread Cert.SmallRefIdeal.nD Cert.SmallRefIdeal.τ).loc Cert.SmallRefIdeal.main_arg4)) (m ((c.tc : Thread Cert.SmallRefIdeal.nD Cert.SmallRefIdeal.τ).loc Cert.SmallRefIdeal.main_arg5)) (m ((c.tc : Thread Cert.SmallRefIdeal.nD Cert.SmallRefIdeal.τ).loc Cert.SmallRefIdeal.main_arg6)) (m ((c.tc : Thread Cert.SmallRefIdeal.nD Cert.SmallRefIdeal.τ).loc Cert.SmallRefIdeal.main_arg7)) (m ((c.tc : Thread Cert.SmallRefIdeal.nD Cert.SmallRefIdeal.τ).loc Cert.SmallRefIdeal.main_arg8)) (m ((c.tc : Thread Cert.SmallRefIdeal.nD Cert.SmallRefIdeal.τ).loc Cert.SmallRefIdeal.main_arg9)) (m ((c.tc : Thread Cert.SmallRefIdeal.nD Cert.SmallRefIdeal.τ).loc Cert.SmallRefIdeal.main_arg10)) (m ((c.tc : Thread Cert.SmallRefIdeal.nD Cert.SmallRefIdeal.τ).loc Cert.SmallRefIdeal.main_arg11)) (m ((c.tc : Thread Cert.SmallRefIdeal.nD Cert.SmallRefIdeal.τ).loc Cert.SmallRefIdeal.main_arg12)) (m ((c.tc : Thread Cert.SmallRefIdeal.nD Cert.SmallRefIdeal.τ).loc Cert.SmallRefIdeal.main_arg13)) (m ((c.tc : Thread Cert.SmallRefIdeal.nD Cert.SmallRefIdeal.τ).loc Cert.SmallRefIdeal.main_arg14)) (m ((c.tc : Thread Cert.SmallRefIdeal.nD Cert.SmallRefIdeal.τ).loc Cert.SmallRefIdeal.main_arg15)) (m ((c.tc : Thread Cert.SmallRefIdeal.nD Cert.SmallRefIdeal.τ).loc Cert.SmallRefIdeal.main_arg16)) (m ((c.tc : Thread Cert.SmallRefIdeal.nD Cert.SmallRefIdeal.τ).loc Cert.SmallRefIdeal.main_arg17)) (m ((c.tc : Thread Cert.SmallRefIdeal.nD Cert.SmallRefIdeal.τ).loc Cert.SmallRefIdeal.main_arg18)) (m ((c.tc : Thread Cert.SmallRefIdeal.nD Cert.SmallRefIdeal.τ).loc Cert.SmallRefIdeal.main_arg19)) (m ((c.tc : Thread Cert.SmallRefIdeal.nD Cert.SmallRefIdeal.τ).loc Cert.SmallRefIdeal.main_arg20)) (m ((c.tc : Thread Cert.SmallRefIdeal.nD Cert.SmallRefIdeal.τ).loc Cert.SmallRefIdeal.main_arg21)) (m ((c.tc : Thread Cert.SmallRefIdeal.nD Cert.SmallRefIdeal.τ).loc Cert.SmallRefIdeal.main_arg22)) (m ((c.tc : Thread Cert.SmallRefIdeal.nD Cert.SmallRefIdeal.τ).loc Cert.SmallRefIdeal.main_arg23)) (m ((c.tc : Thread Cert.SmallRefIdeal.nD Cert.SmallRefIdeal.τ).loc Cert.SmallRefIdeal.main_arg24)) (m ((c.tc : Thread Cert.SmallRefIdeal.nD Cert.SmallRefIdeal.τ).loc Cert.SmallRefIdeal.main_arg25)) (m ((c.tc : Thread Cert.SmallRefIdeal.nD Cert.SmallRefIdeal.τ).loc Cert.SmallRefIdeal.main_arg26)) (m ((c.tc : Thread Cert.SmallRefIdeal.nD Cert.SmallRefIdeal.τ).loc Cert.SmallRefIdeal.main_arg27)) (m ((c.tc : Thread Cert.SmallRefIdeal.nD Cert.SmallRefIdeal.τ).loc Cert.SmallRefIdeal.main_arg28)) (m ((c.tc : Thread Cert.SmallRefIdeal.nD Cert.SmallRefIdeal.τ).loc Cert.SmallRefIdeal.main_arg29)) (m ((c.tc : Thread Cert.SmallRefIdeal.nD Cert.SmallRefIdeal.τ).loc Cert.SmallRefIdeal.main_arg30))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ r.2.sem = fun _ => 0)

def quiescent_FfnWIdeal_pre_ffn_w_finite [hFfnWIdeal : Cert.FfnWIdeal.Facts] [hPre_ffn_w_finite : Cert.Pre_ffn_w_finite.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal_ffn_w_finite m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3))
      ∧ r.2.sem = fun _ => 0)

def quiescent_FfnWRefIdeal_pre_ffn_w_finite [hFfnWRefIdeal : Cert.FfnWRefIdeal.Facts] [hPre_ffn_w_finite : Cert.Pre_ffn_w_finite.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal_ffn_w_finite m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_FfnX [hFfnX : Cert.FfnX.Facts] : Prop :=
  ∀ (m : (ℓ : Loc Cert.FfnX.nD Cert.FfnX.τ Cert.FfnX.sig) → Buf (Elt Bits) ℓ) (g : Dev Cert.FfnX.nD → PrngReg), Pre_FfnX m →
    θ_run (Cert.FfnX.defs (F := Bits)) (onTc (τ := Cert.FfnX.τ) (Cert.FfnX.main (F := Bits))) ⟨m, fun _ => 0, g⟩ (fun r => (∀ c : Dev Cert.FfnX.nD,
      r.2.mem ((c.tc : Thread Cert.FfnX.nD Cert.FfnX.τ).loc Cert.FfnX.main_arg0) = m ((c.tc : Thread Cert.FfnX.nD Cert.FfnX.τ).loc Cert.FfnX.main_arg0)
      ∧ r.2.mem ((c.tc : Thread Cert.FfnX.nD Cert.FfnX.τ).loc Cert.FfnX.main_arg1) = m ((c.tc : Thread Cert.FfnX.nD Cert.FfnX.τ).loc Cert.FfnX.main_arg1)
      ∧ r.2.mem ((c.tc : Thread Cert.FfnX.nD Cert.FfnX.τ).loc Cert.FfnX.main_arg2) = m ((c.tc : Thread Cert.FfnX.nD Cert.FfnX.τ).loc Cert.FfnX.main_arg2)
      ∧ r.2.mem ((c.tc : Thread Cert.FfnX.nD Cert.FfnX.τ).loc Cert.FfnX.main_arg3) = m ((c.tc : Thread Cert.FfnX.nD Cert.FfnX.τ).loc Cert.FfnX.main_arg3)
      ∧ r.2.mem ((c.tc : Thread Cert.FfnX.nD Cert.FfnX.τ).loc Cert.FfnX.main_arg4) = m ((c.tc : Thread Cert.FfnX.nD Cert.FfnX.τ).loc Cert.FfnX.main_arg4)
      ∧ r.2.mem ((c.tc : Thread Cert.FfnX.nD Cert.FfnX.τ).loc Cert.FfnX.main_arg5) = m ((c.tc : Thread Cert.FfnX.nD Cert.FfnX.τ).loc Cert.FfnX.main_arg5)
      ∧ r.2.mem ((c.tc : Thread Cert.FfnX.nD Cert.FfnX.τ).loc Cert.FfnX.main_arg6) = m ((c.tc : Thread Cert.FfnX.nD Cert.FfnX.τ).loc Cert.FfnX.main_arg6)
      ∧ r.2.mem ((c.tc : Thread Cert.FfnX.nD Cert.FfnX.τ).loc Cert.FfnX.main_arg7) = m ((c.tc : Thread Cert.FfnX.nD Cert.FfnX.τ).loc Cert.FfnX.main_arg7))
      ∧ r.2.sem = fun _ => 0)

def quiescent_FfnXIdeal [hFfnXIdeal : Cert.FfnXIdeal.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
      ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
      ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6)
      ∧ r.2.mem ((c.tc : Thread Cert.FfnXIdeal.nD Cert.FfnXIdeal.τ).loc Cert.FfnXIdeal.main_arg7) = m ((c.tc : Thread Cert.FfnXIdeal.nD Cert.FfnXIdeal.τ).loc Cert.FfnXIdeal.main_arg7))
      ∧ r.2.sem = fun _ => 0)

def quiescent_FfnXIdeal_pre_ffn_x_finite [hFfnXIdeal : Cert.FfnXIdeal.Facts] [hPre_ffn_x_finite : Cert.Pre_ffn_x_finite.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal_ffn_x_finite m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
      ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
      ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6)
      ∧ r.2.mem ((c.tc : Thread Cert.FfnXIdeal.nD Cert.FfnXIdeal.τ).loc Cert.FfnXIdeal.main_arg7) = m ((c.tc : Thread Cert.FfnXIdeal.nD Cert.FfnXIdeal.τ).loc Cert.FfnXIdeal.main_arg7))
      ∧ r.2.sem = fun _ => 0)

def quiescent_FfnXRefIdeal [hFfnXRefIdeal : Cert.FfnXRefIdeal.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4)
      ∧ r.2.mem ((c.tc : Thread Cert.FfnXRefIdeal.nD Cert.FfnXRefIdeal.τ).loc Cert.FfnXRefIdeal.main_arg5) = m ((c.tc : Thread Cert.FfnXRefIdeal.nD Cert.FfnXRefIdeal.τ).loc Cert.FfnXRefIdeal.main_arg5)
      ∧ r.2.mem ((c.tc : Thread Cert.FfnXRefIdeal.nD Cert.FfnXRefIdeal.τ).loc Cert.FfnXRefIdeal.main_arg6) = m ((c.tc : Thread Cert.FfnXRefIdeal.nD Cert.FfnXRefIdeal.τ).loc Cert.FfnXRefIdeal.main_arg6)
      ∧ r.2.mem ((c.tc : Thread Cert.FfnXRefIdeal.nD Cert.FfnXRefIdeal.τ).loc Cert.FfnXRefIdeal.main_arg7) = m ((c.tc : Thread Cert.FfnXRefIdeal.nD Cert.FfnXRefIdeal.τ).loc Cert.FfnXRefIdeal.main_arg7))
      ∧ r.2.sem = fun _ => 0)

def quiescent_FfnXRefIdeal_pre_ffn_x_finite [hFfnXRefIdeal : Cert.FfnXRefIdeal.Facts] [hPre_ffn_x_finite : Cert.Pre_ffn_x_finite.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal_ffn_x_finite m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4)
      ∧ r.2.mem ((c.tc : Thread Cert.FfnXRefIdeal.nD Cert.FfnXRefIdeal.τ).loc Cert.FfnXRefIdeal.main_arg5) = m ((c.tc : Thread Cert.FfnXRefIdeal.nD Cert.FfnXRefIdeal.τ).loc Cert.FfnXRefIdeal.main_arg5)
      ∧ r.2.mem ((c.tc : Thread Cert.FfnXRefIdeal.nD Cert.FfnXRefIdeal.τ).loc Cert.FfnXRefIdeal.main_arg6) = m ((c.tc : Thread Cert.FfnXRefIdeal.nD Cert.FfnXRefIdeal.τ).loc Cert.FfnXRefIdeal.main_arg6)
      ∧ r.2.mem ((c.tc : Thread Cert.FfnXRefIdeal.nD Cert.FfnXRefIdeal.τ).loc Cert.FfnXRefIdeal.main_arg7) = m ((c.tc : Thread Cert.FfnXRefIdeal.nD Cert.FfnXRefIdeal.τ).loc Cert.FfnXRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_mixin_finite [hMixIdeal : Cert.MixIdeal.Facts] [hPre_mixin_finite : Cert.Pre_mixin_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mixin_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mixin_finite [hMixRefIdeal : Cert.MixRefIdeal.Facts] [hPre_mixin_finite : Cert.Pre_mixin_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mixin_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30))
      ∧ r.2.sem = fun _ => 0)

def quiescent_SmallIdeal_pre_small_finite [hSmallIdeal : Cert.SmallIdeal.Facts] [hPre_small_finite : Cert.Pre_small_finite.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_small_finite m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30))
      ∧ r.2.sem = fun _ => 0)

def quiescent_SmallRefIdeal_pre_small_finite [hSmallRefIdeal : Cert.SmallRefIdeal.Facts] [hPre_small_finite : Cert.Pre_small_finite.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal_small_finite m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30))
      ∧ r.2.sem = fun _ => 0)

def preserves_Gate_GateIdeal : Prop :=
  True

def algebraic_GateIdeal_GateRefIdeal_on_gate_planes [hGateIdeal : Cert.GateIdeal.Facts] [hGateRefIdeal : Cert.GateRefIdeal.Facts] [hOn_gate_planes : Cert.On_gate_planes.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v31_0)) (v1 : (c : Dev Cert.GateIdeal.nD) → Buf (Elt Ideal) ((c.tc : Thread Cert.GateIdeal.nD Cert.GateIdeal.τ).loc Cert.GateIdeal.main_v31_1)) (v2 : (c : Dev Cert.GateIdeal.nD) → Buf (Elt Ideal) ((c.tc : Thread Cert.GateIdeal.nD Cert.GateIdeal.τ).loc Cert.GateIdeal.main_v31_2)) (v3 : (c : Dev Cert.GateIdeal.nD) → Buf (Elt Ideal) ((c.tc : Thread Cert.GateIdeal.nD Cert.GateIdeal.τ).loc Cert.GateIdeal.main_v31_3)) (v4 : (c : Dev Cert.GateIdeal.nD) → Buf (Elt Ideal) ((c.tc : Thread Cert.GateIdeal.nD Cert.GateIdeal.τ).loc Cert.GateIdeal.main_v31_4)) (v5 : (c : Dev Cert.GateIdeal.nD) → Buf (Elt Ideal) ((c.tc : Thread Cert.GateIdeal.nD Cert.GateIdeal.τ).loc Cert.GateIdeal.main_v31_5)) (v6 : (c : Dev Cert.GateIdeal.nD) → Buf (Elt Ideal) ((c.tc : Thread Cert.GateIdeal.nD Cert.GateIdeal.τ).loc Cert.GateIdeal.main_v31_6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          (∀ i : (⟨3, ![8, 4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).1 i = 1#1 → r.2.mem ((c.tc : Thread Cert.GateIdeal.nD Cert.GateIdeal.τ).loc Cert.GateIdeal.main_v31_0) i = v0 c i)
          ∧ (∀ i : (⟨2, ![4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.1 i = 1#1 → r.2.mem ((c.tc : Thread Cert.GateIdeal.nD Cert.GateIdeal.τ).loc Cert.GateIdeal.main_v31_1) i = v1 c i)
          ∧ (∀ i : (⟨2, ![4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.1 i = 1#1 → r.2.mem ((c.tc : Thread Cert.GateIdeal.nD Cert.GateIdeal.τ).loc Cert.GateIdeal.main_v31_2) i = v2 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.1 i = 1#1 → r.2.mem ((c.tc : Thread Cert.GateIdeal.nD Cert.GateIdeal.τ).loc Cert.GateIdeal.main_v31_3) i = v3 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.1 i = 1#1 → r.2.mem ((c.tc : Thread Cert.GateIdeal.nD Cert.GateIdeal.τ).loc Cert.GateIdeal.main_v31_4) i = v4 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.1 i = 1#1 → r.2.mem ((c.tc : Thread Cert.GateIdeal.nD Cert.GateIdeal.τ).loc Cert.GateIdeal.main_v31_5) i = v5 c i)
          ∧ (∀ i : (⟨2, ![8, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.2 i = 1#1 → r.2.mem ((c.tc : Thread Cert.GateIdeal.nD Cert.GateIdeal.τ).loc Cert.GateIdeal.main_v31_6) i = v6 c i)
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          (∀ i : (⟨3, ![8, 4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).1 i = 1#1 → r.2.mem ((c.tc : Thread Cert.GateRefIdeal.nD Cert.GateRefIdeal.τ).loc Cert.GateRefIdeal.main_v56) i = v0 c i)
          ∧ (∀ i : (⟨2, ![4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.1 i = 1#1 → r.2.mem ((c.tc : Thread Cert.GateRefIdeal.nD Cert.GateRefIdeal.τ).loc Cert.GateRefIdeal.main_v51) i = v1 c i)
          ∧ (∀ i : (⟨2, ![4096, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.1 i = 1#1 → r.2.mem ((c.tc : Thread Cert.GateRefIdeal.nD Cert.GateRefIdeal.τ).loc Cert.GateRefIdeal.main_v48) i = v2 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.1 i = 1#1 → r.2.mem ((c.tc : Thread Cert.GateRefIdeal.nD Cert.GateRefIdeal.τ).loc Cert.GateRefIdeal.main_v50) i = v3 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.1 i = 1#1 → r.2.mem ((c.tc : Thread Cert.GateRefIdeal.nD Cert.GateRefIdeal.τ).loc Cert.GateRefIdeal.main_v47) i = v4 c i)
          ∧ (∀ i : (⟨2, ![1024, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.1 i = 1#1 → r.2.mem ((c.tc : Thread Cert.GateRefIdeal.nD Cert.GateRefIdeal.τ).loc Cert.GateRefIdeal.main_v38) i = v5 c i)
          ∧ (∀ i : (⟨2, ![8, 1024]⟩ : Shape).Idx, (Cert.On_gate_planes.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.2 i = 1#1 → r.2.mem ((c.tc : Thread Cert.GateRefIdeal.nD Cert.GateRefIdeal.τ).loc Cert.GateRefIdeal.main_v60) i = v6 c i)
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_FfnW_FfnWIdeal : Prop :=
  True

def algebraic_FfnWIdeal_FfnWRefIdeal_pre_ffn_w_finite [hFfnWIdeal : Cert.FfnWIdeal.Facts] [hFfnWRefIdeal : Cert.FfnWRefIdeal.Facts] [hPre_ffn_w_finite : Cert.Pre_ffn_w_finite.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal_ffn_w_finite m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)) →
    ∃ (v0 : (c : Dev Cert.FfnWIdeal.nD) → Buf (Elt Ideal) ((c.tc : Thread Cert.FfnWIdeal.nD Cert.FfnWIdeal.τ).loc Cert.FfnWIdeal.main_v8_0)) (v1 : (c : Dev Cert.FfnWIdeal.nD) → Buf (Elt Ideal) ((c.tc : Thread Cert.FfnWIdeal.nD Cert.FfnWIdeal.τ).loc Cert.FfnWIdeal.main_v8_1)) (v2 : (c : Dev Cert.FfnWIdeal.nD) → Buf (Elt Ideal) ((c.tc : Thread Cert.FfnWIdeal.nD Cert.FfnWIdeal.τ).loc Cert.FfnWIdeal.main_v8_2)) (v3 : (c : Dev Cert.FfnWIdeal.nD) → Buf (Elt Ideal) ((c.tc : Thread Cert.FfnWIdeal.nD Cert.FfnWIdeal.τ).loc Cert.FfnWIdeal.main_v8_3)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v8_0) = v0 c
          ∧ r.2.mem ((c.tc : Thread Cert.FfnWIdeal.nD Cert.FfnWIdeal.τ).loc Cert.FfnWIdeal.main_v8_1) = v1 c
          ∧ r.2.mem ((c.tc : Thread Cert.FfnWIdeal.nD Cert.FfnWIdeal.τ).loc Cert.FfnWIdeal.main_v8_2) = v2 c
          ∧ r.2.mem ((c.tc : Thread Cert.FfnWIdeal.nD Cert.FfnWIdeal.τ).loc Cert.FfnWIdeal.main_v8_3) = v3 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v15) = v0 c
          ∧ r.2.mem ((c.tc : Thread Cert.FfnWRefIdeal.nD Cert.FfnWRefIdeal.τ).loc Cert.FfnWRefIdeal.main_v16) = v1 c
          ∧ r.2.mem ((c.tc : Thread Cert.FfnWRefIdeal.nD Cert.FfnWRefIdeal.τ).loc Cert.FfnWRefIdeal.main_v19) = v2 c
          ∧ r.2.mem ((c.tc : Thread Cert.FfnWRefIdeal.nD Cert.FfnWRefIdeal.τ).loc Cert.FfnWRefIdeal.main_v20) = v3 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v6_0)) (v1 : (c : Dev Cert.HeadIdeal.nD) → Buf (Elt Ideal) ((c.tc : Thread Cert.HeadIdeal.nD Cert.HeadIdeal.τ).loc Cert.HeadIdeal.main_v6_1)) (v2 : (c : Dev Cert.HeadIdeal.nD) → Buf (Elt Ideal) ((c.tc : Thread Cert.HeadIdeal.nD Cert.HeadIdeal.τ).loc Cert.HeadIdeal.main_v6_2)) (v3 : (c : Dev Cert.HeadIdeal.nD) → Buf (Elt Ideal) ((c.tc : Thread Cert.HeadIdeal.nD Cert.HeadIdeal.τ).loc Cert.HeadIdeal.main_v6_3)) (v4 : (c : Dev Cert.HeadIdeal.nD) → Buf (Elt Ideal) ((c.tc : Thread Cert.HeadIdeal.nD Cert.HeadIdeal.τ).loc Cert.HeadIdeal.main_v6_4)) (v5 : (c : Dev Cert.HeadIdeal.nD) → Buf (Elt Ideal) ((c.tc : Thread Cert.HeadIdeal.nD Cert.HeadIdeal.τ).loc Cert.HeadIdeal.main_v6_5)) (v6 : (c : Dev Cert.HeadIdeal.nD) → Buf (Elt Ideal) ((c.tc : Thread Cert.HeadIdeal.nD Cert.HeadIdeal.τ).loc Cert.HeadIdeal.main_v6_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v6_0) = v0 c
          ∧ r.2.mem ((c.tc : Thread Cert.HeadIdeal.nD Cert.HeadIdeal.τ).loc Cert.HeadIdeal.main_v6_1) = v1 c
          ∧ r.2.mem ((c.tc : Thread Cert.HeadIdeal.nD Cert.HeadIdeal.τ).loc Cert.HeadIdeal.main_v6_2) = v2 c
          ∧ r.2.mem ((c.tc : Thread Cert.HeadIdeal.nD Cert.HeadIdeal.τ).loc Cert.HeadIdeal.main_v6_3) = v3 c
          ∧ r.2.mem ((c.tc : Thread Cert.HeadIdeal.nD Cert.HeadIdeal.τ).loc Cert.HeadIdeal.main_v6_4) = v4 c
          ∧ r.2.mem ((c.tc : Thread Cert.HeadIdeal.nD Cert.HeadIdeal.τ).loc Cert.HeadIdeal.main_v6_5) = v5 c
          ∧ r.2.mem ((c.tc : Thread Cert.HeadIdeal.nD Cert.HeadIdeal.τ).loc Cert.HeadIdeal.main_v6_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v89) = v0 c
          ∧ r.2.mem ((c.tc : Thread Cert.HeadRefIdeal.nD Cert.HeadRefIdeal.τ).loc Cert.HeadRefIdeal.main_v96) = v1 c
          ∧ r.2.mem ((c.tc : Thread Cert.HeadRefIdeal.nD Cert.HeadRefIdeal.τ).loc Cert.HeadRefIdeal.main_v97) = v2 c
          ∧ r.2.mem ((c.tc : Thread Cert.HeadRefIdeal.nD Cert.HeadRefIdeal.τ).loc Cert.HeadRefIdeal.main_v30) = v3 c
          ∧ r.2.mem ((c.tc : Thread Cert.HeadRefIdeal.nD Cert.HeadRefIdeal.τ).loc Cert.HeadRefIdeal.main_v98) = v4 c
          ∧ r.2.mem ((c.tc : Thread Cert.HeadRefIdeal.nD Cert.HeadRefIdeal.τ).loc Cert.HeadRefIdeal.main_v99) = v5 c
          ∧ r.2.mem ((c.tc : Thread Cert.HeadRefIdeal.nD Cert.HeadRefIdeal.τ).loc Cert.HeadRefIdeal.main_v95) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_FfnX_FfnXIdeal : Prop :=
  True

def algebraic_FfnXIdeal_FfnXRefIdeal_pre_ffn_x_finite [hFfnXIdeal : Cert.FfnXIdeal.Facts] [hFfnXRefIdeal : Cert.FfnXRefIdeal.Facts] [hPre_ffn_x_finite : Cert.Pre_ffn_x_finite.Facts] : Prop :=
  ∀ (m : (ℓ : Loc Cert.FfnXIdeal.nD Cert.FfnXIdeal.τ Cert.FfnXIdeal.sig) → Buf (Elt Ideal) ℓ) (g : Dev Cert.FfnXIdeal.nD → PrngReg)
    (m' : (ℓ : Loc Cert.FfnXRefIdeal.nD Cert.FfnXRefIdeal.τ Cert.FfnXRefIdeal.sig) → Buf (Elt Ideal) ℓ) (g' : Dev Cert.FfnXRefIdeal.nD → PrngReg), Pre_FfnXIdeal_ffn_x_finite m →
    (∀ c : Dev Cert.FfnXIdeal.nD,
      m' ((c.tc : Thread Cert.FfnXRefIdeal.nD Cert.FfnXRefIdeal.τ).loc Cert.FfnXRefIdeal.main_arg0) = m ((c.tc : Thread Cert.FfnXIdeal.nD Cert.FfnXIdeal.τ).loc Cert.FfnXIdeal.main_arg0)
      ∧ m' ((c.tc : Thread Cert.FfnXRefIdeal.nD Cert.FfnXRefIdeal.τ).loc Cert.FfnXRefIdeal.main_arg1) = m ((c.tc : Thread Cert.FfnXIdeal.nD Cert.FfnXIdeal.τ).loc Cert.FfnXIdeal.main_arg1)
      ∧ m' ((c.tc : Thread Cert.FfnXRefIdeal.nD Cert.FfnXRefIdeal.τ).loc Cert.FfnXRefIdeal.main_arg2) = m ((c.tc : Thread Cert.FfnXIdeal.nD Cert.FfnXIdeal.τ).loc Cert.FfnXIdeal.main_arg2)
      ∧ m' ((c.tc : Thread Cert.FfnXRefIdeal.nD Cert.FfnXRefIdeal.τ).loc Cert.FfnXRefIdeal.main_arg3) = m ((c.tc : Thread Cert.FfnXIdeal.nD Cert.FfnXIdeal.τ).loc Cert.FfnXIdeal.main_arg3)
      ∧ m' ((c.tc : Thread Cert.FfnXRefIdeal.nD Cert.FfnXRefIdeal.τ).loc Cert.FfnXRefIdeal.main_arg4) = m ((c.tc : Thread Cert.FfnXIdeal.nD Cert.FfnXIdeal.τ).loc Cert.FfnXIdeal.main_arg4)
      ∧ m' ((c.tc : Thread Cert.FfnXRefIdeal.nD Cert.FfnXRefIdeal.τ).loc Cert.FfnXRefIdeal.main_arg5) = m ((c.tc : Thread Cert.FfnXIdeal.nD Cert.FfnXIdeal.τ).loc Cert.FfnXIdeal.main_arg5)
      ∧ m' ((c.tc : Thread Cert.FfnXRefIdeal.nD Cert.FfnXRefIdeal.τ).loc Cert.FfnXRefIdeal.main_arg6) = m ((c.tc : Thread Cert.FfnXIdeal.nD Cert.FfnXIdeal.τ).loc Cert.FfnXIdeal.main_arg6)
      ∧ m' ((c.tc : Thread Cert.FfnXRefIdeal.nD Cert.FfnXRefIdeal.τ).loc Cert.FfnXRefIdeal.main_arg7) = m ((c.tc : Thread Cert.FfnXIdeal.nD Cert.FfnXIdeal.τ).loc Cert.FfnXIdeal.main_arg7)) →
    ∃ (v0 : (c : Dev Cert.FfnXIdeal.nD) → Buf (Elt Ideal) ((c.tc : Thread Cert.FfnXIdeal.nD Cert.FfnXIdeal.τ).loc Cert.FfnXIdeal.main_v37_0)) (v1 : (c : Dev Cert.FfnXIdeal.nD) → Buf (Elt Ideal) ((c.tc : Thread Cert.FfnXIdeal.nD Cert.FfnXIdeal.τ).loc Cert.FfnXIdeal.main_v37_1)),
      θ_run (Cert.FfnXIdeal.defs (F := Ideal)) (onTc (τ := Cert.FfnXIdeal.τ) (Cert.FfnXIdeal.main (F := Ideal))) ⟨m, fun _ => 0, g⟩ (fun r => ∀ c : Dev Cert.FfnXIdeal.nD,
          r.2.mem ((c.tc : Thread Cert.FfnXIdeal.nD Cert.FfnXIdeal.τ).loc Cert.FfnXIdeal.main_v37_0) = v0 c
          ∧ r.2.mem ((c.tc : Thread Cert.FfnXIdeal.nD Cert.FfnXIdeal.τ).loc Cert.FfnXIdeal.main_v37_1) = v1 c
          ∧ r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
          ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
          ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
          ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
          ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
          ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
          ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6)
          ∧ r.2.mem ((c.tc : Thread Cert.FfnXIdeal.nD Cert.FfnXIdeal.τ).loc Cert.FfnXIdeal.main_arg7) = m ((c.tc : Thread Cert.FfnXIdeal.nD Cert.FfnXIdeal.τ).loc Cert.FfnXIdeal.main_arg7))
      ∧ θ_run (Cert.FfnXRefIdeal.defs (F := Ideal)) (onTc (τ := Cert.FfnXRefIdeal.τ) (Cert.FfnXRefIdeal.main (F := Ideal))) ⟨m', fun _ => 0, g'⟩ (fun r => ∀ c : Dev Cert.FfnXRefIdeal.nD,
          r.2.mem ((c.tc : Thread Cert.FfnXRefIdeal.nD Cert.FfnXRefIdeal.τ).loc Cert.FfnXRefIdeal.main_v115) = v0 c
          ∧ r.2.mem ((c.tc : Thread Cert.FfnXRefIdeal.nD Cert.FfnXRefIdeal.τ).loc Cert.FfnXRefIdeal.main_v114) = v1 c
          ∧ r.2.mem ((c.tc : Thread Cert.FfnXRefIdeal.nD Cert.FfnXRefIdeal.τ).loc Cert.FfnXRefIdeal.main_arg0) = m' ((c.tc : Thread Cert.FfnXRefIdeal.nD Cert.FfnXRefIdeal.τ).loc Cert.FfnXRefIdeal.main_arg0)
          ∧ r.2.mem ((c.tc : Thread Cert.FfnXRefIdeal.nD Cert.FfnXRefIdeal.τ).loc Cert.FfnXRefIdeal.main_arg1) = m' ((c.tc : Thread Cert.FfnXRefIdeal.nD Cert.FfnXRefIdeal.τ).loc Cert.FfnXRefIdeal.main_arg1)
          ∧ r.2.mem ((c.tc : Thread Cert.FfnXRefIdeal.nD Cert.FfnXRefIdeal.τ).loc Cert.FfnXRefIdeal.main_arg2) = m' ((c.tc : Thread Cert.FfnXRefIdeal.nD Cert.FfnXRefIdeal.τ).loc Cert.FfnXRefIdeal.main_arg2)
          ∧ r.2.mem ((c.tc : Thread Cert.FfnXRefIdeal.nD Cert.FfnXRefIdeal.τ).loc Cert.FfnXRefIdeal.main_arg3) = m' ((c.tc : Thread Cert.FfnXRefIdeal.nD Cert.FfnXRefIdeal.τ).loc Cert.FfnXRefIdeal.main_arg3)
          ∧ r.2.mem ((c.tc : Thread Cert.FfnXRefIdeal.nD Cert.FfnXRefIdeal.τ).loc Cert.FfnXRefIdeal.main_arg4) = m' ((c.tc : Thread Cert.FfnXRefIdeal.nD Cert.FfnXRefIdeal.τ).loc Cert.FfnXRefIdeal.main_arg4)
          ∧ r.2.mem ((c.tc : Thread Cert.FfnXRefIdeal.nD Cert.FfnXRefIdeal.τ).loc Cert.FfnXRefIdeal.main_arg5) = m' ((c.tc : Thread Cert.FfnXRefIdeal.nD Cert.FfnXRefIdeal.τ).loc Cert.FfnXRefIdeal.main_arg5)
          ∧ r.2.mem ((c.tc : Thread Cert.FfnXRefIdeal.nD Cert.FfnXRefIdeal.τ).loc Cert.FfnXRefIdeal.main_arg6) = m' ((c.tc : Thread Cert.FfnXRefIdeal.nD Cert.FfnXRefIdeal.τ).loc Cert.FfnXRefIdeal.main_arg6)
          ∧ r.2.mem ((c.tc : Thread Cert.FfnXRefIdeal.nD Cert.FfnXRefIdeal.τ).loc Cert.FfnXRefIdeal.main_arg7) = m' ((c.tc : Thread Cert.FfnXRefIdeal.nD Cert.FfnXRefIdeal.τ).loc Cert.FfnXRefIdeal.main_arg7))

def preserves_Mix_MixIdeal : Prop :=
  True

def algebraic_MixIdeal_MixRefIdeal_pre_mixin_finite [hMixIdeal : Cert.MixIdeal.Facts] [hMixRefIdeal : Cert.MixRefIdeal.Facts] [hPre_mixin_finite : Cert.Pre_mixin_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mixin_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v33_0)) (v1 : (c : Dev Cert.MixIdeal.nD) → Buf (Elt Ideal) ((c.tc : Thread Cert.MixIdeal.nD Cert.MixIdeal.τ).loc Cert.MixIdeal.main_v33_1)) (v2 : (c : Dev Cert.MixIdeal.nD) → Buf (Elt Ideal) ((c.tc : Thread Cert.MixIdeal.nD Cert.MixIdeal.τ).loc Cert.MixIdeal.main_v33_2)) (v3 : (c : Dev Cert.MixIdeal.nD) → Buf (Elt Ideal) ((c.tc : Thread Cert.MixIdeal.nD Cert.MixIdeal.τ).loc Cert.MixIdeal.main_v33_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v33_0) = v0 c
          ∧ r.2.mem ((c.tc : Thread Cert.MixIdeal.nD Cert.MixIdeal.τ).loc Cert.MixIdeal.main_v33_1) = v1 c
          ∧ r.2.mem ((c.tc : Thread Cert.MixIdeal.nD Cert.MixIdeal.τ).loc Cert.MixIdeal.main_v33_2) = v2 c
          ∧ r.2.mem ((c.tc : Thread Cert.MixIdeal.nD Cert.MixIdeal.τ).loc Cert.MixIdeal.main_v33_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v61) = v0 c
          ∧ r.2.mem ((c.tc : Thread Cert.MixRefIdeal.nD Cert.MixRefIdeal.τ).loc Cert.MixRefIdeal.main_v82) = v1 c
          ∧ r.2.mem ((c.tc : Thread Cert.MixRefIdeal.nD Cert.MixRefIdeal.τ).loc Cert.MixRefIdeal.main_v79) = v2 c
          ∧ r.2.mem ((c.tc : Thread Cert.MixRefIdeal.nD Cert.MixRefIdeal.τ).loc Cert.MixRefIdeal.main_v83) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)) (v3 : (c : Dev Cert.FfnIdeal.nD) → Buf (Elt Ideal) ((c.tc : Thread Cert.FfnIdeal.nD Cert.FfnIdeal.τ).loc Cert.FfnIdeal.main_v6_3)) (v4 : (c : Dev Cert.FfnIdeal.nD) → Buf (Elt Ideal) ((c.tc : Thread Cert.FfnIdeal.nD Cert.FfnIdeal.τ).loc Cert.FfnIdeal.main_v6_4)) (v5 : (c : Dev Cert.FfnIdeal.nD) → Buf (Elt Ideal) ((c.tc : Thread Cert.FfnIdeal.nD Cert.FfnIdeal.τ).loc Cert.FfnIdeal.main_v6_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_v6_3) = v3 c
          ∧ r.2.mem ((c.tc : Thread Cert.FfnIdeal.nD Cert.FfnIdeal.τ).loc Cert.FfnIdeal.main_v6_4) = v4 c
          ∧ r.2.mem ((c.tc : Thread Cert.FfnIdeal.nD Cert.FfnIdeal.τ).loc Cert.FfnIdeal.main_v6_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_v64) = v1 c
          ∧ r.2.mem ((c.tc : Thread Cert.FfnRefIdeal.nD Cert.FfnRefIdeal.τ).loc Cert.FfnRefIdeal.main_v65) = v2 c
          ∧ r.2.mem ((c.tc : Thread Cert.FfnRefIdeal.nD Cert.FfnRefIdeal.τ).loc Cert.FfnRefIdeal.main_v30) = v3 c
          ∧ r.2.mem ((c.tc : Thread Cert.FfnRefIdeal.nD Cert.FfnRefIdeal.τ).loc Cert.FfnRefIdeal.main_v66) = v4 c
          ∧ r.2.mem ((c.tc : Thread Cert.FfnRefIdeal.nD Cert.FfnRefIdeal.τ).loc Cert.FfnRefIdeal.main_v67) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)) (v2 : (c : Dev Cert.OutIdeal.nD) → Buf (Elt Ideal) ((c.tc : Thread Cert.OutIdeal.nD Cert.OutIdeal.τ).loc Cert.OutIdeal.main_v7_2)) (v3 : (c : Dev Cert.OutIdeal.nD) → Buf (Elt Ideal) ((c.tc : Thread Cert.OutIdeal.nD Cert.OutIdeal.τ).loc Cert.OutIdeal.main_v7_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_v7_2) = v2 c
          ∧ r.2.mem ((c.tc : Thread Cert.OutIdeal.nD Cert.OutIdeal.τ).loc Cert.OutIdeal.main_v7_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_v26) = v1 c
          ∧ r.2.mem ((c.tc : Thread Cert.OutRefIdeal.nD Cert.OutRefIdeal.τ).loc Cert.OutRefIdeal.main_v27) = v2 c
          ∧ r.2.mem ((c.tc : Thread Cert.OutRefIdeal.nD Cert.OutRefIdeal.τ).loc Cert.OutRefIdeal.main_v19) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Small_SmallIdeal : Prop :=
  True

def algebraic_SmallIdeal_SmallRefIdeal_pre_small_finite [hSmallIdeal : Cert.SmallIdeal.Facts] [hSmallRefIdeal : Cert.SmallRefIdeal.Facts] [hPre_small_finite : Cert.Pre_small_finite.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal_small_finite m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v0_4)) (v5 : (c : Dev Cert.SmallIdeal.nD) → Buf (Elt Ideal) ((c.tc : Thread Cert.SmallIdeal.nD Cert.SmallIdeal.τ).loc Cert.SmallIdeal.main_v0_5)) (v6 : (c : Dev Cert.SmallIdeal.nD) → Buf (Elt Ideal) ((c.tc : Thread Cert.SmallIdeal.nD Cert.SmallIdeal.τ).loc Cert.SmallIdeal.main_v0_6)) (v7 : (c : Dev Cert.SmallIdeal.nD) → Buf (Elt Ideal) ((c.tc : Thread Cert.SmallIdeal.nD Cert.SmallIdeal.τ).loc Cert.SmallIdeal.main_v0_7)) (v8 : (c : Dev Cert.SmallIdeal.nD) → Buf (Elt Ideal) ((c.tc : Thread Cert.SmallIdeal.nD Cert.SmallIdeal.τ).loc Cert.SmallIdeal.main_v0_8)) (v9 : (c : Dev Cert.SmallIdeal.nD) → Buf (Elt Ideal) ((c.tc : Thread Cert.SmallIdeal.nD Cert.SmallIdeal.τ).loc Cert.SmallIdeal.main_v0_9)) (v10 : (c : Dev Cert.SmallIdeal.nD) → Buf (Elt Ideal) ((c.tc : Thread Cert.SmallIdeal.nD Cert.SmallIdeal.τ).loc Cert.SmallIdeal.main_v0_10)) (v11 : (c : Dev Cert.SmallIdeal.nD) → Buf (Elt Ideal) ((c.tc : Thread Cert.SmallIdeal.nD Cert.SmallIdeal.τ).loc Cert.SmallIdeal.main_v0_11)) (v12 : (c : Dev Cert.SmallIdeal.nD) → Buf (Elt Ideal) ((c.tc : Thread Cert.SmallIdeal.nD Cert.SmallIdeal.τ).loc Cert.SmallIdeal.main_v0_12)) (v13 : (c : Dev Cert.SmallIdeal.nD) → Buf (Elt Ideal) ((c.tc : Thread Cert.SmallIdeal.nD Cert.SmallIdeal.τ).loc Cert.SmallIdeal.main_v0_13)) (v14 : (c : Dev Cert.SmallIdeal.nD) → Buf (Elt Ideal) ((c.tc : Thread Cert.SmallIdeal.nD Cert.SmallIdeal.τ).loc Cert.SmallIdeal.main_v0_14)) (v15 : (c : Dev Cert.SmallIdeal.nD) → Buf (Elt Ideal) ((c.tc : Thread Cert.SmallIdeal.nD Cert.SmallIdeal.τ).loc Cert.SmallIdeal.main_v0_15)) (v16 : (c : Dev Cert.SmallIdeal.nD) → Buf (Elt Ideal) ((c.tc : Thread Cert.SmallIdeal.nD Cert.SmallIdeal.τ).loc Cert.SmallIdeal.main_v0_16)) (v17 : (c : Dev Cert.SmallIdeal.nD) → Buf (Elt Ideal) ((c.tc : Thread Cert.SmallIdeal.nD Cert.SmallIdeal.τ).loc Cert.SmallIdeal.main_v0_17)) (v18 : (c : Dev Cert.SmallIdeal.nD) → Buf (Elt Ideal) ((c.tc : Thread Cert.SmallIdeal.nD Cert.SmallIdeal.τ).loc Cert.SmallIdeal.main_v0_18)) (v19 : (c : Dev Cert.SmallIdeal.nD) → Buf (Elt Ideal) ((c.tc : Thread Cert.SmallIdeal.nD Cert.SmallIdeal.τ).loc Cert.SmallIdeal.main_v0_19)) (v20 : (c : Dev Cert.SmallIdeal.nD) → Buf (Elt Ideal) ((c.tc : Thread Cert.SmallIdeal.nD Cert.SmallIdeal.τ).loc Cert.SmallIdeal.main_v0_20)) (v21 : (c : Dev Cert.SmallIdeal.nD) → Buf (Elt Ideal) ((c.tc : Thread Cert.SmallIdeal.nD Cert.SmallIdeal.τ).loc Cert.SmallIdeal.main_v0_21)) (v22 : (c : Dev Cert.SmallIdeal.nD) → Buf (Elt Ideal) ((c.tc : Thread Cert.SmallIdeal.nD Cert.SmallIdeal.τ).loc Cert.SmallIdeal.main_v0_22)) (v23 : (c : Dev Cert.SmallIdeal.nD) → Buf (Elt Ideal) ((c.tc : Thread Cert.SmallIdeal.nD Cert.SmallIdeal.τ).loc Cert.SmallIdeal.main_v0_23)) (v24 : (c : Dev Cert.SmallIdeal.nD) → Buf (Elt Ideal) ((c.tc : Thread Cert.SmallIdeal.nD Cert.SmallIdeal.τ).loc Cert.SmallIdeal.main_v0_24)) (v25 : (c : Dev Cert.SmallIdeal.nD) → Buf (Elt Ideal) ((c.tc : Thread Cert.SmallIdeal.nD Cert.SmallIdeal.τ).loc Cert.SmallIdeal.main_v0_25)) (v26 : (c : Dev Cert.SmallIdeal.nD) → Buf (Elt Ideal) ((c.tc : Thread Cert.SmallIdeal.nD Cert.SmallIdeal.τ).loc Cert.SmallIdeal.main_v0_26)) (v27 : (c : Dev Cert.SmallIdeal.nD) → Buf (Elt Ideal) ((c.tc : Thread Cert.SmallIdeal.nD Cert.SmallIdeal.τ).loc Cert.SmallIdeal.main_v0_27)) (v28 : (c : Dev Cert.SmallIdeal.nD) → Buf (Elt Ideal) ((c.tc : Thread Cert.SmallIdeal.nD Cert.SmallIdeal.τ).loc Cert.SmallIdeal.main_v0_28)) (v29 : (c : Dev Cert.SmallIdeal.nD) → Buf (Elt Ideal) ((c.tc : Thread Cert.SmallIdeal.nD Cert.SmallIdeal.τ).loc Cert.SmallIdeal.main_v0_29)) (v30 : (c : Dev Cert.SmallIdeal.nD) → Buf (Elt Ideal) ((c.tc : Thread Cert.SmallIdeal.nD Cert.SmallIdeal.τ).loc Cert.SmallIdeal.main_v0_30)) (v31 : (c : Dev Cert.SmallIdeal.nD) → Buf (Elt Ideal) ((c.tc : Thread Cert.SmallIdeal.nD Cert.SmallIdeal.τ).loc Cert.SmallIdeal.main_v0_31)) (v32 : (c : Dev Cert.SmallIdeal.nD) → Buf (Elt Ideal) ((c.tc : Thread Cert.SmallIdeal.nD Cert.SmallIdeal.τ).loc Cert.SmallIdeal.main_v0_32)) (v33 : (c : Dev Cert.SmallIdeal.nD) → Buf (Elt Ideal) ((c.tc : Thread Cert.SmallIdeal.nD Cert.SmallIdeal.τ).loc Cert.SmallIdeal.main_v0_33)) (v34 : (c : Dev Cert.SmallIdeal.nD) → Buf (Elt Ideal) ((c.tc : Thread Cert.SmallIdeal.nD Cert.SmallIdeal.τ).loc Cert.SmallIdeal.main_v0_34)) (v35 : (c : Dev Cert.SmallIdeal.nD) → Buf (Elt Ideal) ((c.tc : Thread Cert.SmallIdeal.nD Cert.SmallIdeal.τ).loc Cert.SmallIdeal.main_v0_35)) (v36 : (c : Dev Cert.SmallIdeal.nD) → Buf (Elt Ideal) ((c.tc : Thread Cert.SmallIdeal.nD Cert.SmallIdeal.τ).loc Cert.SmallIdeal.main_v0_36)) (v37 : (c : Dev Cert.SmallIdeal.nD) → Buf (Elt Ideal) ((c.tc : Thread Cert.SmallIdeal.nD Cert.SmallIdeal.τ).loc Cert.SmallIdeal.main_v0_37)) (v38 : (c : Dev Cert.SmallIdeal.nD) → Buf (Elt Ideal) ((c.tc : Thread Cert.SmallIdeal.nD Cert.SmallIdeal.τ).loc Cert.SmallIdeal.main_v0_38)) (v39 : (c : Dev Cert.SmallIdeal.nD) → Buf (Elt Ideal) ((c.tc : Thread Cert.SmallIdeal.nD Cert.SmallIdeal.τ).loc Cert.SmallIdeal.main_v0_39)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v0_4) = v4 c
          ∧ r.2.mem ((c.tc : Thread Cert.SmallIdeal.nD Cert.SmallIdeal.τ).loc Cert.SmallIdeal.main_v0_5) = v5 c
          ∧ r.2.mem ((c.tc : Thread Cert.SmallIdeal.nD Cert.SmallIdeal.τ).loc Cert.SmallIdeal.main_v0_6) = v6 c
          ∧ r.2.mem ((c.tc : Thread Cert.SmallIdeal.nD Cert.SmallIdeal.τ).loc Cert.SmallIdeal.main_v0_7) = v7 c
          ∧ r.2.mem ((c.tc : Thread Cert.SmallIdeal.nD Cert.SmallIdeal.τ).loc Cert.SmallIdeal.main_v0_8) = v8 c
          ∧ r.2.mem ((c.tc : Thread Cert.SmallIdeal.nD Cert.SmallIdeal.τ).loc Cert.SmallIdeal.main_v0_9) = v9 c
          ∧ r.2.mem ((c.tc : Thread Cert.SmallIdeal.nD Cert.SmallIdeal.τ).loc Cert.SmallIdeal.main_v0_10) = v10 c
          ∧ r.2.mem ((c.tc : Thread Cert.SmallIdeal.nD Cert.SmallIdeal.τ).loc Cert.SmallIdeal.main_v0_11) = v11 c
          ∧ r.2.mem ((c.tc : Thread Cert.SmallIdeal.nD Cert.SmallIdeal.τ).loc Cert.SmallIdeal.main_v0_12) = v12 c
          ∧ r.2.mem ((c.tc : Thread Cert.SmallIdeal.nD Cert.SmallIdeal.τ).loc Cert.SmallIdeal.main_v0_13) = v13 c
          ∧ r.2.mem ((c.tc : Thread Cert.SmallIdeal.nD Cert.SmallIdeal.τ).loc Cert.SmallIdeal.main_v0_14) = v14 c
          ∧ r.2.mem ((c.tc : Thread Cert.SmallIdeal.nD Cert.SmallIdeal.τ).loc Cert.SmallIdeal.main_v0_15) = v15 c
          ∧ r.2.mem ((c.tc : Thread Cert.SmallIdeal.nD Cert.SmallIdeal.τ).loc Cert.SmallIdeal.main_v0_16) = v16 c
          ∧ r.2.mem ((c.tc : Thread Cert.SmallIdeal.nD Cert.SmallIdeal.τ).loc Cert.SmallIdeal.main_v0_17) = v17 c
          ∧ r.2.mem ((c.tc : Thread Cert.SmallIdeal.nD Cert.SmallIdeal.τ).loc Cert.SmallIdeal.main_v0_18) = v18 c
          ∧ r.2.mem ((c.tc : Thread Cert.SmallIdeal.nD Cert.SmallIdeal.τ).loc Cert.SmallIdeal.main_v0_19) = v19 c
          ∧ r.2.mem ((c.tc : Thread Cert.SmallIdeal.nD Cert.SmallIdeal.τ).loc Cert.SmallIdeal.main_v0_20) = v20 c
          ∧ r.2.mem ((c.tc : Thread Cert.SmallIdeal.nD Cert.SmallIdeal.τ).loc Cert.SmallIdeal.main_v0_21) = v21 c
          ∧ r.2.mem ((c.tc : Thread Cert.SmallIdeal.nD Cert.SmallIdeal.τ).loc Cert.SmallIdeal.main_v0_22) = v22 c
          ∧ r.2.mem ((c.tc : Thread Cert.SmallIdeal.nD Cert.SmallIdeal.τ).loc Cert.SmallIdeal.main_v0_23) = v23 c
          ∧ r.2.mem ((c.tc : Thread Cert.SmallIdeal.nD Cert.SmallIdeal.τ).loc Cert.SmallIdeal.main_v0_24) = v24 c
          ∧ r.2.mem ((c.tc : Thread Cert.SmallIdeal.nD Cert.SmallIdeal.τ).loc Cert.SmallIdeal.main_v0_25) = v25 c
          ∧ r.2.mem ((c.tc : Thread Cert.SmallIdeal.nD Cert.SmallIdeal.τ).loc Cert.SmallIdeal.main_v0_26) = v26 c
          ∧ r.2.mem ((c.tc : Thread Cert.SmallIdeal.nD Cert.SmallIdeal.τ).loc Cert.SmallIdeal.main_v0_27) = v27 c
          ∧ r.2.mem ((c.tc : Thread Cert.SmallIdeal.nD Cert.SmallIdeal.τ).loc Cert.SmallIdeal.main_v0_28) = v28 c
          ∧ r.2.mem ((c.tc : Thread Cert.SmallIdeal.nD Cert.SmallIdeal.τ).loc Cert.SmallIdeal.main_v0_29) = v29 c
          ∧ r.2.mem ((c.tc : Thread Cert.SmallIdeal.nD Cert.SmallIdeal.τ).loc Cert.SmallIdeal.main_v0_30) = v30 c
          ∧ r.2.mem ((c.tc : Thread Cert.SmallIdeal.nD Cert.SmallIdeal.τ).loc Cert.SmallIdeal.main_v0_31) = v31 c
          ∧ r.2.mem ((c.tc : Thread Cert.SmallIdeal.nD Cert.SmallIdeal.τ).loc Cert.SmallIdeal.main_v0_32) = v32 c
          ∧ r.2.mem ((c.tc : Thread Cert.SmallIdeal.nD Cert.SmallIdeal.τ).loc Cert.SmallIdeal.main_v0_33) = v33 c
          ∧ r.2.mem ((c.tc : Thread Cert.SmallIdeal.nD Cert.SmallIdeal.τ).loc Cert.SmallIdeal.main_v0_34) = v34 c
          ∧ r.2.mem ((c.tc : Thread Cert.SmallIdeal.nD Cert.SmallIdeal.τ).loc Cert.SmallIdeal.main_v0_35) = v35 c
          ∧ r.2.mem ((c.tc : Thread Cert.SmallIdeal.nD Cert.SmallIdeal.τ).loc Cert.SmallIdeal.main_v0_36) = v36 c
          ∧ r.2.mem ((c.tc : Thread Cert.SmallIdeal.nD Cert.SmallIdeal.τ).loc Cert.SmallIdeal.main_v0_37) = v37 c
          ∧ r.2.mem ((c.tc : Thread Cert.SmallIdeal.nD Cert.SmallIdeal.τ).loc Cert.SmallIdeal.main_v0_38) = v38 c
          ∧ r.2.mem ((c.tc : Thread Cert.SmallIdeal.nD Cert.SmallIdeal.τ).loc Cert.SmallIdeal.main_v0_39) = v39 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v1) = v0 c
          ∧ r.2.mem ((c.tc : Thread Cert.SmallRefIdeal.nD Cert.SmallRefIdeal.τ).loc Cert.SmallRefIdeal.main_v25) = v1 c
          ∧ r.2.mem ((c.tc : Thread Cert.SmallRefIdeal.nD Cert.SmallRefIdeal.τ).loc Cert.SmallRefIdeal.main_v6) = v2 c
          ∧ r.2.mem ((c.tc : Thread Cert.SmallRefIdeal.nD Cert.SmallRefIdeal.τ).loc Cert.SmallRefIdeal.main_v12) = v3 c
          ∧ r.2.mem ((c.tc : Thread Cert.SmallRefIdeal.nD Cert.SmallRefIdeal.τ).loc Cert.SmallRefIdeal.main_v26) = v4 c
          ∧ r.2.mem ((c.tc : Thread Cert.SmallRefIdeal.nD Cert.SmallRefIdeal.τ).loc Cert.SmallRefIdeal.main_v50) = v5 c
          ∧ r.2.mem ((c.tc : Thread Cert.SmallRefIdeal.nD Cert.SmallRefIdeal.τ).loc Cert.SmallRefIdeal.main_v31) = v6 c
          ∧ r.2.mem ((c.tc : Thread Cert.SmallRefIdeal.nD Cert.SmallRefIdeal.τ).loc Cert.SmallRefIdeal.main_v37) = v7 c
          ∧ r.2.mem ((c.tc : Thread Cert.SmallRefIdeal.nD Cert.SmallRefIdeal.τ).loc Cert.SmallRefIdeal.main_v51) = v8 c
          ∧ r.2.mem ((c.tc : Thread Cert.SmallRefIdeal.nD Cert.SmallRefIdeal.τ).loc Cert.SmallRefIdeal.main_v75) = v9 c
          ∧ r.2.mem ((c.tc : Thread Cert.SmallRefIdeal.nD Cert.SmallRefIdeal.τ).loc Cert.SmallRefIdeal.main_v56) = v10 c
          ∧ r.2.mem ((c.tc : Thread Cert.SmallRefIdeal.nD Cert.SmallRefIdeal.τ).loc Cert.SmallRefIdeal.main_v62) = v11 c
          ∧ r.2.mem ((c.tc : Thread Cert.SmallRefIdeal.nD Cert.SmallRefIdeal.τ).loc Cert.SmallRefIdeal.main_v123) = v12 c
          ∧ r.2.mem ((c.tc : Thread Cert.SmallRefIdeal.nD Cert.SmallRefIdeal.τ).loc Cert.SmallRefIdeal.main_v147) = v13 c
          ∧ r.2.mem ((c.tc : Thread Cert.SmallRefIdeal.nD Cert.SmallRefIdeal.τ).loc Cert.SmallRefIdeal.main_v128) = v14 c
          ∧ r.2.mem ((c.tc : Thread Cert.SmallRefIdeal.nD Cert.SmallRefIdeal.τ).loc Cert.SmallRefIdeal.main_v134) = v15 c
          ∧ r.2.mem ((c.tc : Thread Cert.SmallRefIdeal.nD Cert.SmallRefIdeal.τ).loc Cert.SmallRefIdeal.main_v148) = v16 c
          ∧ r.2.mem ((c.tc : Thread Cert.SmallRefIdeal.nD Cert.SmallRefIdeal.τ).loc Cert.SmallRefIdeal.main_v172) = v17 c
          ∧ r.2.mem ((c.tc : Thread Cert.SmallRefIdeal.nD Cert.SmallRefIdeal.τ).loc Cert.SmallRefIdeal.main_v153) = v18 c
          ∧ r.2.mem ((c.tc : Thread Cert.SmallRefIdeal.nD Cert.SmallRefIdeal.τ).loc Cert.SmallRefIdeal.main_v159) = v19 c
          ∧ r.2.mem ((c.tc : Thread Cert.SmallRefIdeal.nD Cert.SmallRefIdeal.τ).loc Cert.SmallRefIdeal.main_v173) = v20 c
          ∧ r.2.mem ((c.tc : Thread Cert.SmallRefIdeal.nD Cert.SmallRefIdeal.τ).loc Cert.SmallRefIdeal.main_v197) = v21 c
          ∧ r.2.mem ((c.tc : Thread Cert.SmallRefIdeal.nD Cert.SmallRefIdeal.τ).loc Cert.SmallRefIdeal.main_v178) = v22 c
          ∧ r.2.mem ((c.tc : Thread Cert.SmallRefIdeal.nD Cert.SmallRefIdeal.τ).loc Cert.SmallRefIdeal.main_v184) = v23 c
          ∧ r.2.mem ((c.tc : Thread Cert.SmallRefIdeal.nD Cert.SmallRefIdeal.τ).loc Cert.SmallRefIdeal.main_v198) = v24 c
          ∧ r.2.mem ((c.tc : Thread Cert.SmallRefIdeal.nD Cert.SmallRefIdeal.τ).loc Cert.SmallRefIdeal.main_v222) = v25 c
          ∧ r.2.mem ((c.tc : Thread Cert.SmallRefIdeal.nD Cert.SmallRefIdeal.τ).loc Cert.SmallRefIdeal.main_v203) = v26 c
          ∧ r.2.mem ((c.tc : Thread Cert.SmallRefIdeal.nD Cert.SmallRefIdeal.τ).loc Cert.SmallRefIdeal.main_v209) = v27 c
          ∧ r.2.mem ((c.tc : Thread Cert.SmallRefIdeal.nD Cert.SmallRefIdeal.τ).loc Cert.SmallRefIdeal.main_v223) = v28 c
          ∧ r.2.mem ((c.tc : Thread Cert.SmallRefIdeal.nD Cert.SmallRefIdeal.τ).loc Cert.SmallRefIdeal.main_v247) = v29 c
          ∧ r.2.mem ((c.tc : Thread Cert.SmallRefIdeal.nD Cert.SmallRefIdeal.τ).loc Cert.SmallRefIdeal.main_v228) = v30 c
          ∧ r.2.mem ((c.tc : Thread Cert.SmallRefIdeal.nD Cert.SmallRefIdeal.τ).loc Cert.SmallRefIdeal.main_v234) = v31 c
          ∧ r.2.mem ((c.tc : Thread Cert.SmallRefIdeal.nD Cert.SmallRefIdeal.τ).loc Cert.SmallRefIdeal.main_v248) = v32 c
          ∧ r.2.mem ((c.tc : Thread Cert.SmallRefIdeal.nD Cert.SmallRefIdeal.τ).loc Cert.SmallRefIdeal.main_v272) = v33 c
          ∧ r.2.mem ((c.tc : Thread Cert.SmallRefIdeal.nD Cert.SmallRefIdeal.τ).loc Cert.SmallRefIdeal.main_v253) = v34 c
          ∧ r.2.mem ((c.tc : Thread Cert.SmallRefIdeal.nD Cert.SmallRefIdeal.τ).loc Cert.SmallRefIdeal.main_v259) = v35 c
          ∧ r.2.mem ((c.tc : Thread Cert.SmallRefIdeal.nD Cert.SmallRefIdeal.τ).loc Cert.SmallRefIdeal.main_v273) = v36 c
          ∧ r.2.mem ((c.tc : Thread Cert.SmallRefIdeal.nD Cert.SmallRefIdeal.τ).loc Cert.SmallRefIdeal.main_v297) = v37 c
          ∧ r.2.mem ((c.tc : Thread Cert.SmallRefIdeal.nD Cert.SmallRefIdeal.τ).loc Cert.SmallRefIdeal.main_v278) = v38 c
          ∧ r.2.mem ((c.tc : Thread Cert.SmallRefIdeal.nD Cert.SmallRefIdeal.τ).loc Cert.SmallRefIdeal.main_v284) = v39 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30))

def Claim : Prop :=
  ∃ (hGate : Cert.Gate.Facts) (hGateIdeal : Cert.GateIdeal.Facts) (hGateRefIdeal : Cert.GateRefIdeal.Facts) (hFfnW : Cert.FfnW.Facts) (hFfnWIdeal : Cert.FfnWIdeal.Facts) (hFfnWRefIdeal : Cert.FfnWRefIdeal.Facts) (hHead : Cert.Head.Facts) (hHeadIdeal : Cert.HeadIdeal.Facts) (hHeadRefIdeal : Cert.HeadRefIdeal.Facts) (hFfnX : Cert.FfnX.Facts) (hFfnXIdeal : Cert.FfnXIdeal.Facts) (hFfnXRefIdeal : Cert.FfnXRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hSmall : Cert.Small.Facts) (hSmallIdeal : Cert.SmallIdeal.Facts) (hSmallRefIdeal : Cert.SmallRefIdeal.Facts) (hPre_ffn_w_finite : Cert.Pre_ffn_w_finite.Facts) (hPre_head_finite : Cert.Pre_head_finite.Facts) (hPre_ffn_x_finite : Cert.Pre_ffn_x_finite.Facts) (hPre_mixin_finite : Cert.Pre_mixin_finite.Facts) (hPre_small_finite : Cert.Pre_small_finite.Facts) (hOn_gate_planes : Cert.On_gate_planes.Facts),
    quiescent_Gate (hGate := hGate)
    ∧ quiescent_GateIdeal (hGateIdeal := hGateIdeal)
    ∧ quiescent_GateRefIdeal (hGateRefIdeal := hGateRefIdeal)
    ∧ quiescent_FfnW (hFfnW := hFfnW)
    ∧ quiescent_FfnWIdeal (hFfnWIdeal := hFfnWIdeal)
    ∧ quiescent_FfnWIdeal_pre_ffn_w_finite (hFfnWIdeal := hFfnWIdeal) (hPre_ffn_w_finite := hPre_ffn_w_finite)
    ∧ quiescent_FfnWRefIdeal (hFfnWRefIdeal := hFfnWRefIdeal)
    ∧ quiescent_FfnWRefIdeal_pre_ffn_w_finite (hFfnWRefIdeal := hFfnWRefIdeal) (hPre_ffn_w_finite := hPre_ffn_w_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_FfnX (hFfnX := hFfnX)
    ∧ quiescent_FfnXIdeal (hFfnXIdeal := hFfnXIdeal)
    ∧ quiescent_FfnXIdeal_pre_ffn_x_finite (hFfnXIdeal := hFfnXIdeal) (hPre_ffn_x_finite := hPre_ffn_x_finite)
    ∧ quiescent_FfnXRefIdeal (hFfnXRefIdeal := hFfnXRefIdeal)
    ∧ quiescent_FfnXRefIdeal_pre_ffn_x_finite (hFfnXRefIdeal := hFfnXRefIdeal) (hPre_ffn_x_finite := hPre_ffn_x_finite)
    ∧ quiescent_Mix (hMix := hMix)
    ∧ quiescent_MixIdeal (hMixIdeal := hMixIdeal)
    ∧ quiescent_MixIdeal_pre_mixin_finite (hMixIdeal := hMixIdeal) (hPre_mixin_finite := hPre_mixin_finite)
    ∧ quiescent_MixRefIdeal (hMixRefIdeal := hMixRefIdeal)
    ∧ quiescent_MixRefIdeal_pre_mixin_finite (hMixRefIdeal := hMixRefIdeal) (hPre_mixin_finite := hPre_mixin_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_Small (hSmall := hSmall)
    ∧ quiescent_SmallIdeal (hSmallIdeal := hSmallIdeal)
    ∧ quiescent_SmallIdeal_pre_small_finite (hSmallIdeal := hSmallIdeal) (hPre_small_finite := hPre_small_finite)
    ∧ quiescent_SmallRefIdeal (hSmallRefIdeal := hSmallRefIdeal)
    ∧ quiescent_SmallRefIdeal_pre_small_finite (hSmallRefIdeal := hSmallRefIdeal) (hPre_small_finite := hPre_small_finite)
    ∧ preserves_Gate_GateIdeal
    ∧ algebraic_GateIdeal_GateRefIdeal_on_gate_planes (hGateIdeal := hGateIdeal) (hGateRefIdeal := hGateRefIdeal) (hOn_gate_planes := hOn_gate_planes)
    ∧ preserves_FfnW_FfnWIdeal
    ∧ algebraic_FfnWIdeal_FfnWRefIdeal_pre_ffn_w_finite (hFfnWIdeal := hFfnWIdeal) (hFfnWRefIdeal := hFfnWRefIdeal) (hPre_ffn_w_finite := hPre_ffn_w_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_FfnX_FfnXIdeal
    ∧ algebraic_FfnXIdeal_FfnXRefIdeal_pre_ffn_x_finite (hFfnXIdeal := hFfnXIdeal) (hFfnXRefIdeal := hFfnXRefIdeal) (hPre_ffn_x_finite := hPre_ffn_x_finite)
    ∧ preserves_Mix_MixIdeal
    ∧ algebraic_MixIdeal_MixRefIdeal_pre_mixin_finite (hMixIdeal := hMixIdeal) (hMixRefIdeal := hMixRefIdeal) (hPre_mixin_finite := hPre_mixin_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_Small_SmallIdeal
    ∧ algebraic_SmallIdeal_SmallRefIdeal_pre_small_finite (hSmallIdeal := hSmallIdeal) (hSmallRefIdeal := hSmallRefIdeal) (hPre_small_finite := hPre_small_finite)
-- ==== On_gate_planes.lean ====
abbrev S4096x8192 : Shape := ⟨2, ![4096, 8192]⟩
abbrev S4096x1024 : Shape := ⟨2, ![4096, 1024]⟩
abbrev S9x1024 : Shape := ⟨2, ![9, 1024]⟩
abbrev S1024x1024 : Shape := ⟨2, ![1024, 1024]⟩
abbrev S8x4096x1024 : Shape := ⟨3, ![8, 4096, 1024]⟩
abbrev S_ : Shape := ⟨0, ![]⟩
abbrev S8x1024 : Shape := ⟨2, ![8, 1024]⟩

class Facts : Prop where
  bcast_S_S8x4096x1024 : S_.BroadcastsInDim S8x4096x1024 (![] : Fin 0 → Fin S8x4096x1024.rank)
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S8x1024 : S_.BroadcastsInDim S8x1024 (![] : Fin 0 → Fin S8x1024.rank)

variable [Facts]

def fn_part1 {F : FTy → Type} [FloatOps F] (main_v2 : IVec S8x4096x1024 1) (main_v5 : IVec S4096x1024 1) (main_v8 : IVec S4096x1024 1) (main_v11 : IVec S1024x1024 1) (main_v14 : IVec S1024x1024 1) (main_v17 : IVec S1024x1024 1) : IVec S8x4096x1024 1 × IVec S4096x1024 1 × IVec S4096x1024 1 × IVec S1024x1024 1 × IVec S1024x1024 1 × IVec S1024x1024 1 × IVec S8x1024 1 :=
  let main_v18 : IVec S8x1024 32 := iotaInDim S8x1024 32 0
  let main_c_5 : IVec S_ 32 := constantI S_ 32 0#32
  let main_v19 : IVec S8x1024 32 := broadcastInDim S8x1024 ![] bcast_S_S8x1024 main_c_5
  let main_v20 : IVec S8x1024 1 := cmpi .sge main_v18 main_v19
  (main_v2, main_v5, main_v8, main_v11, main_v14, main_v17, main_v20)

def fn {F : FTy → Type} [FloatOps F] (main_arg0 : FVec F S4096x8192 .f32) (main_arg1 : FVec F S4096x1024 .f32) (main_arg2 : FVec F S4096x1024 .f32) (main_arg3 : FVec F S9x1024 .f32) (main_arg4 : FVec F S1024x1024 .f32) (main_arg5 : FVec F S1024x1024 .f32) (main_arg6 : FVec F S1024x1024 .f32) (main_arg7 : FVec F S4096x1024 .f32) : IVec S8x4096x1024 1 × IVec S4096x1024 1 × IVec S4096x1024 1 × IVec S1024x1024 1 × IVec S1024x1024 1 × IVec S1024x1024 1 × IVec S8x1024 1 :=
  let main_v0 : IVec S8x4096x1024 32 := iotaInDim S8x4096x1024 32 0
  let main_c : IVec S_ 32 := constantI S_ 32 6#32
  let main_v1 : IVec S8x4096x1024 32 := broadcastInDim S8x4096x1024 ![] bcast_S_S8x4096x1024 main_c
  let main_v2 : IVec S8x4096x1024 1 := cmpi .sge main_v0 main_v1
  let main_v3 : IVec S4096x1024 32 := iotaInDim S4096x1024 32 0
  let main_c_0 : IVec S_ 32 := constantI S_ 32 0#32
  let main_v4 : IVec S4096x1024 32 := broadcastInDim S4096x1024 ![] bcast_S_S4096x1024 main_c_0
  let main_v5 : IVec S4096x1024 1 := cmpi .sge main_v3 main_v4
  let main_v6 : IVec S4096x1024 32 := iotaInDim S4096x1024 32 0
  let main_c_1 : IVec S_ 32 := constantI S_ 32 0#32
  let main_v7 : IVec S4096x1024 32 := broadcastInDim S4096x1024 ![] bcast_S_S4096x1024 main_c_1
  let main_v8 : IVec S4096x1024 1 := cmpi .sge main_v6 main_v7
  let main_v9 : IVec S1024x1024 32 := iotaInDim S1024x1024 32 0
  let main_c_2 : IVec S_ 32 := constantI S_ 32 0#32
  let main_v10 : IVec S1024x1024 32 := broadcastInDim S1024x1024 ![] bcast_S_S1024x1024 main_c_2
  let main_v11 : IVec S1024x1024 1 := cmpi .sge main_v9 main_v10
  let main_v12 : IVec S1024x1024 32 := iotaInDim S1024x1024 32 0
  let main_c_3 : IVec S_ 32 := constantI S_ 32 0#32
  let main_v13 : IVec S1024x1024 32 := broadcastInDim S1024x1024 ![] bcast_S_S1024x1024 main_c_3
  let main_v14 : IVec S1024x1024 1 := cmpi .sge main_v12 main_v13
  let main_v15 : IVec S1024x1024 32 := iotaInDim S1024x1024 32 0
  let main_c_4 : IVec S_ 32 := constantI S_ 32 0#32
  let main_v16 : IVec S1024x1024 32 := broadcastInDim S1024x1024 ![] bcast_S_S1024x1024 main_c_4
  let main_v17 : IVec S1024x1024 1 := cmpi .sge main_v15 main_v16
  fn_part1 (F := F) main_v2 main_v5 main_v8 main_v11 main_v14 main_v17
-- ==== Pre_ffn_w_finite.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x5632 .f32) (main_arg2 : FVec F S2816x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_ffn_x_finite.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S9x1024 : S_.BroadcastsInDim S9x1024 (![] : Fin 0 → Fin S9x1024.rank)
  reducesTo_S9x1024_S_d0_1 : S9x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg6 : FVec F S4096x2816 .f32) (main_arg7 : FVec F S4096x2816 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S4096x2816 .f32 := Host.absf main_arg6
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg7
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S9x1024 .f32) (main_arg2 : FVec F S1024 .f32) (main_arg3 : FVec F S1024x5632 .f32) (main_arg4 : FVec F S2816x1024 .f32) (main_arg5 : FVec F S4096x1024 .f32) (main_arg6 : FVec F S4096x2816 .f32) (main_arg7 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S9x1024 .f32 := Host.absf main_arg1
  let main_cst_0 : FVec F S_ .f32 := constant S_ .f32 0x7F800000#32
  let main_v5 : FVec F S9x1024 .f32 := broadcastInDim S9x1024 ![] bcast_S_S9x1024 main_cst_0
  let main_v6 : IVec S9x1024 1 := cmpf .olt main_v4 main_v5
  let main_c_1 : IVec S_ 1 := constantI S_ 1 1#1
  let main_v7 : IVec S_ 1 := (fun x v => Host.reduce IntOp.andi x v reducesTo_S9x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg6 main_arg7 main_v13 main_v16
-- ==== Pre_head_finite.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S9x1024 : S_.BroadcastsInDim S9x1024 (![] : Fin 0 → Fin S9x1024.rank)
  reducesTo_S9x1024_S_d0_1 : S9x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_arg6 : FVec F S1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S9x1024 .f32) (main_arg2 : FVec F S1024 .f32) (main_arg3 : FVec F S1024x5632 .f32) (main_arg4 : FVec F S2816x1024 .f32) (main_arg5 : FVec F S4096x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S9x1024 .f32 := Host.absf main_arg1
  let main_cst_0 : FVec F S_ .f32 := constant S_ .f32 0x7F800000#32
  let main_v5 : FVec F S9x1024 .f32 := broadcastInDim S9x1024 ![] bcast_S_S9x1024 main_cst_0
  let main_v6 : IVec S9x1024 1 := cmpf .olt main_v4 main_v5
  let main_c_1 : IVec S_ 1 := constantI S_ 1 1#1
  let main_v7 : IVec S_ 1 := (fun x v => Host.reduce IntOp.andi x v reducesTo_S9x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_arg6 main_v13 main_v16
-- ==== Pre_mixin_finite.lean ====
abbrev S4096x1024 : Shape := ⟨2, ![4096, 1024]⟩
abbrev S9x1024 : Shape := ⟨2, ![9, 1024]⟩
abbrev S1024 : Shape := ⟨1, ![1024]⟩
abbrev S1024x8192 : Shape := ⟨2, ![1024, 8192]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S9x1024 : S_.BroadcastsInDim S9x1024 (![] : Fin 0 → Fin S9x1024.rank)
  reducesTo_S9x1024_S_d0_1 : S9x1024.ReducesTo [0, 1] S_
  bcast_S_S1024 : S_.BroadcastsInDim S1024 (![] : Fin 0 → Fin S1024.rank)
  reducesTo_S1024_S_d0 : S1024.ReducesTo [0] S_
  bcast_S_S1024x8192 : S_.BroadcastsInDim S1024x8192 (![] : Fin 0 → Fin S1024x8192.rank)
  reducesTo_S1024x8192_S_d0_1 : S1024x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg5 : FVec F S4096x8192 .f32) (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  let main_v19 : FVec F S4096x8192 .f32 := Host.absf main_arg5
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  main_v23

def fn {F : FTy → Type} [FloatOps F] (main_arg0 : FVec F S4096x1024 .f32) (main_arg1 : FVec F S9x1024 .f32) (main_arg2 : FVec F S1024 .f32) (main_arg3 : FVec F S1024x8192 .f32) (main_arg4 : FVec F S4096x1024 .f32) (main_arg5 : FVec F S4096x8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S9x1024 .f32 := Host.absf main_arg1
  let main_cst_0 : FVec F S_ .f32 := constant S_ .f32 0x7F800000#32
  let main_v5 : FVec F S9x1024 .f32 := broadcastInDim S9x1024 ![] bcast_S_S9x1024 main_cst_0
  let main_v6 : IVec S9x1024 1 := cmpf .olt main_v4 main_v5
  let main_c_1 : IVec S_ 1 := constantI S_ 1 1#1
  let main_v7 : IVec S_ 1 := (fun x v => Host.reduce IntOp.andi x v reducesTo_S9x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_arg5 main_v13 main_v16
-- ==== Pre_small_finite.lean ====
abbrev S24x1024 : Shape := ⟨2, ![24, 1024]⟩
abbrev S1x9216 : Shape := ⟨2, ![1, 9216]⟩
abbrev S1x1024 : Shape := ⟨2, ![1, 1024]⟩
abbrev S2x1024 : Shape := ⟨2, ![2, 1024]⟩
abbrev S_ : Shape := ⟨0, ![]⟩

class Facts : Prop where
  slices_S24x1024_S1x1024_11_0 : S24x1024.Slices ![11, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S24x1024 .f32) (main_arg1 : FVec F S1x9216 .f32) (main_arg2 : FVec F S1x9216 .f32) (main_arg3 : FVec F S1x9216 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S2x1024 .f32) (main_arg11 : FVec F S2x1024 .f32) (main_arg12 : FVec F S2x1024 .f32) (main_arg13 : FVec F S1x1024 .f32) (main_arg14 : FVec F S1x1024 .f32) (main_arg15 : FVec F S1x1024 .f32) (main_arg16 : FVec F S1x1024 .f32) (main_arg17 : FVec F S1x1024 .f32) (main_arg18 : FVec F S1x1024 .f32) (main_arg19 : FVec F S1x1024 .f32) (main_arg20 : FVec F S1x1024 .f32) (main_arg21 : FVec F S1x1024 .f32) (main_arg22 : FVec F S1x1024 .f32) (main_arg23 : FVec F S1x1024 .f32) (main_arg24 : FVec F S1x1024 .f32) (main_arg25 : FVec F S1x1024 .f32) (main_arg26 : FVec F S1x1024 .f32) (main_arg27 : FVec F S1x1024 .f32) (main_arg28 : FVec F S1x1024 .f32) (main_arg29 : FVec F S1x1024 .f32) (main_arg30 : FVec F S1x1024 .f32) : IVec S_ 1 :=
  let main_v0 : FVec F S1x1024 .f32 := (extractStridedSlice S1x1024 ![11, 0] · slices_S24x1024_S1x1024_11_0) main_arg0
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S2x1024 .f32 := Host.absf main_arg10
  let main_cst_0 : FVec F S_ .f32 := constant S_ .f32 0x7F800000#32
  let main_v6 : FVec F S2x1024 .f32 := broadcastInDim S2x1024 ![] bcast_S_S2x1024 main_cst_0
  let main_v7 : IVec S2x1024 1 := cmpf .olt main_v5 main_v6
  let main_c_1 : IVec S_ 1 := constantI S_ 1 1#1
  let main_v8 : IVec S_ 1 := (fun x v => Host.reduce IntOp.andi x v reducesTo_S2x1024_S_d0_1 h_S_) main_v7 main_c_1
  let main_v9 : IVec S_ 1 := andi main_v4 main_v8
  main_v9
-- ==== Gate.lean ====
abbrev S4096x8192 : Shape := ⟨2, ![4096, 8192]⟩
abbrev S4096x1024 : Shape := ⟨2, ![4096, 1024]⟩
abbrev S9x1024 : Shape := ⟨2, ![9, 1024]⟩
abbrev S1024x1024 : Shape := ⟨2, ![1024, 1024]⟩
abbrev S4096x8x1024 : Shape := ⟨3, ![4096, 8, 1024]⟩
abbrev S8x4096x1024 : Shape := ⟨3, ![8, 4096, 1024]⟩
abbrev S1x4096x1024 : Shape := ⟨3, ![1, 4096, 1024]⟩
abbrev S_ : Shape := ⟨0, ![]⟩
abbrev S8x1024 : Shape := ⟨2, ![8, 1024]⟩
abbrev S256x1024 : Shape := ⟨2, ![256, 1024]⟩
abbrev S2x256x1024 : Shape := ⟨3, ![2, 256, 1024]⟩
abbrev S1x1024 : Shape := ⟨2, ![1, 1024]⟩
abbrev S1024 : Shape := ⟨1, ![1024]⟩
abbrev S1x256x1024 : Shape := ⟨3, ![1, 256, 1024]⟩

abbrev nBuf : Space → Nat
  | .hbm => 50
  | .vmem => 28
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S4096x1024, .f32⟩
  | .hbm, ⟨3, _⟩ => ⟨S9x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x8x1024, .f32⟩
  | .hbm, ⟨9, _⟩ => ⟨S8x4096x1024, .f32⟩
  | .hbm, ⟨10, _⟩ => ⟨S4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S4096x1024, .bf16⟩
  | .hbm, ⟨40, _⟩ => ⟨S1024x1024, .bf16⟩
  | .hbm, ⟨41, _⟩ => ⟨S1024x1024, .bf16⟩
  | .hbm, ⟨42, _⟩ => ⟨S1024x1024, .bf16⟩
  | .hbm, ⟨43, _⟩ => ⟨S8x4096x1024, .bf16⟩
  | .hbm, ⟨44, _⟩ => ⟨S4096x1024, .f32⟩
  | .hbm, ⟨45, _⟩ => ⟨S4096x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S2x256x1024, .f32⟩
  | .local _ .vmem, ⟨13, _⟩ => ⟨S2x256x1024, .f32⟩
  | .local _ .vmem, ⟨14, _⟩ => ⟨S9x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S2x256x1024, .bf16⟩
  | .local _ .vmem, ⟨19, _⟩ => ⟨S2x256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S9x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== GateRefIdeal.lean ====
abbrev S4096x8192 : Shape := ⟨2, ![4096, 8192]⟩
abbrev S4096x1024 : Shape := ⟨2, ![4096, 1024]⟩
abbrev S9x1024 : Shape := ⟨2, ![9, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S6x4096x1024 : Shape := ⟨3, ![6, 4096, 1024]⟩
abbrev S1x4096x1024 : Shape := ⟨3, ![1, 4096, 1024]⟩
abbrev S8x4096x1024 : Shape := ⟨3, ![8, 4096, 1024]⟩
abbrev S2x1024 : Shape := ⟨2, ![2, 1024]⟩
abbrev S5x1024 : Shape := ⟨2, ![5, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S4096x1024, .f32⟩
  | .hbm, ⟨3, _⟩ => ⟨S9x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1024x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S4096x1024, .f32⟩
  | .hbm, ⟨65, _⟩ => ⟨S1024x1024, .f32⟩
  | .hbm, ⟨66, _⟩ => ⟨S1024x1024, .f32⟩
  | .hbm, ⟨67, _⟩ => ⟨S4096x1024, .f32⟩
  | .hbm, ⟨68, _⟩ => ⟨S_, .f32⟩
  | .hbm, ⟨69, _⟩ => ⟨S6x4096x1024, .f32⟩
  | .hbm, ⟨70, _⟩ => ⟨S1x4096x1024, .f32⟩
  | .hbm, ⟨71, _⟩ => ⟨S1x4096x1024, .f32⟩
  | .hbm, ⟨72, _⟩ => ⟨S8x4096x1024, .f32⟩
  | .hbm, ⟨73, _⟩ => ⟨S8x4096x1024, .bf16⟩
  | .hbm, ⟨74, _⟩ => ⟨S_, .f32⟩
  | .hbm, ⟨75, _⟩ => ⟨S2x1024, .f32⟩
  | .hbm, ⟨76, _⟩ => ⟨S1x1024, .f32⟩
  | .hbm, ⟨77, _⟩ => ⟨S_, .f32⟩
  | .hbm, ⟨78, _⟩ => ⟨S5x1024, .f32⟩
  | .hbm, ⟨79, _⟩ => ⟨S8x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== FfnW.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S2x2816x1024 : Shape := ⟨3, ![2, 2816, 1024]⟩
abbrev S2048x1024 : Shape := ⟨2, ![2048, 1024]⟩
abbrev S2048x256 : Shape := ⟨2, ![2048, 256]⟩
abbrev S256x1024 : Shape := ⟨2, ![256, 1024]⟩
abbrev S2x256x1024 : Shape := ⟨3, ![2, 256, 1024]⟩
abbrev S1x256x1024 : Shape := ⟨3, ![1, 256, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x1024, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S2816x1024, .bf16⟩
  | .hbm, ⟨12, _⟩ => ⟨S4096x2816, .bf16⟩
  | .hbm, ⟨13, _⟩ => ⟨S4096x2816, .bf16⟩
  | .hbm, ⟨14, _⟩ => ⟨S2x2816x1024, .bf16⟩
  | .hbm, ⟨15, _⟩ => ⟨S2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x1024, .bf16⟩
  | .local _ .vmem, ⟨9, _⟩ => ⟨S256x1024, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2x256x1024, .bf16⟩
  | .local _ .vmem, ⟨15, _⟩ => ⟨S2x256x1024, .bf16⟩
  | .local _ .vmem, ⟨16, _⟩ => ⟨S256x1024, .bf16⟩
  | .local _ .vmem, ⟨17, _⟩ => ⟨S256x1024, .bf16⟩
  | .local _ .vmem, ⟨18, _⟩ => ⟨S2x256x1024, .f32⟩
  | .local _ .vmem, ⟨19, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 2], ![false, false]⟩

def k0_cond2 (i : grid0.Coords) : BitVec 1 :=
  let arg1 : BitVec 32 := BitVec.ofNat 32 (i 1).val
  let c1_i32 : BitVec 32 := 1#32
  let v59 : BitVec 1 := Scalar.cmpi .eq arg1 c1_i32
  let v60 : BitVec 32 := Scalar.extui v59
  let c0_i32_37 : BitVec 32 := 0#32
  let v61 : BitVec 1 := Scalar.cmpi .ne v60 c0_i32_37
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnWRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1024x2816 : Shape := ⟨2, ![1024, 2816]⟩
abbrev S5632x1024 : Shape := ⟨2, ![5632, 1024]⟩
abbrev S2x2816x1024 : Shape := ⟨3, ![2, 2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x5632, .f32⟩
  | .hbm, ⟨32, _⟩ => ⟨S5632x1024, .f32⟩
  | .hbm, ⟨33, _⟩ => ⟨S1024x5632, .f32⟩
  | .hbm, ⟨34, _⟩ => ⟨S4096x2816, .bf16⟩
  | .hbm, ⟨35, _⟩ => ⟨S4096x2816, .bf16⟩
  | .hbm, ⟨36, _⟩ => ⟨S5632x1024, .f32⟩
  | .hbm, ⟨37, _⟩ => ⟨S2x2816x1024, .f32⟩
  | .hbm, ⟨38, _⟩ => ⟨S2x2816x1024, .bf16⟩
  | .hbm, ⟨39, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Head.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S1x1024 : Shape := ⟨2, ![1, 1024]⟩
abbrev S4096x2816 : Shape := ⟨2, ![4096, 2816]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x1408x1024 : Shape := ⟨3, ![1, 1408, 1024]⟩
abbrev S1408x1024 : Shape := ⟨2, ![1408, 1024]⟩
abbrev S512x1408 : Shape := ⟨2, ![512, 1408]⟩
abbrev S1 : Shape := ⟨1, ![1]⟩
abbrev S1x1 : Shape := ⟨2, ![1, 1]⟩

abbrev nBuf : Space → Nat
  | .hbm => 20
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S5632x1024, .f32⟩
  | .hbm, ⟨8, _⟩ => ⟨S2x2816x1024, .f32⟩
  | .hbm, ⟨9, _⟩ => ⟨S2x2816x1024, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x2816, .bf16⟩
  | .hbm, ⟨15, _⟩ => ⟨S4096x2816, .bf16⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S9x1024, .f32⟩
  | .local _ .vmem, ⟨3, _⟩ => ⟨S1x1024, .f32⟩
  | .local _ .vmem, ⟨4, _⟩ => ⟨S2x2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadRefIdeal.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S6x1024 : Shape := ⟨2, ![6, 1024]⟩
abbrev S8x1024 : Shape := ⟨2, ![8, 1024]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S9x1024, .f32⟩
  | 2 => ⟨S1024, .f32⟩
  | 3 => ⟨S1024x5632, .f32⟩
  | 4 => ⟨S2816x1024, .f32⟩
  | 5 => ⟨S4096x1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S1x1024, .f32⟩
  | 24 => ⟨S1024, .f32⟩
  | 25 => ⟨S_, .f32⟩
  | 26 => ⟨S1024, .f32⟩
  | 27 => ⟨S1024, .f32⟩
  | 28 => ⟨S1x1024, .f32⟩
  | 29 => ⟨S4096x1024, .f32⟩
  | 30 => ⟨S4096x1024, .f32⟩
  | 31 => ⟨S1x1024, .f32⟩
  | 32 => ⟨S1024, .f32⟩
  | 33 => ⟨S1x1024, .f32⟩
  | 34 => ⟨S4096x1024, .f32⟩
  | 35 => ⟨S4096x1024, .f32⟩
  | 36 => ⟨S4096x5632, .f32⟩
  | 37 => ⟨S4096x2816, .f32⟩
  | 38 => ⟨S4096x2816, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S4096x2816, .f32⟩
  | 48 => ⟨S4096x2816, .f32⟩
  | 49 => ⟨S4096x1024, .f32⟩
  | 50 => ⟨S1x1024, .f32⟩
  | 51 => ⟨S1024, .f32⟩
  | 52 => ⟨S_, .f32⟩
  | 53 => ⟨S1024, .f32⟩
  | 54 => ⟨S1024, .f32⟩
  | 55 => ⟨S1x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096, .f32⟩
  | 86 => ⟨S_, .f32⟩
  | 87 => ⟨S4096, .f32⟩
  | 88 => ⟨S4096, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S_, .f32⟩
  | 109 => ⟨S1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024, .f32⟩
  | 2 => ⟨S1x1024, .f32⟩
  | 3 => ⟨S_, .f32⟩
  | 4 => ⟨S6x1024, .f32⟩
  | 5 => ⟨S8x1024, .f32⟩
  | 6 => ⟨S4096x2816, .bf16⟩
  | 7 => ⟨S4096x2816, .bf16⟩
  | 8 => ⟨S4096x1024, .bf16⟩
  | 9 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_cst_13 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== FfnX.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S5632x1024 : Shape := ⟨2, ![5632, 1024]⟩
abbrev S2x2816x1024 : Shape := ⟨3, ![2, 2816, 1024]⟩
abbrev S8x1024 : Shape := ⟨2, ![8, 1024]⟩
abbrev S512x1024 : Shape := ⟨2, ![512, 1024]⟩
abbrev S512x1408 : Shape := ⟨2, ![512, 1408]⟩
abbrev S2x1408x1024 : Shape := ⟨3, ![2, 1408, 1024]⟩
abbrev S8x512x1024 : Shape := ⟨3, ![8, 512, 1024]⟩
abbrev S1x512x1024 : Shape := ⟨3, ![1, 512, 1024]⟩
abbrev S1x1408x1024 : Shape := ⟨3, ![1, 1408, 1024]⟩
abbrev S1408x1024 : Shape := ⟨2, ![1408, 1024]⟩
abbrev S512 : Shape := ⟨1, ![512]⟩
abbrev S512x1 : Shape := ⟨2, ![512, 1]⟩

abbrev nBuf : Space → Nat
  | .hbm => 59
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x5632, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S5632x1024, .f32⟩
  | .hbm, ⟨52, _⟩ => ⟨S2x2816x1024, .f32⟩
  | .hbm, ⟨53, _⟩ => ⟨S2x2816x1024, .bf16⟩
  | .hbm, ⟨54, _⟩ => ⟨S4096x2816, .bf16⟩
  | .hbm, ⟨55, _⟩ => ⟨S4096x2816, .bf16⟩
  | .hbm, ⟨56, _⟩ => ⟨S1x1024, .f32⟩
  | .hbm, ⟨57, _⟩ => ⟨S4096x1024, .f32⟩
  | .hbm, ⟨58, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S9x1024, .f32⟩
  | .local _ .vmem, ⟨11, _⟩ => ⟨S1x1024, .f32⟩
  | .local _ .vmem, ⟨12, _⟩ => ⟨S2x1408x1024, .bf16⟩
  | .local _ .vmem, ⟨13, _⟩ => ⟨S2x1408x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S8x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v31 : Index := Scalar.indexCast arg1
  let c0_19 : Index := 0#32
  let c0_20 : Index := 0#32
  ![v31.toNat, 0, 0]
def k0_off2 (i : grid0.Coords) : Fin 3 → Nat :=
  let arg1 : BitVec 32 := BitVec.ofNat 32 (i 1).val
  let v8 : Index := Scalar.indexCast arg1
  let c0 : Index := 0#32
  let c0_4 : Index := 0#32
  ![v8.toNat, 0, 0]
def k0_cond3 (i : grid0.Coords) : BitVec 1 :=
  let arg0 : BitVec 32 := BitVec.ofNat 32 (i 0).val
  let c1_i32 : BitVec 32 := 1#32
  let v27 : BitVec 1 := Scalar.cmpi .eq arg0 c1_i32
  let v28 : BitVec 32 := Scalar.extui v27
  let c0_i32_17 : BitVec 32 := 0#32
  let v29 : BitVec 1 := Scalar.cmpi .ne v28 c0_i32_17
  v29

def k0_off3 (i : grid0.Coords) : Fin 3 → Nat :=
  let arg1 : BitVec 32 := BitVec.ofNat 32 (i 1).val
  let v46 : Index := Scalar.indexCast arg1
  let c0_26 : Index := 0#32
  let c0_27 : Index := 0#32
  ![v46.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnXRefIdeal.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4x1024 : Shape := ⟨2, ![4, 1024]⟩
abbrev S8x1024 : Shape := ⟨2, ![8, 1024]⟩

abbrev nBuf : Space → Nat
  | .hbm => 155
  | .vmem => 0
  | .smem => 0
  | _ => 0

abbrev hbmTy0_0 (i : Nat) : BufTy := match i % 128 with
  | 0 => ⟨S4096x1024, .f32⟩
  | 1 => ⟨S9x1024, .f32⟩
  | 2 => ⟨S1024, .f32⟩
  | 3 => ⟨S1024x5632, .f32⟩
  | 4 => ⟨S2816x1024, .f32⟩
  | 5 => ⟨S4096x1024, .f32⟩
  | 6 => ⟨S4096x2816, .f32⟩
  | 7 => ⟨S4096x2816, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S1x1024, .f32⟩
  | 25 => ⟨S1024, .f32⟩
  | 26 => ⟨S_, .f32⟩
  | 27 => ⟨S1024, .f32⟩
  | 28 => ⟨S1024, .f32⟩
  | 29 => ⟨S1x1024, .f32⟩
  | 30 => ⟨S4096x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x5632, .f32⟩
  | 38 => ⟨S4096x2816, .f32⟩
  | 39 => ⟨S4096x2816, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S1x1024, .f32⟩
  | 52 => ⟨S1024, .f32⟩
  | 53 => ⟨S_, .f32⟩
  | 54 => ⟨S1024, .f32⟩
  | 55 => ⟨S1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S_, .f32⟩
  | 68 => ⟨S1024, .f32⟩
  | 69 => ⟨S1024, .f32⟩
  | 70 => ⟨S1x1024, .f32⟩
  | 71 => ⟨S1024, .f32⟩
  | 72 => ⟨S1x1024, .f32⟩
  | 73 => ⟨S1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S1x1024, .f32⟩
  | 92 => ⟨S4096x1024, .f32⟩
  | 93 => ⟨S4096x1024, .f32⟩
  | 94 => ⟨S_, .f32⟩
  | 95 => ⟨S1024, .f32⟩
  | 96 => ⟨S1024, .f32⟩
  | 97 => ⟨S1x1024, .f32⟩
  | 98 => ⟨S4096x1024, .f32⟩
  | 99 => ⟨S4096x1024, .f32⟩
  | 100 => ⟨S1x1024, .f32⟩
  | 101 => ⟨S4096x1024, .f32⟩
  | 102 => ⟨S4096x1024, .f32⟩
  | 103 => ⟨S4096x5632, .f32⟩
  | 104 => ⟨S4096x2816, .f32⟩
  | 105 => ⟨S4096x2816, .f32⟩
  | 106 => ⟨S4096x5632, .f32⟩
  | 107 => ⟨S4096x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x1024, .f32⟩
  | 122 => ⟨S_, .f32⟩
  | 123 => ⟨S1024, .f32⟩
  | 124 => ⟨S1x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S4096x1024, .f32⟩
  | 2 => ⟨S_, .f32⟩
  | 3 => ⟨S4096, .f32⟩
  | 4 => ⟨S4096x1, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S1x1024, .f32⟩
  | 19 => ⟨S1x1024, .f32⟩
  | 20 => ⟨S1x1024, .f32⟩
  | 21 => ⟨S1x1024, .f32⟩
  | 22 => ⟨S4x1024, .f32⟩
  | 23 => ⟨S_, .f32⟩
  | 24 => ⟨S4x1024, .f32⟩
  | 25 => ⟨S8x1024, .f32⟩
  | 26 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_17 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_cst_20 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]
-- ==== Mix.lean ====
abbrev S4096x1024 : Shape := ⟨2, ![4096, 1024]⟩
abbrev S9x1024 : Shape := ⟨2, ![9, 1024]⟩
abbrev S1024 : Shape := ⟨1, ![1024]⟩
abbrev S1024x8192 : Shape := ⟨2, ![1024, 8192]⟩
abbrev S4096x8192 : Shape := ⟨2, ![4096, 8192]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x8x1024 : Shape := ⟨3, ![1024, 8, 1024]⟩
abbrev S8x1024x1024 : Shape := ⟨3, ![8, 1024, 1024]⟩
abbrev S4096x8x1024 : Shape := ⟨3, ![4096, 8, 1024]⟩
abbrev S8x4096x1024 : Shape := ⟨3, ![8, 4096, 1024]⟩
abbrev S8x1024 : Shape := ⟨2, ![8, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S8x512x1024 : Shape := ⟨3, ![8, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 47
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x8192, .f32⟩
  | .hbm, ⟨4, _⟩ => ⟨S4096x1024, .f32⟩
  | .hbm, ⟨5, _⟩ => ⟨S4096x8192, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1024x8x1024, .f32⟩
  | .hbm, ⟨36, _⟩ => ⟨S8x1024x1024, .f32⟩
  | .hbm, ⟨37, _⟩ => ⟨S8x1024x1024, .bf16⟩
  | .hbm, ⟨38, _⟩ => ⟨S4096x8x1024, .f32⟩
  | .hbm, ⟨39, _⟩ => ⟨S8x4096x1024, .f32⟩
  | .hbm, ⟨40, _⟩ => ⟨S8x4096x1024, .bf16⟩
  | .hbm, ⟨41, _⟩ => ⟨S4096x1024, .bf16⟩
  | .hbm, ⟨42, _⟩ => ⟨S1x1024, .f32⟩
  | .hbm, ⟨43, _⟩ => ⟨S4096x1024, .f32⟩
  | .hbm, ⟨44, _⟩ => ⟨S8x1024x1024, .bf16⟩
  | .hbm, ⟨45, _⟩ => ⟨S8x1024, .f32⟩
  | .hbm, ⟨46, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S9x1024, .f32⟩
  | .local _ .vmem, ⟨9, _⟩ => ⟨S1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S8x1024, .f32⟩
  | .local _ .vmem, ⟨17, _⟩ => ⟨S512x1024, .bf16⟩
  | .local _ .vmem, ⟨18, _⟩ => ⟨S512x1024, .bf16⟩
  | .local _ .vmem, ⟨19, _⟩ => ⟨S8x512x1024, .f32⟩
  | .local _ .vmem, ⟨20, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v39 : Index := Scalar.indexCast arg1
  let c0_26 : Index := 0#32
  let c0_27 : Index := 0#32
  ![v39.toNat, 0, 0]
def k0_off2 (i : grid0.Coords) : Fin 3 → Nat :=
  let arg1 : BitVec 32 := BitVec.ofNat 32 (i 1).val
  let v21 : Index := Scalar.indexCast arg1
  let c0_14 : Index := 0#32
  let c0_15 : Index := 0#32
  ![v21.toNat, 0, 0]
def k0_cond5 (i : grid0.Coords) : BitVec 1 :=
  let arg0 : BitVec 32 := BitVec.ofNat 32 (i 0).val
  let c7_i32_23 : BitVec 32 := 7#32
  let v35 : BitVec 1 := Scalar.cmpi .eq arg0 c7_i32_23
  let v36 : BitVec 32 := Scalar.extui v35
  let c0_i32_24 : BitVec 32 := 0#32
  let v37 : BitVec 1 := Scalar.cmpi .ne v36 c0_i32_24
  v37

def k0_off3 (i : grid0.Coords) : Fin 3 → Nat :=
  let arg1 : BitVec 32 := BitVec.ofNat 32 (i 1).val
  let v54 : Index := Scalar.indexCast arg1
  let c0_33 : Index := 0#32
  let c0_34 : Index := 0#32
  ![v54.toNat, 0, 0]
def k0_cond4 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_22 : BitVec 32 := 0#32
  let v34 : BitVec 1 := Scalar.cmpi .ne v33 c0_i32_22
  v34

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S9x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S4096x1024 : Shape := ⟨2, ![4096, 1024]⟩
abbrev S9x1024 : Shape := ⟨2, ![9, 1024]⟩
abbrev S1024 : Shape := ⟨1, ![1024]⟩
abbrev S1024x8192 : Shape := ⟨2, ![1024, 8192]⟩
abbrev S4096x8192 : Shape := ⟨2, ![4096, 8192]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S4x1024 : Shape := ⟨2, ![4, 1024]⟩
abbrev S8x1024 : Shape := ⟨2, ![8, 1024]⟩
abbrev S1024x8x1024 : Shape := ⟨3, ![1024, 8, 1024]⟩
abbrev S8x1024x1024 : Shape := ⟨3, ![8, 1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x8192, .f32⟩
  | .hbm, ⟨4, _⟩ => ⟨S4096x1024, .f32⟩
  | .hbm, ⟨5, _⟩ => ⟨S4096x8192, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x8192, .f32⟩
  | .hbm, ⟨40, _⟩ => ⟨S8192x1024, .f32⟩
  | .hbm, ⟨41, _⟩ => ⟨S1024x8192, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S1x1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S4x1024, .f32⟩
  | .hbm, ⟨101, _⟩ => ⟨S_, .f32⟩
  | .hbm, ⟨102, _⟩ => ⟨S4x1024, .f32⟩
  | .hbm, ⟨103, _⟩ => ⟨S8x1024, .f32⟩
  | .hbm, ⟨104, _⟩ => ⟨S1024x8x1024, .f32⟩
  | .hbm, ⟨105, _⟩ => ⟨S8x1024x1024, .f32⟩
  | .hbm, ⟨106, _⟩ => ⟨S8x1024x1024, .bf16⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Ffn.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x1408x1024 : Shape := ⟨3, ![1, 1408, 1024]⟩
abbrev S1408x1024 : Shape := ⟨2, ![1408, 1024]⟩
abbrev S512x1408 : Shape := ⟨2, ![512, 1408]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S5632x1024, .f32⟩
  | .hbm, ⟨7, _⟩ => ⟨S2x2816x1024, .f32⟩
  | .hbm, ⟨8, _⟩ => ⟨S2x2816x1024, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S4096x1024, .bf16⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S9x1024, .f32⟩
  | .local _ .vmem, ⟨3, _⟩ => ⟨S1x1024, .f32⟩
  | .local _ .vmem, ⟨4, _⟩ => ⟨S2x2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S4096x1024 : Shape := ⟨2, ![4096, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x2816, .bf16⟩
  | .hbm, ⟨88, _⟩ => ⟨S4096x2816, .bf16⟩
  | .hbm, ⟨89, _⟩ => ⟨S4096x1024, .bf16⟩
  | .hbm, ⟨90, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Out.lean ====
abbrev S4096x1024 : Shape := ⟨2, ![4096, 1024]⟩
abbrev S9x1024 : Shape := ⟨2, ![9, 1024]⟩
abbrev S4096x8192 : Shape := ⟨2, ![4096, 8192]⟩
abbrev S1024x1024 : Shape := ⟨2, ![1024, 1024]⟩
abbrev S4096x8x1024 : Shape := ⟨3, ![4096, 8, 1024]⟩
abbrev S8x4096x1024 : Shape := ⟨3, ![8, 4096, 1024]⟩
abbrev S512x1024 : Shape := ⟨2, ![512, 1024]⟩
abbrev S2x512x1024 : Shape := ⟨3, ![2, 512, 1024]⟩
abbrev S1x512x1024 : Shape := ⟨3, ![1, 512, 1024]⟩
abbrev S1x1024 : Shape := ⟨2, ![1, 1024]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S4096x1024, .f32⟩
  | .hbm, ⟨3, _⟩ => ⟨S4096x1024, .f32⟩
  | .hbm, ⟨4, _⟩ => ⟨S4096x8192, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x8x1024, .f32⟩
  | .hbm, ⟨9, _⟩ => ⟨S8x4096x1024, .f32⟩
  | .hbm, ⟨10, _⟩ => ⟨S4096x1024, .bf16⟩
  | .hbm, ⟨11, _⟩ => ⟨S4096x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x512x1024, .f32⟩
  | .local _ .vmem, ⟨7, _⟩ => ⟨S2x512x1024, .f32⟩
  | .local _ .vmem, ⟨8, _⟩ => ⟨S9x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S4096x1024 : Shape := ⟨2, ![4096, 1024]⟩
abbrev S9x1024 : Shape := ⟨2, ![9, 1024]⟩
abbrev S4096x8192 : Shape := ⟨2, ![4096, 8192]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S4096x1024, .f32⟩
  | .hbm, ⟨3, _⟩ => ⟨S4096x1024, .f32⟩
  | .hbm, ⟨4, _⟩ => ⟨S4096x8192, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Small.lean ====
abbrev S24x1024 : Shape := ⟨2, ![24, 1024]⟩
abbrev S1x9216 : Shape := ⟨2, ![1, 9216]⟩
abbrev S1x1024 : Shape := ⟨2, ![1, 1024]⟩
abbrev S2x1024 : Shape := ⟨2, ![2, 1024]⟩

abbrev nBuf : Space → Nat
  | .hbm => 71
  | .vmem => 71
  | .smem => 0
  | _ => 0

abbrev bufTy : (tb : Table) → Fin (tcTables nBuf tb) → BufTy
  | .hbm, ⟨0, _⟩ => ⟨S24x1024, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x9216, .f32⟩
  | .hbm, ⟨32, _⟩ => ⟨S1x9216, .f32⟩
  | .hbm, ⟨33, _⟩ => ⟨S1x9216, .f32⟩
  | .hbm, ⟨34, _⟩ => ⟨S1x9216, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S2x1024, .f32⟩
  | .hbm, ⟨44, _⟩ => ⟨S2x1024, .f32⟩
  | .hbm, ⟨45, _⟩ => ⟨S2x1024, .f32⟩
  | .hbm, ⟨46, _⟩ => ⟨S2x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .local _ .vmem, ⟨0, _⟩ => ⟨S24x1024, .f32⟩
  | .local _ .vmem, ⟨1, _⟩ => ⟨S1x9216, .f32⟩
  | .local _ .vmem, ⟨2, _⟩ => ⟨S1x9216, .f32⟩
  | .local _ .vmem, ⟨3, _⟩ => ⟨S1x9216, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x9216, .f32⟩
  | .local _ .vmem, ⟨32, _⟩ => ⟨S1x9216, .f32⟩
  | .local _ .vmem, ⟨33, _⟩ => ⟨S1x9216, .f32⟩
  | .local _ .vmem, ⟨34, _⟩ => ⟨S1x9216, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S2x1024, .f32⟩
  | .local _ .vmem, ⟨44, _⟩ => ⟨S2x1024, .f32⟩
  | .local _ .vmem, ⟨45, _⟩ => ⟨S2x1024, .f32⟩
  | .local _ .vmem, ⟨46, _⟩ => ⟨S2x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1x1024, .f32⟩
  | .local _ .vmem, ⟨67, _⟩ => ⟨S1x1024, .f32⟩
  | .local _ .vmem, ⟨68, _⟩ => ⟨S1x1024, .f32⟩
  | .local _ .vmem, ⟨69, _⟩ => ⟨S1x1024, .f32⟩
  | .local _ .vmem, ⟨70, _⟩ => ⟨S1x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0_0 : Ref sig .tc := ⟨.hbm, 31, rfl⟩
abbrev main_v0_1 : Ref sig .tc := ⟨.hbm, 32, rfl⟩
abbrev main_v0_2 : Ref sig .tc := ⟨.hbm, 33, rfl⟩
abbrev main_v0_3 : Ref sig .tc := ⟨.hbm, 34, rfl⟩
abbrev main_v0_4 : Ref sig .tc := ⟨.hbm, 35, rfl⟩
abbrev main_v0_5 : Ref sig .tc := ⟨.hbm, 36, rfl⟩
abbrev main_v0_6 : Ref sig .tc := ⟨.hbm, 37, rfl⟩
abbrev main_v0_7 : Ref sig .tc := ⟨.hbm, 38, rfl⟩
abbrev main_v0_8 : Ref sig .tc := ⟨.hbm, 39, rfl⟩
abbrev main_v0_9 : Ref sig .tc := ⟨.hbm, 40, rfl⟩
abbrev main_v0_10 : Ref sig .tc := ⟨.hbm, 41, rfl⟩
abbrev main_v0_11 : Ref sig .tc := ⟨.hbm, 42, rfl⟩
abbrev main_v0_12 : Ref sig .tc := ⟨.hbm, 43, rfl⟩
abbrev main_v0_13 : Ref sig .tc := ⟨.hbm, 44, rfl⟩
abbrev main_v0_14 : Ref sig .tc := ⟨.hbm, 45, rfl⟩
abbrev main_v0_15 : Ref sig .tc := ⟨.hbm, 46, rfl⟩
abbrev main_v0_16 : Ref sig .tc := ⟨.hbm, 47, rfl⟩
abbrev main_v0_17 : Ref sig .tc := ⟨.hbm, 48, rfl⟩
abbrev main_v0_18 : Ref sig .tc := ⟨.hbm, 49, rfl⟩
abbrev main_v0_19 : Ref sig .tc := ⟨.hbm, 50, rfl⟩
abbrev main_v0_20 : Ref sig .tc := ⟨.hbm, 51, rfl⟩
abbrev main_v0_21 : Ref sig .tc := ⟨.hbm, 52, rfl⟩
abbrev main_v0_22 : Ref sig .tc := ⟨.hbm, 53, rfl⟩
abbrev main_v0_23 : Ref sig .tc := ⟨.hbm, 54, rfl⟩
abbrev main_v0_24 : Ref sig .tc := ⟨.hbm, 55, rfl⟩
abbrev main_v0_25 : Ref sig .tc := ⟨.hbm, 56, rfl⟩
abbrev main_v0_26 : Ref sig .tc := ⟨.hbm, 57, rfl⟩
abbrev main_v0_27 : Ref sig .tc := ⟨.hbm, 58, rfl⟩
abbrev main_v0_28 : Ref sig .tc := ⟨.hbm, 59, rfl⟩
abbrev main_v0_29 : Ref sig .tc := ⟨.hbm, 60, rfl⟩
abbrev main_v0_30 : Ref sig .tc := ⟨.hbm, 61, rfl⟩
abbrev main_v0_31 : Ref sig .tc := ⟨.hbm, 62, rfl⟩
abbrev main_v0_32 : Ref sig .tc := ⟨.hbm, 63, rfl⟩
abbrev main_v0_33 : Ref sig .tc := ⟨.hbm, 64, rfl⟩
abbrev main_v0_34 : Ref sig .tc := ⟨.hbm, 65, rfl⟩
abbrev main_v0_35 : Ref sig .tc := ⟨.hbm, 66, rfl⟩
abbrev main_v0_36 : Ref sig .tc := ⟨.hbm, 67, rfl⟩
abbrev main_v0_37 : Ref sig .tc := ⟨.hbm, 68, rfl⟩
abbrev main_v0_38 : Ref sig .tc := ⟨.hbm, 69, rfl⟩
abbrev main_v0_39 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x9216 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x9216 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x9216 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x9216 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))
-- ==== SmallRefIdeal.lean ====
abbrev S24x1024 : Shape := ⟨2, ![24, 1024]⟩
abbrev S1x9216 : Shape := ⟨2, ![1, 9216]⟩
abbrev S1x1024 : Shape := ⟨2, ![1, 1024]⟩
abbrev S2x1024 : Shape := ⟨2, ![2, 1024]⟩
abbrev S9x1024 : Shape := ⟨2, ![9, 1024]⟩
abbrev S_ : Shape := ⟨0, ![]⟩
abbrev S1024 : Shape := ⟨1, ![1024]⟩

abbrev nBuf : Space → Nat
  | .hbm => 436
  | .vmem => 0
  | .smem => 0
  | _ => 0

abbrev hbmTy0_0 (i : Nat) : BufTy := match i % 128 with
  | 0 => ⟨S24x1024, .f32⟩
  | 1 => ⟨S1x9216, .f32⟩
  | 2 => ⟨S1x9216, .f32⟩
  | 3 => ⟨S1x9216, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S2x1024, .f32⟩
  | 11 => ⟨S2x1024, .f32⟩
  | 12 => ⟨S2x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S9x1024, .f32⟩
  | 32 => ⟨S1x9216, .f32⟩
  | 33 => ⟨S_, .f32⟩
  | 34 => ⟨S1x9216, .f32⟩
  | 35 => ⟨S1x9216, .f32⟩
  | 36 => ⟨S_, .f32⟩
  | 37 => ⟨S1x9216, .f32⟩
  | 38 => ⟨S1x9216, .f32⟩
  | 39 => ⟨S1x9216, .f32⟩
  | 40 => ⟨S_, .f32⟩
  | 41 => ⟨S1x9216, .f32⟩
  | 42 => ⟨S1x9216, .f32⟩
  | 43 => ⟨S1x9216, .f32⟩
  | 44 => ⟨S_, .f32⟩
  | 45 => ⟨S1x9216, .f32⟩
  | 46 => ⟨S1x9216, .f32⟩
  | 47 => ⟨S1x9216, .f32⟩
  | 48 => ⟨S_, .f32⟩
  | 49 => ⟨S1x9216, .f32⟩
  | 50 => ⟨S1x9216, .f32⟩
  | 51 => ⟨S_, .f32⟩
  | 52 => ⟨S1x9216, .f32⟩
  | 53 => ⟨S1x9216, .f32⟩
  | 54 => ⟨S1x9216, .f32⟩
  | 55 => ⟨S_, .f32⟩
  | 56 => ⟨S1x9216, .f32⟩
  | 57 => ⟨S1x9216, .f32⟩
  | 58 => ⟨S1x9216, .f32⟩
  | 59 => ⟨S_, .f32⟩
  | 60 => ⟨S1x9216, .f32⟩
  | 61 => ⟨S1x9216, .f32⟩
  | 62 => ⟨S1x9216, .f32⟩
  | 63 => ⟨S_, .f32⟩
  | 64 => ⟨S1x9216, .f32⟩
  | 65 => ⟨S1x9216, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S24x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S_, .f32⟩
  | 7 => ⟨S1024, .f32⟩
  | 8 => ⟨S1x1024, .f32⟩
  | 9 => ⟨S2x1024, .f32⟩
  | 10 => ⟨S2x1024, .i1⟩
  | 11 => ⟨S2x1024, .f32⟩
  | 12 => ⟨S_, .f32⟩
  | 13 => ⟨S1024, .f32⟩
  | 14 => ⟨S_, .f32⟩
  | 15 => ⟨S1024, .f32⟩
  | 16 => ⟨S1024, .f32⟩
  | 17 => ⟨S_, .f32⟩
  | 18 => ⟨S1024, .f32⟩
  | 19 => ⟨S1024, .i1⟩
  | 20 => ⟨S_, .f32⟩
  | 21 => ⟨S1024, .f32⟩
  | 22 => ⟨S1024, .i1⟩
  | 23 => ⟨S_, .f32⟩
  | 24 => ⟨S1024, .f32⟩
  | 25 => ⟨S_, .f32⟩
  | 26 => ⟨S1024, .f32⟩
  | 27 => ⟨S_, .f32⟩
  | 28 => ⟨S1024, .f32⟩
  | 29 => ⟨S1024, .f32⟩
  | 30 => ⟨S1024, .f32⟩
  | 31 => ⟨S1x1024, .f32⟩
  | 32 => ⟨S2x1024, .f32⟩
  | 33 => ⟨S2x1024, .f32⟩
  | 34 => ⟨S2x1024, .f32⟩
  | 35 => ⟨S_, .f32⟩
  | 36 => ⟨S1024, .f32⟩
  | 37 => ⟨S1x1024, .f32⟩
  | 38 => ⟨S2x1024, .f32⟩
  | 39 => ⟨S2x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S_, .f32⟩
  | 46 => ⟨S2x1024, .f32⟩
  | 47 => ⟨S1x1024, .f32⟩
  | 48 => ⟨S1024, .f32⟩
  | 49 => ⟨S1x1024, .f32⟩
  | 50 => ⟨S1024, .f32⟩
  | 51 => ⟨S1x1024, .f32⟩
  | 52 => ⟨S_, .f32⟩
  | 53 => ⟨S2x1024, .f32⟩
  | 54 => ⟨S_, .f32⟩
  | 55 => ⟨S_, .f32⟩
  | 56 => ⟨S2x1024, .f32⟩
  | 57 => ⟨S2x1024, .f32⟩
  | 58 => ⟨S2x1024, .f32⟩
  | 59 => ⟨S2x1024, .f32⟩
  | 60 => ⟨S_, .f32⟩
  | 61 => ⟨S1024, .f32⟩
  | 62 => ⟨S1x1024, .f32⟩
  | 63 => ⟨S1x1024, .f32⟩
  | 64 => ⟨S2x1024, .f32⟩
  | 65 => ⟨S2x1024, .f32⟩
  | 66 => ⟨S_, .f32⟩
  | 67 => ⟨S1024, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S24x1024, .f32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S24x1024, .f32⟩

abbrev hbmTy0_3 (i : Nat) : BufTy := match i % 128 with
  | 0 => ⟨S_, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | _ => ⟨S24x1024, .f32⟩

abbrev hbmTy (i : Nat) : BufTy := match i / 128 with
  | 0 => hbmTy0_0 i
  | 1 => hbmTy0_1 i
  | 2 => hbmTy0_2 i
  | 3 => hbmTy0_3 i
  | _ => ⟨S24x1024, .f32⟩

abbrev bufTy : (tb : Table) → Fin (tcTables nBuf tb) → BufTy
  | .hbm, ⟨i, _⟩ => hbmTy i
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_cst : Ref sig .tc := ⟨.hbm, 33, rfl⟩
abbrev main_v2 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_3 : Ref sig .tc := ⟨.hbm, 48, rfl⟩
abbrev main_v13 : Ref sig .tc := ⟨.hbm, 49, rfl⟩
abbrev main_v14 : Ref sig .tc := ⟨.hbm, 50, rfl⟩
abbrev main_cst_4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_6 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_7 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_8 : Ref sig .tc := ⟨.hbm, 67, rfl⟩
abbrev main_v27 : Ref sig .tc := ⟨.hbm, 68, rfl⟩
abbrev main_v28 : Ref sig .tc := ⟨.hbm, 69, rfl⟩
abbrev main_cst_9 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_10 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_11 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_12 : Ref sig .tc := ⟨.hbm, 82, rfl⟩
abbrev main_v38 : Ref sig .tc := ⟨.hbm, 83, rfl⟩
abbrev main_v39 : Ref sig .tc := ⟨.hbm, 84, rfl⟩
abbrev main_cst_13 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_14 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_15 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_16 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_17 : Ref sig .tc := ⟨.hbm, 101, rfl⟩
abbrev main_v52 : Ref sig .tc := ⟨.hbm, 102, rfl⟩
abbrev main_v53 : Ref sig .tc := ⟨.hbm, 103, rfl⟩
abbrev main_cst_18 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_19 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_20 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_21 : Ref sig .tc := ⟨.hbm, 116, rfl⟩
abbrev main_v63 : Ref sig .tc := ⟨.hbm, 117, rfl⟩
abbrev main_v64 : Ref sig .tc := ⟨.hbm, 118, rfl⟩
abbrev main_cst_22 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_23 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_24 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_25 : Ref sig .tc := ⟨.hbm, 131, rfl⟩
abbrev main_v74 : Ref sig .tc := ⟨.hbm, 132, rfl⟩
abbrev main_v75 : Ref sig .tc := ⟨.hbm, 133, rfl⟩
abbrev main_cst_26 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_27 : Ref sig .tc := ⟨.hbm, 140, rfl⟩
abbrev main_v81 : Ref sig .tc := ⟨.hbm, 141, rfl⟩
abbrev main_cst_28 : Ref sig .tc := ⟨.hbm, 142, rfl⟩
abbrev main_v82 : Ref sig .tc := ⟨.hbm, 143, rfl⟩
abbrev main_v83 : Ref sig .tc := ⟨.hbm, 144, rfl⟩
abbrev main_cst_29 : Ref sig .tc := ⟨.hbm, 145, rfl⟩
abbrev main_v84 : Ref sig .tc := ⟨.hbm, 146, rfl⟩
abbrev main_v85 : Ref sig .tc := ⟨.hbm, 147, rfl⟩
abbrev main_cst_30 : Ref sig .tc := ⟨.hbm, 148, rfl⟩
abbrev main_v86 : Ref sig .tc := ⟨.hbm, 149, rfl⟩
abbrev main_v87 : Ref sig .tc := ⟨.hbm, 150, rfl⟩
abbrev main_cst_31 : Ref sig .tc := ⟨.hbm, 151, rfl⟩
abbrev main_v88 : Ref sig .tc := ⟨.hbm, 152, rfl⟩
abbrev main_cst_32 : Ref sig .tc := ⟨.hbm, 153, rfl⟩
abbrev main_v89 : Ref sig .tc := ⟨.hbm, 154, rfl⟩
abbrev main_cst_33 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_34 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_35 : Ref sig .tc := ⟨.hbm, 169, rfl⟩
abbrev main_v102 : Ref sig .tc := ⟨.hbm, 170, rfl⟩
abbrev main_v103 : Ref sig .tc := ⟨.hbm, 171, rfl⟩
abbrev main_call0_call0_cst : Ref sig .tc := ⟨.hbm, 172, rfl⟩
abbrev main_call0_call0_v0 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_36 : Ref sig .tc := ⟨.hbm, 180, rfl⟩
abbrev main_v110 : Ref sig .tc := ⟨.hbm, 181, rfl⟩
abbrev main_call1_call0_cst : Ref sig .tc := ⟨.hbm, 182, rfl⟩
abbrev main_call1_call0_v0 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_37 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_38 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_cst_39 : Ref sig .tc := ⟨.hbm, 199, rfl⟩
abbrev main_v124 : Ref sig .tc := ⟨.hbm, 200, rfl⟩
abbrev main_v125 : Ref sig .tc := ⟨.hbm, 201, rfl⟩
abbrev main_cst_40 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_cst_41 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_cst_42 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_43 : Ref sig .tc := ⟨.hbm, 214, rfl⟩
abbrev main_v135 : Ref sig .tc := ⟨.hbm, 215, rfl⟩
abbrev main_v136 : Ref sig .tc := ⟨.hbm, 216, rfl⟩
abbrev main_cst_44 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_cst_45 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_46 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_cst_47 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_48 : Ref sig .tc := ⟨.hbm, 233, rfl⟩
abbrev main_v149 : Ref sig .tc := ⟨.hbm, 234, rfl⟩
abbrev main_v150 : Ref sig .tc := ⟨.hbm, 235, rfl⟩
abbrev main_cst_49 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_50 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_51 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_52 : Ref sig .tc := ⟨.hbm, 248, rfl⟩
abbrev main_v160 : Ref sig .tc := ⟨.hbm, 249, rfl⟩
abbrev main_v161 : Ref sig .tc := ⟨.hbm, 250, rfl⟩
abbrev main_cst_53 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_54 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_cst_55 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_cst_56 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_cst_57 : Ref sig .tc := ⟨.hbm, 267, rfl⟩
abbrev main_v174 : Ref sig .tc := ⟨.hbm, 268, rfl⟩
abbrev main_v175 : Ref sig .tc := ⟨.hbm, 269, rfl⟩
abbrev main_cst_58 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_cst_59 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_cst_60 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_cst_61 : Ref sig .tc := ⟨.hbm, 282, rfl⟩
abbrev main_v185 : Ref sig .tc := ⟨.hbm, 283, rfl⟩
abbrev main_v186 : Ref sig .tc := ⟨.hbm, 284, rfl⟩
abbrev main_cst_62 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_cst_63 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_cst_64 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_cst_65 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_cst_66 : Ref sig .tc := ⟨.hbm, 301, rfl⟩
abbrev main_v199 : Ref sig .tc := ⟨.hbm, 302, rfl⟩
abbrev main_v200 : Ref sig .tc := ⟨.hbm, 303, rfl⟩
abbrev main_cst_67 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_cst_68 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_cst_69 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_cst_70 : Ref sig .tc := ⟨.hbm, 316, rfl⟩
abbrev main_v210 : Ref sig .tc := ⟨.hbm, 317, rfl⟩
abbrev main_v211 : Ref sig .tc := ⟨.hbm, 318, rfl⟩
abbrev main_cst_71 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_cst_72 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_73 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_cst_74 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_cst_75 : Ref sig .tc := ⟨.hbm, 335, rfl⟩
abbrev main_v224 : Ref sig .tc := ⟨.hbm, 336, rfl⟩
abbrev main_v225 : Ref sig .tc := ⟨.hbm, 337, rfl⟩
abbrev main_cst_76 : Ref sig .tc := ⟨.hbm, 338, rfl⟩
abbrev main_v226 : Ref sig .tc := ⟨.hbm, 339, rfl⟩
abbrev main_v227 : Ref sig .tc := ⟨.hbm, 340, rfl⟩
abbrev main_v228 : Ref sig .tc := ⟨.hbm, 341, rfl⟩
abbrev main_cst_77 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_cst_78 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_cst_79 : Ref sig .tc := ⟨.hbm, 350, rfl⟩
abbrev main_v235 : Ref sig .tc := ⟨.hbm, 351, rfl⟩
abbrev main_v236 : Ref sig .tc := ⟨.hbm, 352, rfl⟩
abbrev main_cst_80 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_cst_81 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_cst_82 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_cst_83 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_cst_84 : Ref sig .tc := ⟨.hbm, 369, rfl⟩
abbrev main_v249 : Ref sig .tc := ⟨.hbm, 370, rfl⟩
abbrev main_v250 : Ref sig .tc := ⟨.hbm, 371, rfl⟩
abbrev main_cst_85 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_cst_86 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_cst_87 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_cst_88 : Ref sig .tc := ⟨.hbm, 384, rfl⟩
abbrev main_v260 : Ref sig .tc := ⟨.hbm, 385, rfl⟩
abbrev main_v261 : Ref sig .tc := ⟨.hbm, 386, rfl⟩
abbrev main_cst_89 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_cst_90 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_cst_91 : Ref sig .tc := ⟨.hbm, 395, rfl⟩
abbrev main_v268 : Ref sig .tc := ⟨.hbm, 396, rfl⟩
abbrev main_v269 : Ref sig .tc := ⟨.hbm, 397, rfl⟩
abbrev main_v270 : Ref sig .tc := ⟨.hbm, 398, rfl⟩
abbrev main_cst_92 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_cst_93 : Ref sig .tc := ⟨.hbm, 403, rfl⟩
abbrev main_v274 : Ref sig .tc := ⟨.hbm, 404, rfl⟩
abbrev main_v275 : Ref sig .tc := ⟨.hbm, 405, rfl⟩
abbrev main_cst_94 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_cst_95 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_cst_96 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_cst_97 : Ref sig .tc := ⟨.hbm, 418, rfl⟩
abbrev main_v285 : Ref sig .tc := ⟨.hbm, 419, rfl⟩
abbrev main_v286 : Ref sig .tc := ⟨.hbm, 420, rfl⟩
abbrev main_cst_98 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_cst_99 : Ref sig .tc := ⟨.hbm, 425, rfl⟩
abbrev main_v290 : Ref sig .tc := ⟨.hbm, 426, rfl⟩
abbrev main_v291 : Ref sig .tc := ⟨.hbm, 427, rfl⟩
abbrev main_v292 : Ref sig .tc := ⟨.hbm, 428, rfl⟩
abbrev main_cst_100 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_cst_101 : Ref sig .tc := ⟨.hbm, 433, rfl⟩
abbrev main_v296 : Ref sig .tc := ⟨.hbm, 434, rfl⟩
abbrev main_v297 : Ref sig .tc := ⟨.hbm, 435, rfl⟩

abbrev nD : Nat := 1
abbrev τ : Topo := Topo.v7x

variable {F : FTy → Type} [FloatOps F]
-- ==== Proof.Rows.lean ====
/- Reading a matrix after one of its rows has been stored. -/
module

public import Idealize.ShloMosaic.Lib.Pipeline.ValueKit
public import Idealize.ShloMosaic.Lib.Pointwise
public import Idealize.ShloMosaic.Lib.WritesUnit
public import Idealize.ShloMosaic.Lib.VecWindow

@[expose] public section

noncomputable section

namespace Cert.Rows

open Idealize.ShloMosaic Idealize.ShloMosaic.TcCoe Idealize.SL.Sem

/-- Every element type of the exact model has a value. -/
local instance : ∀ e, Nonempty (Elt Ideal e) := inferInstance

/-- After row `o` was stored last, row `o` holds what was stored and every other row what the earlier stores left. -/
theorem canon_row {R D o : ℕ} {e : EltTy} (inb : ∀ a, (![o, 0] : Fin 2 → ℕ) a + (![1, D] : Fin 2 → ℕ) a ≤ (⟨2, ![R, D]⟩ : Shape).size a)
    (w : (Rect.unit (s := ⟨2, ![R, D]⟩) ![o, 0] ![1, D] inb).shape.Idx → Elt Ideal e)
    (L : List (View.Piece (Elt Ideal) (⟨2, ![R, D]⟩ : Shape) e)) (j : (⟨2, ![R, D]⟩ : Shape).Idx) :
    View.canon ((⟨Rect.unit (s := ⟨2, ![R, D]⟩) ![o, 0] ![1, D] inb, w⟩ : View.Piece (Elt Ideal) (⟨2, ![R, D]⟩ : Shape) e) :: L) j
      = if (j 0).val = o then w (ix2 (0 : Fin 1) (j 1)) else View.canon L j := by
  by_cases h : (j 0).val = o
  · rw [if_pos h]
    have hj : (Rect.unit (s := ⟨2, ![R, D]⟩) ![o, 0] ![1, D] inb).emb (ix2 (0 : Fin 1) (j 1)) = j := by
      funext a; apply Fin.ext
      match a with
      | ⟨0, _⟩ => show o + 1 * 0 = (j 0).val; omega
      | ⟨1, _⟩ => show 0 + 1 * (j 1).val = (j 1).val; omega
    exact (congrArg _ hj.symm).trans (View.canon_cons_emb _ w L _)
  · rw [if_neg h]
    refine View.canon_cons_of_not_mem _ L ?_
    rw [Rect.mem_set_unit]
    intro hall
    have h0 := hall 0
    have e1 : (![o, 0] : Fin 2 → ℕ) 0 = o := rfl
    have e2 : (![1, D] : Fin 2 → ℕ) 0 = 1 := rfl
    simp only [e1, e2] at h0
    omega

/-- The same for a read of what a list of stores left over known contents. -/
theorem read_row {R D o : ℕ} {e : EltTy} {sig : RefSig} {κ : Kind} {sp : Space} (v : View sig κ sp (⟨2, ![R, D]⟩ : Shape) e)
    (f : v.ty.Contents (Elt Ideal)) (inb : ∀ a, (![o, 0] : Fin 2 → ℕ) a + (![1, D] : Fin 2 → ℕ) a ≤ (⟨2, ![R, D]⟩ : Shape).size a)
    (w : (Rect.unit (s := ⟨2, ![R, D]⟩) ![o, 0] ![1, D] inb).shape.Idx → Elt Ideal e)
    (L : List (View.Piece (Elt Ideal) (⟨2, ![R, D]⟩ : Shape) e)) (j : (⟨2, ![R, D]⟩ : Shape).Idx) :
    v.read (Elt Ideal) (v.writes (Elt Ideal) f ((⟨Rect.unit (s := ⟨2, ![R, D]⟩) ![o, 0] ![1, D] inb, w⟩ : View.Piece (Elt Ideal) (⟨2, ![R, D]⟩ : Shape) e) :: L)) j
      = if (j 0).val = o then w (ix2 (0 : Fin 1) (j 1)) else v.read (Elt Ideal) (v.writes (Elt Ideal) f L) j := by
  by_cases h : (j 0).val = o
  · rw [if_pos h]
    exact View.read_writes_cons_unit_of_mem v f inb w L j _ rfl fun a => by
      match a with
      | ⟨0, _⟩ => show (j 0).val = o + 0; omega
      | ⟨1, _⟩ => show (j 1).val = 0 + (j 1).val; omega
  · rw [if_neg h]
    exact View.read_writes_cons_unit_of_not_mem v f inb w L j rfl (0 : Fin 2) (by
      have e1 : (![o, 0] : Fin 2 → ℕ) 0 = o := rfl
      have e2 : (![1, D] : Fin 2 → ℕ) 0 = 1 := rfl
      rw [e1, e2]; omega)

/-- After plane `o` was stored last, plane `o` holds what was stored and every other plane what the earlier stores left. -/
theorem canon_plane {R A D o : ℕ} {e : EltTy} (inb : ∀ a, (![o, 0, 0] : Fin 3 → ℕ) a + (![1, A, D] : Fin 3 → ℕ) a ≤ (⟨3, ![R, A, D]⟩ : Shape).size a)
    (w : (Rect.unit (s := ⟨3, ![R, A, D]⟩) ![o, 0, 0] ![1, A, D] inb).shape.Idx → Elt Ideal e)
    (L : List (View.Piece (Elt Ideal) (⟨3, ![R, A, D]⟩ : Shape) e)) (j : (⟨3, ![R, A, D]⟩ : Shape).Idx) :
    View.canon ((⟨Rect.unit (s := ⟨3, ![R, A, D]⟩) ![o, 0, 0] ![1, A, D] inb, w⟩ : View.Piece (Elt Ideal) (⟨3, ![R, A, D]⟩ : Shape) e) :: L) j
      = if (j 0).val = o then w (ix3 (0 : Fin 1) (j 1) (j 2)) else View.canon L j := by
  by_cases h : (j 0).val = o
  · rw [if_pos h]
    have hj : (Rect.unit (s := ⟨3, ![R, A, D]⟩) ![o, 0, 0] ![1, A, D] inb).emb (ix3 (0 : Fin 1) (j 1) (j 2)) = j := by
      funext a; apply Fin.ext
      match a with
      | ⟨0, _⟩ => show o + 1 * 0 = (j 0).val; omega
      | ⟨1, _⟩ => show 0 + 1 * (j 1).val = (j 1).val; omega
      | ⟨2, _⟩ => show 0 + 1 * (j 2).val = (j 2).val; omega
    exact (congrArg _ hj.symm).trans (View.canon_cons_emb _ w L _)
  · rw [if_neg h]
    refine View.canon_cons_of_not_mem _ L ?_
    rw [Rect.mem_set_unit]
    intro hall
    have h0 := hall 0
    have e1 : (![o, 0, 0] : Fin 3 → ℕ) 0 = o := rfl
    have e2 : (![1, A, D] : Fin 3 → ℕ) 0 = 1 := rfl
    simp only [e1, e2] at h0
    omega

/-- A load of plane `o` reads what the stores left in that plane. -/
theorem load_plane {R A D o : ℕ} {e : EltTy} {sig : RefSig} {κ : Kind} {sp : Space} (v : View sig κ sp (⟨3, ![R, A, D]⟩ : Shape) e)
    (inb : ∀ a, (![o, 0, 0] : Fin 3 → ℕ) a + (![1, A, D] : Fin 3 → ℕ) a ≤ (⟨3, ![R, A, D]⟩ : Shape).size a) (ho : o < R)
    (L : List (View.Piece (Elt Ideal) (⟨3, ![R, A, D]⟩ : Shape) e)) (x : Fin 1) (a : Fin A) (d : Fin D) :
    v.readCov L (Rect.unit (s := ⟨3, ![R, A, D]⟩) ![o, 0, 0] ![1, A, D] inb).toLoadRect (ix3 x a d)
      = View.canon L (ix3 ⟨o, ho⟩ a d) := by
  rw [View.readCov_eq_canon']
  refine congrArg _ ?_
  funext b; apply Fin.ext
  match b with
  | ⟨0, _⟩ => show o + 1 * x.val = o; omega
  | ⟨1, _⟩ => show 0 + 1 * a.val = a.val; omega
  | ⟨2, _⟩ => show 0 + 1 * d.val = d.val; omega

/-- A load of the whole array reads what the stores left. -/
theorem load_all {R A D : ℕ} {e : EltTy} {sig : RefSig} {κ : Kind} {sp : Space} (v : View sig κ sp (⟨3, ![R, A, D]⟩ : Shape) e)
    (inb : ∀ a, (![0, 0, 0] : Fin 3 → ℕ) a + (![R, A, D] : Fin 3 → ℕ) a ≤ (⟨3, ![R, A, D]⟩ : Shape).size a)
    (L : List (View.Piece (Elt Ideal) (⟨3, ![R, A, D]⟩ : Shape) e)) (j : (⟨3, ![R, A, D]⟩ : Shape).Idx) :
    v.readCov L (Rect.unit (s := ⟨3, ![R, A, D]⟩) ![0, 0, 0] ![R, A, D] inb).toLoadRect j = View.canon L j := by
  rw [View.readCov_eq_canon']
  refine congrArg _ ?_
  funext b; apply Fin.ext
  match b with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The store that fills the whole array leaves what it stored. -/
theorem canon_all {R A D : ℕ} {e : EltTy} (inb : ∀ a, (![0, 0, 0] : Fin 3 → ℕ) a + (![R, A, D] : Fin 3 → ℕ) a ≤ (⟨3, ![R, A, D]⟩ : Shape).size a)
    (w : (⟨3, ![R, A, D]⟩ : Shape).Idx → Elt Ideal e)
    (L : List (View.Piece (Elt Ideal) (⟨3, ![R, A, D]⟩ : Shape) e)) (j : (⟨3, ![R, A, D]⟩ : Shape).Idx) :
    View.canon ((⟨Rect.unit (s := ⟨3, ![R, A, D]⟩) ![0, 0, 0] ![R, A, D] inb, w⟩ : View.Piece (Elt Ideal) (⟨3, ![R, A, D]⟩ : Shape) e) :: L) j
      = w j := by
  have hj : (Rect.unit (s := ⟨3, ![R, A, D]⟩) ![0, 0, 0] ![R, A, D] inb).emb j = j := by
    funext b; apply Fin.ext
    match b with
    | ⟨0, _⟩ => show 0 + 1 * (j 0).val = (j 0).val; omega
    | ⟨1, _⟩ => show 0 + 1 * (j 1).val = (j 1).val; omega
    | ⟨2, _⟩ => show 0 + 1 * (j 2).val = (j 2).val; omega
  exact (congrArg _ hj.symm).trans (View.canon_cons_emb (Rect.unit (s := ⟨3, ![R, A, D]⟩) ![0, 0, 0] ![R, A, D] inb) w L j)

/-- After a tile was stored last, the tile holds what was stored and every other entry what the earlier stores left. -/
theorem canon_tile {R D A W p o : ℕ} {e : EltTy} (inb : ∀ a, (![p, o] : Fin 2 → ℕ) a + (![A, W] : Fin 2 → ℕ) a ≤ (⟨2, ![R, D]⟩ : Shape).size a)
    (w : (⟨2, ![A, W]⟩ : Shape).Idx → Elt Ideal e)
    (L : List (View.Piece (Elt Ideal) (⟨2, ![R, D]⟩ : Shape) e)) (j : (⟨2, ![R, D]⟩ : Shape).Idx) :
    View.canon ((⟨Rect.unit (s := ⟨2, ![R, D]⟩) ![p, o] ![A, W] inb, w⟩ : View.Piece (Elt Ideal) (⟨2, ![R, D]⟩ : Shape) e) :: L) j
      = if h : p ≤ (j 0).val ∧ (j 0).val < p + A ∧ o ≤ (j 1).val ∧ (j 1).val < o + W
        then w (ix2 ⟨(j 0).val - p, by omega⟩ ⟨(j 1).val - o, by omega⟩) else View.canon L j := by
  by_cases h : p ≤ (j 0).val ∧ (j 0).val < p + A ∧ o ≤ (j 1).val ∧ (j 1).val < o + W
  · rw [dif_pos h]
    have hj : (Rect.unit (s := ⟨2, ![R, D]⟩) ![p, o] ![A, W] inb).emb (ix2 ⟨(j 0).val - p, by omega⟩ ⟨(j 1).val - o, by omega⟩) = j := by
      funext a; apply Fin.ext
      match a with
      | ⟨0, _⟩ => show p + 1 * ((j 0).val - p) = (j 0).val; omega
      | ⟨1, _⟩ => show o + 1 * ((j 1).val - o) = (j 1).val; omega
    exact (congrArg _ hj.symm).trans (View.canon_cons_emb (Rect.unit (s := ⟨2, ![R, D]⟩) ![p, o] ![A, W] inb) w L _)
  · rw [dif_neg h]
    refine View.canon_cons_of_not_mem _ L ?_
    rw [Rect.mem_set_unit]
    intro hall
    have h0 := hall 0
    have h1 := hall 1
    have e1 : (![p, o] : Fin 2 → ℕ) 0 = p := rfl
    have e2 : (![p, o] : Fin 2 → ℕ) 1 = o := rfl
    have e3 : (![A, W] : Fin 2 → ℕ) 0 = A := rfl
    have e4 : (![A, W] : Fin 2 → ℕ) 1 = W := rfl
    simp only [e1, e2, e3, e4] at h0 h1
    omega

/-- A load of one row reads that row of what the stores left. -/
theorem load_row {R D o : ℕ} {e : EltTy} {sig : RefSig} {κ : Kind} {sp : Space} (v : View sig κ sp (⟨2, ![R, D]⟩ : Shape) e)
    (inb : ∀ a, (![o, 0] : Fin 2 → ℕ) a + (![1, D] : Fin 2 → ℕ) a ≤ (⟨2, ![R, D]⟩ : Shape).size a) (ho : o < R)
    (L : List (View.Piece (Elt Ideal) (⟨2, ![R, D]⟩ : Shape) e)) (x : Fin 1) (d : Fin D) :
    v.readCov L (Rect.unit (s := ⟨2, ![R, D]⟩) ![o, 0] ![1, D] inb).toLoadRect (ix2 x d) = View.canon L (ix2 ⟨o, ho⟩ d) := by
  rw [View.readCov_eq_canon']
  refine congrArg _ ?_
  funext b; apply Fin.ext
  match b with
  | ⟨0, _⟩ => show o + 1 * x.val = o; omega
  | ⟨1, _⟩ => show 0 + 1 * d.val = d.val; omega

/-- One row of an array. -/
theorem ld_row {R D o : ℕ} {e : EltTy} (f : (⟨2, ![R, D]⟩ : Shape).Idx → Elt Ideal e)
    (inb : ∀ a, (![o, 0] : Fin 2 → ℕ) a + (![1, D] : Fin 2 → ℕ) a ≤ (⟨2, ![R, D]⟩ : Shape).size a) (ho : o < R) (x : Fin 1) (d : Fin D) :
    View.ld f (Rect.unit (s := ⟨2, ![R, D]⟩) ![o, 0] ![1, D] inb) (ix2 x d) = f (ix2 ⟨o, ho⟩ d) := by
  refine congrArg f ?_
  funext b; apply Fin.ext
  match b with
  | ⟨0, _⟩ => show o + 1 * x.val = o; omega
  | ⟨1, _⟩ => show 0 + 1 * d.val = d.val; omega

/-- After a store of the whole matrix, the matrix is what was stored. -/
theorem canon_full {R D : ℕ} {e : EltTy} (inb : ∀ a, (![0, 0] : Fin 2 → ℕ) a + (![R, D] : Fin 2 → ℕ) a ≤ (⟨2, ![R, D]⟩ : Shape).size a)
    (w : (⟨2, ![R, D]⟩ : Shape).Idx → Elt Ideal e)
    (L : List (View.Piece (Elt Ideal) (⟨2, ![R, D]⟩ : Shape) e)) (j : (⟨2, ![R, D]⟩ : Shape).Idx) :
    View.canon ((⟨Rect.unit (s := ⟨2, ![R, D]⟩) ![0, 0] ![R, D] inb, w⟩ : View.Piece (Elt Ideal) (⟨2, ![R, D]⟩ : Shape) e) :: L) j = w j := by
  have h0 : (j 0).val < R := (j 0).isLt
  have h1 : (j 1).val < D := (j 1).isLt
  rw [canon_tile, dif_pos ⟨Nat.zero_le _, by omega, Nat.zero_le _, by omega⟩]
  exact congrArg w (eq_ix2 j).symm

/-- A row put into an array of rows, read at an entry. -/
theorem put_row {R D o : ℕ} {e : EltTy} (s : (⟨2, ![R, D]⟩ : Shape).Idx → Elt Ideal e) (w : (⟨2, ![1, D]⟩ : Shape).Idx → Elt Ideal e) (x : Fin R) (k : Fin D) :
    VecWindow.put s ![o, 0] (⟨2, ![1, D]⟩ : Shape).size w (ix2 x k) = if x.val = o then w (ix2 0 k) else s (ix2 x k) := by
  have hk : k.val < D := k.isLt
  unfold VecWindow.put
  by_cases h : x.val = o
  · rw [if_pos h, dif_pos]
    · refine congrArg w (funext fun a => Fin.ext ?_)
      match a with
      | ⟨0, _⟩ => show x.val - o = 0; omega
      | ⟨1, _⟩ => show k.val - 0 = k.val; omega
    · intro a
      match a with
      | ⟨0, _⟩ => show o ≤ x.val ∧ x.val < o + 1; omega
      | ⟨1, _⟩ => show 0 ≤ k.val ∧ k.val < 0 + D; omega
  · rw [if_neg h, dif_neg]
    intro h'
    have h0 : o ≤ x.val ∧ x.val < o + 1 := h' 0
    omega

end Cert.Rows

end
-- ==== Proof.Reals.lean ====
/- Extended reals that are real numbers, and the laws that hold of them. -/
module

public import Idealize.ShloMosaic.Lib.Pipeline.ValueKit
public import Idealize.ShloMosaic.Lib.Pointwise
public import Idealize.ShloMosaic.Lib.ReduceAll

@[expose] public section

noncomputable section

namespace Cert.Reals

open Idealize.ShloMosaic Idealize.ShloMosaic.TcCoe Idealize.SL.Sem
open scoped BigOperators

/-- An extended real that is a real number. -/
abbrev IsReal (x : EReal) : Prop := ∃ r : ℝ, x = (r : EReal)

/-- A product of real numbers is one. -/
theorem isReal_mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers is one. -/
theorem isReal_sum {n : ℕ} {f : Fin n → EReal} (h : ∀ k, IsReal (f k)) : IsReal (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

/-- The gradient of `silu` as the kernel writes it is the one the product rule gives, for real `a` and `u`. -/
theorem silu_law {a u : EReal} (ha : IsReal a) (hu : IsReal u) (d b : EReal) (hb : d * b = u) :
    d * b * Ideal.div 1 (1 + Ideal.exp (-a)) * (1 + a * (1 - Ideal.div 1 (1 + Ideal.exp (-a))))
      = u * Ideal.div 1 (1 + Ideal.exp (-a))
        + a * u * (Ideal.div 1 (1 + Ideal.exp (-a)) * (1 - Ideal.div 1 (1 + Ideal.exp (-a)))) := by
  rw [hb]
  obtain ⟨x, rfl⟩ := ha
  obtain ⟨y, rfl⟩ := hu
  have e : Ideal.div 1 (1 + Ideal.exp (-(x : EReal))) = ((1 / (1 + Real.exp (-x)) : ℝ) : EReal) := by
    rw [← EReal.coe_neg, Ideal.exp_coe, ← EReal.coe_one, ← EReal.coe_add,
      Ideal.div_coe (by positivity : (1 + Real.exp (-x)) ≠ 0), EReal.coe_one, one_mul]
  rw [e, ← EReal.coe_one]
  simp only [← EReal.coe_mul, ← EReal.coe_add, ← EReal.coe_sub]
  congr 1
  ring

/-- The word of positive infinity. -/
theorem inf_word : Ideal.ofBits .f32 0x7F800000#32 = (⊤ : EReal) := by
  simp [Ideal.ofBits, Ideal.ieee]

/-- An array whose every entry's magnitude lies below infinity holds real numbers. -/
theorem isReal_of_all {S s0 u : Shape} {axes : List (Fin S.rank)} {t : Shape} [Subsingleton t.Idx] (x : FVec Ideal S .f32) (dims : Fin s0.rank → Fin S.rank)
    (hb : s0.BroadcastsInDim S dims) (init : u.Idx → BitVec 1) (h : S.ReducesTo axes t) (hu : 0 < u.numel) (j : t.Idx)
    (e : Host.reduce IntOp.andi (cmpf .olt (Host.absf x) (broadcastInDim S dims hb (constant s0 .f32 0x7F800000#32))) init h hu j = 1#1)
    (i : S.Idx) : IsReal (x i) := by
  have hi := Host.reduce_andi_all _ init h hu j e i
  have h2 : BitVec.ofBool (decide (max (x i) (-(x i)) < Ideal.ofBits .f32 0x7F800000#32)) = 1#1 := hi
  rw [inf_word] at h2
  have h3 : max (x i) (-(x i)) < (⊤ : EReal) := by
    by_contra hn
    rw [decide_eq_false hn] at h2
    exact absurd h2 (by decide)
  revert h3
  generalize x i = z
  intro h3
  induction z using EReal.rec with
  | bot => simp at h3
  | top => simp at h3
  | coe r => exact ⟨r, rfl⟩

/-- Subtracting from zero is negation. -/
theorem zero_sub' (x : EReal) : (0 : EReal) - x = -x := by rw [sub_eq_add_neg, zero_add]

end Cert.Reals

end
-- ==== Proof.Norms.lean ====
/- The gradient of the root-mean-square norm over real numbers: the written-out form is the one the product rule gives. -/
module

public import proofs.«01_k».proof.Proof.Reals
public import Idealize.ShloMosaic.Lib.IdealHost

@[expose] public section

noncomputable section

namespace Cert.Reals

open Idealize.ShloMosaic Idealize.ShloMosaic.TcCoe Idealize.SL.Sem
open scoped BigOperators

/-- The word of the row length. -/
theorem word_1024 : Ideal.ofBits .f32 0x44800000#32 = ((1024 : ℝ) : EReal) := by
  simp [Ideal.ofBits, Ideal.ieee, -EReal.coe_mul]; norm_num

/-- The word of the row length's inverse. -/
theorem word_inv_1024 : Ideal.ofBits .f32 0x3A800000#32 = ((1 / 1024 : ℝ) : EReal) := by
  simp [Ideal.ofBits, Ideal.ieee, -EReal.coe_mul]; norm_num

/-- The word of half the row length's inverse. -/
theorem word_inv_2048 : Ideal.ofBits .f32 0x3A000000#32 = ((1 / 2048 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul, -EReal.coe_neg]; norm_num

/-- The word of two. -/
theorem word_two : Ideal.ofBits .f32 0x40000000#32 = ((2 : ℝ) : EReal) := by
  simp [Ideal.ofBits, Ideal.ieee, -EReal.coe_mul]; norm_num

/-- The constant under the norm's root is a positive real number. -/
theorem word_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A sum of real numbers is one. -/
theorem isReal_add {x y : EReal} (hx : IsReal x) (hy : IsReal y) : IsReal (x + y) := by
  obtain ⟨r, rfl⟩ := hx
  obtain ⟨s, rfl⟩ := hy
  exact ⟨r + s, (EReal.coe_add r s).symm⟩

/-- A difference of real numbers is one. -/
theorem isReal_sub {x y : EReal} (hx : IsReal x) (hy : IsReal y) : IsReal (x - y) := by
  obtain ⟨r, rfl⟩ := hx
  obtain ⟨s, rfl⟩ := hy
  exact ⟨r - s, (EReal.coe_sub r s).symm⟩

/-- A real number is a real number. -/
theorem isReal_coe (x : ℝ) : IsReal (x : EReal) := ⟨x, rfl⟩

/-- The sum of real numbers, taken among the extended reals. -/
theorem coe_sum {n : ℕ} (g : Fin n → ℝ) : ∑ k, ((g k : ℝ) : EReal) = ((∑ k, g k : ℝ) : EReal) :=
  (map_sum (⟨⟨Real.toEReal, EReal.coe_zero⟩, EReal.coe_add⟩ : ℝ →+ EReal) g Finset.univ).symm

/-- The logistic function of a real number is one. -/
theorem isReal_sig {x : EReal} (hx : IsReal x) : IsReal (Ideal.div 1 (1 + Ideal.exp (-x))) := by
  obtain ⟨x, rfl⟩ := hx
  refine ⟨1 / (1 + Real.exp (-x)), ?_⟩
  rw [← EReal.coe_neg, Ideal.exp_coe, ← EReal.coe_one, ← EReal.coe_add,
    Ideal.div_coe (by positivity : (1 + Real.exp (-x)) ≠ 0), EReal.coe_one, one_mul]

/-- What stands under the norm's root, over a row of real numbers, is a positive real number. -/
theorem mean_pos (x : Fin 1024 → EReal) (hx : ∀ k, IsReal (x k)) :
    ∃ v : ℝ, 0 < v ∧ Ideal.div (∑ k, x k * x k) (Ideal.ofBits .f32 0x44800000#32) + Ideal.ofBits .f32 0x358637BD#32 = (v : EReal) := by
  choose g hg using hx
  obtain ⟨e, he, hw⟩ := word_eps
  refine ⟨(∑ k, g k * g k) * (1 / 1024) + e, ?_, ?_⟩
  · have : 0 ≤ ∑ k, g k * g k := Finset.sum_nonneg fun k _ => mul_self_nonneg _
    positivity
  · rw [hw, word_1024, Ideal.div_coe (by norm_num), Finset.sum_congr rfl fun k _ => by rw [hg k, ← EReal.coe_mul], coe_sum]
    rw [← EReal.coe_mul, ← EReal.coe_add]

/-- The reciprocal root of a positive real number. -/
theorem rsqrt_pos {v : ℝ} (h : 0 < v) : Ideal.rsqrt (v : EReal) = (((Real.sqrt v)⁻¹ : ℝ) : EReal) := by
  rw [Ideal.rsqrt_coe, if_neg h.le.not_gt, if_neg h.ne']

/-- The norm's factor over a row of real numbers is a real number. -/
theorem isReal_norm (x : Fin 1024 → EReal) (hx : ∀ k, IsReal (x k)) :
    IsReal (Ideal.rsqrt (Ideal.div (∑ k, x k * x k) (Ideal.ofBits .f32 0x44800000#32) + Ideal.ofBits .f32 0x358637BD#32)) := by
  obtain ⟨v, hv, e⟩ := mean_pos x hx
  rw [e, rsqrt_pos hv]
  exact ⟨_, rfl⟩

/-- The norm's gradient as a kernel writes it is the sum the product rule gives: `x` is a row, `w` the cotangent of the row scaled to
    length one, `r` the norm's factor and `v` what stands under its root. -/
theorem norm_law (x w : Fin 1024 → EReal) (hx : ∀ k, IsReal (x k)) (hw : ∀ k, IsReal (w k)) (v r : EReal)
    (hv : v = Ideal.div (∑ k, x k * x k) (Ideal.ofBits .f32 0x44800000#32) + Ideal.ofBits .f32 0x358637BD#32)
    (hr : r = Ideal.rsqrt v) (s : EReal)
    (hs : s = Ideal.div ((∑ k, x k * w k) * (Ideal.ofBits .f32 0xBF000000#32 * Ideal.div r v)) (Ideal.ofBits .f32 0x44800000#32)) (i : Fin 1024) :
    r * (w i - x i * r * Ideal.div (∑ k, w k * (x k * r)) (Ideal.ofBits .f32 0x44800000#32))
      = w i * r + x i * s + s * x i := by
  obtain ⟨u, hu, e⟩ := mean_pos x hx
  rw [e] at hv
  subst hv
  rw [rsqrt_pos hu] at hr
  choose f hf using hx
  choose g hg using hw
  have hq : Real.sqrt u ≠ 0 := (Real.sqrt_pos.2 hu).ne'
  have hS : (∑ k, x k * w k) = ((∑ k, f k * g k : ℝ) : EReal) := by
    rw [Finset.sum_congr rfl fun k _ => by rw [hf k, hg k, ← EReal.coe_mul], coe_sum]
  have hT : (∑ k, w k * (x k * r)) = (((∑ k, f k * g k) * (Real.sqrt u)⁻¹ : ℝ) : EReal) := by
    rw [Finset.sum_mul, ← coe_sum]
    refine Finset.sum_congr rfl fun k _ => ?_
    rw [hr, hf k, hg k, ← EReal.coe_mul, ← EReal.coe_mul]
    congr 1
    ring
  rw [hT, hs, hS, hr, hf i, hg i, word_1024, word_neg_half, Ideal.div_coe hu.ne', Ideal.div_coe (by norm_num),
    Ideal.div_coe (by norm_num)]
  simp only [← EReal.coe_mul, ← EReal.coe_add, ← EReal.coe_sub]
  congr 1
  have h2 : u = Real.sqrt u * Real.sqrt u := (Real.mul_self_sqrt hu.le).symm
  generalize (∑ k, f k * g k) = S
  rw [show (1 : ℝ) / u = (Real.sqrt u)⁻¹ * (Real.sqrt u)⁻¹ by rw [← mul_inv, ← h2, one_div]]
  ring

/-- Half the mean square over rows of real numbers, summed column by column in eight parts with the factor taken into each part. -/
theorem loss_law {N : ℕ} (hN : N = 8) (f : Fin 4096 → Fin 1024 → EReal) (hf : ∀ t k, IsReal (f t k)) (row : Fin N → Fin 512 → Fin 4096)
    (hr : ∀ p r, (row p r).val = p.val * 512 + r.val) :
    ∑ k : Fin 1024, ∑ p : Fin N, (∑ r : Fin 512, f (row p r) k) * Ideal.ofBits .f32 0x3A000000#32
      = Ideal.ofBits .f32 0x3F000000#32 * ∑ t : Fin 4096, Ideal.div (∑ k : Fin 1024, f t k) (Ideal.ofBits .f32 0x44800000#32) := by
  subst hN
  choose g hg using hf
  have hL : ∀ k p, (∑ r : Fin 512, f (row p r) k) * Ideal.ofBits .f32 0x3A000000#32 = (((∑ r : Fin 512, g (row p r) k) * (1 / 2048) : ℝ) : EReal) := by
    intro k p
    rw [Finset.sum_congr rfl fun r _ => hg (row p r) k, coe_sum, word_inv_2048, ← EReal.coe_mul]
  have hR : ∀ t, Ideal.div (∑ k : Fin 1024, f t k) (Ideal.ofBits .f32 0x44800000#32) = (((∑ k : Fin 1024, g t k) * (1 / 1024) : ℝ) : EReal) := by
    intro t
    rw [Finset.sum_congr rfl fun k _ => hg t k, coe_sum, word_1024, Ideal.div_coe (by norm_num), ← EReal.coe_mul]
  rw [Finset.sum_congr rfl fun k _ => Finset.sum_congr rfl fun p _ => hL k p, Finset.sum_congr rfl fun k _ => coe_sum _, coe_sum,
    Finset.sum_congr rfl fun t _ => hR t, coe_sum, word_half, ← EReal.coe_mul]
  refine congrArg _ ?_
  have h : ∀ k, ∑ p : Fin 8, ∑ r : Fin 512, g (row p r) k = ∑ t : Fin 4096, g t k := fun k =>
    Fin.sum_mul_add_congr fun p r hl => congrArg (fun t => g t k) (Fin.ext (hr p r))
  rw [Finset.sum_congr rfl fun k _ => (Finset.sum_mul ..).symm, ← Finset.sum_mul, Finset.sum_congr rfl fun k _ => h k, Finset.sum_comm,
    ← Finset.sum_mul]
  ring

/-- A sum over all hidden units is the sum over the first half and over the second half. -/
theorem hidden_sum (f : Fin 2816 → EReal) :
    ∑ k : Fin 1408, f ⟨k.val, by omega⟩ + ∑ k : Fin 1408, f ⟨1408 + k.val, by omega⟩ = ∑ k, f k := by
  rw [show (∑ k, f k) = ∑ k : Fin (1408 + 1408), f k from rfl, Fin.sum_univ_add]
  rfl

end Cert.Reals

end
-- ==== Proof.FfnValue.lean ====
/- The value facts of the first feed-forward block's call, with the next block's norm, at exact arithmetic. -/
module

public import proofs.«01_k».proof.Proof.Gen.FfnIdeal.Value
public import proofs.«01_k».proof.Proof.Gen.FfnRefIdeal.Read
public import proofs.«01_k».proof.Proof.Rows
public import proofs.«01_k».proof.Proof.Norms
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

/-- Argument `main_arg0` on device `c`: the block's input rows. -/
abbrev a0 (c : Dev nD) : FVec Ideal S4096x1024 .f32 := m ((c : Thread nD τ).loc main_arg0)
/-- Argument `main_arg1`: shifts, scales and gates. -/
abbrev a1 (c : Dev nD) : FVec Ideal S9x1024 .f32 := m ((c : Thread nD τ).loc main_arg1)
/-- Argument `main_arg2`: the gain of the block's norm. -/
abbrev a2 (c : Dev nD) : FVec Ideal S1024 .f32 := m ((c : Thread nD τ).loc main_arg2)
/-- Argument `main_arg3`: the weights of the two inner products. -/
abbrev a3 (c : Dev nD) : FVec Ideal S1024x5632 .f32 := m ((c : Thread nD τ).loc main_arg3)
/-- Argument `main_arg4`: the output weights. -/
abbrev a4 (c : Dev nD) : FVec Ideal S2816x1024 .f32 := m ((c : Thread nD τ).loc main_arg4)
/-- Argument `main_arg5`: the gain of the next block's norm. -/
abbrev a5 (c : Dev nD) : FVec Ideal S1024 .f32 := m ((c : Thread nD τ).loc main_arg5)

open Cert.FfnRefIdeal.Read Cert.Reals

/-- Row `r` of grid point `t`'s block is a row of the whole array. -/
abbrev rowAt (t : Fin cfg0.N) (r : Fin 512) : Fin 4096 :=
  ⟨t.val * 512 + r.val, by have := lt_of_lt_of_eq t.isLt N_0; omega⟩

/-- The shift's row of a grid point's block. -/
abbrev M0 (c : Dev nD) (t : Fin cfg0.N) : Vec Ideal S1x1024 .f32 := View.ld (iblk m c 1 t) (Rect.unit ![0, 0] ![1, 1024] inb_S9x1024_S1x1024_0_0)
/-- The scale's row of a grid point's block. -/
abbrev M1 (c : Dev nD) (t : Fin cfg0.N) : Vec Ideal S1x1024 .f32 := View.ld (iblk m c 1 t) (Rect.unit ![1, 0] ![1, 1024] inb_S9x1024_S1x1024_1_0)
/-- The gate's row of a grid point's block. -/
abbrev M2 (c : Dev nD) (t : Fin cfg0.N) : Vec Ideal S1x1024 .f32 := View.ld (iblk m c 1 t) (Rect.unit ![2, 0] ![1, 1024] inb_S9x1024_S1x1024_2_0)
/-- The next norm's shift's row of a grid point's block. -/
abbrev M3 (c : Dev nD) (t : Fin cfg0.N) : Vec Ideal S1x1024 .f32 := View.ld (iblk m c 1 t) (Rect.unit ![3, 0] ![1, 1024] inb_S9x1024_S1x1024_3_0)
/-- The next norm's scale's row of a grid point's block. -/
abbrev M4 (c : Dev nD) (t : Fin cfg0.N) : Vec Ideal S1x1024 .f32 := View.ld (iblk m c 1 t) (Rect.unit ![4, 0] ![1, 1024] inb_S9x1024_S1x1024_4_0)
/-- The first half of the first inner product's weights. -/
abbrev Wa0 (c : Dev nD) (t : Fin cfg0.N) : Vec Ideal S1x1408x1024 .bf16 := View.ld (iblk m c 3 t) (Rect.unit ![0, 0, 0] ![1, 1408, 1024] inb_S2x2816x1024_S1x1408x1024_0_0_0)
/-- The second half of the first inner product's weights. -/
abbrev Wa1 (c : Dev nD) (t : Fin cfg0.N) : Vec Ideal S1x1408x1024 .bf16 := View.ld (iblk m c 3 t) (Rect.unit ![0, 1408, 0] ![1, 1408, 1024] inb_S2x2816x1024_S1x1408x1024_0_1408_0)
/-- The first half of the second inner product's weights. -/
abbrev Wb0 (c : Dev nD) (t : Fin cfg0.N) : Vec Ideal S1x1408x1024 .bf16 := View.ld (iblk m c 3 t) (Rect.unit ![1, 0, 0] ![1, 1408, 1024] inb_S2x2816x1024_S1x1408x1024_1_0_0)
/-- The second half of the second inner product's weights. -/
abbrev Wb1 (c : Dev nD) (t : Fin cfg0.N) : Vec Ideal S1x1408x1024 .bf16 := View.ld (iblk m c 3 t) (Rect.unit ![1, 1408, 0] ![1, 1408, 1024] inb_S2x2816x1024_S1x1408x1024_1_1408_0)
/-- The first half of the output weights. -/
abbrev Wo0 (c : Dev nD) (t : Fin cfg0.N) : Vec Ideal S1408x1024 .bf16 := View.ld (iblk m c 4 t) (Rect.unit ![0, 0] ![1408, 1024] inb_S2816x1024_S1408x1024_0_0)
/-- The second half of the output weights. -/
abbrev Wo1 (c : Dev nD) (t : Fin cfg0.N) : Vec Ideal S1408x1024 .bf16 := View.ld (iblk m c 4 t) (Rect.unit ![1408, 0] ![1408, 1024] inb_S2816x1024_S1408x1024_1408_0)
/-- The normalised rows of a grid point. -/
abbrev H (c : Dev nD) (t : Fin cfg0.N) : FVec Ideal S512x1024 .bf16 := k0_pay1 (iblk m c 0 t) (iblk m c 2 t) (M0 m c t) (M1 m c t)
/-- The first half of the block's output product. -/
abbrev F0 (c : Dev nD) (t : Fin cfg0.N) : FVec Ideal S512x1024 .f32 :=
  k0_pay6 (k0_pay2 (iblk m c 0 t) (iblk m c 2 t) (M0 m c t) (M1 m c t) (Wa0 m c t)) (k0_pay3 (iblk m c 0 t) (iblk m c 2 t) (M0 m c t) (M1 m c t) (Wb0 m c t)) (Wo0 m c t)
/-- The second half's gated activation. -/
abbrev G1 (c : Dev nD) (t : Fin cfg0.N) : FVec Ideal S512x1408 .f32 := k0_pay11 (H m c t) (Wa1 m c t) (Wb1 m c t)

/-- The input rows of a grid point at an entry. -/
theorem iblk_x (c : Dev nD) (t : Fin cfg0.N) (r : Fin 512) (k : Fin 1024) : iblk m c 0 t (ix2 r k) = a0 m c (ix2 (rowAt t r) k) := by
  blk_ext [iblk, V, idx t]

/-- The norm's gain at an entry. -/
theorem iblk_g (c : Dev nD) (t : Fin cfg0.N) (k : Fin 1024) : iblk m c 2 t (ix2 0 k) = a2 m c (ix1 k) := by
  have h : ∀ i : S1x1024.Idx, V m c main_v4 i = a2 m c (ix1 (i 1)) := fun i => by
    entry_read
    pointwise []
  exact Eq.trans (by blk_ext [iblk, idx t]) (h (ix2 0 k))

/-- The next norm's gain at an entry. -/
theorem iblk_gn (c : Dev nD) (t : Fin cfg0.N) (k : Fin 1024) : iblk m c 5 t (ix2 0 k) = a5 m c (ix1 k) := by
  have h : ∀ i : S1x1024.Idx, V m c main_v5 i = a5 m c (ix1 (i 1)) := fun i => by
    entry_read
    pointwise []
  exact Eq.trans (by blk_ext [iblk, idx t]) (h (ix2 0 k))

/-- The shifts, scales and gates at an entry. -/
theorem iblk_mod (c : Dev nD) (t : Fin cfg0.N) (j : Fin 9) (k : Fin 1024) : iblk m c 1 t (ix2 j k) = a1 m c (ix2 j k) := by
  blk_ext [iblk, V, idx t]

/-- The output weights at an entry. -/
theorem iblk_wo (c : Dev nD) (t : Fin cfg0.N) (x : Fin 2816) (k : Fin 1024) : iblk m c 4 t (ix2 x k) = a4 m c (ix2 x k) := by
  have h : ∀ i, V m c main_v3 i = a4 m c i := fun i => by
    entry_read
    pointwise []
  exact Eq.trans (by blk_ext [iblk, idx t]) (h (ix2 x k))

/-- The inner products' weights at an entry of a plane. -/
theorem iblk_wi (c : Dev nD) (t : Fin cfg0.N) (p : Fin 2) (x : Fin 2816) (k : Fin 1024) (X : Fin 5632) (hX : X.val = p.val * 2816 + x.val) :
    iblk m c 3 t (ix3 p x k) = a3 m c (ix2 k X) := by
  have h : ∀ i : S2x2816x1024.Idx, V m c main_v2 i = a3 m c (ix2 (i 2) ⟨(i 0).val * 2816 + (i 1).val, by have h0 : (i 0).val < 2 := (i 0).isLt; have h1 : (i 1).val < 2816 := (i 1).isLt; omega⟩) := fun i => by
    entry_read
    pointwise []
  refine Eq.trans (by blk_ext [iblk, idx t]) ((h (ix3 p x k)).trans ?_)
  exact congrArg (fun z => a3 m c (ix2 k z)) (Fin.ext hX.symm)

/-- The normalised rows at an entry. -/
theorem h_apply (c : Dev nD) (t : Fin cfg0.N) (r : Fin 512) (k : Fin 1024) :
    H m c t (ix2 r k) = val_main_v24 (F := Ideal) (a0 m c) (a1 m c) (a2 m c) (ix2 (rowAt t r) k) := by
  pointwise [H, k0_pay1, M0, M1, iblk_x m c t, iblk_g m c t, iblk_mod m c t, val_main_v24, val_main_v19, val_main_v23, val_main_v22, val_main_v21, val_main_v20, val_main_v18, val_main_v17, val_main_v16, val_main_v15, val_main_cst_2, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The first inner product at an entry of the first half. -/
theorem a_apply0 (c : Dev nD) (t : Fin cfg0.N) (r : Fin 512) (k : Fin 1408) :
    k0_pay2 (iblk m c 0 t) (iblk m c 2 t) (M0 m c t) (M1 m c t) (Wa0 m c t) (ix2 r k)
      = val_main_v26 (F := Ideal) (a0 m c) (a1 m c) (a2 m c) (a3 m c) (ix2 (rowAt t r) ⟨k.val, by omega⟩) := by
  have e := h_apply m c t r
  pointwise [k0_pay2, Wa0, e, val_main_v26, val_main_v25]
  exact Finset.sum_congr rfl fun d _ => congrArg₂ _ rfl (iblk_wi m c t 0 ⟨k.val, by omega⟩ d ⟨k.val, by omega⟩ (by dsimp <;> omega))

/-- The first inner product at an entry of the second half. -/
theorem a_apply1 (c : Dev nD) (t : Fin cfg0.N) (r : Fin 512) (k : Fin 1408) :
    k0_pay7 (H m c t) (Wa1 m c t) (ix2 r k)
      = val_main_v26 (F := Ideal) (a0 m c) (a1 m c) (a2 m c) (a3 m c) (ix2 (rowAt t r) ⟨1408 + k.val, by omega⟩) := by
  have e := h_apply m c t r
  pointwise [k0_pay7, Wa1, e, val_main_v26, val_main_v25]
  exact Finset.sum_congr rfl fun d _ => congrArg₂ _ rfl (iblk_wi m c t 0 ⟨1408 + k.val, by omega⟩ d ⟨1408 + k.val, by omega⟩ (by dsimp <;> omega))

/-- The second inner product at an entry of the first half. -/
theorem b_apply0 (c : Dev nD) (t : Fin cfg0.N) (r : Fin 512) (k : Fin 1408) :
    k0_pay3 (iblk m c 0 t) (iblk m c 2 t) (M0 m c t) (M1 m c t) (Wb0 m c t) (ix2 r k)
      = val_main_v27 (F := Ideal) (a0 m c) (a1 m c) (a2 m c) (a3 m c) (ix2 (rowAt t r) ⟨k.val, by omega⟩) := by
  have e := h_apply m c t r
  pointwise [k0_pay3, Wb0, e, val_main_v27, val_main_v25]
  exact Finset.sum_congr rfl fun d _ => congrArg₂ _ rfl (iblk_wi m c t 1 ⟨k.val, by omega⟩ d ⟨2816 + (k.val), by omega⟩ (by dsimp <;> omega))

/-- The second inner product at an entry of the second half. -/
theorem b_apply1 (c : Dev nD) (t : Fin cfg0.N) (r : Fin 512) (k : Fin 1408) :
    k0_pay8 (H m c t) (Wb1 m c t) (ix2 r k)
      = val_main_v27 (F := Ideal) (a0 m c) (a1 m c) (a2 m c) (a3 m c) (ix2 (rowAt t r) ⟨1408 + k.val, by omega⟩) := by
  have e := h_apply m c t r
  pointwise [k0_pay8, Wb1, e, val_main_v27, val_main_v25]
  exact Finset.sum_congr rfl fun d _ => congrArg₂ _ rfl (iblk_wi m c t 1 ⟨1408 + k.val, by omega⟩ d ⟨2816 + (1408 + k.val), by omega⟩ (by dsimp <;> omega))

/-- The reference's gated activation at an entry. -/
theorem act_apply (c : Dev nD) (i : Cert.FfnRefIdeal.S4096x2816.Idx) :
    val_main_v29 (F := Ideal) (a0 m c) (a1 m c) (a2 m c) (a3 m c) i
      = val_main_v26 (F := Ideal) (a0 m c) (a1 m c) (a2 m c) (a3 m c) i
          * Ideal.div 1 (1 + Ideal.exp (-val_main_v26 (F := Ideal) (a0 m c) (a1 m c) (a2 m c) (a3 m c) i))
          * val_main_v27 (F := Ideal) (a0 m c) (a1 m c) (a2 m c) (a3 m c) i := by
  pointwise [val_main_v29, val_main_v28, val_main_call0_v0, val_main_call0_v1, val_main_call0_v2, val_main_call0_v3, val_main_call0_v4, val_main_call0_v5, val_main_call0_cst, val_main_call0_cst_0]

/-- The block's output product at an entry. -/
theorem f_apply (c : Dev nD) (t : Fin cfg0.N) (r : Fin 512) (k : Fin 1024) :
    k0_pay12 (F0 m c t) (G1 m c t) (Wo1 m c t) (ix2 r k)
      = val_main_v30 (F := Ideal) (a0 m c) (a1 m c) (a2 m c) (a3 m c) (a4 m c) (ix2 (rowAt t r) k) := by
  have ea := a_apply0 m c t r
  have eb := b_apply0 m c t r
  have fa := a_apply1 m c t r
  have fb := b_apply1 m c t r
  pointwise [k0_pay12, F0, G1, Wo0, Wo1, k0_pay6, val_main_v30, zero_sub', k0_pay11, ea, eb, fa, fb, iblk_wo m c t]
  rw [← hidden_sum]
  exact congrArg₂ _ (Finset.sum_congr rfl fun x _ => congrArg₂ _ (act_apply m c _).symm rfl)
    (Finset.sum_congr rfl fun x _ => congrArg₂ _ (act_apply m c _).symm rfl)

/-- The block's output rows at an entry. -/
theorem y_apply (c : Dev nD) (t : Fin cfg0.N) (r : Fin 512) (k : Fin 1024) :
    k0_pay13 (iblk m c 0 t) (F0 m c t) (G1 m c t) (Wo1 m c t) (M2 m c t) (ix2 r k)
      = val_main_v38 (F := Ideal) (a0 m c) (a1 m c) (a2 m c) (a3 m c) (a4 m c) (ix2 (rowAt t r) k) := by
  have e := f_apply m c t r
  pointwise [k0_pay13, e, M2, iblk_x m c t, iblk_mod m c t, val_main_v38, val_main_v37, val_main_v36, val_main_v35, val_main_v34, val_main_v33, val_main_v32, val_main_v31, val_main_cst_3]

/-- The next block's normalised rows at an entry. -/
theorem hn_apply (c : Dev nD) (t : Fin cfg0.N) (r : Fin 512) (k : Fin 1024) :
    k0_pay14 (iblk m c 0 t) (F0 m c t) (G1 m c t) (Wo1 m c t) (M2 m c t) (iblk m c 5 t) (M3 m c t) (M4 m c t) (ix2 r k)
      = val_main_v63 (F := Ideal) (a0 m c) (a1 m c) (a2 m c) (a3 m c) (a4 m c) (a5 m c) (ix2 (rowAt t r) k) := by
  have e := y_apply m c t r
  pointwise [k0_pay14, e, M3, M4, iblk_gn m c t, iblk_mod m c t, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_4, val_main_cst_5, val_main_cst_6, val_main_cst_7]

/-- The block's output rows. -/
theorem final_y (c : Dev nD) : (dats m 0 c).arrAt 6 (cfgs 0).N = val_main_v38 (F := Ideal) (a0 m c) (a1 m c) (a2 m c) (a3 m c) (a4 m c) := by
  refine (dats m 0 c).arrAt_eq_of_covers 6 _ (by decide +kernel) fun t hf y => ?_
  blk_simp
  rw [after0_6]
  unfold_out out0_6
  frame_out
  rw [eq_ix2 y]
  refine (y_apply m c t (y 0) (y 1)).trans ?_
  blk_ext [idx t]

/-- The first inner product. -/
theorem final_a (c : Dev nD) : (dats m 0 c).arrAt 7 (cfgs 0).N = val_main_v64 (F := Ideal) (a0 m c) (a1 m c) (a2 m c) (a3 m c) := by
  refine (dats m 0 c).arrAt_eq_of_covers 7 _ (by decide +kernel) fun t hf y => ?_
  blk_simp
  rw [after0_7]
  have e : View.canon [⟨Rect.unit (s := S512x2816) ![0, 1408] ![512, 1408] inb_S512x2816_S512x1408_0_1408, k0_pay9 (H m c t) (Wa1 m c t)⟩,
      (⟨Rect.unit (s := S512x2816) ![0, 0] ![512, 1408] inb_S512x2816_S512x1408_0_0, k0_pay4 (iblk m c 0 t) (iblk m c 2 t) (M0 m c t) (M1 m c t) (Wa0 m c t)⟩ : View.Piece (Elt Ideal) S512x2816 .bf16)] y
      = val_main_v64 (F := Ideal) (a0 m c) (a1 m c) (a2 m c) (a3 m c) (((cfg0.win 7).blk t).view.emb y) := by
    have hy : (y 1).val < 2816 := (y 1).isLt
    rw [Cert.Rows.canon_tile, Cert.Rows.canon_tile]
    have he : ((cfg0.win 7).blk t).view.emb y = ix2 (rowAt t (y 0)) (y 1) := by blk_ext [idx t]
    rw [he]
    by_cases h : 1408 ≤ (y 1).val
    · rw [dif_pos ⟨Nat.zero_le _, (y 0).isLt, h, by omega⟩]
      refine (a_apply1 m c t _ _).trans ?_
      exact congrArg₂ (fun a b => val_main_v26 (F := Ideal) (a0 m c) (a1 m c) (a2 m c) (a3 m c) (ix2 (rowAt t a) b)) rfl (Fin.ext (show 1408 + ((y 1).val - 1408) = (y 1).val by omega))
    · rw [dif_neg (by omega), dif_pos ⟨Nat.zero_le _, (y 0).isLt, Nat.zero_le _, by omega⟩]
      exact a_apply0 m c t _ _
  unfold_out out0_7
  frame_out
  exact e

/-- The second inner product. -/
theorem final_b (c : Dev nD) : (dats m 0 c).arrAt 8 (cfgs 0).N = val_main_v65 (F := Ideal) (a0 m c) (a1 m c) (a2 m c) (a3 m c) := by
  refine (dats m 0 c).arrAt_eq_of_covers 8 _ (by decide +kernel) fun t hf y => ?_
  blk_simp
  rw [after0_8]
  have e : View.canon [⟨Rect.unit (s := S512x2816) ![0, 1408] ![512, 1408] inb_S512x2816_S512x1408_0_1408, k0_pay10 (H m c t) (Wb1 m c t)⟩,
      (⟨Rect.unit (s := S512x2816) ![0, 0] ![512, 1408] inb_S512x2816_S512x1408_0_0, k0_pay5 (k0_pay3 (iblk m c 0 t) (iblk m c 2 t) (M0 m c t) (M1 m c t) (Wb0 m c t))⟩ : View.Piece (Elt Ideal) S512x2816 .bf16)] y
      = val_main_v65 (F := Ideal) (a0 m c) (a1 m c) (a2 m c) (a3 m c) (((cfg0.win 8).blk t).view.emb y) := by
    have hy : (y 1).val < 2816 := (y 1).isLt
    rw [Cert.Rows.canon_tile, Cert.Rows.canon_tile]
    have he : ((cfg0.win 8).blk t).view.emb y = ix2 (rowAt t (y 0)) (y 1) := by blk_ext [idx t]
    rw [he]
    by_cases h : 1408 ≤ (y 1).val
    · rw [dif_pos ⟨Nat.zero_le _, (y 0).isLt, h, by omega⟩]
      refine (b_apply1 m c t _ _).trans ?_
      exact congrArg₂ (fun a b => val_main_v27 (F := Ideal) (a0 m c) (a1 m c) (a2 m c) (a3 m c) (ix2 (rowAt t a) b)) rfl (Fin.ext (show 1408 + ((y 1).val - 1408) = (y 1).val by omega))
    · rw [dif_neg (by omega), dif_pos ⟨Nat.zero_le _, (y 0).isLt, Nat.zero_le _, by omega⟩]
      exact b_apply0 m c t _ _
  unfold_out out0_8
  frame_out
  exact e

/-- The block's output product. -/
theorem final_f (c : Dev nD) : (dats m 0 c).arrAt 9 (cfgs 0).N = val_main_v30 (F := Ideal) (a0 m c) (a1 m c) (a2 m c) (a3 m c) (a4 m c) := by
  refine (dats m 0 c).arrAt_eq_of_covers 9 _ (by decide +kernel) fun t hf y => ?_
  blk_simp
  rw [after0_9]
  unfold_out out0_9
  frame_out
  rw [eq_ix2 y]
  refine (f_apply m c t (y 0) (y 1)).trans ?_
  blk_ext [idx t]

/-- The normalised rows. -/
theorem final_h (c : Dev nD) : (dats m 0 c).arrAt 10 (cfgs 0).N = val_main_v66 (F := Ideal) (a0 m c) (a1 m c) (a2 m c) := by
  refine (dats m 0 c).arrAt_eq_of_covers 10 _ (by decide +kernel) fun t hf y => ?_
  blk_simp
  rw [after0_10]
  unfold_out out0_10
  frame_out
  rw [eq_ix2 y]
  refine (h_apply m c t (y 0) (y 1)).trans ?_
  blk_ext [idx t]

/-- The next block's normalised rows. -/
theorem final_hn (c : Dev nD) : (dats m 0 c).arrAt 11 (cfgs 0).N = val_main_v67 (F := Ideal) (a0 m c) (a1 m c) (a2 m c) (a3 m c) (a4 m c) (a5 m c) := by
  refine (dats m 0 c).arrAt_eq_of_covers 11 _ (by decide +kernel) fun t hf y => ?_
  blk_simp
  rw [after0_11]
  unfold_out out0_11
  frame_out
  rw [eq_ix2 y]
  refine (hn_apply m c t (y 0) (y 1)).trans ?_
  blk_ext [idx t]

end Cert.FfnIdeal.Value

end
-- ==== Proof.FfnClaim.lean ====
/- The claim about the first feed-forward block's call and its reference. -/
module

public import proofs.«01_k».proof.Defs
public import proofs.«01_k».proof.Proof.FfnValue
public import proofs.«01_k».proof.Proof.Gen.FfnRefIdeal.Run

@[expose] public section

set_option maxRecDepth 16384

noncomputable section

namespace Cert.FfnIdeal.Value

open Cert.FfnIdeal Cert.FfnIdeal.Gen Idealize.ShloMosaic Idealize.ShloMosaic.TcCoe Idealize.SL.Sem
open Cert.FfnRefIdeal.Read

set_option maxHeartbeats 4000000

/-- The idealized call returns the reference's arrays and leaves its arguments. -/
theorem run_ffn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6_0) = val_main_v38 (F := Ideal) (a0 m c) (a1 m c) (a2 m c) (a3 m c) (a4 m c)
      ∧ r.2.mem ((c.tc : Thread nD τ).loc main_v6_1) = val_main_v64 (F := Ideal) (a0 m c) (a1 m c) (a2 m c) (a3 m c)
      ∧ r.2.mem ((c.tc : Thread nD τ).loc main_v6_2) = val_main_v65 (F := Ideal) (a0 m c) (a1 m c) (a2 m c) (a3 m c)
      ∧ r.2.mem ((c.tc : Thread nD τ).loc main_v6_3) = val_main_v30 (F := Ideal) (a0 m c) (a1 m c) (a2 m c) (a3 m c) (a4 m c)
      ∧ r.2.mem ((c.tc : Thread nD τ).loc main_v6_4) = val_main_v66 (F := Ideal) (a0 m c) (a1 m c) (a2 m c)
      ∧ r.2.mem ((c.tc : Thread nD τ).loc main_v6_5) = val_main_v67 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from run_blocks m ρ
  · exact final_y m c
  · exact final_a m c
  · exact final_b m c
  · exact final_f m c
  · exact final_h m c
  · exact final_hn m c

/-- The two programs return the same arrays. -/
theorem algebraic_ffn [Cert.FfnIdeal.Facts] [Cert.FfnRefIdeal.Facts] : Cert.algebraic_FfnIdeal_FfnRefIdeal := by
  intro m g m' g' _ hag
  refine ⟨fun c => val_main_v38 (F := Ideal) (a0 m c) (a1 m c) (a2 m c) (a3 m c) (a4 m c), fun c => val_main_v64 (F := Ideal) (a0 m c) (a1 m c) (a2 m c) (a3 m c), fun c => val_main_v65 (F := Ideal) (a0 m c) (a1 m c) (a2 m c) (a3 m c), fun c => val_main_v30 (F := Ideal) (a0 m c) (a1 m c) (a2 m c) (a3 m c) (a4 m c), fun c => val_main_v66 (F := Ideal) (a0 m c) (a1 m c) (a2 m c), fun c => val_main_v67 (F := Ideal) (a0 m c) (a1 m c) (a2 m c) (a3 m c) (a4 m c) (a5 m c), run_ffn m g, ?_⟩
  refine (θ_run _ _ _).mono (fun r h c => ?_) (Cert.FfnRefIdeal.Value.run m' g')
  obtain ⟨h0, h1, h2, h3, h4, h5, h6⟩ := h c
  obtain ⟨e0, e1, e2, e3, e4, e5⟩ := hag c
  replace e0 : m' ((c.tc : Thread Cert.FfnRefIdeal.nD Cert.FfnRefIdeal.τ).loc Cert.FfnRefIdeal.main_arg0) = a0 m c := e0
  replace e1 : m' ((c.tc : Thread Cert.FfnRefIdeal.nD Cert.FfnRefIdeal.τ).loc Cert.FfnRefIdeal.main_arg1) = a1 m c := e1
  replace e2 : m' ((c.tc : Thread Cert.FfnRefIdeal.nD Cert.FfnRefIdeal.τ).loc Cert.FfnRefIdeal.main_arg2) = a2 m c := e2
  replace e3 : m' ((c.tc : Thread Cert.FfnRefIdeal.nD Cert.FfnRefIdeal.τ).loc Cert.FfnRefIdeal.main_arg3) = a3 m c := e3
  replace e4 : m' ((c.tc : Thread Cert.FfnRefIdeal.nD Cert.FfnRefIdeal.τ).loc Cert.FfnRefIdeal.main_arg4) = a4 m c := e4
  replace e5 : m' ((c.tc : Thread Cert.FfnRefIdeal.nD Cert.FfnRefIdeal.τ).loc Cert.FfnRefIdeal.main_arg5) = a5 m c := e5
  replace h0 := h0.trans (val_main_v38_eq m' c)
  rw [e0, e1, e2, e3, e4] at h0
  replace h1 := h1.trans (val_main_v64_eq _ _ _ _)
  rw [e0, e1, e2, e3] at h1
  replace h2 := h2.trans (val_main_v65_eq _ _ _ _)
  rw [e0, e1, e2, e3] at h2
  replace h3 := h3.trans (val_main_v30_eq m' c)
  rw [e0, e1, e2, e3, e4] at h3
  replace h4 := h4.trans (val_main_v66_eq _ _ _)
  rw [e0, e1, e2] at h4
  replace h5 := h5.trans (val_main_v67_eq m' c)
  rw [e0, e1, e2, e3, e4, e5] at h5
  exact ⟨h0, h1, h2, h3, h4, h5, h6⟩

end Cert.FfnIdeal.Value

end
-- ==== Proof.FfnWValue.lean ====
/- The value facts of the feed-forward weights' backward kernel at exact arithmetic. -/
module

public import proofs.«01_k».proof.Proof.Gen.FfnWIdeal.Value
public import proofs.«01_k».proof.Proof.Gen.FfnWRefIdeal.Read
public import proofs.«01_k».proof.Proof.Rows
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

namespace Cert.FfnWIdeal.Value

open Cert.FfnWIdeal Cert.FfnWIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val % 2, 0]
    ∧ win0_1.index t = ![t.val % 2, 0]
    ∧ win0_2.index t = ![t.val % 2, t.val / 2]
    ∧ win0_3.index t = ![t.val % 2, t.val / 2]
    ∧ win0_4.index t = ![t.val / 2, 0]
    ∧ win0_5.index t = ![t.val % 2, t.val / 2]
    ∧ win0_6.index t = ![t.val % 2, t.val / 2]
    ∧ win0_7.index t = ![0, t.val / 2, 0]
    ∧ win0_8.index t = ![t.val / 2, 0] :=
  (by decide +kernel : ∀ t : Fin grid0.N, _)

/-- Argument `main_arg0` on device `c`: the layer's normalised input. -/
abbrev a0 (c : Dev nD) : FVec Ideal S4096x1024 .f32 := m ((c : Thread nD τ).loc main_arg0)
/-- Argument `main_arg1`: the weights of the two inner products. -/
abbrev a1 (c : Dev nD) : FVec Ideal S1024x5632 .f32 := m ((c : Thread nD τ).loc main_arg1)
/-- Argument `main_arg2`: the output weights. -/
abbrev a2 (c : Dev nD) : FVec Ideal S2816x1024 .f32 := m ((c : Thread nD τ).loc main_arg2)
/-- Argument `main_arg3`: the cotangent. -/
abbrev a3 (c : Dev nD) : FVec Ideal S4096x1024 .f32 := m ((c : Thread nD τ).loc main_arg3)

open Cert.FfnWRefIdeal.Read Cert.Reals

/-- The host's first half of the inner products, read at an entry. -/
theorem iblk_a (c : Dev nD) (t : Fin cfg0.N) (r : Fin 2048) (x : Fin 256) (R : Fin 4096) (X : Fin 2816)
    (hR : R.val = t.val % 2 * 2048 + r.val) (hX : X.val = t.val / 2 * 256 + x.val) :
    iblk m c 2 t (ix2 r x) = val_main_v1 (F := Ideal) (a0 m c) (a1 m c) (ix2 R X) := by
  have h : ∀ i, V m c main_v5 i = val_main_v1 (F := Ideal) (a0 m c) (a1 m c) i := fun i => by
    entry_read
    pointwise [val_main_v1, val_main_v0]
  exact Eq.trans (by blk_ext [iblk, idx t]) (h (ix2 R X))

/-- The host's second half of the inner products, read at an entry. -/
theorem iblk_b (c : Dev nD) (t : Fin cfg0.N) (r : Fin 2048) (x : Fin 256) (R : Fin 4096) (X : Fin 2816)
    (hR : R.val = t.val % 2 * 2048 + r.val) (hX : X.val = t.val / 2 * 256 + x.val) :
    iblk m c 3 t (ix2 r x) = val_main_v2 (F := Ideal) (a0 m c) (a1 m c) (ix2 R X) := by
  have h : ∀ i, V m c main_v6 i = val_main_v2 (F := Ideal) (a0 m c) (a1 m c) i := fun i => by
    entry_read
    pointwise [val_main_v2, val_main_v0]
  exact Eq.trans (by blk_ext [iblk, idx t]) (h (ix2 R X))

/-- The narrowed cotangent's block at an entry. -/
theorem iblk_df (c : Dev nD) (t : Fin cfg0.N) (r : Fin 2048) (k : Fin 1024) (R : Fin 4096)
    (hR : R.val = t.val % 2 * 2048 + r.val) :
    iblk m c 1 t (ix2 r k) = a3 m c (ix2 R k) := by
  have h : ∀ i, V m c main_v4 i = a3 m c i := fun i => by
    entry_read
    pointwise []
  exact Eq.trans (by blk_ext [iblk, idx t]) (h (ix2 R k))

/-- The narrowed input's block at an entry. -/
theorem iblk_h (c : Dev nD) (t : Fin cfg0.N) (r : Fin 2048) (k : Fin 1024) (R : Fin 4096)
    (hR : R.val = t.val % 2 * 2048 + r.val) :
    iblk m c 0 t (ix2 r k) = a0 m c (ix2 R k) := by
  have h : ∀ i, V m c main_v3 i = a0 m c i := fun i => by
    entry_read
    pointwise []
  exact Eq.trans (by blk_ext [iblk, idx t]) (h (ix2 R k))

/-- The narrowed output weights' block at an entry. -/
theorem iblk_w (c : Dev nD) (t : Fin cfg0.N) (x : Fin 256) (k : Fin 1024) (X : Fin 2816)
    (hX : X.val = t.val / 2 * 256 + x.val) :
    iblk m c 4 t (ix2 x k) = a2 m c (ix2 X k) := by
  have h : ∀ i, V m c main_v7 i = a2 m c i := fun i => by
    entry_read
    pointwise []
  exact Eq.trans (by blk_ext [iblk, idx t]) (h (ix2 X k))

/-- The logistic function of the reference, in the kernel's words. -/
theorem sig_apply (c : Dev nD) (i : Cert.FfnWRefIdeal.S4096x2816.Idx) :
    val_main_v3_2 (F := Ideal) (a0 m c) (a1 m c) i
      = Ideal.div 1 (1 + Ideal.exp (-val_main_v1 (F := Ideal) (a0 m c) (a1 m c) i)) := by
  pointwise [val_main_v3_2, val_main_call0_v0, val_main_call0_v1, val_main_call0_v2, val_main_call0_v3, val_main_call0_v4, val_main_call0_cst, val_main_call0_cst_0]

/-- The cotangent of the gate's product: one entry of the product with the output weights. -/
theorem pay15_apply (c : Dev nD) (t : Fin cfg0.N) (r : Fin 2048) (x : Fin 256) (R : Fin 4096) (X : Fin 2816)
    (hR : R.val = t.val % 2 * 2048 + r.val) (hX : X.val = t.val / 2 * 256 + x.val) :
    k0_pay15 (iblk m c 1 t) (iblk m c 4 t) (ix2 r x) = val_main_v8 (F := Ideal) (a2 m c) (a3 m c) (ix2 R X) := by
  pointwise [k0_pay15, k0_pay9, val_main_v8]
  refine Finset.sum_congr rfl fun k _ => ?_
  exact congrArg₂ _ (iblk_df m c t r k R hR) (iblk_w m c t x k X hX)

/-- The gated activation's block at an entry. -/
theorem pay14_apply (c : Dev nD) (t : Fin cfg0.N) (r : Fin 2048) (x : Fin 256) (R : Fin 4096) (X : Fin 2816)
    (hR : R.val = t.val % 2 * 2048 + r.val) (hX : X.val = t.val / 2 * 256 + x.val) :
    k0_pay14 (iblk m c 2 t) (iblk m c 3 t) (ix2 r x) = val_main_v4 (F := Ideal) (a0 m c) (a1 m c) (ix2 R X) := by
  pointwise [k0_pay14, k0_pay13, k0_pay12, k0_pay11, k0_pay10, zero_sub', val_main_v4, val_main_v3_0, sig_apply m c]
  rw [iblk_a m c t r x R X hR hX, iblk_b m c t r x R X hR hX]

/-- The block of the second factor's gradient at an entry. -/
theorem pay17_apply (c : Dev nD) (t : Fin cfg0.N) (r : Fin 2048) (x : Fin 256) (R : Fin 4096) (X : Fin 2816)
    (hR : R.val = t.val % 2 * 2048 + r.val) (hX : X.val = t.val / 2 * 256 + x.val) :
    k0_pay17 (iblk m c 1 t) (iblk m c 2 t) (iblk m c 4 t) (ix2 r x)
      = val_main_v9 (F := Ideal) (a0 m c) (a1 m c) (a2 m c) (a3 m c) (ix2 R X) := by
  have e := pay15_apply m c t r x R X hR hX
  pointwise [k0_pay17, e, k0_pay13, k0_pay12, k0_pay10, zero_sub', val_main_v9, val_main_v3_0, sig_apply m c]
  rw [iblk_a m c t r x R X hR hX]
  exact @mul_comm EReal _ _ _

/-- The block of the first factor's gradient at an entry, where the products are real numbers. -/
theorem pay16_apply (c : Dev nD) (h1 : ∀ i, IsReal (val_main_v1 (F := Ideal) (a0 m c) (a1 m c) i))
    (h10 : ∀ i, IsReal (val_main_v10 (F := Ideal) (a0 m c) (a1 m c) (a2 m c) (a3 m c) i))
    (t : Fin cfg0.N) (r : Fin 2048) (x : Fin 256) (R : Fin 4096) (X : Fin 2816)
    (hR : R.val = t.val % 2 * 2048 + r.val) (hX : X.val = t.val / 2 * 256 + x.val) :
    k0_pay16 (iblk m c 1 t) (iblk m c 2 t) (iblk m c 3 t) (iblk m c 4 t) (ix2 r x)
      = val_main_v11 (F := Ideal) (a0 m c) (a1 m c) (a2 m c) (a3 m c) (ix2 R X) := by
  have e := pay15_apply m c t r x R X hR hX
  pointwise [k0_pay16, e, k0_pay12, k0_pay11, k0_pay10, zero_sub', val_main_v11, val_main_call1_v0, val_main_call1_v1, val_main_call1_v2, val_main_v3_1, val_main_call0_v6, val_main_call0_v7, val_main_call0_cst_1, sig_apply m c]
  rw [iblk_a m c t r x R X hR hX, iblk_b m c t r x R X hR hX]
  exact silu_law (h1 _) (h10 _) _ _ rfl

/-- Row `r` of grid point `t`'s block is a row of the whole array. -/
abbrev rowAt (t : Fin cfg0.N) (r : Fin 2048) : Fin 4096 := ⟨t.val % 2 * 2048 + r.val, by omega⟩

/-- Column `x` of grid point `t`'s block is a column of the whole array. -/
abbrev colAt (t : Fin cfg0.N) (x : Fin 256) : Fin 2816 :=
  ⟨t.val / 2 * 256 + x.val, by have := lt_of_lt_of_eq t.isLt N_0; omega⟩

/-- The gradient of the gate's second factor. -/
theorem final_db (c : Dev nD) : (dats m 0 c).arrAt 6 (cfgs 0).N = val_main_v16 (F := Ideal) (a0 m c) (a1 m c) (a2 m c) (a3 m c) := by
  refine (dats m 0 c).arrAt_eq_of_covers 6 _ (by decide +kernel) fun t _ y => ?_
  blk_simp
  rw [after0_6]
  have e : k0_pay17 (iblk m c 1 t) (iblk m c 2 t) (iblk m c 4 t) y
      = val_main_v9 (F := Ideal) (a0 m c) (a1 m c) (a2 m c) (a3 m c) (((cfg0.win 6).blk t).view.emb y) := by
    rw [eq_ix2 y]
    refine (pay17_apply m c t (y 0) (y 1) (rowAt t (y 0)) (colAt t (y 1)) rfl rfl).trans ?_
    blk_ext [idx t]
  by_cases h : t.val % 2 = 0
  · rw [outsAt0_A m c t h (by omega)]
    frame_out
    exact e
  · rw [outsAt0_B m c t h (by omega)]
    frame_out
    exact e

/-- The gradient of the gate's first factor, where the products are real numbers. -/
theorem final_da (c : Dev nD) (h1 : ∀ i, IsReal (val_main_v1 (F := Ideal) (a0 m c) (a1 m c) i))
    (h10 : ∀ i, IsReal (val_main_v10 (F := Ideal) (a0 m c) (a1 m c) (a2 m c) (a3 m c) i)) :
    (dats m 0 c).arrAt 5 (cfgs 0).N = val_main_v15 (F := Ideal) (a0 m c) (a1 m c) (a2 m c) (a3 m c) := by
  refine (dats m 0 c).arrAt_eq_of_covers 5 _ (by decide +kernel) fun t _ y => ?_
  blk_simp
  rw [after0_5]
  have e : k0_pay16 (iblk m c 1 t) (iblk m c 2 t) (iblk m c 3 t) (iblk m c 4 t) y
      = val_main_v11 (F := Ideal) (a0 m c) (a1 m c) (a2 m c) (a3 m c) (((cfg0.win 5).blk t).view.emb y) := by
    rw [eq_ix2 y]
    refine (pay16_apply m c h1 h10 t (y 0) (y 1) (rowAt t (y 0)) (colAt t (y 1)) rfl rfl).trans ?_
    blk_ext [idx t]
  by_cases h : t.val % 2 = 0
  · rw [outsAt0_A m c t h (by omega)]
    frame_out
    exact e
  · rw [outsAt0_B m c t h (by omega)]
    frame_out
    exact e

/-- A sum over all rows is the sum over the first half and over the second half. -/
theorem half_sum (f : Fin 4096 → EReal) (t s : Fin cfg0.N) (ht : t.val % 2 = 0) (hs : s.val % 2 = 1) :
    ∑ r : Fin 2048, f (rowAt t r) + ∑ r : Fin 2048, f (rowAt s r) = ∑ l, f l := by
  rw [show (∑ l, f l) = ∑ l : Fin (2048 + 2048), f l from rfl, Fin.sum_univ_add]
  refine congrArg₂ _ (Finset.sum_congr rfl fun r _ => congrArg f (Fin.ext ?_))
    (Finset.sum_congr rfl fun r _ => congrArg f (Fin.ext ?_))
  · show t.val % 2 * 2048 + r.val = r.val
    omega
  · show s.val % 2 * 2048 + r.val = 2048 + r.val
    omega

/-- The carried sum of the output weights after an even point. -/
theorem acc_o_A (c : Dev nD) (t : Fin cfg0.N) (h : t.val % 2 = 0) (x : Fin 256) (k : Fin 1024) :
    (outsAt0 m c t.val t.isLt).2.2.2.2.2 (ix2 x k)
      = ∑ r : Fin 2048, val_main_v4 (F := Ideal) (a0 m c) (a1 m c) (ix2 (rowAt t r) (colAt t x)) * a3 m c (ix2 (rowAt t r) k) := by
  rw [outsAt0_A m c t h (by omega)]
  frame_out
  pointwise [k0_pay1, k0_pay7, k0_pay9]
  refine Finset.sum_congr rfl fun r _ => ?_
  exact congrArg₂ _ (pay14_apply m c t r x _ _ rfl rfl) (iblk_df m c t r k _ rfl)

/-- The output weights' gradient that an odd point writes back. -/
theorem out_o_B (c : Dev nD) (t : Fin cfg0.N) (h : t.val % 2 = 1) (x : Fin 256) (k : Fin 1024) :
    (outsAt0 m c t.val t.isLt).2.2.2.1 (ix2 x k)
      = ∑ l : Fin 4096, val_main_v4 (F := Ideal) (a0 m c) (a1 m c) (ix2 l (colAt t x)) * a3 m c (ix2 l k) := by
  rw [outsAt0_B m c t (by omega) h]
  frame_out
  have e := acc_o_A m c ⟨t.val - 1, Nat.lt_of_le_of_lt (Nat.sub_le _ _) t.isLt⟩ (show (t.val - 1) % 2 = 0 by omega) x k
  pointwise [k0_pay1, k0_pay5, k0_pay9]
  rw [← half_sum (fun l => val_main_v4 (F := Ideal) (a0 m c) (a1 m c) (ix2 l (colAt t x)) * a3 m c (ix2 l k))
    ⟨t.val - 1, Nat.lt_of_le_of_lt (Nat.sub_le _ _) t.isLt⟩ t (show (t.val - 1) % 2 = 0 by omega) h]
  refine congrArg₂ _ ((congrFun (Memref.IsWhole.read_unread _ _) _).trans (e.trans ?_)) (Finset.sum_congr rfl fun r _ => ?_)
  · have hc : colAt ⟨t.val - 1, Nat.lt_of_le_of_lt (Nat.sub_le _ _) t.isLt⟩ x = colAt t x :=
      Fin.ext (show (t.val - 1) / 2 * 256 + x.val = t.val / 2 * 256 + x.val by omega)
    rw [hc]
  · exact congrArg₂ _ (pay14_apply m c t r x _ _ rfl rfl) (iblk_df m c t r k _ rfl)

/-- The gradient of the output weights. -/
theorem final_dwo (c : Dev nD) : (dats m 0 c).arrAt 8 (cfgs 0).N = val_main_v20 (F := Ideal) (a0 m c) (a1 m c) (a3 m c) := by
  refine (dats m 0 c).arrAt_eq_of_covers 8 _ (by decide +kernel) fun t hf y => ?_
  have h : t.val % 2 = 1 := (by decide +kernel : ∀ t : Fin cfg0.N, (cfg0.win 8).flush t = true → t.val % 2 = 1) t hf
  blk_simp
  rw [after0_8, eq_ix2 y]
  refine (out_o_B m c t h (y 0) (y 1)).trans ?_
  pointwise [val_main_v20, val_main_v7, val_main_v6]
  refine Finset.sum_congr rfl fun l _ => ?_
  refine (@mul_comm EReal _ _ _).trans ?_
  blk_point [idx t]

/-- The gradient by the two inner products: the first factor's plane beside the second's. -/
abbrev dab (c : Dev nD) (p : Fin 2) : FVec Ideal Cert.FfnWRefIdeal.S4096x2816 .f32 :=
  if p.val = 1 then val_main_v9 (F := Ideal) (a0 m c) (a1 m c) (a2 m c) (a3 m c)
  else val_main_v11 (F := Ideal) (a0 m c) (a1 m c) (a2 m c) (a3 m c)

/-- The carried sum of the input weights after an even point, at either plane. -/
theorem acc_i_A (c : Dev nD) (h1 : ∀ i, IsReal (val_main_v1 (F := Ideal) (a0 m c) (a1 m c) i))
    (h10 : ∀ i, IsReal (val_main_v10 (F := Ideal) (a0 m c) (a1 m c) (a2 m c) (a3 m c) i))
    (t : Fin cfg0.N) (h : t.val % 2 = 0) (p : Fin 2) (x : Fin 256) (k : Fin 1024) :
    (outsAt0 m c t.val t.isLt).2.2.2.2.1 (ix3 p x k)
      = ∑ r : Fin 2048, dab m c p (ix2 (rowAt t r) (colAt t x)) * a0 m c (ix2 (rowAt t r) k) := by
  rw [outsAt0_A m c t h (by omega)]
  frame_out
  rw [Cert.Rows.canon_plane, Cert.Rows.canon_plane, Cert.Rows.canon_all]
  pointwise [k0_pay2, k0_pay3, k0_pay6, k0_pay8, Cert.Rows.load_plane, Cert.Rows.canon_plane, Cert.Rows.canon_all]
  unfold dab
  by_cases hp : p.val = 1
  · simp only [if_pos hp]
    refine Finset.sum_congr rfl fun r _ => ?_
    exact congrArg₂ _ (pay17_apply m c t r x _ _ rfl rfl) (iblk_h m c t r k _ rfl)
  · have hp0 : p.val = 0 := by omega
    simp only [if_neg hp, if_pos hp0]
    refine Finset.sum_congr rfl fun r _ => ?_
    exact congrArg₂ _ (pay16_apply m c h1 h10 t r x _ _ rfl rfl) (iblk_h m c t r k _ rfl)

/-- The input weights' gradient that an odd point writes back, at either plane. -/
theorem out_i_B (c : Dev nD) (h1 : ∀ i, IsReal (val_main_v1 (F := Ideal) (a0 m c) (a1 m c) i))
    (h10 : ∀ i, IsReal (val_main_v10 (F := Ideal) (a0 m c) (a1 m c) (a2 m c) (a3 m c) i))
    (t : Fin cfg0.N) (h : t.val % 2 = 1) (p : Fin 2) (x : Fin 256) (k : Fin 1024) :
    (outsAt0 m c t.val t.isLt).2.2.1 (ix3 p x k)
      = ∑ l : Fin 4096, dab m c p (ix2 l (colAt t x)) * a0 m c (ix2 l k) := by
  rw [outsAt0_B m c t (by omega) h]
  frame_out
  have e := acc_i_A m c h1 h10 ⟨t.val - 1, Nat.lt_of_le_of_lt (Nat.sub_le _ _) t.isLt⟩ (show (t.val - 1) % 2 = 0 by omega) p x k
  pointwise [k0_pay4, Cert.Rows.load_all, Cert.Rows.canon_plane, k0_pay2, k0_pay3, k0_pay8]
  rw [← half_sum (fun l => dab m c p (ix2 l (colAt t x)) * a0 m c (ix2 l k))
    ⟨t.val - 1, Nat.lt_of_le_of_lt (Nat.sub_le _ _) t.isLt⟩ t (show (t.val - 1) % 2 = 0 by omega) h]
  have hc : colAt ⟨t.val - 1, Nat.lt_of_le_of_lt (Nat.sub_le _ _) t.isLt⟩ x = colAt t x :=
    Fin.ext (show (t.val - 1) / 2 * 256 + x.val = t.val / 2 * 256 + x.val by omega)
  rw [hc] at e
  by_cases hp : p.val = 1
  · obtain rfl : p = 1 := Fin.ext hp
    rw [if_pos hp]
    refine congrArg₂ _ ((congrFun (Memref.IsWhole.read_unread _ _) _).trans e) (Finset.sum_congr rfl fun r _ => ?_)
    exact congrArg₂ _ (pay17_apply m c t r x _ _ rfl rfl) (iblk_h m c t r k _ rfl)
  · obtain rfl : p = 0 := Fin.ext (show p.val = 0 by omega)
    rw [if_neg hp, if_pos (show (0 : Fin 2).val = 0 from rfl)]
    refine congrArg₂ _ ((congrFun (Memref.IsWhole.read_unread _ _) _).trans e) (Finset.sum_congr rfl fun r _ => ?_)
    exact congrArg₂ _ (pay16_apply m c h1 h10 t r x _ _ rfl rfl) (iblk_h m c t r k _ rfl)

/-- The reference's gradient of the input weights at an entry of either plane. -/
theorem ref_dwi (c : Dev nD) (p : Fin 2) (x : Fin 2816) (k : Fin 1024) :
    val_main_v19 (F := Ideal) (a0 m c) (a1 m c) (a2 m c) (a3 m c) (ix3 p x k)
      = ∑ l : Fin 4096, dab m c p (ix2 l x) * a0 m c (ix2 l k) := by
  pointwise [val_main_v19, val_main_v18, val_main_v17, val_main_v14, val_main_v13, val_main_v12]
  refine Finset.sum_congr rfl fun l _ => congrArg₂ _ ?_ rfl
  have hx : x.val < 2816 := x.isLt
  unfold dab
  by_cases hp : p.val = 1
  · rw [if_pos hp, dif_neg (by omega)]
    exact congrArg (fun z => val_main_v9 (F := Ideal) (a0 m c) (a1 m c) (a2 m c) (a3 m c) (ix2 l z))
      (Fin.ext (show p.val * 2816 + x.val - 2816 = x.val by omega))
  · have hp0 : p.val = 0 := by omega
    rw [if_neg hp, dif_pos (by omega)]
    exact congrArg (fun z => val_main_v11 (F := Ideal) (a0 m c) (a1 m c) (a2 m c) (a3 m c) (ix2 l z))
      (Fin.ext (show p.val * 2816 + x.val = x.val by omega))

/-- The gradient of the input weights. -/
theorem final_dwi (c : Dev nD) (h1 : ∀ i, IsReal (val_main_v1 (F := Ideal) (a0 m c) (a1 m c) i))
    (h10 : ∀ i, IsReal (val_main_v10 (F := Ideal) (a0 m c) (a1 m c) (a2 m c) (a3 m c) i)) :
    (dats m 0 c).arrAt 7 (cfgs 0).N = val_main_v19 (F := Ideal) (a0 m c) (a1 m c) (a2 m c) (a3 m c) := by
  refine (dats m 0 c).arrAt_eq_of_covers 7 _ (by decide +kernel) fun t hf y => ?_
  have h : t.val % 2 = 1 := (by decide +kernel : ∀ t : Fin cfg0.N, (cfg0.win 7).flush t = true → t.val % 2 = 1) t hf
  blk_simp
  have he : ((View.whole main_v8_2).slice (win0_7.rect t)).emb y = ix3 (y 0) (colAt t (y 1)) (y 2) := by
    blk_ext [idx t]
  rw [after0_7, he, eq_ix3 y]
  exact (out_i_B m c h1 h10 t h (y 0) (y 1) (y 2)).trans (ref_dwi m c (y 0) (colAt t (y 1)) (y 2)).symm

end Cert.FfnWIdeal.Value

end
-- ==== Proof.FfnWClaim.lean ====
/- The claim about the feed-forward weights' backward kernel and its reference. -/
module

public import proofs.«01_k».proof.Defs
public import proofs.«01_k».proof.Proof.FfnWValue
public import proofs.«01_k».proof.Proof.Gen.FfnWRefIdeal.Run
public import proofs.«01_k».proof.Proof.Gen.Pre_ffn_w_finite

@[expose] public section

set_option maxRecDepth 16384

noncomputable section

namespace Cert.FfnWIdeal.Value

open Cert.FfnWIdeal Cert.FfnWIdeal.Gen Idealize.ShloMosaic Idealize.ShloMosaic.TcCoe Idealize.SL.Sem
open Cert.FfnWRefIdeal.Read Cert.Reals

set_option maxHeartbeats 4000000

/-- The precondition says of every argument that its entries are real numbers. -/
theorem finite_args [Cert.Pre_ffn_w_finite.Facts] (m : (ℓ : Loc nD τ sig) → Buf (Elt Ideal) ℓ) (h : Cert.Pre_FfnWIdeal_ffn_w_finite m) (c : Dev nD) :
    (∀ i, IsReal (a0 m c i)) ∧ (∀ i, IsReal (a1 m c i)) ∧ (∀ i, IsReal (a2 m c i)) ∧ (∀ i, IsReal (a3 m c i)) := by
  have h0 := congrFun (h c) ix0
  dsimp only [Cert.Pre_ffn_w_finite.fn, Cert.Pre_ffn_w_finite.fn_part1] at h0
  obtain ⟨h012, h3⟩ := IntOp.andi_eq_one.1 h0
  obtain ⟨h01, h2⟩ := IntOp.andi_eq_one.1 h012
  obtain ⟨h0, h1⟩ := IntOp.andi_eq_one.1 h01
  exact ⟨isReal_of_all _ _ _ _ _ _ _ h0, isReal_of_all _ _ _ _ _ _ _ h1, isReal_of_all _ _ _ _ _ _ _ h2, isReal_of_all _ _ _ _ _ _ _ h3⟩

/-- Over real arguments the first half of the inner products is real. -/
theorem real_a (m : (ℓ : Loc nD τ sig) → Buf (Elt Ideal) ℓ) (c : Dev nD) (h0 : ∀ i, IsReal (a0 m c i)) (h1 : ∀ i, IsReal (a1 m c i)) (i) :
    IsReal (val_main_v1 (F := Ideal) (a0 m c) (a1 m c) i) := by
  pointwise [val_main_v1, val_main_v0]
  exact isReal_sum fun k => isReal_mul (h0 _) (h1 _)

/-- Over real arguments the cotangent of the gate's activation is real. -/
theorem real_u (m : (ℓ : Loc nD τ sig) → Buf (Elt Ideal) ℓ) (c : Dev nD) (h0 : ∀ i, IsReal (a0 m c i)) (h1 : ∀ i, IsReal (a1 m c i))
    (h2 : ∀ i, IsReal (a2 m c i)) (h3 : ∀ i, IsReal (a3 m c i)) (i) :
    IsReal (val_main_v10 (F := Ideal) (a0 m c) (a1 m c) (a2 m c) (a3 m c) i) := by
  pointwise [val_main_v10, val_main_v8, val_main_v2, val_main_v0]
  exact isReal_mul (isReal_sum fun k => isReal_mul (h3 _) (h2 _)) (isReal_sum fun k => isReal_mul (h0 _) (h1 _))

/-- The kernel's run over real arguments: its results are the reference's terms. -/
theorem run_ffn_w [Cert.Pre_ffn_w_finite.Facts] (m : (ℓ : Loc nD τ sig) → Buf (Elt Ideal) ℓ) (h : Cert.Pre_FfnWIdeal_ffn_w_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8_0) = val_main_v15 (F := Ideal) (a0 m c) (a1 m c) (a2 m c) (a3 m c)
      ∧ r.2.mem ((c.tc : Thread nD τ).loc main_v8_1) = val_main_v16 (F := Ideal) (a0 m c) (a1 m c) (a2 m c) (a3 m c)
      ∧ r.2.mem ((c.tc : Thread nD τ).loc main_v8_2) = val_main_v19 (F := Ideal) (a0 m c) (a1 m c) (a2 m c) (a3 m c)
      ∧ r.2.mem ((c.tc : Thread nD τ).loc main_v8_3) = val_main_v20 (F := Ideal) (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hp : ∀ c : Dev nD, (∀ i, IsReal (val_main_v1 (F := Ideal) (a0 m c) (a1 m c) i))
      ∧ ∀ i, IsReal (val_main_v10 (F := Ideal) (a0 m c) (a1 m c) (a2 m c) (a3 m c) i) := fun c => by
    obtain ⟨h0, h1, h2, h3⟩ := finite_args m h c
    exact ⟨real_a m c h0 h1, real_u m c h0 h1 h2 h3⟩
  run_from run_main m ρ
  · exact final_da m c (hp c).1 (hp c).2
  · exact final_db m c
  · exact final_dwi m c (hp c).1 (hp c).2
  · exact final_dwo m c

/-- Over real arguments the two programs return the same gradients. -/
theorem algebraic_ffn_w [Cert.FfnWIdeal.Facts] [Cert.FfnWRefIdeal.Facts] [Cert.Pre_ffn_w_finite.Facts] : Cert.algebraic_FfnWIdeal_FfnWRefIdeal_pre_ffn_w_finite := by
  intro m g m' g' hpre hag
  refine ⟨fun c => val_main_v15 (F := Ideal) (a0 m c) (a1 m c) (a2 m c) (a3 m c), fun c => val_main_v16 (F := Ideal) (a0 m c) (a1 m c) (a2 m c) (a3 m c),
    fun c => val_main_v19 (F := Ideal) (a0 m c) (a1 m c) (a2 m c) (a3 m c), fun c => val_main_v20 (F := Ideal) (a0 m c) (a1 m c) (a3 m c), run_ffn_w m hpre g, ?_⟩
  refine (θ_run _ _ _).mono (fun r h c => ?_) (Cert.FfnWRefIdeal.Value.run m' g')
  obtain ⟨h0, h1, h2, h3, h4⟩ := h c
  obtain ⟨e0, e1, e2, e3⟩ := hag c
  rw [val_main_v15_eq, e0, e1, e2, e3] at h0
  rw [val_main_v16_eq, e0, e1, e2, e3] at h1
  rw [val_main_v19_eq, e0, e1, e2, e3] at h2
  rw [val_main_v20_eq, e0, e1, e3] at h3
  exact ⟨h0, h1, h2, h3, h4⟩

end Cert.FfnWIdeal.Value

end
-- ==== Proof.FfnXRun.lean ====
module

public import proofs.«01_k».proof.Proof.Gen.FfnXIdeal.Frame
public import proofs.«01_k».proof.Proof.Gen.FfnXIdeal.Skeleton
public import proofs.«01_k».proof.Proof.Gen.FfnXIdeal.Points
public import proofs.«01_k».proof.Proof.Gen.FfnXIdeal.Launch
public import Idealize.ShloMosaic.Lib.VecWindow
public import Idealize.ShloMosaic.Lib.WholeRead

/-! The body of `_ffn_bwd_x` at one grid point, in each of its three cases, for any number format. -/

@[expose] public section

set_option maxRecDepth 16384

noncomputable section

namespace Cert.FfnXIdeal.Hand

open Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One of the two planes of a block of the weights. -/
def lowPlane (w : Vec F S2x1408x1024 .bf16) : Vec F S1x1408x1024 .bf16 :=
  View.ld w (Rect.unit (s := S2x1408x1024) ![0, 0, 0] S1x1408x1024.size inb_S2x1408x1024_S1x1408x1024_0_0_0)
/-- The second plane of a weight block. -/
def highPlane (w : Vec F S2x1408x1024 .bf16) : Vec F S1x1408x1024 .bf16 :=
  View.ld w (Rect.unit (s := S2x1408x1024) ![1, 0, 0] S1x1408x1024.size inb_S2x1408x1024_S1x1408x1024_1_0_0)

/-- The row of the modulation that scales the normalised input. -/
def scaleRow (md : Vec F S9x1024 .f32) : Vec F S1x1024 .f32 :=
  View.ld md (Rect.unit (s := S9x1024) ![7, 0] S1x1024.size inb_S9x1024_S1x1024_7_0)

/-- The scratch's plane of the point's rows. -/
def plane (i : grid0.Coords) (d : Vec F S8x512x1024 .f32) : Vec F S1x512x1024 .f32 :=
  View.ld d (Rect.unit (s := S8x512x1024) (k0_off2 i) S1x512x1024.size (k0_off2_inb i))

/-- The scratch with the plane of the point's rows replaced. -/
def setPlane (i : grid0.Coords) (d : Vec F S8x512x1024 .f32) (p : Vec F S1x512x1024 .f32) : Vec F S8x512x1024 .f32 :=
  VecWindow.put d (k0_off2 i) S1x512x1024.size p

/-- A plane with the point's products added: what both halves of the hidden width contribute. -/
def addHalf (p : Vec F S1x512x1024 .f32) (a b : Vec F S512x1408 .bf16) (w : Vec F S2x1408x1024 .bf16) : Vec F S1x512x1024 .f32 :=
  k0_pay3 p a (lowPlane w) b (highPlane w)

/-- The rows of the input's gradient the point stores. -/
def dxRows (x dxo : Vec F S512x1024 .f32) (md : Vec F S9x1024 .f32) (g : Vec F S1x1024 .f32) (p : Vec F S1x512x1024 .f32) :
    Vec F S512x1024 .f32 :=
  k0_pay13 (k0_pay4 x) (k0_pay5 x) (k0_pay11 (scaleRow md) p g) (k0_pay12 (scaleRow md) x p g) dxo

/-- The sums over rows after the point: its own rows' contributions added to what was there. -/
def addSums (s : Vec F S8x1024 .f32) (x dxo f : Vec F S512x1024 .f32) (md : Vec F S9x1024 .f32) (g : Vec F S1x1024 .f32)
    (p : Vec F S1x512x1024 .f32) : Vec F S8x1024 .f32 :=
  VecWindow.put
    (VecWindow.put
      (VecWindow.put
        (VecWindow.put s ![0, 0] S1x1024.size
          (k0_pay14 (k0_pay8 p) (View.ld s (Rect.unit (s := S8x1024) ![0, 0] S1x1024.size inb_S8x1024_S1x1024_0_0))))
        ![1, 0] S1x1024.size
        (k0_pay15 (k0_pay7 x g p) (View.ld s (Rect.unit (s := S8x1024) ![1, 0] S1x1024.size inb_S8x1024_S1x1024_1_0))))
      ![2, 0] S1x1024.size
      (k0_pay16 dxo (View.ld s (Rect.unit (s := S8x1024) ![2, 0] S1x1024.size inb_S8x1024_S1x1024_2_0)) f))
    ![3, 0] S1x1024.size
    (k0_pay17 (k0_pay10 (scaleRow md) x p) (View.ld s (Rect.unit (s := S8x1024) ![3, 0] S1x1024.size inb_S8x1024_S1x1024_3_0)))

/-- A load of a box from a whole buffer holding `X` reads `X` there. -/
theorem load_unread {sp : Space} {s : Shape} {e : EltTy} {m : Memref sig .tc sp s e} (h : m.IsWhole) (X : s.Idx → Elt F e) (r : Rect s) :
    m.view.readAt (Elt F) r.toLoadRect (h.unread X) = View.ld X r :=
  funext fun x => h.readAt_unread X r.toLoadRect x

/-- A load of all of a buffer's contents reads the contents. -/
theorem load_whole {s : Shape} {e : EltTy} (X : s.Idx → Elt F e) {off : Fin s.rank → ℕ} (inb : ∀ a, off a + s.size a ≤ s.size a) :
    View.ld X (Rect.unit off s.size inb) = X :=
  funext fun x => congrArg X (Rect.emb_unit_full inb x)

/-- The plane a point stores, from what its loads read. -/
theorem pay3_eq {p q : Vec F S1x512x1024 .f32} {a a' b b' : Vec F S512x1408 .bf16} (hp : p = q) (ha : a = a') (hb : b = b')
    (w : Vec F S2x1408x1024 .bf16) : k0_pay3 p a (lowPlane w) b (highPlane w) = addHalf q a' b' w := by
  rw [hp, ha, hb]; rfl

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S512x1408 .bf16) (harg5 : arg5.IsWhole)
  (arg6 : Memref sig .tc .vmem S512x1408 .bf16) (harg6 : arg6.IsWhole)
  (arg7 : Memref sig .tc .vmem S9x1024 .f32) (harg7 : arg7.IsWhole)
  (arg8 : Memref sig .tc .vmem S1x1024 .f32) (harg8 : arg8.IsWhole)
  (arg9 : Memref sig .tc .vmem S2x1408x1024 .bf16) (harg9 : arg9.IsWhole)
  (arg10 : Memref sig .tc .vmem S512x1024 .f32) (harg10 : arg10.IsWhole)
  (arg11 : Memref sig .tc .vmem S8x1024 .f32) (harg11 : arg11.IsWhole)
  (arg12 : Memref sig .tc .vmem S8x512x1024 .f32) (harg12 : arg12.IsWhole)
  (x : Vec F S512x1024 .f32) (dxo : Vec F S512x1024 .f32) (f : Vec F S512x1024 .f32) (a : Vec F S512x1408 .bf16) (b : Vec F S512x1408 .bf16) (md : Vec F S9x1024 .f32) (g : Vec F S1x1024 .f32) (w : Vec F S2x1408x1024 .bf16) (o : Vec F S512x1024 .f32) (s : Vec F S8x1024 .f32) (d : Vec F S8x512x1024 .f32)

set_option maxHeartbeats 1000000 in
/-- At the first point the sums are set to zero and the first plane is started. -/
theorem run_first (hc1 : k0_cond1 i = 1#1) (hc2 : k0_cond2 i = 1#1) (hc3 : ¬k0_cond3 i = 1#1) (E : Set ℕ) (K : PUnit → sProp (MT nD τ sig Unit (Elt F) ℕ (UR sig nD τ) ℕ)) :
    iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare o ∗ owns (c : Thread nD τ) arg11 fullShare s ∗ owns (c : Thread nD τ) arg12 fullShare d ∗ (iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare o ∗ owns (c : Thread nD τ) arg11 fullShare (k0_pay1 (F := F)) ∗ owns (c : Thread nD τ) arg12 fullShare (setPlane i (setPlane i d (k0_pay2 (F := F))) (addHalf (k0_pay2 (F := F)) a b w))) -∗ K ⟨⟩))
      ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12) K := by
  simp only [cc0_ffn2_bwd_x_eq_skeleton]; unfold cc0_ffn2_bwd_x_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact View.read_writes_full _ _ _ _ _
  iexists _; isplitr
  swap; · iexact H12
  ipureintro; refine (View.read_writes_cons_put _ _ _ _ _ rfl).trans ?_
  have e9 : run_first.sl.v9 (F := F) c i arg12 hc2 = k0_pay2 := View.readCov_cons_toLoadRect _ _ _ _
  rw [e9]
  unfold run_first.sl.H12_1
  rw [View.read_writes_cons_put _ _ _ _ _ (rfl : k0_off1 i = k0_off2 i), View.writes_nil, harg12.read_unread]
  simp only [load_unread]
  have ha : View.ld a (Rect.unit ![0, 0] ![512, 1408] inb_S512x1408_S512x1408_0_0) = a := load_whole a _
  have hb : View.ld b (Rect.unit ![0, 0] ![512, 1408] inb_S512x1408_S512x1408_0_0) = b := load_whole b _
  rw [ha, hb]
  rfl

set_option maxHeartbeats 1000000 in
/-- At a later point of the first half a plane is started. -/
theorem run_start (hc1 : ¬k0_cond1 i = 1#1) (hc2 : k0_cond2 i = 1#1) (hc3 : ¬k0_cond3 i = 1#1) (E : Set ℕ) (K : PUnit → sProp (MT nD τ sig Unit (Elt F) ℕ (UR sig nD τ) ℕ)) :
    iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare o ∗ owns (c : Thread nD τ) arg11 fullShare s ∗ owns (c : Thread nD τ) arg12 fullShare d ∗ (iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare o ∗ owns (c : Thread nD τ) arg11 fullShare s ∗ owns (c : Thread nD τ) arg12 fullShare (setPlane i (setPlane i d (k0_pay2 (F := F))) (addHalf (k0_pay2 (F := F)) a b w))) -∗ K ⟨⟩))
      ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12) K := by
  simp only [cc0_ffn2_bwd_x_eq_skeleton]; unfold cc0_ffn2_bwd_x_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  iexists _; isplitr
  swap; · iexact H12
  ipureintro; refine (View.read_writes_cons_put _ _ _ _ _ rfl).trans ?_
  have e9 : run_start.sl.v9 (F := F) c i arg12 hc2 = k0_pay2 := View.readCov_cons_toLoadRect _ _ _ _
  rw [e9]
  unfold run_start.sl.H12_1
  rw [View.read_writes_cons_put _ _ _ _ _ (rfl : k0_off1 i = k0_off2 i), View.writes_nil, harg12.read_unread]
  simp only [load_unread]
  have ha : View.ld a (Rect.unit ![0, 0] ![512, 1408] inb_S512x1408_S512x1408_0_0) = a := load_whole a _
  have hb : View.ld b (Rect.unit ![0, 0] ![512, 1408] inb_S512x1408_S512x1408_0_0) = b := load_whole b _
  rw [ha, hb]
  rfl

set_option maxHeartbeats 1000000 in
/-- At a point of the second half its plane is finished, its rows stored and the sums added to. -/
theorem run_last (hc1 : ¬k0_cond1 i = 1#1) (hc2 : ¬k0_cond2 i = 1#1) (hc3 : k0_cond3 i = 1#1) (E : Set ℕ) (K : PUnit → sProp (MT nD τ sig Unit (Elt F) ℕ (UR sig nD τ) ℕ)) :
    iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare o ∗ owns (c : Thread nD τ) arg11 fullShare s ∗ owns (c : Thread nD τ) arg12 fullShare d ∗ (iprop(owns (c : Thread nD τ) arg2 fullShare x ∗ owns (c : Thread nD τ) arg3 fullShare dxo ∗ owns (c : Thread nD τ) arg4 fullShare f ∗ owns (c : Thread nD τ) arg5 fullShare a ∗ owns (c : Thread nD τ) arg6 fullShare b ∗ owns (c : Thread nD τ) arg7 fullShare md ∗ owns (c : Thread nD τ) arg8 fullShare g ∗ owns (c : Thread nD τ) arg9 fullShare w ∗ owns (c : Thread nD τ) arg10 fullShare (dxRows x dxo md g (addHalf (plane i d) a b w)) ∗ owns (c : Thread nD τ) arg11 fullShare (addSums s x dxo f md g (addHalf (plane i d) a b w)) ∗ owns (c : Thread nD τ) arg12 fullShare (setPlane i d (addHalf (plane i d) a b w))) -∗ K ⟨⟩))
      ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12) K := by
  simp only [cc0_ffn2_bwd_x_eq_skeleton]; unfold cc0_ffn2_bwd_x_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  have eP : k0_pay3 (View.readAt (Elt F) arg12.view (Rect.unit (k0_off2 i) ![1, 512, 1024] (k0_off2_inb i)).toLoadRect (harg12.unread d))
      (View.readAt (Elt F) arg5.view (Rect.unit ![0, 0] ![512, 1408] inb_S512x1408_S512x1408_0_0).toLoadRect (harg5.unread a))
      (View.readAt (Elt F) arg9.view (Rect.unit ![0, 0, 0] ![1, 1408, 1024] inb_S2x1408x1024_S1x1408x1024_0_0_0).toLoadRect (harg9.unread w))
      (View.readAt (Elt F) arg6.view (Rect.unit ![0, 0] ![512, 1408] inb_S512x1408_S512x1408_0_0).toLoadRect (harg6.unread b))
      (View.readAt (Elt F) arg9.view (Rect.unit ![1, 0, 0] ![1, 1408, 1024] inb_S2x1408x1024_S1x1408x1024_1_0_0).toLoadRect (harg9.unread w))
      = addHalf (plane i d) a b w := by
    simp only [load_unread]
    exact pay3_eq rfl (load_whole a _) (load_whole b _) w
  have e47 : run_last.sl.v47 c i arg5 harg5 arg6 harg6 arg9 harg9 arg12 harg12 a b w d hc3 = addHalf (plane i d) a b w :=
    (View.readCov_cons_toLoadRect _ _ _ _).trans eP
  have hx : View.ld x (Rect.unit ![0, 0] ![512, 1024] inb_S512x1024_S512x1024_0_0) = x := load_whole x _
  have hd : View.ld dxo (Rect.unit ![0, 0] ![512, 1024] inb_S512x1024_S512x1024_0_0) = dxo := load_whole dxo _
  have hf : View.ld f (Rect.unit ![0, 0] ![512, 1024] inb_S512x1024_S512x1024_0_0) = f := load_whole f _
  have hg : View.ld g (Rect.unit ![0, 0] ![1, 1024] inb_S1x1024_S1x1024_0_0) = g := load_whole g _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; refine (View.read_writes_full _ _ _ _ _).trans ?_
    unfold run_last.sl.r run_last.sl.r_1 run_last.sl.r_5 run_last.sl.r_6
    simp only [load_unread, e47]
    rw [hx, hd, hg]
    rfl
  isplitl [H11]
  · iexists _; isplitr
    swap; · iexact H11
    ipureintro; unfold run_last.sl.r_2 run_last.sl.r_3 run_last.sl.r_4 run_last.sl.v82 run_last.sl.v86 run_last.sl.v97
    rw [View.read_writes_cons_put _ _ _ _ _ rfl, View.read_writes_cons_put _ _ _ _ _ rfl, View.read_writes_cons_put _ _ _ _ _ rfl,
      View.read_writes_cons_put _ _ _ _ _ rfl, View.writes_nil, harg11.read_unread]
    simp only [load_unread, e47]
    rw [hx, hd, hf, hg]
    rfl
  iexists _; isplitr
  swap; · iexact H12
  ipureintro; unfold run_last.sl.H12_1
  rw [View.read_writes_cons_put _ _ _ _ _ rfl, View.writes_nil, harg12.read_unread]
  exact congrArg (VecWindow.put d (k0_off2 i) S1x512x1024.size) eP

end Cert.FfnXIdeal.Hand

end
-- ==== Proof.FfnXFrame.lean ====
module

public import proofs.«01_k».proof.Proof.FfnXRun
public import Idealize.ShloMosaic.Lib.Claim
public import Idealize.ShloMosaic.Lib.WordCmp

/-! The frame of `_ffn_bwd_x`: what each grid point finds and leaves, for any number format. The scratch keeps, of every
block of rows, the plane the first half of the hidden width started until the second half has finished it. -/

@[expose] public section

set_option maxRecDepth 16384

noncomputable section

namespace Cert.FfnXIdeal.Hand

open Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid -/

/-- There are sixteen grid points. -/
theorem lt_16 (t : Fin cfg0.N) : t.val < 16 := Nat.lt_of_lt_of_eq t.isLt N_0

/-- The point of the first half on the same rows. -/
def back (t : Fin cfg0.N) : Fin cfg0.N := ⟨t.val - 8, Nat.lt_of_le_of_lt (Nat.sub_le _ _) t.isLt⟩

/-- The outer coordinate of a point: which half of the hidden columns it takes. -/
theorem coord_half (t : Fin cfg0.N) : (grid0.coords t 0).val = t.val / 8 % 2 := Pipeline.Grid.coords_val t 0 (by decide) rfl
/-- The inner coordinate of a point: which band of rows it takes. -/
theorem coord_rows (t : Fin cfg0.N) : (grid0.coords t 1).val = t.val / 1 % 8 := Pipeline.Grid.coords_val t 1 (by decide) rfl

/-- The sums are set to zero at the first point only. -/
theorem starts_iff (t : Fin cfg0.N) : k0_cond1 (grid0.coords t) = 1#1 ↔ t.val = 0 :=
  (by decide +kernel : ∀ t : Fin grid0.N, k0_cond1 (grid0.coords t) = 1#1 ↔ t.val = 0) t
/-- A plane is started at the points of the first half. -/
theorem first_iff (t : Fin cfg0.N) : k0_cond2 (grid0.coords t) = 1#1 ↔ t.val < 8 :=
  (by decide +kernel : ∀ t : Fin grid0.N, k0_cond2 (grid0.coords t) = 1#1 ↔ t.val < 8) t
/-- Results are stored at the points of the second half. -/
theorem last_iff (t : Fin cfg0.N) : k0_cond3 (grid0.coords t) = 1#1 ↔ 8 ≤ t.val :=
  (by decide +kernel : ∀ t : Fin grid0.N, k0_cond3 (grid0.coords t) = 1#1 ↔ 8 ≤ t.val) t

/-- The row window is idle throughout the first half. -/
theorem idle_rows (t : Fin cfg0.N) : cfg0.idle 8 (grid0.coords t) = true ↔ t.val < 8 :=
  (by decide +kernel : ∀ t : Fin grid0.N, cfg0.idle 8 (grid0.coords t) = true ↔ t.val < 8) t
/-- The sums window is idle but at the first point and from the second half on. -/
theorem idle_sums (t : Fin cfg0.N) : cfg0.idle 9 (grid0.coords t) = true ↔ (t.val ≠ 0 ∧ t.val < 8) :=
  (by decide +kernel : ∀ t : Fin grid0.N, cfg0.idle 9 (grid0.coords t) = true ↔ (t.val ≠ 0 ∧ t.val < 8)) t
/-- The row window is written back in the second half only. -/
theorem flush_rows (t : Fin cfg0.N) : (cfg0.win 8).flush t = true ↔ 8 ≤ t.val :=
  (by decide +kernel : ∀ t : Fin grid0.N, (cfg0.win 8).flush t = true ↔ 8 ≤ t.val) t
/-- The sums window is written back at the last point only. -/
theorem flush_sums (t : Fin cfg0.N) : (cfg0.win 9).flush t = true ↔ t.val = 15 :=
  (flush0_9 t).trans (by have := lt_16 t; omega)

/-! ## The scratch's planes -/

/-- The plane just replaced is the new one. -/
theorem plane_setPlane (i : grid0.Coords) (d : Vec F S8x512x1024 .f32) (p : Vec F S1x512x1024 .f32) : plane i (setPlane i d p) = p :=
  VecWindow.window_put_same d (k0_off2 i) S1x512x1024.size (k0_off2_inb i) p

/-- The planes of other rows are as before. -/
theorem plane_setPlane_of_ne (i j : grid0.Coords) (h : (i 1).val ≠ (j 1).val) (d : Vec F S8x512x1024 .f32) (p : Vec F S1x512x1024 .f32) :
    plane i (setPlane j d p) = plane i d := by
  have hi : k0_off2 i 0 = (i 1).val := congrFun (k0_off2_eq i) 0
  have hj : k0_off2 j 0 = (j 1).val := congrFun (k0_off2_eq j) 0
  exact VecWindow.window_put_of_disjoint d (k0_off2 j) S1x512x1024.size (k0_off2 i) S1x512x1024.size (k0_off2_inb i) p 0 (by
    have e : S1x512x1024.size 0 = 1 := rfl
    rw [hi, hj, e]; omega)

/-- Where a plane lies depends on the rows alone. -/
theorem plane_congr (i j : grid0.Coords) (h : (i 1).val = (j 1).val) (d : Vec F S8x512x1024 .f32) : plane i d = plane j d := by
  have e : k0_off2 i = k0_off2 j := by rw [k0_off2_eq, k0_off2_eq, h]
  unfold plane
  generalize k0_off2_inb i = p, k0_off2_inb j = q
  revert p q
  rw [e]
  exact fun _ _ => rfl

variable (m : (ℓ : Loc nD τ sig) → Buf (Elt F) ℓ) (ρ : Dev nD → PrngReg)

/-! ## What the points compute -/

/-- A plane with the products of one point's blocks added. -/
def half (c : Dev nD) (t : Fin cfg0.N) (p : Vec F S1x512x1024 .f32) : Vec F S1x512x1024 .f32 :=
  addHalf p (iblk m c 3 t) (iblk m c 4 t) (iblk m c 7 t)

/-- The plane of a block of rows after both halves. -/
def total (c : Dev nD) (t : Fin cfg0.N) : Vec F S1x512x1024 .f32 := half m c t (half m c (back t) k0_pay2)

/-- The rows of the input's gradient a point of the second half stores. -/
def rowsAt (c : Dev nD) (t : Fin cfg0.N) : Vec F S512x1024 .f32 :=
  dxRows (iblk m c 0 t) (iblk m c 1 t) (iblk m c 5 t) (iblk m c 6 t) (total m c t)

/-- The sums with a point's rows added. -/
def sumsStep (c : Dev nD) (t : Fin cfg0.N) (s : Vec F S8x1024 .f32) : Vec F S8x1024 .f32 :=
  addSums s (iblk m c 0 t) (iblk m c 1 t) (iblk m c 2 t) (iblk m c 5 t) (iblk m c 6 t) (total m c t)

/-- The sums after each point: zero through the first half. -/
def sumsAt (c : Dev nD) : (n : ℕ) → n < cfg0.N → Vec F S8x1024 .f32
  | 0, _ => k0_pay1
  | n + 1, h => if n + 1 < 8 then sumsAt c n (Nat.lt_of_succ_lt h) else sumsStep m c ⟨n + 1, h⟩ (sumsAt c n (Nat.lt_of_succ_lt h))

/-- The scratch planes that carry the first half of the product. -/
abbrev scM : Memref sig .tc .vmem S8x512x1024 .f32 := Memref.whole cc0_scratch0

/-- Between points the scratch holds the started planes that are not finished yet. -/
def Started (c : Dev nD) (n : ℕ) (d : Vec F S8x512x1024 .f32) : Prop :=
  ∀ k : Fin cfg0.N, k.val < 8 → k.val < n → n ≤ k.val + 8 → plane (grid0.coords k) d = half m c k k0_pay2

/-- The world that the frame is stated in. -/
abbrev World (F : FTy → Type) [FloatOps F] := MT nD τ sig Unit (Elt F) ℕ (UR sig nD τ) ℕ

/-- What the body keeps between points. -/
def Keep (c : Dev nD) (n : ℕ) : sProp (World F) :=
  iprop((∃ d, iprop(⌜Started m c n d⌝ ∗ owns (c : Thread nD τ) scM fullShare d)) ∗ (∃ r, prngReg c r))

/-- The resources at entry are the scratch planes, whatever they hold. -/
theorem entry_eq (c : Dev nD) :
    (Pipeline.ΦA spec0 c : sProp (World F)) = iprop((∃ d, owns (c : Thread nD τ) scM fullShare d) ∗ (∃ r, prngReg c r)) := by
  unfold Pipeline.ΦA; rw [scopedRest0_eq]; simp only [scM, owns_whole]; try rfl

/-- The proof data: the arrays as found, each input's buffer at its block, the results' at what the points compute. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowsAt m c t
    | ⟨9, _⟩ => sumsAt m c t.val t.isLt
  Φ t := Keep m c t.val
  q _ := fullShare
  owed _ := 0

/-- The array of a window at entry is the launch entry of its buffer. -/
theorem A_eq (c : Dev nD) (w : Fin cfg0.W) : (dats m 0 c).A w = V m c (Pipeline.arrRef spec0 w) := by
  dsimp only [dats]

/-- What each input window holds after a point is its block; the two output windows hold the rows and the sums of that point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = rowsAt m c t := by dsimp only [dats]
theorem after_9 (c : Dev nD) (t : Fin cfg0.N) : (dats m 0 c).after 9 t = sumsAt m c t.val t.isLt := by dsimp only [dats]

/-- What each input window holds before a point is its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The sums' buffer at a point: what the points before left there. -/
theorem before_sums (c : Dev nD) : ∀ (n : ℕ) (h : n + 1 < cfg0.N) (d), (dats m 0 c).before 9 ⟨n + 1, h⟩ d = sumsAt m c n (Nat.lt_of_succ_lt h)
  | n, h, d => by
    have hN : n + 1 < 16 := Nat.lt_of_lt_of_eq h N_0
    have hf : ¬(cfg0.win 9).flush ⟨n, Nat.lt_of_succ_lt h⟩ = true := fun e => by
      have := (flush_sums _).1 e; simp only at this; omega
    refine ((dats m 0 c).before_of_pos 9 ⟨n + 1, h⟩ (Nat.succ_ne_zero n) ((cfg0.win 9).fetch_out rfl _) d).trans ?_
    refine (if_neg hf).trans ?_
    show (dats m 0 c).left 9 ⟨n, Nat.lt_of_succ_lt h⟩ d = _
    unfold Dat.left
    by_cases hi : cfg0.idle 9 (grid0.coords ⟨n, Nat.lt_of_succ_lt h⟩) = true
    · have h8 := (idle_sums _).1 hi
      rw [hi]
      obtain ⟨k, rfl⟩ : ∃ k, n = k + 1 := Nat.exists_eq_succ_of_ne_zero h8.1
      refine (before_sums c k (Nat.lt_of_succ_lt h) d).trans ?_
      exact (if_pos h8.2).symm
    · rw [eq_false_of_ne_true hi]
      exact after_9 m c _

/-! ## The body at a point -/

/-- Each input window is left as it was found. -/
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (st0_7 t) fullShare (iblk m c 7 t) := by
  unfold Dat.leavesExact; rw [show cfg0.idle 7 (grid0.coords t) = false from rfl, after_7]

/-- What the body is called with at a point, -/
def bodyPre (c : Dev nD) (t : Fin cfg0.N) : sProp (World F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The invariant that a point is entered with. -/
theorem enters (c : Dev nD) (t : Fin cfg0.N) : (dats m 0 c).Φ t.castSucc = Keep m c t.val := by dsimp only [dats]; rfl
/-- The invariant that a point is left with. -/
theorem leaves_kept (c : Dev nD) (t : Fin cfg0.N) : (dats m 0 c).Φ t.succ = Keep m c (t.val + 1) := by dsimp only [dats]; rfl
/-- No copy is owed across a point. -/
theorem owes_same (c : Dev nD) (t : Fin cfg0.N) : (dats m 0 c).owesAt () t.succ = (dats m 0 c).owesAt () t.castSucc := rfl

/-- A point of the first half adds its plane to the started ones. -/
theorem started_first (c : Dev nD) (t : Fin cfg0.N) (ht : t.val < 8) (d : Vec F S8x512x1024 .f32) (hd : Started m c t.val d) :
    Started m c (t.val + 1) (setPlane (grid0.coords t) (setPlane (grid0.coords t) d k0_pay2) (half m c t k0_pay2)) := fun k hk hkt hn => by
  by_cases e : k = t
  · subst e; exact plane_setPlane _ _ _
  · have hne : (grid0.coords k 1).val ≠ (grid0.coords t 1).val := by
      rw [coord_rows, coord_rows]
      have : k.val ≠ t.val := fun h => e (Fin.ext h)
      omega
    rw [plane_setPlane_of_ne _ _ hne, plane_setPlane_of_ne _ _ hne]
    exact hd k hk (by have : k.val ≠ t.val := fun h => e (Fin.ext h); omega) (by omega)

/-- A point of the second half finds its plane started, -/
theorem started_plane (c : Dev nD) (t : Fin cfg0.N) (ht : 8 ≤ t.val) (d : Vec F S8x512x1024 .f32) (hd : Started m c t.val d) :
    plane (grid0.coords t) d = half m c (back t) k0_pay2 := by
  have := lt_16 t
  have hb : (back t).val = t.val - 8 := rfl
  rw [plane_congr (grid0.coords t) (grid0.coords (back t)) (by rw [coord_rows, coord_rows, hb]; omega)]
  exact hd (back t) (by omega) (by omega) (by omega)

/-- and leaves the others as they were. -/
theorem started_last (c : Dev nD) (t : Fin cfg0.N) (ht : 8 ≤ t.val) (d : Vec F S8x512x1024 .f32) (hd : Started m c t.val d)
    (p : Vec F S1x512x1024 .f32) : Started m c (t.val + 1) (setPlane (grid0.coords t) d p) := fun k hk hkt hn => by
  have := lt_16 t
  have hne : (grid0.coords k 1).val ≠ (grid0.coords t 1).val := by rw [coord_rows, coord_rows]; omega
  rw [plane_setPlane_of_ne _ _ hne]
  exact hd k hk (by omega) (by omega)

set_option maxHeartbeats 1000000 in
/-- The body at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h8 : t.val < 8 := by omega
  unfold bodyPre bodyPost bodyAt0
  simp only [before_0, before_1, before_2, before_3, before_4, before_5, before_6, before_7, leaves_0, leaves_1, leaves_2, leaves_3,
    leaves_4, leaves_5, leaves_6, leaves_7, enters, leaves_kept, owes_same]
  rw [Dat.leavesExact_idle (dats m 0 c) 8 t ((idle_rows t).2 h8) (eq_false_of_ne_true fun h => absurd ((flush_rows t).1 h) (by omega))]
  rw [show (dats m 0 c).leavesExact 9 t = owns (c : Thread nD τ) (st0_9 t) fullShare k0_pay1 from by
    unfold Dat.leavesExact
    rw [eq_false_of_ne_true fun h => ((idle_sums t).1 h).1 h0, after_9]
    obtain ⟨n, hn⟩ := t; subst h0; rfl]
  unfold Keep
  iintro ⟨⟨⟨%d, %hd, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ ((starts_iff t).2 h0) ((first_iff t).2 h8) (fun h => absurd ((last_iff t).1 h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨H0, H1, H2, H3, H4, H5, H6, H7, H8, H9, Hs⟩
  isplitl [Hs Hg]
  · isplitl [Hs]
    · iexists _; isplitr
      swap; · iexact Hs
      ipureintro; exact started_first m c t h8 d hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexact H9

set_option maxHeartbeats 1000000 in
/-- The body at a later point of the first half. -/
theorem body_start (c : Dev nD) (t : Fin cfg0.N) (h0 : t.val ≠ 0) (h8 : t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3,
    leaves_4, leaves_5, leaves_6, leaves_7, enters, leaves_kept, owes_same]
  rw [Dat.leavesExact_idle (dats m 0 c) 8 t ((idle_rows t).2 h8) (eq_false_of_ne_true fun h => absurd ((flush_rows t).1 h) (by omega)),
    Dat.leavesExact_idle (dats m 0 c) 9 t ((idle_sums t).2 ⟨h0, h8⟩) (eq_false_of_ne_true fun h => absurd ((flush_sums t).1 h) (by omega))]
  unfold Keep
  iintro ⟨⟨⟨%d, %hd, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_start c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => h0 ((starts_iff t).1 h)) ((first_iff t).2 h8) (fun h => absurd ((last_iff t).1 h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨H0, H1, H2, H3, H4, H5, H6, H7, H8, H9, Hs⟩
  isplitl [Hs Hg]
  · isplitl [Hs]
    · iexists _; isplitr
      swap; · iexact Hs
      ipureintro; exact started_first m c t h8 d hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 1000000 in
/-- The body at a point of the second half. -/
theorem body_last (c : Dev nD) (t : Fin cfg0.N) (h8 : 8 ≤ t.val) :
    bodyPre m c t ⊢ wp frame (wpE (defs₀ (F := F)) Variants.none c none) Set.univ (bodyAt0 t) (fun _ => bodyPost m c t) := by
  obtain ⟨n, hn⟩ := t
  obtain ⟨n, rfl⟩ : ∃ k, n = k + 1 := Nat.exists_eq_succ_of_ne_zero (by simp only at h8; omega)
  generalize ht : (⟨n + 1, hn⟩ : Fin cfg0.N) = t
  have hs : ∀ d, (dats m 0 c).before 9 t d = sumsAt m c n (Nat.lt_of_succ_lt hn) := by subst ht; exact before_sums m c n hn
  have h8' : 8 ≤ t.val := by subst ht; exact h8
  have ha : sumsAt m c t.val t.isLt = sumsStep m c t (sumsAt m c n (Nat.lt_of_succ_lt hn)) := by
    subst ht; exact if_neg (Nat.not_lt.2 h8)
  unfold bodyPre bodyPost bodyAt0
  simp only [before_0, before_1, before_2, before_3, before_4, before_5, before_6, before_7, leaves_0, leaves_1, leaves_2, leaves_3,
    leaves_4, leaves_5, leaves_6, leaves_7, enters, leaves_kept, owes_same, hs]
  rw [show (dats m 0 c).leavesExact 8 t = owns (c : Thread nD τ) (st0_8 t) fullShare (rowsAt m c t) from by
      unfold Dat.leavesExact
      rw [eq_false_of_ne_true fun h => absurd ((idle_rows t).1 h) (by omega), after_8],
    show (dats m 0 c).leavesExact 9 t = owns (c : Thread nD τ) (st0_9 t) fullShare (sumsAt m c t.val t.isLt) from by
      unfold Dat.leavesExact
      rw [eq_false_of_ne_true fun h => absurd ((idle_sums t).1 h).2 (by omega), after_9], ha]
  unfold Keep
  iintro ⟨⟨⟨%d, %hd, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have ep : addHalf (plane (grid0.coords t) d) (iblk m c 3 t) (iblk m c 4 t) (iblk m c 7 t) = total m c t :=
    congrArg (half m c t) (started_plane m c t h8' d hd)
  unfold rowsAt sumsStep
  rw [← ep]
  iapply (run_last c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => absurd ((starts_iff t).1 h) (by omega)) (fun h => absurd ((first_iff t).1 h) (by omega)) ((last_iff t).2 h8') Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨H0, H1, H2, H3, H4, H5, H6, H7, H8, H9, Hs⟩
  isplitl [Hs Hg]
  · isplitl [Hs]
    · iexists _; isplitr
      swap; · iexact Hs
      ipureintro; exact started_last m c t h8' d hd _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h8 : t.val < 8
  · by_cases h0 : t.val = 0
    · exact body_first m c t h0
    · exact body_start m c t h0 h8
  · exact body_last m c t (Nat.not_lt.1 h8)

/-- The body that the grid runs is the printed one. -/
theorem defs_row (t : Fin cfg0.N) : defs₀ (F := F) .tc cfg0.body (cfg0.bodyArgs t (cfg0.slots t)) = bodyAt0 t := by
  unfold defs₀; rw [Defs.onTc_tc]

/-- Every point runs from its invariant to the next. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- Before the first point nothing is started, -/
theorem hin (c : Dev nD) : Pipeline.ΦA spec0 c ⊢ (dats m 0 c).Φ 0 := by
  rw [show (dats m 0 c).Φ 0 = Keep m c 0 from rfl, entry_eq]
  unfold Keep
  iintro ⟨⟨%d, Hs⟩, Hg⟩
  isplitl [Hs]
  · iexists _; isplitr
    swap; · iexact Hs
    ipureintro; exact fun k _ h => absurd h (Nat.not_lt_zero _)
  iexact Hg

/-- and after the last what the scratch holds is forgotten. -/
theorem hout (c : Dev nD) : (dats m 0 c).Φ (Fin.last cfg0.N) ⊢ Pipeline.ΦA spec0 c := by
  rw [show (dats m 0 c).Φ (Fin.last cfg0.N) = Keep m c cfg0.N from rfl, entry_eq]
  unfold Keep
  iintro ⟨⟨%d, %hd, Hs⟩, Hg⟩
  isplitl [Hs]
  · iexists _; iexact Hs
  iexact Hg

/-! ## The run -/

set_option backward.isDefEq.respectTransparency.types false in
/-- Every execution ends, with the arrays at what the points compute and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs to its frame. -/
theorem run_main : θ_run defs (onTc (τ := τ) (main (F := F))) (s₀ m ρ) (Pipeline.FramePost cfgs (dats m) 0 (V m)) :=
  (θ_run defs _ _).mono (fun _ h => h.1) (run_counters m ρ)

/-- The frame: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_counters m ρ))

end Cert.FfnXIdeal.Hand

end
-- ==== Proof.FfnXValue.lean ====
/- The value facts of the second feed-forward block's gradient rows at exact arithmetic: the input's gradient and the sums over rows. -/
module

public import proofs.«01_k».proof.Proof.FfnXFrame
public import proofs.«01_k».proof.Proof.Gen.FfnXRefIdeal.Read
public import proofs.«01_k».proof.Proof.Rows
public import proofs.«01_k».proof.Proof.Norms
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.FfnXIdeal.Value

open Cert.FfnXIdeal Cert.FfnXIdeal.Gen Cert.FfnXIdeal.Hand Idealize.ShloMosaic Idealize.ShloMosaic.TcCoe Idealize.SL.Sem
open Idealize.ShloMosaic.Pipeline (Dat)

set_option maxHeartbeats 1000000

variable (m : (ℓ : Loc nD τ sig) → Buf (Elt Ideal) ℓ)

/-- The block index of the windows that move through both halves, at every grid point. -/
theorem idx : ∀ t : Fin cfg0.N, win0_3.index t = ![t.val % 8, t.val / 8]
    ∧ win0_4.index t = ![t.val % 8, t.val / 8]
    ∧ win0_5.index t = ![0, 0]
    ∧ win0_6.index t = ![0, 0]
    ∧ win0_7.index t = ![0, t.val / 8, 0]
    ∧ win0_9.index t = ![0, 0] :=
  (by decide +kernel : ∀ t : Fin grid0.N, _)

/-- At the points of the second half the windows of rows stand on the point's block of rows. -/
theorem idx_rows : ∀ t : Fin cfg0.N, 8 ≤ t.val → win0_0.index t = ![t.val % 8, 0]
    ∧ win0_1.index t = ![t.val % 8, 0]
    ∧ win0_2.index t = ![t.val % 8, 0]
    ∧ win0_8.index t = ![t.val % 8, 0] :=
  (by decide +kernel : ∀ t : Fin grid0.N, 8 ≤ t.val → _)

/-- Argument `main_arg0` on device `c`: the block's input rows. -/
abbrev a0 (c : Dev nD) : FVec Ideal S4096x1024 .f32 := m ((c : Thread nD τ).loc main_arg0)
/-- Argument `main_arg1`: shifts, scales and gates. -/
abbrev a1 (c : Dev nD) : FVec Ideal S9x1024 .f32 := m ((c : Thread nD τ).loc main_arg1)
/-- Argument `main_arg2`: the gain of the block's norm. -/
abbrev a2 (c : Dev nD) : FVec Ideal S1024 .f32 := m ((c : Thread nD τ).loc main_arg2)
/-- Argument `main_arg3`: the weights of the two inner products. -/
abbrev a3 (c : Dev nD) : FVec Ideal S1024x5632 .f32 := m ((c : Thread nD τ).loc main_arg3)
/-- Argument `main_arg4`: the output weights. -/
abbrev a4 (c : Dev nD) : FVec Ideal S2816x1024 .f32 := m ((c : Thread nD τ).loc main_arg4)
/-- Argument `main_arg5`: the cotangent of the block's output. -/
abbrev a5 (c : Dev nD) : FVec Ideal S4096x1024 .f32 := m ((c : Thread nD τ).loc main_arg5)
/-- Argument `main_arg6`: the cotangent of the first inner product. -/
abbrev a6 (c : Dev nD) : FVec Ideal S4096x2816 .f32 := m ((c : Thread nD τ).loc main_arg6)
/-- Argument `main_arg7`: the cotangent of the second inner product. -/
abbrev a7 (c : Dev nD) : FVec Ideal S4096x2816 .f32 := m ((c : Thread nD τ).loc main_arg7)

open Cert.FfnXRefIdeal.Read Cert.Reals

/-- Row `r` of a grid point's block is a row of the whole array. -/
abbrev rowAt (t : Fin cfg0.N) (r : Fin 512) : Fin 4096 :=
  ⟨t.val % 8 * 512 + r.val, by omega⟩

/-- Column `x` of a grid point's block is a column of the hidden width. -/
abbrev colAt (t : Fin cfg0.N) (x : Fin 1408) : Fin 2816 :=
  ⟨t.val / 8 * 1408 + x.val, by have := lt_16 t; omega⟩

/-- The input rows of a grid point at an entry. -/
theorem iblk_x (c : Dev nD) (t : Fin cfg0.N) (ht : 8 ≤ t.val) (r : Fin 512) (k : Fin 1024) : iblk m c 0 t (ix2 r k) = a0 m c (ix2 (rowAt t r) k) := by
  blk_ext [iblk, V, idx_rows t ht]

/-- The cotangent's rows of a grid point at an entry. -/
theorem iblk_dxo (c : Dev nD) (t : Fin cfg0.N) (ht : 8 ≤ t.val) (r : Fin 512) (k : Fin 1024) : iblk m c 1 t (ix2 r k) = a5 m c (ix2 (rowAt t r) k) := by
  blk_ext [iblk, V, idx_rows t ht]

/-- The shifts, scales and gates at an entry. -/
theorem iblk_mod (c : Dev nD) (t : Fin cfg0.N) (j : Fin 9) (k : Fin 1024) : iblk m c 5 t (ix2 j k) = a1 m c (ix2 j k) := by
  blk_ext [iblk, V, idx t]

/-- The norm's gain at an entry. -/
theorem iblk_g (c : Dev nD) (t : Fin cfg0.N) (k : Fin 1024) : iblk m c 6 t (ix2 0 k) = a2 m c (ix1 k) := by
  have h : ∀ i : S1x1024.Idx, V m c main_v36 i = a2 m c (ix1 (i 1)) := fun i => by
    simp only [V, hostOps0, hostOps0_1, hostOps0_2, List.flatten_cons, List.flatten_nil, List.append_nil, List.cons_append, List.nil_append]
    entry_read
    pointwise []
  exact Eq.trans (by blk_ext [iblk, idx t]) (h (ix2 0 k))

/-- The block's output product, computed before the call, at an entry. -/
theorem iblk_f (c : Dev nD) (t : Fin cfg0.N) (ht : 8 ≤ t.val) (r : Fin 512) (k : Fin 1024) :
    iblk m c 2 t (ix2 r k) = val_main_v30 (F := Ideal) (a0 m c) (a1 m c) (a2 m c) (a3 m c) (a4 m c) (ix2 (rowAt t r) k) := by
  have h : V m c main_v30 = val_main_v30 (F := Ideal) (a0 m c) (a1 m c) (a2 m c) (a3 m c) (a4 m c) := by
    simp only [V, hostOps0, hostOps0_1, hostOps0_2, List.flatten_cons, List.flatten_nil, List.append_nil, List.cons_append, List.nil_append]
    entry_read
    rfl
  exact Eq.trans (by blk_ext [iblk, idx_rows t ht]) (congrFun h (ix2 (rowAt t r) k))

/-- The first inner product's cotangent at an entry. -/
theorem iblk_da (c : Dev nD) (t : Fin cfg0.N) (r : Fin 512) (x : Fin 1408) : iblk m c 3 t (ix2 r x) = a6 m c (ix2 (rowAt t r) (colAt t x)) := by
  have h : ∀ i, V m c main_v34 i = a6 m c i := fun i => by
    simp only [V, hostOps0, hostOps0_1, hostOps0_2, List.flatten_cons, List.flatten_nil, List.append_nil, List.cons_append, List.nil_append]
    entry_read
    pointwise []
  exact Eq.trans (by blk_ext [iblk, idx t]) (h (ix2 (rowAt t r) (colAt t x)))

/-- The second inner product's cotangent at an entry. -/
theorem iblk_db (c : Dev nD) (t : Fin cfg0.N) (r : Fin 512) (x : Fin 1408) : iblk m c 4 t (ix2 r x) = a7 m c (ix2 (rowAt t r) (colAt t x)) := by
  have h : ∀ i, V m c main_v35 i = a7 m c i := fun i => by
    simp only [V, hostOps0, hostOps0_1, hostOps0_2, List.flatten_cons, List.flatten_nil, List.append_nil, List.cons_append, List.nil_append]
    entry_read
    pointwise []
  exact Eq.trans (by blk_ext [iblk, idx t]) (h (ix2 (rowAt t r) (colAt t x)))

/-- The inner products' weights at an entry of a plane. -/
theorem iblk_wi (c : Dev nD) (t : Fin cfg0.N) (p : Fin 2) (x : Fin 1408) (k : Fin 1024) (X : Fin 5632) (hX : X.val = p.val * 2816 + (t.val / 8 * 1408 + x.val)) :
    iblk m c 7 t (ix3 p x k) = a3 m c (ix2 k X) := by
  have h : ∀ i : S2x2816x1024.Idx, V m c main_v33 i = a3 m c (ix2 (i 2) ⟨(i 0).val * 2816 + (i 1).val, by have h0 : (i 0).val < 2 := (i 0).isLt; have h1 : (i 1).val < 2816 := (i 1).isLt; omega⟩) := fun i => by
    simp only [V, hostOps0, hostOps0_1, hostOps0_2, List.flatten_cons, List.flatten_nil, List.append_nil, List.cons_append, List.nil_append]
    entry_read
    pointwise []
  refine Eq.trans (by blk_ext [iblk, idx t]) ((h (ix3 p (colAt t x) k)).trans ?_)
  exact congrArg (fun z => a3 m c (ix2 k z)) (Fin.ext hX.symm)

/-- What one half of the hidden width adds to an entry of the plane. -/
theorem half_apply (c : Dev nD) (t : Fin cfg0.N) (p : Vec Ideal S1x512x1024 .f32) (r : Fin 512) (k : Fin 1024) :
    half m c t p (ix3 0 r k) = p (ix3 0 r k)
      + ∑ x : Fin 1408, a6 m c (ix2 (rowAt t r) (colAt t x)) * a3 m c (ix2 k ⟨(colAt t x).val, by have := lt_16 t; show t.val / 8 * 1408 + x.val < 5632; omega⟩)
      + ∑ x : Fin 1408, a7 m c (ix2 (rowAt t r) (colAt t x)) * a3 m c (ix2 k ⟨2816 + (colAt t x).val, by have := lt_16 t; show 2816 + (t.val / 8 * 1408 + x.val) < 5632; omega⟩) := by
  have e0 : ∀ x : Fin 1408, iblk m c 7 t (ix3 0 x k) = a3 m c (ix2 k ⟨(colAt t x).val, by have := lt_16 t; show t.val / 8 * 1408 + x.val < 5632; omega⟩) := fun x => iblk_wi m c t 0 x k _ (by show t.val / 8 * 1408 + x.val = 0 * 2816 + (t.val / 8 * 1408 + x.val); omega)
  have e1 : ∀ x : Fin 1408, iblk m c 7 t (ix3 1 x k) = a3 m c (ix2 k ⟨2816 + (colAt t x).val, by have := lt_16 t; show 2816 + (t.val / 8 * 1408 + x.val) < 5632; omega⟩) := fun x => iblk_wi m c t 1 x k _ (by show 2816 + (t.val / 8 * 1408 + x.val) = 1 * 2816 + (t.val / 8 * 1408 + x.val); omega)
  pointwise [half, addHalf, lowPlane, highPlane, k0_pay3, iblk_da m c t, iblk_db m c t, e0, e1]
  exact (add_assoc _ _ _).symm

/-- The reference's cotangent of the normalised rows at an entry. -/
theorem dh_apply (c : Dev nD) (R : Fin 4096) (k : Fin 1024) :
    val_main_v78 (F := Ideal) (a3 m c) (a6 m c) (a7 m c) (ix2 R k)
      = (∑ x : Fin 2816, a6 m c (ix2 R x) * a3 m c (ix2 k ⟨x.val, by omega⟩)) + ∑ x : Fin 2816, a7 m c (ix2 R x) * a3 m c (ix2 k ⟨2816 + x.val, by omega⟩) := by
  pointwise [val_main_v78, val_main_v77]

/-- The plane after both halves is the cotangent of the normalised rows. -/
theorem total_apply (c : Dev nD) (t : Fin cfg0.N) (ht : 8 ≤ t.val) (r : Fin 512) (k : Fin 1024) :
    total m c t (ix3 0 r k) = val_main_v78 (F := Ideal) (a3 m c) (a6 m c) (a7 m c) (ix2 (rowAt t r) k) := by
  have hN := lt_16 t
  have hb : ∀ r, rowAt (back t) r = rowAt t r := fun r => Fin.ext (show (t.val - 8) % 8 * 512 + r.val = t.val % 8 * 512 + r.val by omega)
  have hc0 : ∀ x : Fin 1408, colAt (back t) x = ⟨x.val, by omega⟩ := fun x => Fin.ext (show (t.val - 8) / 8 * 1408 + x.val = x.val by omega)
  have hc1 : ∀ x : Fin 1408, colAt t x = ⟨1408 + x.val, by omega⟩ := fun x => Fin.ext (show t.val / 8 * 1408 + x.val = 1408 + x.val by omega)
  have e0 : k0_pay2 (F := Ideal) (ix3 0 r k) = 0 := by pointwise [k0_pay2]
  rw [dh_apply, total, half_apply, half_apply, e0, zero_add, hb, ← hidden_sum, ← hidden_sum]
  have hd0 : ∀ x : Fin 1408, (back t).val / 8 * 1408 + x.val = x.val := fun x => by show (t.val - 8) / 8 * 1408 + x.val = x.val; omega
  have hd1 : ∀ x : Fin 1408, t.val / 8 * 1408 + x.val = 1408 + x.val := fun x => by omega
  simp only [hc0, hc1]
  rw [add_assoc, add_add_add_comm]
  simp only [hd0, hd1]

/-- The rows scaled to length one at an entry. -/
theorem xh_apply (c : Dev nD) (t : Fin cfg0.N) (ht : 8 ≤ t.val) (r : Fin 512) (k : Fin 1024) :
    k0_pay5 (iblk m c 0 t) (ix2 r k) = val_main_v62 (F := Ideal) (a0 m c) (ix2 (rowAt t r) k) := by
  pointwise [k0_pay5, k0_pay4, iblk_x m c t ht, val_main_v62, val_main_v61, val_main_v57, val_main_v56, val_main_v55, val_main_v54, val_main_v53, val_main_v52, val_main_v51, val_main_v50, val_main_cst_7, val_main_cst_8, val_main_cst_9]

/-- The norm's factor at a row. -/
theorem r_apply (c : Dev nD) (t : Fin cfg0.N) (ht : 8 ≤ t.val) (r : Fin 512) :
    k0_pay4 (iblk m c 0 t) (ix2 r 0) = val_main_v57 (F := Ideal) (a0 m c) (ix2 (rowAt t r) 0) := by
  pointwise [k0_pay4, iblk_x m c t ht, val_main_v62, val_main_v61, val_main_v57, val_main_v56, val_main_v55, val_main_v54, val_main_v53, val_main_v52, val_main_v51, val_main_v50, val_main_cst_7, val_main_cst_8, val_main_cst_9]

/-- The cotangent times one plus the scale at an entry. -/
theorem sc_apply (c : Dev nD) (t : Fin cfg0.N) (ht : 8 ≤ t.val) (r : Fin 512) (k : Fin 1024) :
    k0_pay9 (scaleRow (iblk m c 5 t)) (total m c t) (ix2 r k) = val_main_v86 (F := Ideal) (a1 m c) (a3 m c) (a6 m c) (a7 m c) (ix2 (rowAt t r) k) := by
  have e := total_apply m c t ht r
  pointwise [k0_pay9, k0_pay6, scaleRow, e, iblk_mod m c t, val_main_v86, val_main_v85, val_main_v68, val_main_v67, val_main_v66, val_main_v48, val_main_v49, val_main_v46, val_main_v47, val_main_cst_11]

/-- The cotangent of the rows scaled to length one at an entry. -/
theorem w_apply (c : Dev nD) (t : Fin cfg0.N) (ht : 8 ≤ t.val) (r : Fin 512) (k : Fin 1024) :
    k0_pay11 (scaleRow (iblk m c 5 t)) (total m c t) (iblk m c 6 t) (ix2 r k) = val_main_v92 (F := Ideal) (a1 m c) (a2 m c) (a3 m c) (a6 m c) (a7 m c) (ix2 (rowAt t r) k) := by
  have e := sc_apply m c t ht r
  pointwise [k0_pay11, e, iblk_g m c t, val_main_v92, val_main_v91, val_main_v63]

/-- The input's gradient at an entry. -/
theorem dx_apply (c : Dev nD) (hx : ∀ i, IsReal (a0 m c i)) (hw : ∀ i, IsReal (val_main_v92 (F := Ideal) (a1 m c) (a2 m c) (a3 m c) (a6 m c) (a7 m c) i))
    (t : Fin cfg0.N) (ht : 8 ≤ t.val) (r : Fin 512) (k : Fin 1024) :
    rowsAt m c t (ix2 r k) = val_main_v115 (F := Ideal) (a0 m c) (a1 m c) (a2 m c) (a3 m c) (a5 m c) (a6 m c) (a7 m c) (ix2 (rowAt t r) k) := by
  have e1 := w_apply m c t ht r
  have e2 := xh_apply m c t ht r
  have e3 := r_apply m c t ht r
  have ev : val_main_v56 (F := Ideal) (a0 m c) (ix2 (rowAt t r) 0)
      = Ideal.div (∑ k, a0 m c (ix2 (rowAt t r) k) * a0 m c (ix2 (rowAt t r) k)) (Ideal.ofBits .f32 0x44800000#32) + Ideal.ofBits .f32 0x358637BD#32 := by
    pointwise [val_main_v56, val_main_v55, val_main_v54, val_main_v53, val_main_v52, val_main_v51, val_main_v50, val_main_cst_7, val_main_cst_8, val_main_cst_9]
  have er : val_main_v57 (F := Ideal) (a0 m c) (ix2 (rowAt t r) 0) = Ideal.rsqrt (val_main_v56 (F := Ideal) (a0 m c) (ix2 (rowAt t r) 0)) := by
    pointwise [val_main_v57]
  pointwise [rowsAt, dxRows, k0_pay13, k0_pay12, e1, e2, e3, iblk_dxo m c t ht, val_main_v115, val_main_v107, val_main_v106, val_main_v105, val_main_v104, val_main_v103, val_main_v102, val_main_v101, val_main_v100, val_main_v99, val_main_v98, val_main_v97, val_main_v96, val_main_v95, val_main_v94, val_main_v62, val_main_v61, val_main_v60, val_main_v59, val_main_v58, val_main_cst_10, val_main_cst_18, val_main_cst_19, val_main_cst_20]
  simp only [Fin.sum_univ_one]
  refine congrArg₂ _ rfl ?_
  exact norm_law (fun k => a0 m c (ix2 (rowAt t r) k))
    (fun k => val_main_v92 (F := Ideal) (a1 m c) (a2 m c) (a3 m c) (a6 m c) (a7 m c) (ix2 (rowAt t r) k)) (fun _ => hx _) (fun k => hw _) _ _ ev er _ rfl k

/-- The rows' gradient. -/
theorem final_dx (c : Dev nD) (hx : ∀ i, IsReal (a0 m c i)) (hw : ∀ i, IsReal (val_main_v92 (F := Ideal) (a1 m c) (a2 m c) (a3 m c) (a6 m c) (a7 m c) i)) :
    (dats m 0 c).arrAt 8 (cfgs 0).N = val_main_v115 (F := Ideal) (a0 m c) (a1 m c) (a2 m c) (a3 m c) (a5 m c) (a6 m c) (a7 m c) := by
  refine (dats m 0 c).arrAt_eq_of_covers 8 _ (by decide +kernel) fun t hf y => ?_
  have ht : 8 ≤ t.val := (flush_rows t).1 hf
  blk_simp
  rw [after_8]
  rw [eq_ix2 y]
  refine (dx_apply m c hx hw t ht (y 0) (y 1)).trans ?_
  blk_ext [idx t, idx_rows t ht]

/-- A point's part of the sums, row by row: the gradients of shift, scale, gate and gain. -/
def part (c : Dev nD) (t : Fin cfg0.N) (x : Fin 8) (k : Fin 1024) : EReal :=
  if x.val = 0 then ∑ r : Fin 512, val_main_v78 (F := Ideal) (a3 m c) (a6 m c) (a7 m c) (ix2 (rowAt t r) k)
  else if x.val = 1 then ∑ r : Fin 512, val_main_v82 (F := Ideal) (a0 m c) (a2 m c) (a3 m c) (a6 m c) (a7 m c) (ix2 (rowAt t r) k)
  else if x.val = 2 then (∑ r : Fin 512, val_main_v40 (F := Ideal) (a0 m c) (a1 m c) (a2 m c) (a3 m c) (a4 m c) (a5 m c) (ix2 (rowAt t r) k)) * Ideal.ofBits .f32 0x3F000000#32
  else if x.val = 3 then ∑ r : Fin 512, val_main_v88 (F := Ideal) (a0 m c) (a1 m c) (a3 m c) (a6 m c) (a7 m c) (ix2 (rowAt t r) k)
  else 0

/-- Row 0 of the sums belongs to the shift. -/
theorem part_0 (c : Dev nD) (t : Fin cfg0.N) (k : Fin 1024) :
    part m c t 0 k = ∑ r : Fin 512, val_main_v78 (F := Ideal) (a3 m c) (a6 m c) (a7 m c) (ix2 (rowAt t r) k) := if_pos rfl
/-- Row 1 of the sums belongs to the scale. -/
theorem part_1 (c : Dev nD) (t : Fin cfg0.N) (k : Fin 1024) :
    part m c t 1 k = ∑ r : Fin 512, val_main_v82 (F := Ideal) (a0 m c) (a2 m c) (a3 m c) (a6 m c) (a7 m c) (ix2 (rowAt t r) k) :=
  (if_neg (by decide)).trans (if_pos rfl)
/-- Row 2 of the sums belongs to the gate. -/
theorem part_2 (c : Dev nD) (t : Fin cfg0.N) (k : Fin 1024) :
    part m c t 2 k = (∑ r : Fin 512, val_main_v40 (F := Ideal) (a0 m c) (a1 m c) (a2 m c) (a3 m c) (a4 m c) (a5 m c) (ix2 (rowAt t r) k)) * Ideal.ofBits .f32 0x3F000000#32 :=
  (if_neg (by decide)).trans ((if_neg (by decide)).trans (if_pos rfl))
/-- Row 3 of the sums belongs to the norm weight. -/
theorem part_3 (c : Dev nD) (t : Fin cfg0.N) (k : Fin 1024) :
    part m c t 3 k = ∑ r : Fin 512, val_main_v88 (F := Ideal) (a0 m c) (a1 m c) (a3 m c) (a6 m c) (a7 m c) (ix2 (rowAt t r) k) :=
  (if_neg (by decide)).trans ((if_neg (by decide)).trans ((if_neg (by decide)).trans (if_pos rfl)))

/-- What a point of the second half adds to the sums. -/
theorem step_apply (c : Dev nD) (t : Fin cfg0.N) (ht : 8 ≤ t.val) (s : Vec Ideal S8x1024 .f32) (x : Fin 8) (k : Fin 1024) :
    sumsStep m c t s (ix2 x k) = s (ix2 x k) + part m c t x k := by
  have ed := total_apply m c t ht
  have es := sc_apply m c t ht
  have eh := xh_apply m c t ht
  have e0 : ∀ v : Vec Ideal S1x1024 .f32, k0_pay14 (k0_pay8 (total m c t)) v (ix2 0 k) = v (ix2 0 k) + part m c t 0 k := fun v => by
    rw [part_0]
    pointwise [k0_pay14, k0_pay8, k0_pay6, ed]
  have e1 : ∀ v : Vec Ideal S1x1024 .f32, k0_pay15 (k0_pay7 (iblk m c 0 t) (iblk m c 6 t) (total m c t)) v (ix2 0 k) = v (ix2 0 k) + part m c t 1 k := fun v => by
    rw [part_1]
    pointwise [k0_pay15, k0_pay7, k0_pay6, ed, eh, iblk_g m c t, val_main_v82, val_main_v65, val_main_v64, val_main_v63]
    refine congrArg₂ _ rfl (Finset.sum_congr rfl fun r _ => ?_)
    exact @mul_comm EReal _ _ _
  have e2 : ∀ v : Vec Ideal S1x1024 .f32, k0_pay16 (iblk m c 1 t) v (iblk m c 2 t) (ix2 0 k) = v (ix2 0 k) + part m c t 2 k := fun v => by
    rw [part_2]
    pointwise [k0_pay16, iblk_dxo m c t ht, iblk_f m c t ht, val_main_v40, val_main_v39]
  have e3 : ∀ v : Vec Ideal S1x1024 .f32, k0_pay17 (k0_pay10 (scaleRow (iblk m c 5 t)) (iblk m c 0 t) (total m c t)) v (ix2 0 k) = v (ix2 0 k) + part m c t 3 k := fun v => by
    rw [part_3]
    pointwise [k0_pay17, k0_pay10, es, eh, val_main_v88]
    refine congrArg₂ _ rfl (Finset.sum_congr rfl fun r _ => ?_)
    exact @mul_comm EReal _ _ _
  rw [sumsStep, addSums, Cert.Rows.put_row, Cert.Rows.put_row, Cert.Rows.put_row, Cert.Rows.put_row]
  by_cases h3 : x.val = 3
  · obtain rfl : x = 3 := Fin.ext h3
    refine (if_pos rfl).trans ((e3 _).trans ?_)
    rw [Cert.Rows.ld_row _ _ (by omega)]
    rfl
  rw [if_neg h3]
  by_cases h2 : x.val = 2
  · obtain rfl : x = 2 := Fin.ext h2
    refine (if_pos rfl).trans ((e2 _).trans ?_)
    rw [Cert.Rows.ld_row _ _ (by omega)]
    rfl
  rw [if_neg h2]
  by_cases h1 : x.val = 1
  · obtain rfl : x = 1 := Fin.ext h1
    refine (if_pos rfl).trans ((e1 _).trans ?_)
    rw [Cert.Rows.ld_row _ _ (by omega)]
    rfl
  rw [if_neg h1]
  by_cases h0 : x.val = 0
  · obtain rfl : x = 0 := Fin.ext h0
    refine (if_pos rfl).trans ((e0 _).trans ?_)
    rw [Cert.Rows.ld_row _ _ (by omega)]
    rfl
  rw [if_neg h0, part, if_neg h0, if_neg h1, if_neg h2, if_neg h3, add_zero]

/-- The points of the second half, in order. -/
abbrev second (p : Fin 8) : Fin cfg0.N := ⟨8 + p.val, lt_of_lt_of_eq (by omega : 8 + p.val < 16) N_0.symm⟩

/-- Through the first half the sums are zero. -/
theorem sums_first (c : Dev nD) (x : Fin 8) (k : Fin 1024) : ∀ (n : ℕ) (h : n < cfg0.N), n < 8 → sumsAt m c n h (ix2 x k) = 0
  | 0, _, _ => by pointwise [sumsAt, k0_pay1]
  | n + 1, h, hn => by
    rw [sumsAt, if_pos hn]
    exact sums_first c x k n _ (by omega)

/-- After a point of the second half the sums are those of the points so far. -/
theorem sums_second (c : Dev nD) (x : Fin 8) (k : Fin 1024) : ∀ (n : ℕ) (hn : n < 8), sumsAt m c (8 + n) (second ⟨n, hn⟩).isLt (ix2 x k) = ∑ p : Fin (n + 1), part m c (second ⟨p.val, by omega⟩) x k
  | 0, hn => by
    show sumsAt m c (7 + 1) _ _ = _
    rw [sumsAt, if_neg (by omega), step_apply m c _ (by show 8 ≤ 7 + 1; omega), sums_first m c x k 7 _ (by omega), zero_add, Fin.sum_univ_one]
    rfl
  | n + 1, hn => by
    show sumsAt m c (8 + n + 1) _ _ = _
    rw [sumsAt, if_neg (by omega), step_apply m c _ (by show 8 ≤ 8 + n + 1; omega), Fin.sum_univ_castSucc]
    exact congrArg₂ _ (sums_second c x k n (by omega)) rfl

/-- Multiplying by the half commutes with sums. -/
theorem half_sum {n : ℕ} (f : Fin n → EReal) : (∑ p, f p * Ideal.ofBits .f32 0x3F000000#32) = Ideal.ofBits .f32 0x3F000000#32 * ∑ p, f p := by
  rw [word_half]
  induction n with
  | zero => simp
  | succ n ih =>
    rw [Fin.sum_univ_castSucc, Fin.sum_univ_castSucc, ih, EReal.left_distrib_of_nonneg_of_ne_top (by exact_mod_cast (by norm_num : (0 : ℝ) ≤ 1 / 2)) (EReal.coe_ne_top _), @mul_comm EReal _ (f (Fin.last n))]

/-- Sums over the second half's points and their rows are sums over all rows. -/
theorem all_rows (f : Fin 4096 → EReal) : (∑ p : Fin 8, ∑ r : Fin 512, f (rowAt (second p) r)) = ∑ i, f i :=
  Fin.sum_mul_add_congr (fun p r hl => congrArg f (Fin.ext (show (8 + p.val) % 8 * 512 + r.val = _ by simp only [] ; omega))) (by decide)

/-- The sums over rows: the gradients of shift, scale, gate and gain, zeros below. -/
theorem final_sm (c : Dev nD) :
    (dats m 0 c).arrAt 9 (cfgs 0).N = val_main_v114 (F := Ideal) (a0 m c) (a1 m c) (a2 m c) (a3 m c) (a4 m c) (a5 m c) (a6 m c) (a7 m c) := by
  refine (dats m 0 c).arrAt_eq_of_after_last 9 t0_15 (by decide +kernel) _ fun j => ?_
  blk_simp
  rw [after_9]
  obtain ⟨x, k, rfl⟩ : ∃ (x : Fin 8) (k : Fin 1024), j = ix2 x k := ⟨j 0, j 1, eq_ix2 j⟩
  refine (sums_second m c x k 7 (by omega)).trans ?_
  show (∑ p : Fin 8, part m c (second p) x k) = _
  by_cases h0 : x.val = 0
  · obtain rfl : x = 0 := Fin.ext h0
    refine (Finset.sum_congr rfl fun p _ => part_0 m c _ k).trans ((all_rows fun i => val_main_v78 (F := Ideal) (a3 m c) (a6 m c) (a7 m c) (ix2 i k)).trans ?_)
    pointwise [val_main_v114, val_main_v112, val_main_v108, val_main_v81, val_main_v80, val_main_v79, val_main_cst_12, val_main_cst_13]
    rw [Fin.sum_univ_one]
  by_cases h1 : x.val = 1
  · obtain rfl : x = 1 := Fin.ext h1
    refine (Finset.sum_congr rfl fun p _ => part_1 m c _ k).trans ((all_rows fun i => val_main_v82 (F := Ideal) (a0 m c) (a2 m c) (a3 m c) (a6 m c) (a7 m c) (ix2 i k)).trans ?_)
    pointwise [val_main_v114, val_main_v112, val_main_v109, val_main_v87, val_main_v84, val_main_v83, val_main_cst_14, val_main_cst_15]
    rw [Fin.sum_univ_one]
  by_cases h2 : x.val = 2
  · obtain rfl : x = 2 := Fin.ext h2
    refine (Finset.sum_congr rfl fun p _ => part_2 m c _ k).trans ((half_sum _).trans ((congrArg _ (all_rows fun i => val_main_v40 (F := Ideal) (a0 m c) (a1 m c) (a2 m c) (a3 m c) (a4 m c) (a5 m c) (ix2 i k))).trans ?_))
    pointwise [val_main_v114, val_main_v112, val_main_v110, val_main_v45, val_main_v44, val_main_v43, val_main_v42, val_main_v41, val_main_cst_4, val_main_cst_5, val_main_cst_6]
    rw [Fin.sum_univ_one]
  by_cases h3 : x.val = 3
  · obtain rfl : x = 3 := Fin.ext h3
    refine (Finset.sum_congr rfl fun p _ => part_3 m c _ k).trans ((all_rows fun i => val_main_v88 (F := Ideal) (a0 m c) (a1 m c) (a3 m c) (a6 m c) (a7 m c) (ix2 i k)).trans ?_)
    pointwise [val_main_v114, val_main_v112, val_main_v111, val_main_v93, val_main_v90, val_main_v89, val_main_cst_16, val_main_cst_17]
    rw [Fin.sum_univ_one]
  refine (Finset.sum_congr rfl fun p _ => (if_neg h0).trans ((if_neg h1).trans ((if_neg h2).trans (if_neg h3)))).trans ?_
  pointwise [val_main_v114, val_main_v113, val_main_cst_21]
  rw [Finset.sum_const_zero, dif_neg (by omega)]

end Cert.FfnXIdeal.Value

end
-- ==== Proof.FfnXClaim.lean ====
/- The claim about the second feed-forward block's gradient rows and its reference. -/
module

public import proofs.«01_k».proof.Defs
public import proofs.«01_k».proof.Proof.FfnXValue
public import proofs.«01_k».proof.Proof.Gen.FfnXRefIdeal.Run
public import proofs.«01_k».proof.Proof.Gen.Pre_ffn_x_finite

@[expose] public section

set_option maxRecDepth 16384

noncomputable section

namespace Cert.FfnXIdeal.Value

open Cert.FfnXIdeal Cert.FfnXIdeal.Gen Cert.FfnXIdeal.Hand Idealize.ShloMosaic Idealize.ShloMosaic.TcCoe Idealize.SL.Sem
open Cert.FfnXRefIdeal.Read Cert.Reals
open Idealize.ShloMosaic.Pipeline (Dat)

set_option maxHeartbeats 4000000

/-- The precondition says of six arguments that their entries are real numbers. -/
theorem finite_args [Cert.Pre_ffn_x_finite.Facts] (m : (ℓ : Loc nD τ sig) → Buf (Elt Ideal) ℓ) (h : Cert.Pre_FfnXIdeal_ffn_x_finite m) (c : Dev nD) :
    (∀ i, IsReal (a0 m c i)) ∧ (∀ i, IsReal (a1 m c i)) ∧ (∀ i, IsReal (a2 m c i)) ∧ (∀ i, IsReal (a3 m c i)) ∧ (∀ i, IsReal (a6 m c i)) ∧ (∀ i, IsReal (a7 m c i)) := by
  have h0 := congrFun (h c) ix0
  dsimp only [Cert.Pre_ffn_x_finite.fn, Cert.Pre_ffn_x_finite.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5⟩

/-- Over real arguments the cotangent of the rows scaled to length one is real. -/
theorem real_w (m : (ℓ : Loc nD τ sig) → Buf (Elt Ideal) ℓ) (c : Dev nD) (h1 : ∀ i, IsReal (a1 m c i)) (h2 : ∀ i, IsReal (a2 m c i)) (h3 : ∀ i, IsReal (a3 m c i)) (h6 : ∀ i, IsReal (a6 m c i)) (h7 : ∀ i, IsReal (a7 m c i)) (i) :
    IsReal (val_main_v92 (F := Ideal) (a1 m c) (a2 m c) (a3 m c) (a6 m c) (a7 m c) i) := by
  obtain ⟨t, k, rfl⟩ : ∃ (t : Fin 4096) (k : Fin 1024), i = ix2 t k := ⟨i 0, i 1, eq_ix2 i⟩
  have ed : IsReal (val_main_v78 (F := Ideal) (a3 m c) (a6 m c) (a7 m c) (ix2 t k)) := by
    rw [dh_apply]
    exact isReal_add (isReal_sum fun x => isReal_mul (h6 _) (h3 _)) (isReal_sum fun x => isReal_mul (h7 _) (h3 _))
  pointwise [val_main_v92, val_main_v91, val_main_v63, val_main_v86, val_main_v85, val_main_v68, val_main_v67, val_main_v66, val_main_v48, val_main_v49, val_main_cst_11]
  exact isReal_mul (isReal_mul ed (isReal_add ⟨1, EReal.coe_one.symm⟩ (h1 _))) (h2 _)

/-- The kernel's run: its two results are the arrays the grid leaves, its arguments unchanged. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37_0) = (dats m 0 c).arrAt 8 (cfgs 0).N
      ∧ r.2.mem ((c.tc : Thread nD τ).loc main_v37_1) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1 8, (h c).1 9,
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

/-- The kernel's run over real arguments: its results are the reference's terms. -/
theorem run_ffn_x [Cert.Pre_ffn_x_finite.Facts] (m : (ℓ : Loc nD τ sig) → Buf (Elt Ideal) ℓ) (h : Cert.Pre_FfnXIdeal_ffn_x_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37_0) = val_main_v115 (F := Ideal) (a0 m c) (a1 m c) (a2 m c) (a3 m c) (a5 m c) (a6 m c) (a7 m c)
      ∧ r.2.mem ((c.tc : Thread nD τ).loc main_v37_1) = val_main_v114 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => by
    obtain ⟨h0, h1, h2, h3, h6, h7⟩ := finite_args m h c
    exact ⟨(hr c).1.trans (final_dx m c h0 (real_w m c h1 h2 h3 h6 h7)), (hr c).2.1.trans (final_sm m c), (hr c).2.2⟩) (run_blocks m ρ)

/-- Over real arguments the two programs return the same arrays. -/
theorem algebraic_ffn_x [Cert.FfnXIdeal.Facts] [Cert.FfnXRefIdeal.Facts] [Cert.Pre_ffn_x_finite.Facts] : Cert.algebraic_FfnXIdeal_FfnXRefIdeal_pre_ffn_x_finite := by
  intro m g m' g' hpre hag
  refine ⟨fun c => val_main_v115 (F := Ideal) (a0 m c) (a1 m c) (a2 m c) (a3 m c) (a5 m c) (a6 m c) (a7 m c), fun c => val_main_v114 (F := Ideal) (a0 m c) (a1 m c) (a2 m c) (a3 m c) (a4 m c) (a5 m c) (a6 m c) (a7 m c), run_ffn_x m hpre g, ?_⟩
  refine (θ_run _ _ _).mono (fun r h c => ?_) (Cert.FfnXRefIdeal.Value.run m' g')
  obtain ⟨h0, h1, h2⟩ := h c
  obtain ⟨e0, e1, e2, e3, e4, e5, e6, e7⟩ := hag c
  replace e0 : m' ((c.tc : Thread Cert.FfnXRefIdeal.nD Cert.FfnXRefIdeal.τ).loc Cert.FfnXRefIdeal.main_arg0) = a0 m c := e0
  replace e1 : m' ((c.tc : Thread Cert.FfnXRefIdeal.nD Cert.FfnXRefIdeal.τ).loc Cert.FfnXRefIdeal.main_arg1) = a1 m c := e1
  replace e2 : m' ((c.tc : Thread Cert.FfnXRefIdeal.nD Cert.FfnXRefIdeal.τ).loc Cert.FfnXRefIdeal.main_arg2) = a2 m c := e2
  replace e3 : m' ((c.tc : Thread Cert.FfnXRefIdeal.nD Cert.FfnXRefIdeal.τ).loc Cert.FfnXRefIdeal.main_arg3) = a3 m c := e3
  replace e4 : m' ((c.tc : Thread Cert.FfnXRefIdeal.nD Cert.FfnXRefIdeal.τ).loc Cert.FfnXRefIdeal.main_arg4) = a4 m c := e4
  replace e5 : m' ((c.tc : Thread Cert.FfnXRefIdeal.nD Cert.FfnXRefIdeal.τ).loc Cert.FfnXRefIdeal.main_arg5) = a5 m c := e5
  replace e6 : m' ((c.tc : Thread Cert.FfnXRefIdeal.nD Cert.FfnXRefIdeal.τ).loc Cert.FfnXRefIdeal.main_arg6) = a6 m c := e6
  replace e7 : m' ((c.tc : Thread Cert.FfnXRefIdeal.nD Cert.FfnXRefIdeal.τ).loc Cert.FfnXRefIdeal.main_arg7) = a7 m c := e7
  replace h0 := h0.trans (val_main_v115_eq m' c)
  rw [e0, e1, e2, e3, e5, e6, e7] at h0
  replace h1 := h1.trans (val_main_v114_eq m' c)
  rw [e0, e1, e2, e3, e4, e5, e6, e7] at h1
  exact ⟨h0, h1, h2⟩

end Cert.FfnXIdeal.Value

end
-- ==== Proof.GateValue.lean ====
/- The value facts of the gated merge's backward kernel at exact arithmetic. -/
module

public import proofs.«01_k».proof.Proof.Gen.GateIdeal.Value
public import proofs.«01_k».proof.Proof.Gen.GateRefIdeal.Read
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![3, t.val, 0] ∧ win0_7.index t = ![0, 0]
    ∧ win0_8.index t = ![0, 0] ∧ win0_9.index t = ![0, 0] ∧ win0_10.index t = ![0, 0]
    ∧ win0_11.index t = ![3, t.val, 0] ∧ win0_12.index t = ![t.val, 0] ∧ win0_13.index t = ![t.val, 0]
    ∧ win0_14.index t = ![0, 0] ∧ win0_15.index t = ![0, 0] ∧ win0_16.index t = ![0, 0]
    ∧ win0_17.index t = ![0, 0] :=
  (by decide +kernel : ∀ t : Fin grid0.N, _)

/-- Argument `main_arg0` on device `c`: the eight input planes side by side. -/
abbrev a0 (c : Dev nD) : FVec Ideal S4096x8192 .f32 := m ((c : Thread nD τ).loc main_arg0)
/-- Argument `main_arg1`: the first branch's output. -/
abbrev a1 (c : Dev nD) : FVec Ideal S4096x1024 .f32 := m ((c : Thread nD τ).loc main_arg1)
/-- Argument `main_arg2`: the second branch's output. -/
abbrev a2 (c : Dev nD) : FVec Ideal S4096x1024 .f32 := m ((c : Thread nD τ).loc main_arg2)
/-- Argument `main_arg3`: the modulation rows. -/
abbrev a3 (c : Dev nD) : FVec Ideal S9x1024 .f32 := m ((c : Thread nD τ).loc main_arg3)
/-- Argument `main_arg4`: the first branch's weights. -/
abbrev a4 (c : Dev nD) : FVec Ideal S1024x1024 .f32 := m ((c : Thread nD τ).loc main_arg4)
/-- Argument `main_arg5`: the second branch's weights. -/
abbrev a5 (c : Dev nD) : FVec Ideal S1024x1024 .f32 := m ((c : Thread nD τ).loc main_arg5)
/-- Argument `main_arg6`: the output weights. -/
abbrev a6 (c : Dev nD) : FVec Ideal S1024x1024 .f32 := m ((c : Thread nD τ).loc main_arg6)
/-- Argument `main_arg7`: the cotangent. -/
abbrev a7 (c : Dev nD) : FVec Ideal S4096x1024 .f32 := m ((c : Thread nD τ).loc main_arg7)

/-- Row `k` of grid point `p`'s block is a row of the whole array. -/
theorem row_lt (p : Fin cfg0.N) (k : Fin 256) : p.val * 256 + k.val < 4096 := by
  have := lt_of_lt_of_eq p.isLt N_0; omega

open Cert.GateRefIdeal.Read
open Cert.Reals (zero_sub')

/-- The gradient of the first branch's output. -/
theorem final12 (c : Dev nD) : (dats m 0 c).arrAt 12 (cfgs 0).N = val_main_v51 (F := Ideal) (a0 m c) (a3 m c) (a4 m c) (a6 m c) (a7 m c) := by
  refine (dats m 0 c).arrAt_eq_of_covers 12 _ (by decide +kernel) fun t _ y => ?_
  blk_simp
  rw [after0_12]
  by_cases h : t.val % 16 = 0
  on_goal 1 => rw [outsAt0_A m c t h]
  on_goal 2 => rw [outsAt0_B m c t h]
  all_goals
    frame_out
    pointwise [k0_pay1, k0_pay2, k0_pay3, k0_pay4, k0_pay5, k0_pay6, k0_pay7, k0_pay12, k0_pay13, k0_pay14, k0_pay15, k0_pay16, k0_pay17, k0_pay18, k0_pay19, k0_pay20, k0_pay21, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
    blk_point [iblk, V, idx t]

/-- The gradient of the second branch's output. -/
theorem final13 (c : Dev nD) : (dats m 0 c).arrAt 13 (cfgs 0).N = val_main_v48 (F := Ideal) (a0 m c) (a3 m c) (a5 m c) (a6 m c) (a7 m c) := by
  refine (dats m 0 c).arrAt_eq_of_covers 13 _ (by decide +kernel) fun t _ y => ?_
  blk_simp
  rw [after0_13]
  by_cases h : t.val % 16 = 0
  on_goal 1 => rw [outsAt0_A m c t h]
  on_goal 2 => rw [outsAt0_B m c t h]
  all_goals
    frame_out
    pointwise [k0_pay1, k0_pay2, k0_pay3, k0_pay4, k0_pay5, k0_pay6, k0_pay7, k0_pay12, k0_pay13, k0_pay14, k0_pay15, k0_pay16, k0_pay17, k0_pay18, k0_pay19, k0_pay20, k0_pay21, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
    blk_point [iblk, V, idx t]

end Cert.GateIdeal.Value

end
-- ==== Proof.GateAcc.lean ====
/- The value facts of the gated merge's backward kernel at exact arithmetic. -/
module

public import proofs.«01_k».proof.Proof.GateValue
public import proofs.«01_k».proof.Proof.Gen.GateRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

open Cert.GateRefIdeal.Read
open Cert.Reals (zero_sub')

/-- The gradient of the first branch's weights. -/
theorem final14 (c : Dev nD) : (dats m 0 c).arrAt 14 (cfgs 0).N = val_main_v50 (F := Ideal) (a0 m c) (a1 m c) (a3 m c) (a6 m c) (a7 m c) := by
  refine (dats m 0 c).arrAt_eq_of_after_last 14 t0_15 (by decide +kernel) _ fun j => ?_
  blk_simp
  rw [after0_14, Pipeline.eq_sum_fin_of_reset_step_apply_last (fun n h => (outsAt0 m c n h).2.2.2.1) 16 (fun _ => 0)
    (fun p j => ∑ k : Fin 256, a1 m c (ix2 ⟨p.val * 256 + k.val, row_lt p k⟩ (j 0)) * (val_main_v43 (F := Ideal) (a0 m c) (a3 m c) (a6 m c) (a7 m c)) (ix2 ⟨p.val * 256 + k.val, row_lt p k⟩ (j 1)))
    (fun t h j => by
      rw [outsAt0_A m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, k0_pay8, k0_pay9, k0_pay10, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (fun t h j => by
      rw [outsAt0_B m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (le_of_eq N_0) t0_15 rfl j, zero_add]
  pointwise [val_main_v50, val_main_v49, val_main_v47, val_main_v46, val_main_v38, val_main_v37]
  refine Fin.sum_mul_add_congr fun s k hl => ?_
  exact @mul_comm EReal _ _ _

/-- The gradient of the second branch's weights. -/
theorem final15 (c : Dev nD) : (dats m 0 c).arrAt 15 (cfgs 0).N = val_main_v47 (F := Ideal) (a0 m c) (a2 m c) (a3 m c) (a6 m c) (a7 m c) := by
  refine (dats m 0 c).arrAt_eq_of_after_last 15 t0_15 (by decide +kernel) _ fun j => ?_
  blk_simp
  rw [after0_15, Pipeline.eq_sum_fin_of_reset_step_apply_last (fun n h => (outsAt0 m c n h).2.2.2.2.1) 16 (fun _ => 0)
    (fun p j => ∑ k : Fin 256, a2 m c (ix2 ⟨p.val * 256 + k.val, row_lt p k⟩ (j 0)) * (val_main_v40 (F := Ideal) (a0 m c) (a3 m c) (a6 m c) (a7 m c)) (ix2 ⟨p.val * 256 + k.val, row_lt p k⟩ (j 1)))
    (fun t h j => by
      rw [outsAt0_A m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, k0_pay8, k0_pay9, k0_pay10, k0_pay11, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (fun t h j => by
      rw [outsAt0_B m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, zero_sub', val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (le_of_eq N_0) t0_15 rfl j, zero_add]
  pointwise [val_main_v47, val_main_v46]
  refine Fin.sum_mul_add_congr fun s k hl => ?_
  exact @mul_comm EReal _ _ _

end Cert.GateIdeal.Value

end
-- ==== Proof.GateAcc2.lean ====
/- The value facts of the gated merge's backward kernel at exact arithmetic. -/
module

public import proofs.«01_k».proof.Proof.GateValue
public import proofs.«01_k».proof.Proof.Gen.GateRefIdeal.Read
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

open Cert.GateRefIdeal.Read
open Cert.Reals (zero_sub')

/-- A block of the first branch's projection is the rows of the grid point. -/
theorem iblk_pa (c : Dev nD) (t : Fin cfg0.N) (r : Fin 256) (x : Fin 1024) :
    iblk m c 3 t (ix2 r x) = ∑ k, a1 m c (ix2 ⟨t.val * 256 + r.val, row_lt t r⟩ k) * a4 m c (ix2 k x) := by
  have h : ∀ i : S4096x1024.Idx, V m c main_v26 i = ∑ k, a1 m c (ix2 (i 0) k) * a4 m c (ix2 k (i 1)) := fun i => by
    entry_read
    pointwise []
  exact Eq.trans (by blk_ext [iblk, idx t]) (h (ix2 ⟨t.val * 256 + r.val, row_lt t r⟩ x))

/-- A block of the second branch's projection is the rows of the grid point. -/
theorem iblk_pb (c : Dev nD) (t : Fin cfg0.N) (r : Fin 256) (x : Fin 1024) :
    iblk m c 4 t (ix2 r x) = ∑ k, a2 m c (ix2 ⟨t.val * 256 + r.val, row_lt t r⟩ k) * a5 m c (ix2 k x) := by
  have h : ∀ i : S4096x1024.Idx, V m c main_v27 i = ∑ k, a2 m c (ix2 (i 0) k) * a5 m c (ix2 k (i 1)) := fun i => by
    entry_read
    pointwise []
  exact Eq.trans (by blk_ext [iblk, idx t]) (h (ix2 ⟨t.val * 256 + r.val, row_lt t r⟩ x))

/-- The gradient of the output weights. -/
theorem final16 (c : Dev nD) : (dats m 0 c).arrAt 16 (cfgs 0).N = val_main_v38 (F := Ideal) (a0 m c) (a1 m c) (a2 m c) (a3 m c) (a4 m c) (a5 m c) (a7 m c) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.1) 16 (fun _ => 0)
    (fun p j => ∑ k : Fin 256, (val_main_v26 (F := Ideal) (a0 m c) (a1 m c) (a2 m c) (a4 m c) (a5 m c)) (ix2 ⟨p.val * 256 + k.val, row_lt p k⟩ (j 0)) * (val_main_v32 (F := Ideal) (a3 m c) (a7 m c)) (ix2 ⟨p.val * 256 + k.val, row_lt p k⟩ (j 1)))
    (fun t h j => by
      rw [outsAt0_A m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, k0_pay8, k0_pay9, k0_pay10, k0_pay11, zero_sub', iblk_pa, iblk_pb, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (fun t h j => by
      rw [outsAt0_B m c t h]; frame_out
      pointwise [k0_pay1, k0_pay2, k0_pay3, k0_pay4, k0_pay5, k0_pay6, k0_pay7, k0_pay12, k0_pay13, k0_pay14, k0_pay15, k0_pay16, k0_pay17, k0_pay18, k0_pay19, k0_pay20, k0_pay21, zero_sub', iblk_pa, iblk_pb, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]
      blk_point [iblk, V, idx t])
    (le_of_eq N_0) t0_15 rfl j, zero_add]
  pointwise [val_main_v38, val_main_v37]
  refine Fin.sum_mul_add_congr fun s k hl => ?_
  exact @mul_comm EReal _ _ _

/-- The merged branches after the output weights, as the region finds them. -/
theorem entry_mout (c : Dev nD) (i : S4096x1024.Idx) : V m c main_v23 i
    = val_main_v27 (F := Ideal) (a0 m c) (a1 m c) (a2 m c) (a4 m c) (a5 m c) (a6 m c) i := by
  entry_read
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9]

/-- A block of them is the rows of the grid point. -/
theorem iblk_mout (c : Dev nD) (t : Fin cfg0.N) (r : Fin 256) (x : Fin 1024) :
    iblk m c 5 t (ix2 r x) = val_main_v27 (F := Ideal) (a0 m c) (a1 m c) (a2 m c) (a4 m c) (a5 m c) (a6 m c) (ix2 ⟨t.val * 256 + r.val, row_lt t r⟩ x) := by
  rw [← entry_mout]
  blk_ext [iblk, idx t]

/-- The gradient of the gate row of the modulation, in row 2; the other rows are zero. -/
theorem final17 (c : Dev nD) : (dats m 0 c).arrAt 17 (cfgs 0).N = val_main_v60 (F := Ideal) (a0 m c) (a1 m c) (a2 m c) (a4 m c) (a5 m c) (a6 m c) (a7 m c) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2) 16 (fun _ => 0)
    (fun p j => if (j 0).val = 2 then ∑ k : Fin 256, a7 m c (ix2 ⟨p.val * 256 + k.val, row_lt p k⟩ (j 1)) * val_main_v27 (F := Ideal) (a0 m c) (a1 m c) (a2 m c) (a4 m c) (a5 m c) (a6 m c) (ix2 ⟨p.val * 256 + k.val, row_lt p k⟩ (j 1)) else 0)
    (fun t h j => by
      rw [outsAt0_A m c t h]; frame_out; rw [Cert.Rows.canon_row, View.canon_cons_unit_lit' _ _ _ (by decide), View.readCov_eq_canon', View.canon_cons_unit_lit' _ _ _ (by decide)]
      by_cases h2 : (j 0).val = 2
      · simp only [if_pos h2]
        pointwise [k0_pay12, k0_pay11, iblk_mout]
        blk_point [iblk, V, idx t, h2]
      · simp only [if_neg h2, add_zero]
        pointwise [k0_pay11])
    (fun t h j => by
      rw [outsAt0_B m c t h]; frame_out; rw [Cert.Rows.read_row, View.writes_nil, (hs0_17 t).read_unread]
      by_cases h2 : (j 0).val = 2
      · simp only [if_pos h2]
        pointwise [k0_pay12, k0_pay11, iblk_mout]
        blk_point [iblk, V, idx t, h2]
      · simp only [if_neg h2, add_zero])
    (le_of_eq N_0) t0_15 rfl j, zero_add]
  pointwise [val_main_v60, val_main_v59, val_main_v58, val_main_v57, val_main_v36, val_main_v35, val_main_v34, val_main_v33, val_main_cst_5, val_main_cst_6, val_main_cst_8, val_main_cst_9]
  by_cases h2 : (j 0).val = 2
  · simp only [if_pos h2]
    rw [dif_neg (by omega), dif_pos (by omega)]
    simp only [Finset.univ_unique, Finset.sum_singleton]
    exact Fin.sum_mul_add_congr fun s k hl => rfl
  · simp only [if_neg h2, Finset.sum_const_zero]
    by_cases h3 : (j 0).val < 2
    · rw [dif_pos h3]
    · rw [dif_neg h3, dif_neg (by omega)]

end Cert.GateIdeal.Value

end
-- ==== Proof.GateTiles.lean ====
/- The value facts of the gated merge's backward kernel at exact arithmetic. -/
module

public import proofs.«01_k».proof.Proof.GateValue
public import proofs.«01_k».proof.Proof.GateAcc2
public import proofs.«01_k».proof.Proof.Gen.GateRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

open Cert.GateRefIdeal.Read
open Cert.Reals (zero_sub')

set_option maxHeartbeats 2000000

/-- The gradients of the two gate planes, in planes six and seven; the other planes keep what they held. -/
theorem final11 (c : Dev nD) : (dats m 0 c).arrAt 11 (cfgs 0).N
    = fun i => if 6 ≤ (i 0 : ℕ) then val_main_v56 (F := Ideal) (a0 m c) (a1 m c) (a2 m c) (a3 m c) (a4 m c) (a5 m c) (a6 m c) (a7 m c) i
        else V m c main_v31_0 i := by
  refine (dats m 0 c).arrAt_eq_of_coversWhere 11 _ (fun β => 3 ≤ β (0 : Fin 3)) (by decide +kernel) (fun t hf y => ?_)
    (fun j => by blk_simp [Pipeline.Window.cell_apply]; omega)
  blk_simp
  rw [after0_11]
  by_cases hc : t.val % 16 = 0
  on_goal 1 => rw [outsAt0_A m c t hc]
  on_goal 2 => rw [outsAt0_B m c t hc]
  all_goals
    frame_out
    canon_tiles x h
    all_goals
      open_payloads
      blk_simp [idx t]
      pointwise [zero_sub', iblk_pa, iblk_pb, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_cst_5, val_main_v34, val_main_v35, val_main_cst_6, val_main_v36, val_main_v37, val_main_v38, val_main_v39, val_main_v40, val_main_v41, val_main_v42, val_main_v43, val_main_v44, val_main_v45, val_main_v46, val_main_v47, val_main_v48, val_main_v49, val_main_v50, val_main_v51, val_main_cst_7, val_main_cst_8, val_main_cst_9, val_main_cst_7, val_main_v52, val_main_v53, val_main_v54, val_main_v55, val_main_v56]
      have e0 : ((((View.whole main_v31_0).slice (win0_11.rect t)).emb y) 0 : ℕ) = 6 + (y 0 : ℕ) := by
        blk_simp [Pipeline.Window.cell_apply, idx t]
      rw [dif_neg (by omega)]
      try rw [dif_neg (by omega)]
      try rw [dif_pos (by omega)]
      refine Eq.trans (@mul_assoc EReal _ _ _ _) ?_
      blk_point [iblk, V, idx t]

end Cert.GateIdeal.Value

end
-- ==== Proof.GateClaim.lean ====
/- The claim about the gated merge's backward kernel and its reference. -/
module

public import proofs.«01_k».proof.Defs
public import proofs.«01_k».proof.Proof.GateValue
public import proofs.«01_k».proof.Proof.GateAcc
public import proofs.«01_k».proof.Proof.GateAcc2
public import proofs.«01_k».proof.Proof.GateTiles
public import proofs.«01_k».proof.Proof.Gen.GateRefIdeal.Run
public import proofs.«01_k».proof.Proof.Gen.On_gate_planes

@[expose] public section

set_option maxRecDepth 16384

noncomputable section

namespace Cert.GateIdeal.Value

open Cert.GateIdeal Cert.GateIdeal.Gen Idealize.ShloMosaic Idealize.ShloMosaic.TcCoe Idealize.SL.Sem
open Cert.GateRefIdeal.Read

set_option maxHeartbeats 4000000

/-- The kernel's run: the two gate planes, and every other result whole, are the reference's terms over the arguments. -/
theorem run_gate (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31_0) = (fun i => if 6 ≤ (i 0 : ℕ) then val_main_v56 (F := Ideal) (a0 m c) (a1 m c) (a2 m c) (a3 m c) (a4 m c) (a5 m c) (a6 m c) (a7 m c) i else V m c main_v31_0 i)
      ∧ r.2.mem ((c.tc : Thread nD τ).loc main_v31_1) = val_main_v51 (F := Ideal) (a0 m c) (a3 m c) (a4 m c) (a6 m c) (a7 m c)
      ∧ r.2.mem ((c.tc : Thread nD τ).loc main_v31_2) = val_main_v48 (F := Ideal) (a0 m c) (a3 m c) (a5 m c) (a6 m c) (a7 m c)
      ∧ r.2.mem ((c.tc : Thread nD τ).loc main_v31_3) = val_main_v50 (F := Ideal) (a0 m c) (a1 m c) (a3 m c) (a6 m c) (a7 m c)
      ∧ r.2.mem ((c.tc : Thread nD τ).loc main_v31_4) = val_main_v47 (F := Ideal) (a0 m c) (a2 m c) (a3 m c) (a6 m c) (a7 m c)
      ∧ r.2.mem ((c.tc : Thread nD τ).loc main_v31_5) = val_main_v38 (F := Ideal) (a0 m c) (a1 m c) (a2 m c) (a3 m c) (a4 m c) (a5 m c) (a7 m c)
      ∧ r.2.mem ((c.tc : Thread nD τ).loc main_v31_6) = val_main_v60 (F := Ideal) (a0 m c) (a1 m c) (a2 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  run_from run_main m ρ
  · exact final11 m c
  · exact final12 m c
  · exact final13 m c
  · exact final14 m c
  · exact final15 m c
  · exact (hc.1 16).trans (final16 m c)
  · exact (hc.1 17).trans (final17 m c)

/-- The mask of the planes is true only on planes six and seven. -/
theorem mask_planes [Cert.On_gate_planes.Facts] (x0 : FVec Ideal Cert.On_gate_planes.S4096x8192 .f32) (x1 x2 : FVec Ideal Cert.On_gate_planes.S4096x1024 .f32)
    (x3 : FVec Ideal Cert.On_gate_planes.S9x1024 .f32) (x4 x5 x6 : FVec Ideal Cert.On_gate_planes.S1024x1024 .f32) (x7 : FVec Ideal Cert.On_gate_planes.S4096x1024 .f32)
    (i : (⟨3, ![8, 4096, 1024]⟩ : Shape).Idx) (h : (Cert.On_gate_planes.fn (F := Ideal) x0 x1 x2 x3 x4 x5 x6 x7).1 i = 1#1) : 6 ≤ (i 0 : ℕ) := by
  have key : ∀ k : Fin 8, (BitVec.ofBool ((6#32).sle (BitVec.ofNat 32 k.val))) = 1#1 → 6 ≤ k.val := by decide
  exact key (i 0) h

/-- The two programs agree: on the two gate planes, and on every other result everywhere. -/
theorem algebraic_gate [Cert.GateIdeal.Facts] [Cert.GateRefIdeal.Facts] [Cert.On_gate_planes.Facts] : Cert.algebraic_GateIdeal_GateRefIdeal_on_gate_planes := by
  intro m g m' g' _ hag
  refine ⟨fun c => val_main_v56 (F := Ideal) (a0 m c) (a1 m c) (a2 m c) (a3 m c) (a4 m c) (a5 m c) (a6 m c) (a7 m c), fun c => val_main_v51 (F := Ideal) (a0 m c) (a3 m c) (a4 m c) (a6 m c) (a7 m c), fun c => val_main_v48 (F := Ideal) (a0 m c) (a3 m c) (a5 m c) (a6 m c) (a7 m c), fun c => val_main_v50 (F := Ideal) (a0 m c) (a1 m c) (a3 m c) (a6 m c) (a7 m c), fun c => val_main_v47 (F := Ideal) (a0 m c) (a2 m c) (a3 m c) (a6 m c) (a7 m c), fun c => val_main_v38 (F := Ideal) (a0 m c) (a1 m c) (a2 m c) (a3 m c) (a4 m c) (a5 m c) (a7 m c), fun c => val_main_v60 (F := Ideal) (a0 m c) (a1 m c) (a2 m c) (a4 m c) (a5 m c) (a6 m c) (a7 m c), ?_, ?_⟩
  · refine (θ_run _ _ _).mono (fun r h c => ?_) (run_gate m g)
    obtain ⟨h0, h1, h2, h3, h4, h5, h6, h7⟩ := h c
    refine ⟨fun i hi => ?_, fun i _ => congrFun h1 i, fun i _ => congrFun h2 i, fun i _ => congrFun h3 i, fun i _ => congrFun h4 i, fun i _ => congrFun h5 i, fun i _ => congrFun h6 i, h7⟩
    exact (congrFun h0 i).trans (if_pos (mask_planes _ _ _ _ _ _ _ _ i hi))
  · refine (θ_run _ _ _).mono (fun r h c => ?_) (Cert.GateRefIdeal.Value.run m' g')
    obtain ⟨h0, h1, h2, h3, h4, h5, h6, h7⟩ := h c
    obtain ⟨e0, e1, e2, e3, e4, e5, e6, e7⟩ := hag c
    rw [val_main_v56_eq, e0, e1, e2, e3, e4, e5, e6, e7] at h0
    rw [val_main_v51_eq, e0, e3, e4, e6, e7] at h1
    rw [val_main_v48_eq, e0, e3, e5, e6, e7] at h2
    rw [val_main_v50_eq, e0, e1, e3, e6, e7] at h3
    rw [val_main_v47_eq, e0, e2, e3, e6, e7] at h4
    rw [val_main_v38_eq, e0, e1, e2, e3, e4, e5, e7] at h5
    rw [val_main_v60_eq, e0, e1, e2, e4, e5, e6, e7] at h6
    exact ⟨fun i _ => congrFun h0 i, fun i _ => congrFun h1 i, fun i _ => congrFun h2 i, fun i _ => congrFun h3 i, fun i _ => congrFun h4 i, fun i _ => congrFun h5 i, fun i _ => congrFun h6 i, h7⟩

end Cert.GateIdeal.Value

end
-- ==== Proof.HeadValue.lean ====
/- The value facts of the second feed-forward block's call, with the final norm and the loss, at exact arithmetic. -/
module

public import proofs.«01_k».proof.Proof.Gen.HeadIdeal.Value
public import proofs.«01_k».proof.Proof.Gen.HeadRefIdeal.Read
public import proofs.«01_k».proof.Proof.Rows
public import proofs.«01_k».proof.Proof.Norms
public import Idealize.ShloMosaic.Lib.Pipeline.ValueKit
public import Idealize.ShloMosaic.Lib.Pointwise
public import Idealize.ShloMosaic.Lib.Claim

@[expose] public section

set_option maxRecDepth 16384

noncomputable section

namespace Cert.HeadIdeal.Value

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0, 0]
    ∧ win0_4.index t = ![0, 0]
    ∧ win0_5.index t = ![t.val, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

/-- Argument `main_arg0` on device `c`: the block's input rows. -/
abbrev a0 (c : Dev nD) : FVec Ideal S4096x1024 .f32 := m ((c : Thread nD τ).loc main_arg0)
/-- Argument `main_arg1`: shifts, scales and gates. -/
abbrev a1 (c : Dev nD) : FVec Ideal S9x1024 .f32 := m ((c : Thread nD τ).loc main_arg1)
/-- Argument `main_arg2`: the gain of the block's norm. -/
abbrev a2 (c : Dev nD) : FVec Ideal S1024 .f32 := m ((c : Thread nD τ).loc main_arg2)
/-- Argument `main_arg3`: the weights of the two inner products. -/
abbrev a3 (c : Dev nD) : FVec Ideal S1024x5632 .f32 := m ((c : Thread nD τ).loc main_arg3)
/-- Argument `main_arg4`: the output weights. -/
abbrev a4 (c : Dev nD) : FVec Ideal S2816x1024 .f32 := m ((c : Thread nD τ).loc main_arg4)
/-- Argument `main_arg5`: the target. -/
abbrev a5 (c : Dev nD) : FVec Ideal S4096x1024 .f32 := m ((c : Thread nD τ).loc main_arg5)
/-- Argument `main_arg6`: the gain of the final norm. -/
abbrev a6 (c : Dev nD) : FVec Ideal S1024 .f32 := m ((c : Thread nD τ).loc main_arg6)

open Cert.HeadRefIdeal.Read Cert.Reals

/-- Row `r` of grid point `t`'s block is a row of the whole array. -/
abbrev rowAt (t : Fin cfg0.N) (r : Fin 512) : Fin 4096 :=
  ⟨t.val * 512 + r.val, by have := lt_of_lt_of_eq t.isLt N_0; omega⟩

/-- The shift's row of a grid point's block. -/
abbrev M6 (c : Dev nD) (t : Fin cfg0.N) : Vec Ideal S1x1024 .f32 := View.ld (iblk m c 1 t) (Rect.unit ![6, 0] ![1, 1024] inb_S9x1024_S1x1024_6_0)
/-- The scale's row of a grid point's block. -/
abbrev M7 (c : Dev nD) (t : Fin cfg0.N) : Vec Ideal S1x1024 .f32 := View.ld (iblk m c 1 t) (Rect.unit ![7, 0] ![1, 1024] inb_S9x1024_S1x1024_7_0)
/-- The gate's row of a grid point's block. -/
abbrev M8 (c : Dev nD) (t : Fin cfg0.N) : Vec Ideal S1x1024 .f32 := View.ld (iblk m c 1 t) (Rect.unit ![8, 0] ![1, 1024] inb_S9x1024_S1x1024_8_0)
/-- The first half of the first inner product's weights. -/
abbrev Wa0 (c : Dev nD) (t : Fin cfg0.N) : Vec Ideal S1x1408x1024 .bf16 := View.ld (iblk m c 3 t) (Rect.unit ![0, 0, 0] ![1, 1408, 1024] inb_S2x2816x1024_S1x1408x1024_0_0_0)
/-- The second half of the first inner product's weights. -/
abbrev Wa1 (c : Dev nD) (t : Fin cfg0.N) : Vec Ideal S1x1408x1024 .bf16 := View.ld (iblk m c 3 t) (Rect.unit ![0, 1408, 0] ![1, 1408, 1024] inb_S2x2816x1024_S1x1408x1024_0_1408_0)
/-- The first half of the second inner product's weights. -/
abbrev Wb0 (c : Dev nD) (t : Fin cfg0.N) : Vec Ideal S1x1408x1024 .bf16 := View.ld (iblk m c 3 t) (Rect.unit ![1, 0, 0] ![1, 1408, 1024] inb_S2x2816x1024_S1x1408x1024_1_0_0)
/-- The second half of the second inner product's weights. -/
abbrev Wb1 (c : Dev nD) (t : Fin cfg0.N) : Vec Ideal S1x1408x1024 .bf16 := View.ld (iblk m c 3 t) (Rect.unit ![1, 1408, 0] ![1, 1408, 1024] inb_S2x2816x1024_S1x1408x1024_1_1408_0)
/-- The first half of the output weights. -/
abbrev Wo0 (c : Dev nD) (t : Fin cfg0.N) : Vec Ideal S1408x1024 .bf16 := View.ld (iblk m c 4 t) (Rect.unit ![0, 0] ![1408, 1024] inb_S2816x1024_S1408x1024_0_0)
/-- The second half of the output weights. -/
abbrev Wo1 (c : Dev nD) (t : Fin cfg0.N) : Vec Ideal S1408x1024 .bf16 := View.ld (iblk m c 4 t) (Rect.unit ![1408, 0] ![1408, 1024] inb_S2816x1024_S1408x1024_1408_0)
/-- The normalised rows of a grid point. -/
abbrev H (c : Dev nD) (t : Fin cfg0.N) : FVec Ideal S512x1024 .bf16 := k0_pay2 (iblk m c 0 t) (iblk m c 2 t) (M6 m c t) (M7 m c t)
/-- The first half of the block's output product. -/
abbrev F0 (c : Dev nD) (t : Fin cfg0.N) : FVec Ideal S512x1024 .f32 :=
  k0_pay7 (k0_pay3 (iblk m c 0 t) (iblk m c 2 t) (M6 m c t) (M7 m c t) (Wa0 m c t)) (k0_pay4 (iblk m c 0 t) (iblk m c 2 t) (M6 m c t) (M7 m c t) (Wb0 m c t)) (Wo0 m c t)
/-- The second half's gated activation. -/
abbrev G1 (c : Dev nD) (t : Fin cfg0.N) : FVec Ideal S512x1408 .f32 := k0_pay12 (H m c t) (Wa1 m c t) (Wb1 m c t)

/-- The input rows of a grid point at an entry. -/
theorem iblk_x (c : Dev nD) (t : Fin cfg0.N) (r : Fin 512) (k : Fin 1024) : iblk m c 0 t (ix2 r k) = a0 m c (ix2 (rowAt t r) k) := by
  blk_ext [iblk, V, idx t]

/-- The target rows of a grid point at an entry. -/
theorem iblk_t (c : Dev nD) (t : Fin cfg0.N) (r : Fin 512) (k : Fin 1024) : iblk m c 5 t (ix2 r k) = a5 m c (ix2 (rowAt t r) k) := by
  blk_ext [iblk, V, idx t]

/-- The norm's gain at an entry. -/
theorem iblk_g (c : Dev nD) (t : Fin cfg0.N) (k : Fin 1024) : iblk m c 2 t (ix2 0 k) = a2 m c (ix1 k) := by
  have h : ∀ i : S1x1024.Idx, V m c main_v4 i = a2 m c (ix1 (i 1)) := fun i => by
    entry_read
    pointwise []
  exact Eq.trans (by blk_ext [iblk, idx t]) (h (ix2 0 k))

/-- The final norm's gain at an entry. -/
theorem iblk_gf (c : Dev nD) (t : Fin cfg0.N) (k : Fin 1024) : iblk m c 6 t (ix2 0 k) = a6 m c (ix1 k) := by
  have h : ∀ i : S1x1024.Idx, V m c main_v5 i = a6 m c (ix1 (i 1)) := fun i => by
    entry_read
    pointwise []
  exact Eq.trans (by blk_ext [iblk, idx t]) (h (ix2 0 k))

/-- The shifts, scales and gates at an entry. -/
theorem iblk_mod (c : Dev nD) (t : Fin cfg0.N) (j : Fin 9) (k : Fin 1024) : iblk m c 1 t (ix2 j k) = a1 m c (ix2 j k) := by
  blk_ext [iblk, V, idx t]

/-- The output weights at an entry. -/
theorem iblk_wo (c : Dev nD) (t : Fin cfg0.N) (x : Fin 2816) (k : Fin 1024) : iblk m c 4 t (ix2 x k) = a4 m c (ix2 x k) := by
  have h : ∀ i, V m c main_v3 i = a4 m c i := fun i => by
    entry_read
    pointwise []
  exact Eq.trans (by blk_ext [iblk, idx t]) (h (ix2 x k))

/-- The inner products' weights at an entry of a plane. -/
theorem iblk_wi (c : Dev nD) (t : Fin cfg0.N) (p : Fin 2) (x : Fin 2816) (k : Fin 1024) (X : Fin 5632) (hX : X.val = p.val * 2816 + x.val) :
    iblk m c 3 t (ix3 p x k) = a3 m c (ix2 k X) := by
  have h : ∀ i : S2x2816x1024.Idx, V m c main_v2 i = a3 m c (ix2 (i 2) ⟨(i 0).val * 2816 + (i 1).val, by have h0 : (i 0).val < 2 := (i 0).isLt; have h1 : (i 1).val < 2816 := (i 1).isLt; omega⟩) := fun i => by
    entry_read
    pointwise []
  refine Eq.trans (by blk_ext [iblk, idx t]) ((h (ix3 p x k)).trans ?_)
  exact congrArg (fun z => a3 m c (ix2 k z)) (Fin.ext hX.symm)

/-- The normalised rows at an entry. -/
theorem h_apply (c : Dev nD) (t : Fin cfg0.N) (r : Fin 512) (k : Fin 1024) :
    H m c t (ix2 r k) = val_main_v24 (F := Ideal) (a0 m c) (a1 m c) (a2 m c) (ix2 (rowAt t r) k) := by
  pointwise [H, k0_pay2, M6, M7, iblk_x m c t, iblk_g m c t, iblk_mod m c t, val_main_v24, val_main_v19, val_main_v23, val_main_v22, val_main_v21, val_main_v20, val_main_v18, val_main_v17, val_main_v16, val_main_v15, val_main_cst_2, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The first inner product at an entry of the first half. -/
theorem a_apply0 (c : Dev nD) (t : Fin cfg0.N) (r : Fin 512) (k : Fin 1408) :
    k0_pay3 (iblk m c 0 t) (iblk m c 2 t) (M6 m c t) (M7 m c t) (Wa0 m c t) (ix2 r k)
      = val_main_v26 (F := Ideal) (a0 m c) (a1 m c) (a2 m c) (a3 m c) (ix2 (rowAt t r) ⟨k.val, by omega⟩) := by
  have e := h_apply m c t r
  pointwise [k0_pay3, Wa0, e, val_main_v26, val_main_v25]
  exact Finset.sum_congr rfl fun d _ => congrArg₂ _ rfl (iblk_wi m c t 0 ⟨k.val, by omega⟩ d ⟨k.val, by omega⟩ (by dsimp <;> omega))

/-- The first inner product at an entry of the second half. -/
theorem a_apply1 (c : Dev nD) (t : Fin cfg0.N) (r : Fin 512) (k : Fin 1408) :
    k0_pay8 (H m c t) (Wa1 m c t) (ix2 r k)
      = val_main_v26 (F := Ideal) (a0 m c) (a1 m c) (a2 m c) (a3 m c) (ix2 (rowAt t r) ⟨1408 + k.val, by omega⟩) := by
  have e := h_apply m c t r
  pointwise [k0_pay8, Wa1, e, val_main_v26, val_main_v25]
  exact Finset.sum_congr rfl fun d _ => congrArg₂ _ rfl (iblk_wi m c t 0 ⟨1408 + k.val, by omega⟩ d ⟨1408 + k.val, by omega⟩ (by dsimp <;> omega))

/-- The second inner product at an entry of the first half. -/
theorem b_apply0 (c : Dev nD) (t : Fin cfg0.N) (r : Fin 512) (k : Fin 1408) :
    k0_pay4 (iblk m c 0 t) (iblk m c 2 t) (M6 m c t) (M7 m c t) (Wb0 m c t) (ix2 r k)
      = val_main_v27 (F := Ideal) (a0 m c) (a1 m c) (a2 m c) (a3 m c) (ix2 (rowAt t r) ⟨k.val, by omega⟩) := by
  have e := h_apply m c t r
  pointwise [k0_pay4, Wb0, e, val_main_v27, val_main_v25]
  exact Finset.sum_congr rfl fun d _ => congrArg₂ _ rfl (iblk_wi m c t 1 ⟨k.val, by omega⟩ d ⟨2816 + (k.val), by omega⟩ (by dsimp <;> omega))

/-- The second inner product at an entry of the second half. -/
theorem b_apply1 (c : Dev nD) (t : Fin cfg0.N) (r : Fin 512) (k : Fin 1408) :
    k0_pay9 (H m c t) (Wb1 m c t) (ix2 r k)
      = val_main_v27 (F := Ideal) (a0 m c) (a1 m c) (a2 m c) (a3 m c) (ix2 (rowAt t r) ⟨1408 + k.val, by omega⟩) := by
  have e := h_apply m c t r
  pointwise [k0_pay9, Wb1, e, val_main_v27, val_main_v25]
  exact Finset.sum_congr rfl fun d _ => congrArg₂ _ rfl (iblk_wi m c t 1 ⟨1408 + k.val, by omega⟩ d ⟨2816 + (1408 + k.val), by omega⟩ (by dsimp <;> omega))

/-- The reference's gated activation at an entry. -/
theorem act_apply (c : Dev nD) (i : Cert.HeadRefIdeal.S4096x2816.Idx) :
    val_main_v29 (F := Ideal) (a0 m c) (a1 m c) (a2 m c) (a3 m c) i
      = val_main_v26 (F := Ideal) (a0 m c) (a1 m c) (a2 m c) (a3 m c) i
          * Ideal.div 1 (1 + Ideal.exp (-val_main_v26 (F := Ideal) (a0 m c) (a1 m c) (a2 m c) (a3 m c) i))
          * val_main_v27 (F := Ideal) (a0 m c) (a1 m c) (a2 m c) (a3 m c) i := by
  pointwise [val_main_v29, val_main_v28, val_main_call0_v0, val_main_call0_v1, val_main_call0_v2, val_main_call0_v3, val_main_call0_v4, val_main_call0_v5, val_main_call0_cst, val_main_call0_cst_0]

/-- The block's output product at an entry. -/
theorem f_apply (c : Dev nD) (t : Fin cfg0.N) (r : Fin 512) (k : Fin 1024) :
    k0_pay13 (F0 m c t) (G1 m c t) (Wo1 m c t) (ix2 r k)
      = val_main_v30 (F := Ideal) (a0 m c) (a1 m c) (a2 m c) (a3 m c) (a4 m c) (ix2 (rowAt t r) k) := by
  have ea := a_apply0 m c t r
  have eb := b_apply0 m c t r
  have fa := a_apply1 m c t r
  have fb := b_apply1 m c t r
  pointwise [k0_pay13, F0, G1, Wo0, Wo1, k0_pay7, val_main_v30, zero_sub', k0_pay12, ea, eb, fa, fb, iblk_wo m c t]
  rw [← hidden_sum]
  exact congrArg₂ _ (Finset.sum_congr rfl fun x _ => congrArg₂ _ (act_apply m c _).symm rfl)
    (Finset.sum_congr rfl fun x _ => congrArg₂ _ (act_apply m c _).symm rfl)

/-- The block's output rows at an entry. -/
theorem y_apply (c : Dev nD) (t : Fin cfg0.N) (r : Fin 512) (k : Fin 1024) :
    k0_pay14 (iblk m c 0 t) (F0 m c t) (G1 m c t) (Wo1 m c t) (M8 m c t) (ix2 r k)
      = val_main_v38 (F := Ideal) (a0 m c) (a1 m c) (a2 m c) (a3 m c) (a4 m c) (ix2 (rowAt t r) k) := by
  have e := f_apply m c t r
  pointwise [k0_pay14, e, M8, iblk_x m c t, iblk_mod m c t, val_main_v38, val_main_v37, val_main_v36, val_main_v35, val_main_v34, val_main_v33, val_main_v32, val_main_v31, val_main_cst_3]

/-- The final norm's factor at a row. -/
theorem r_apply (c : Dev nD) (t : Fin cfg0.N) (r : Fin 512) :
    k0_pay17 (iblk m c 0 t) (F0 m c t) (G1 m c t) (Wo1 m c t) (M8 m c t) (ix2 r 0)
      = val_main_v46 (F := Ideal) (a0 m c) (a1 m c) (a2 m c) (a3 m c) (a4 m c) (ix2 (rowAt t r) 0) := by
  have e := y_apply m c t r
  pointwise [k0_pay17, e, val_main_v46, val_main_v45, val_main_v44, val_main_v43, val_main_v42, val_main_v41, val_main_v40, val_main_v39, val_main_cst_4, val_main_cst_5, val_main_cst_6]

/-- The rows scaled to length one at an entry. -/
theorem xh_apply (c : Dev nD) (t : Fin cfg0.N) (r : Fin 512) (k : Fin 1024) :
    k0_pay18 (iblk m c 0 t) (F0 m c t) (G1 m c t) (Wo1 m c t) (M8 m c t) (ix2 r k)
      = val_main_v51 (F := Ideal) (a0 m c) (a1 m c) (a2 m c) (a3 m c) (a4 m c) (ix2 (rowAt t r) k) := by
  have e := y_apply m c t r
  have e' := r_apply m c t r
  pointwise [k0_pay18, e, e', val_main_v51, val_main_v50]

/-- The error of the final norm's rows at an entry. -/
theorem err_apply (c : Dev nD) (t : Fin cfg0.N) (r : Fin 512) (k : Fin 1024) :
    k0_pay19 (iblk m c 0 t) (F0 m c t) (G1 m c t) (Wo1 m c t) (M8 m c t) (iblk m c 6 t) (iblk m c 5 t) (ix2 r k)
      = val_main_v55 (F := Ideal) (a0 m c) (a1 m c) (a2 m c) (a3 m c) (a4 m c) (a5 m c) (a6 m c) (ix2 (rowAt t r) k) := by
  have e := xh_apply m c t r
  pointwise [k0_pay19, e, k0_pay16, iblk_t m c t, iblk_gf m c t, val_main_v55, val_main_v54, val_main_v53, val_main_v52]

/-- The cotangent of the final norm's rows at an entry. -/
theorem dy_apply (c : Dev nD) (t : Fin cfg0.N) (r : Fin 512) (k : Fin 1024) :
    k0_pay24 (k0_pay19 (iblk m c 0 t) (F0 m c t) (G1 m c t) (Wo1 m c t) (M8 m c t) (iblk m c 6 t) (iblk m c 5 t)) (ix2 r k)
      = val_main_v69 (F := Ideal) (a0 m c) (a1 m c) (a2 m c) (a3 m c) (a4 m c) (a5 m c) (a6 m c) (ix2 (rowAt t r) k) := by
  have e := err_apply m c t r
  pointwise [k0_pay24, e, val_main_v69, val_main_v68, val_main_v67, val_main_v66, val_main_v65, val_main_v64, val_main_v58, val_main_v57, val_main_cst_8, val_main_cst_13, val_main_cst_14, val_main_cst_15]
  rw [word_inv_1024, word_half, word_1024, word_two, Ideal.div_coe (by norm_num), ← EReal.coe_mul, ← mul_assoc, ← EReal.coe_mul, @mul_comm EReal]
  norm_num

/-- The cotangent of the block's output rows at an entry. -/
theorem dx_apply (c : Dev nD) (hy : ∀ i, IsReal (val_main_v38 (F := Ideal) (a0 m c) (a1 m c) (a2 m c) (a3 m c) (a4 m c) i))
    (hw : ∀ i, IsReal (val_main_v74 (F := Ideal) (a0 m c) (a1 m c) (a2 m c) (a3 m c) (a4 m c) (a5 m c) (a6 m c) i))
    (t : Fin cfg0.N) (r : Fin 512) (k : Fin 1024) :
    k0_pay26 (k0_pay16 (iblk m c 6 t)) (k0_pay17 (iblk m c 0 t) (F0 m c t) (G1 m c t) (Wo1 m c t) (M8 m c t))
        (k0_pay18 (iblk m c 0 t) (F0 m c t) (G1 m c t) (Wo1 m c t) (M8 m c t))
        (k0_pay19 (iblk m c 0 t) (F0 m c t) (G1 m c t) (Wo1 m c t) (M8 m c t) (iblk m c 6 t) (iblk m c 5 t)) (ix2 r k)
      = val_main_v89 (F := Ideal) (a0 m c) (a1 m c) (a2 m c) (a3 m c) (a4 m c) (a5 m c) (a6 m c) (ix2 (rowAt t r) k) := by
  have e1 := dy_apply m c t r
  have e2 := xh_apply m c t r
  have e3 := r_apply m c t r
  have ew : ∀ k, val_main_v74 (F := Ideal) (a0 m c) (a1 m c) (a2 m c) (a3 m c) (a4 m c) (a5 m c) (a6 m c) (ix2 (rowAt t r) k)
      = val_main_v69 (F := Ideal) (a0 m c) (a1 m c) (a2 m c) (a3 m c) (a4 m c) (a5 m c) (a6 m c) (ix2 (rowAt t r) k) * a6 m c (ix1 k) := fun k => by
    pointwise [val_main_v74, val_main_v73, val_main_v52]
  have ev : val_main_v45 (F := Ideal) (a0 m c) (a1 m c) (a2 m c) (a3 m c) (a4 m c) (ix2 (rowAt t r) 0)
      = Ideal.div (∑ k, val_main_v38 (F := Ideal) (a0 m c) (a1 m c) (a2 m c) (a3 m c) (a4 m c) (ix2 (rowAt t r) k) * val_main_v38 (F := Ideal) (a0 m c) (a1 m c) (a2 m c) (a3 m c) (a4 m c) (ix2 (rowAt t r) k)) (Ideal.ofBits .f32 0x44800000#32)
        + Ideal.ofBits .f32 0x358637BD#32 := by
    pointwise [val_main_v45, val_main_v44, val_main_v43, val_main_v42, val_main_v41, val_main_v40, val_main_v39, val_main_cst_4, val_main_cst_5, val_main_cst_6]
  have er : val_main_v46 (F := Ideal) (a0 m c) (a1 m c) (a2 m c) (a3 m c) (a4 m c) (ix2 (rowAt t r) 0) = Ideal.rsqrt (val_main_v45 (F := Ideal) (a0 m c) (a1 m c) (a2 m c) (a3 m c) (a4 m c) (ix2 (rowAt t r) 0)) := by
    pointwise [val_main_v46]
  pointwise [k0_pay26, e1, e2, e3, k0_pay16, iblk_gf m c t, val_main_v89, val_main_v88, val_main_v87, val_main_v86, val_main_v85, val_main_v84, val_main_v83, val_main_v82, val_main_v81, val_main_v80, val_main_v79, val_main_v78, val_main_v77, val_main_v76, val_main_v49, val_main_v48, val_main_v47, val_main_v51, val_main_v50, val_main_cst_18, val_main_cst_19, val_main_cst_20, val_main_cst_7, val_main_v74, val_main_v73, val_main_v52]
  simp only [Fin.sum_univ_one]
  exact norm_law (fun k => val_main_v38 (F := Ideal) (a0 m c) (a1 m c) (a2 m c) (a3 m c) (a4 m c) (ix2 (rowAt t r) k))
    (fun k => val_main_v69 (F := Ideal) (a0 m c) (a1 m c) (a2 m c) (a3 m c) (a4 m c) (a5 m c) (a6 m c) (ix2 (rowAt t r) k) * a6 m c (ix1 k)) (fun _ => hy _) (fun k => ew k ▸ hw _) _ _ ev er _ rfl k

/-- The block's narrowed cotangent at an entry. -/
theorem df_apply (c : Dev nD) (hy : ∀ i, IsReal (val_main_v38 (F := Ideal) (a0 m c) (a1 m c) (a2 m c) (a3 m c) (a4 m c) i))
    (hw : ∀ i, IsReal (val_main_v74 (F := Ideal) (a0 m c) (a1 m c) (a2 m c) (a3 m c) (a4 m c) (a5 m c) (a6 m c) i))
    (t : Fin cfg0.N) (r : Fin 512) (k : Fin 1024) :
    k0_pay27 (k0_pay16 (iblk m c 6 t)) (k0_pay17 (iblk m c 0 t) (F0 m c t) (G1 m c t) (Wo1 m c t) (M8 m c t))
        (k0_pay18 (iblk m c 0 t) (F0 m c t) (G1 m c t) (Wo1 m c t) (M8 m c t))
        (k0_pay19 (iblk m c 0 t) (F0 m c t) (G1 m c t) (Wo1 m c t) (M8 m c t) (iblk m c 6 t) (iblk m c 5 t)) (M8 m c t) (ix2 r k)
      = val_main_v91 (F := Ideal) (a0 m c) (a1 m c) (a2 m c) (a3 m c) (a4 m c) (a5 m c) (a6 m c) (ix2 (rowAt t r) k) := by
  have e := dx_apply m c hy hw t r k
  pointwise [k0_pay27, e, M8, iblk_mod m c t, val_main_v91, val_main_v90, val_main_v35, val_main_v34, val_main_v33, val_main_v32, val_main_v31, val_main_cst_3]

/-- The normalised rows. -/
theorem final_h (c : Dev nD) : (dats m 0 c).arrAt 11 (cfgs 0).N = val_main_v98 (F := Ideal) (a0 m c) (a1 m c) (a2 m c) := by
  refine (dats m 0 c).arrAt_eq_of_covers 11 _ (by decide +kernel) fun t hf y => ?_
  blk_simp
  rw [after0_11]
  have e : H m c t y = val_main_v98 (F := Ideal) (a0 m c) (a1 m c) (a2 m c) (((cfg0.win 11).blk t).view.emb y) := by
    rw [eq_ix2 y]
    refine (h_apply m c t (y 0) (y 1)).trans ?_
    blk_ext [idx t]
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

/-- The block's output product. -/
theorem final_f (c : Dev nD) : (dats m 0 c).arrAt 10 (cfgs 0).N = val_main_v30 (F := Ideal) (a0 m c) (a1 m c) (a2 m c) (a3 m c) (a4 m c) := by
  refine (dats m 0 c).arrAt_eq_of_covers 10 _ (by decide +kernel) fun t hf y => ?_
  blk_simp
  rw [after0_10]
  have e : k0_pay13 (F0 m c t) (G1 m c t) (Wo1 m c t) y = val_main_v30 (F := Ideal) (a0 m c) (a1 m c) (a2 m c) (a3 m c) (a4 m c) (((cfg0.win 10).blk t).view.emb y) := by
    rw [eq_ix2 y]
    refine (f_apply m c t (y 0) (y 1)).trans ?_
    blk_ext [idx t]
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

/-- The cotangent of the block's output rows. -/
theorem final_dx (c : Dev nD) (hy : ∀ i, IsReal (val_main_v38 (F := Ideal) (a0 m c) (a1 m c) (a2 m c) (a3 m c) (a4 m c) i))
    (hw : ∀ i, IsReal (val_main_v74 (F := Ideal) (a0 m c) (a1 m c) (a2 m c) (a3 m c) (a4 m c) (a5 m c) (a6 m c) i)) : (dats m 0 c).arrAt 7 (cfgs 0).N = val_main_v89 (F := Ideal) (a0 m c) (a1 m c) (a2 m c) (a3 m c) (a4 m c) (a5 m c) (a6 m c) := by
  refine (dats m 0 c).arrAt_eq_of_covers 7 _ (by decide +kernel) fun t hf y => ?_
  blk_simp
  rw [after0_7]
  have e : k0_pay26 (k0_pay16 (iblk m c 6 t)) (k0_pay17 (iblk m c 0 t) (F0 m c t) (G1 m c t) (Wo1 m c t) (M8 m c t)) (k0_pay18 (iblk m c 0 t) (F0 m c t) (G1 m c t) (Wo1 m c t) (M8 m c t)) (k0_pay19 (iblk m c 0 t) (F0 m c t) (G1 m c t) (Wo1 m c t) (M8 m c t) (iblk m c 6 t) (iblk m c 5 t)) y = val_main_v89 (F := Ideal) (a0 m c) (a1 m c) (a2 m c) (a3 m c) (a4 m c) (a5 m c) (a6 m c) (((cfg0.win 7).blk t).view.emb y) := by
    rw [eq_ix2 y]
    refine (dx_apply m c hy hw t (y 0) (y 1)).trans ?_
    blk_ext [idx t]
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

/-- The cotangent of the block's output product. -/
theorem final_df (c : Dev nD) (hy : ∀ i, IsReal (val_main_v38 (F := Ideal) (a0 m c) (a1 m c) (a2 m c) (a3 m c) (a4 m c) i))
    (hw : ∀ i, IsReal (val_main_v74 (F := Ideal) (a0 m c) (a1 m c) (a2 m c) (a3 m c) (a4 m c) (a5 m c) (a6 m c) i)) : (dats m 0 c).arrAt 12 (cfgs 0).N = val_main_v99 (F := Ideal) (a0 m c) (a1 m c) (a2 m c) (a3 m c) (a4 m c) (a5 m c) (a6 m c) := by
  refine (dats m 0 c).arrAt_eq_of_covers 12 _ (by decide +kernel) fun t hf y => ?_
  blk_simp
  rw [after0_12]
  have e : k0_pay27 (k0_pay16 (iblk m c 6 t)) (k0_pay17 (iblk m c 0 t) (F0 m c t) (G1 m c t) (Wo1 m c t) (M8 m c t)) (k0_pay18 (iblk m c 0 t) (F0 m c t) (G1 m c t) (Wo1 m c t) (M8 m c t)) (k0_pay19 (iblk m c 0 t) (F0 m c t) (G1 m c t) (Wo1 m c t) (M8 m c t) (iblk m c 6 t) (iblk m c 5 t)) (M8 m c t) y = val_main_v99 (F := Ideal) (a0 m c) (a1 m c) (a2 m c) (a3 m c) (a4 m c) (a5 m c) (a6 m c) (((cfg0.win 12).blk t).view.emb y) := by
    rw [eq_ix2 y]
    refine (df_apply m c hy hw t (y 0) (y 1)).trans ?_
    blk_ext [idx t]
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

/-- The first inner product. -/
theorem final_a (c : Dev nD) : (dats m 0 c).arrAt 8 (cfgs 0).N = val_main_v96 (F := Ideal) (a0 m c) (a1 m c) (a2 m c) (a3 m c) := by
  refine (dats m 0 c).arrAt_eq_of_covers 8 _ (by decide +kernel) fun t hf y => ?_
  blk_simp
  rw [after0_8]
  have e : View.canon [⟨Rect.unit (s := S512x2816) ![0, 1408] ![512, 1408] inb_S512x2816_S512x1408_0_1408, k0_pay10 (H m c t) (Wa1 m c t)⟩,
      (⟨Rect.unit (s := S512x2816) ![0, 0] ![512, 1408] inb_S512x2816_S512x1408_0_0, k0_pay5 (iblk m c 0 t) (iblk m c 2 t) (M6 m c t) (M7 m c t) (Wa0 m c t)⟩ : View.Piece (Elt Ideal) S512x2816 .bf16)] y
      = val_main_v96 (F := Ideal) (a0 m c) (a1 m c) (a2 m c) (a3 m c) (((cfg0.win 8).blk t).view.emb y) := by
    have hy : (y 1).val < 2816 := (y 1).isLt
    rw [Cert.Rows.canon_tile, Cert.Rows.canon_tile]
    have he : ((cfg0.win 8).blk t).view.emb y = ix2 (rowAt t (y 0)) (y 1) := by blk_ext [idx t]
    rw [he]
    by_cases h : 1408 ≤ (y 1).val
    · rw [dif_pos ⟨Nat.zero_le _, (y 0).isLt, h, by omega⟩]
      refine (a_apply1 m c t _ _).trans ?_
      exact congrArg₂ (fun a b => val_main_v26 (F := Ideal) (a0 m c) (a1 m c) (a2 m c) (a3 m c) (ix2 (rowAt t a) b)) rfl (Fin.ext (show 1408 + ((y 1).val - 1408) = (y 1).val by omega))
    · rw [dif_neg (by omega), dif_pos ⟨Nat.zero_le _, (y 0).isLt, Nat.zero_le _, by omega⟩]
      exact a_apply0 m c t _ _
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

/-- The second inner product. -/
theorem final_b (c : Dev nD) : (dats m 0 c).arrAt 9 (cfgs 0).N = val_main_v97 (F := Ideal) (a0 m c) (a1 m c) (a2 m c) (a3 m c) := by
  refine (dats m 0 c).arrAt_eq_of_covers 9 _ (by decide +kernel) fun t hf y => ?_
  blk_simp
  rw [after0_9]
  have e : View.canon [⟨Rect.unit (s := S512x2816) ![0, 1408] ![512, 1408] inb_S512x2816_S512x1408_0_1408, k0_pay11 (H m c t) (Wb1 m c t)⟩,
      (⟨Rect.unit (s := S512x2816) ![0, 0] ![512, 1408] inb_S512x2816_S512x1408_0_0, k0_pay6 (k0_pay4 (iblk m c 0 t) (iblk m c 2 t) (M6 m c t) (M7 m c t) (Wb0 m c t))⟩ : View.Piece (Elt Ideal) S512x2816 .bf16)] y
      = val_main_v97 (F := Ideal) (a0 m c) (a1 m c) (a2 m c) (a3 m c) (((cfg0.win 9).blk t).view.emb y) := by
    have hy : (y 1).val < 2816 := (y 1).isLt
    rw [Cert.Rows.canon_tile, Cert.Rows.canon_tile]
    have he : ((cfg0.win 9).blk t).view.emb y = ix2 (rowAt t (y 0)) (y 1) := by blk_ext [idx t]
    rw [he]
    by_cases h : 1408 ≤ (y 1).val
    · rw [dif_pos ⟨Nat.zero_le _, (y 0).isLt, h, by omega⟩]
      refine (b_apply1 m c t _ _).trans ?_
      exact congrArg₂ (fun a b => val_main_v27 (F := Ideal) (a0 m c) (a1 m c) (a2 m c) (a3 m c) (ix2 (rowAt t a) b)) rfl (Fin.ext (show 1408 + ((y 1).val - 1408) = (y 1).val by omega))
    · rw [dif_neg (by omega), dif_pos ⟨Nat.zero_le _, (y 0).isLt, Nat.zero_le _, by omega⟩]
      exact b_apply0 m c t _ _
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

end Cert.HeadIdeal.Value

end
-- ==== Proof.HeadSum.lean ====
/- The sums over all rows of the second feed-forward block's call: the final norm's gain gradient and the loss. -/
module

public import proofs.«01_k».proof.Proof.HeadValue
public import proofs.«01_k».proof.Proof.Gen.HeadRefIdeal.Read
public import proofs.«01_k».proof.Proof.Rows
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

namespace Cert.HeadIdeal.Value

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1000000

open Cert.HeadRefIdeal.Read Cert.Reals

/-- The errors of a grid point's rows. -/
abbrev E (c : Dev nD) (t : Fin cfg0.N) : FVec Ideal S512x1024 .f32 := k0_pay19 (iblk m c 0 t) (F0 m c t) (G1 m c t) (Wo1 m c t) (M8 m c t) (iblk m c 6 t) (iblk m c 5 t)
/-- A grid point's part of the gain's gradient. -/
abbrev part0 (c : Dev nD) (t : Fin cfg0.N) (k : Fin 1024) : EReal :=
  ∑ r : Fin 512, val_main_v70 (F := Ideal) (a0 m c) (a1 m c) (a2 m c) (a3 m c) (a4 m c) (a5 m c) (a6 m c) (ix2 (rowAt t r) k)
/-- A grid point's part of the loss, column by column. -/
abbrev part1 (c : Dev nD) (t : Fin cfg0.N) (k : Fin 1024) : EReal :=
  (∑ r : Fin 512, val_main_v56 (F := Ideal) (a0 m c) (a1 m c) (a2 m c) (a3 m c) (a4 m c) (a5 m c) (a6 m c) (ix2 (rowAt t r) k)) * Ideal.ofBits .f32 0x3A000000#32

/-- What a point adds to the gain's row. -/
theorem pay25_apply (c : Dev nD) (t : Fin cfg0.N) (v : Vec Ideal S1x1024 .f32) (k : Fin 1024) :
    k0_pay25 (k0_pay18 (iblk m c 0 t) (F0 m c t) (G1 m c t) (Wo1 m c t) (M8 m c t)) (E m c t) v (ix2 0 k) = v (ix2 0 k) + part0 m c t k := by
  have e1 := dy_apply m c t
  have e2 := xh_apply m c t
  pointwise [k0_pay25, e1, e2, val_main_v70]
  refine congrArg₂ _ rfl (Finset.sum_congr rfl fun r _ => ?_)
  exact @mul_comm EReal _ _ _

/-- What a point adds to the loss's row. -/
theorem pay23_apply (c : Dev nD) (t : Fin cfg0.N) (v : Vec Ideal S1x1024 .f32) (k : Fin 1024) :
    k0_pay23 (k0_pay20 v) (k0_pay21 (iblk m c 0 t) (F0 m c t) (G1 m c t) (Wo1 m c t) (M8 m c t) (iblk m c 6 t) (iblk m c 5 t)) (k0_pay22 (F := Ideal)) (ix2 0 k)
      = v (ix2 0 k) + part1 m c t k := by
  have e1 := err_apply m c t
  pointwise [k0_pay23, k0_pay20, k0_pay21, k0_pay22, e1, val_main_v56]
  rfl

/-- A row summed over its columns, in every column. -/
theorem pay1_apply (v : Vec Ideal S1x1024 .f32) (k : Fin 1024) : k0_pay1 v (ix2 0 k) = ∑ k' : Fin 1024, v (ix2 0 k') := by
  pointwise [k0_pay1]

/-- The sums' array after the first point. -/
theorem sm_A (c : Dev nD) (t : Fin cfg0.N) (h0 : t.val % 8 = 0) (x : Fin 8) (k : Fin 1024) :
    (outsAt0 m c t.val t.isLt).2.2.2.2.2.2 (ix2 x k)
      = if x.val = 0 then part0 m c t k else if x.val = 1 then part1 m c t k else 0 := by
  rw [outsAt0_A m c t h0 (by omega)]
  frame_out
  rw [Cert.Rows.canon_row, Cert.Rows.canon_row]
  have e2 : ∀ j, k0_pay15 (F := Ideal) j = 0 := fun j => by pointwise [k0_pay15]
  refine if_congr Iff.rfl ?_ (if_congr Iff.rfl ?_ ?_)
  · refine (pay25_apply m c t _ k).trans ?_
    rw [Cert.Rows.load_row _ _ (by omega), Cert.Rows.canon_row, if_neg (by show ¬ (0 = 1); omega), Cert.Rows.canon_full, e2, zero_add]
  · refine (pay23_apply m c t _ k).trans ?_
    rw [Cert.Rows.load_row _ _ (by omega), Cert.Rows.canon_full, e2, zero_add]
  · rw [Cert.Rows.canon_full, e2]

/-- The sums' array after a middle point. -/
theorem sm_B (c : Dev nD) (t : Fin cfg0.N) (h0 : t.val % 8 ≠ 0) (h1 : t.val % 8 ≠ 7) (x : Fin 8) (k : Fin 1024) :
    (outsAt0 m c t.val t.isLt).2.2.2.2.2.2 (ix2 x k)
      = (outsAt0 m c (t.val - 1) (by omega)).2.2.2.2.2.2 (ix2 x k) + if x.val = 0 then part0 m c t k else if x.val = 1 then part1 m c t k else 0 := by
  rw [outsAt0_B m c t h0 h1]
  frame_out
  rw [Cert.Rows.read_row, Cert.Rows.read_row]
  by_cases hx : x.val = 0
  · obtain rfl : x = 0 := Fin.ext hx
    refine (pay25_apply m c t _ k).trans ?_
    rw [Cert.Rows.ld_row _ _ (by omega)]
    rfl
  · rw [if_neg (by exact hx), if_neg hx]
    by_cases hy : x.val = 1
    · obtain rfl : x = 1 := Fin.ext hy
      refine (pay23_apply m c t _ k).trans ?_
      rw [Cert.Rows.ld_row _ _ (by omega)]
      rfl
    · rw [if_neg (by exact hy), if_neg hy, add_zero]
      exact congrFun (Memref.IsWhole.read_unread _ _) _

/-- The sums' array after the last point: the loss's row is summed over its columns. -/
theorem sm_C (c : Dev nD) (t : Fin cfg0.N) (h0 : t.val % 8 ≠ 0) (h1 : t.val % 8 = 7) (x : Fin 8) (k : Fin 1024) :
    (outsAt0 m c t.val t.isLt).2.2.2.2.2.2 (ix2 x k)
      = if x.val = 1 then ∑ k' : Fin 1024, ((outsAt0 m c (t.val - 1) (by omega)).2.2.2.2.2.2 (ix2 1 k') + part1 m c t k')
        else (outsAt0 m c (t.val - 1) (by omega)).2.2.2.2.2.2 (ix2 x k) + if x.val = 0 then part0 m c t k else 0 := by
  rw [outsAt0_C m c t h0 h1]
  frame_out
  rw [Cert.Rows.read_row, Cert.Rows.read_row]
  by_cases hy : x.val = 1
  · obtain rfl : x = 1 := Fin.ext hy
    refine (if_pos rfl).trans (Eq.trans ?_ (if_pos rfl).symm)
    refine (pay1_apply _ k).trans (Finset.sum_congr rfl fun k' _ => ?_)
    rw [Cert.Rows.load_row _ _ (by omega), Cert.Rows.canon_row, if_neg (by show ¬ (1 = 0); omega), Cert.Rows.canon_row]
    refine (if_pos rfl).trans ((pay23_apply m c t _ k').trans ?_)
    rw [Cert.Rows.ld_row _ _ (by omega)]
    rfl
  · rw [if_neg (by exact hy), if_neg hy]
    by_cases hx : x.val = 0
    · obtain rfl : x = 0 := Fin.ext hx
      refine (pay25_apply m c t _ k).trans ?_
      rw [Cert.Rows.ld_row _ _ (by omega)]
      rfl
    · rw [if_neg (by exact hx), Cert.Rows.read_row, if_neg (by exact hy), if_neg hx, add_zero]
      exact congrFun (Memref.IsWhole.read_unread _ _) _

/-- The gain's row after the last point. -/
theorem sum_0 (c : Dev nD) (k : Fin 1024) : (outsAt0 m c t0_7.val t0_7.isLt).2.2.2.2.2.2 (ix2 0 k) = ∑ p : Fin cfg0.N, part0 m c p k := by
  have e := Pipeline.eq_sum_fin_of_reset_step_apply_last (N := cfg0.N) (fun n h (k : Fin 1024) => (outsAt0 m c n h).2.2.2.2.2.2 (ix2 0 k)) 8 (fun _ => 0)
    (fun p k => part0 m c p k)
    (fun t h k => by show _ = (0 : EReal) + _; rw [zero_add]; exact sm_A m c t h 0 k)
    (fun t h k => by
      by_cases h1 : t.val % 8 = 7
      · exact sm_C m c t h h1 0 k
      · exact sm_B m c t h h1 0 k)
    (le_of_eq N_0) t0_7 N_0.symm k
  rw [e, zero_add]

/-- The loss's row after the last point. -/
theorem sum_1 (c : Dev nD) (k : Fin 1024) : (outsAt0 m c t0_7.val t0_7.isLt).2.2.2.2.2.2 (ix2 1 k) = ∑ k' : Fin 1024, ∑ p : Fin cfg0.N, part1 m c p k' := by
  refine (sm_C m c t0_7 (by decide) (by decide) 1 k).trans (Finset.sum_congr rfl fun k' _ => ?_)
  have e := Pipeline.eq_sum_fin_of_reset_step_apply_last (N := cfg0.N)
    (fun n h (k : Fin 1024) => if n = 7 then (outsAt0 m c 6 (lt_of_lt_of_eq (by decide : 6 < 8) N_0.symm)).2.2.2.2.2.2 (ix2 1 k) + part1 m c t0_7 k else (outsAt0 m c n h).2.2.2.2.2.2 (ix2 1 k)) 8 (fun _ => 0)
    (fun p k => part1 m c p k)
    (fun t h k => by
      show _ = (0 : EReal) + _
      rw [zero_add]
      exact (if_neg (by omega)).trans (sm_A m c t h 1 k))
    (fun t h k => by
      have hN : t.val < 8 := lt_of_lt_of_eq t.isLt N_0
      by_cases h1 : t.val % 8 = 7
      · obtain rfl : t = t0_7 := Fin.ext (show t.val = 7 by omega)
        exact (if_pos rfl).trans (congrArg₂ _ (if_neg (by show ¬ (7 - 1 = 7); omega)).symm rfl)
      · refine (if_neg (by omega)).trans ((sm_B m c t h h1 1 k).trans (congrArg₂ _ (if_neg (by omega)).symm rfl)))
    (le_of_eq N_0) t0_7 N_0.symm k'
  refine Eq.trans ?_ (e.trans (zero_add _))
  exact (if_pos rfl).symm

/-- The other rows stay zero. -/
theorem sum_2 (c : Dev nD) (x : Fin 8) (hx : 2 ≤ x.val) (k : Fin 1024) : (outsAt0 m c t0_7.val t0_7.isLt).2.2.2.2.2.2 (ix2 x k) = 0 := by
  have e := Pipeline.eq_sum_fin_of_reset_step_apply_last (N := cfg0.N) (fun n h (k : Fin 1024) => (outsAt0 m c n h).2.2.2.2.2.2 (ix2 x k)) 8 (fun _ => 0)
    (fun p k => 0)
    (fun t h k => by
      show _ = (0 : EReal) + 0
      rw [zero_add]
      exact (sm_A m c t h x k).trans ((if_neg (by omega)).trans (if_neg (by omega))))
    (fun t h k => by
      by_cases h1 : t.val % 8 = 7
      · exact (sm_C m c t h h1 x k).trans ((if_neg (by omega)).trans (congrArg _ (if_neg (by omega))))
      · exact (sm_B m c t h h1 x k).trans (congrArg _ ((if_neg (by omega)).trans (if_neg (by omega)))))
    (le_of_eq N_0) t0_7 N_0.symm k
  rw [e, Finset.sum_const_zero, zero_add]

/-- The sums: the gain's gradient in the first row, the loss in the second, zeros below. -/
theorem final_sm (c : Dev nD) (he : ∀ i, IsReal (val_main_v55 (F := Ideal) (a0 m c) (a1 m c) (a2 m c) (a3 m c) (a4 m c) (a5 m c) (a6 m c) i)) :
    (dats m 0 c).arrAt 13 (cfgs 0).N = val_main_v95 (F := Ideal) (a0 m c) (a1 m c) (a2 m c) (a3 m c) (a4 m c) (a5 m c) (a6 m c) := by
  refine (dats m 0 c).arrAt_eq_of_after_last 13 t0_7 (by decide +kernel) _ fun j => ?_
  blk_simp
  rw [after0_13]
  obtain ⟨x, k, rfl⟩ : ∃ (x : Fin 8) (k : Fin 1024), j = ix2 x k := ⟨j 0, j 1, eq_ix2 j⟩
  have h0 := sum_0 m c k
  have h1 := sum_1 m c k
  by_cases hx : x.val = 0
  · obtain rfl : x = 0 := Fin.ext hx
    refine h0.trans ?_
    pointwise [val_main_v95, val_main_v92, val_main_v75, val_main_v72, val_main_v71, val_main_cst_16, val_main_cst_17]
    rw [Fin.sum_univ_one]
    exact Fin.sum_mul_add_congr (fun p r hl => congrArg (fun i => val_main_v70 (F := Ideal) (a0 m c) (a1 m c) (a2 m c) (a3 m c) (a4 m c) (a5 m c) (a6 m c) (ix2 i k)) (Fin.ext (show p.val * 512 + r.val = _ from rfl))) (by decide)
  · by_cases hy : x.val = 1
    · obtain rfl : x = 1 := Fin.ext hy
      refine h1.trans ?_
      refine (loss_law N_0 (fun t k => val_main_v56 (F := Ideal) (a0 m c) (a1 m c) (a2 m c) (a3 m c) (a4 m c) (a5 m c) (a6 m c) (ix2 t k)) (fun t k => ?_) (fun p r => rowAt p r) fun p r => ?_).trans ?_
      · pointwise [val_main_v56]
        exact isReal_mul (he _) (he _)
      · show p.val * 512 + r.val = p.val * 512 + r.val
        rfl
      · pointwise [val_main_v95, val_main_v93, val_main_v63, val_main_v62, val_main_v61, val_main_v60, val_main_v59, val_main_cst_9, val_main_cst_10, val_main_cst_11, val_main_cst_12]
    · refine (sum_2 m c x (by omega) k).trans ?_
      pointwise [val_main_v95, val_main_v94, val_main_cst_21]
      rw [dif_neg (by omega), dif_neg (by omega)]

end Cert.HeadIdeal.Value

end
-- ==== Proof.HeadClaim.lean ====
/- The claim about the second feed-forward block's call, with the final norm and the loss, and its reference. -/
module

public import proofs.«01_k».proof.Defs
public import proofs.«01_k».proof.Proof.HeadSum
public import proofs.«01_k».proof.Proof.Gen.HeadRefIdeal.Run
public import proofs.«01_k».proof.Proof.Gen.Pre_head_finite

@[expose] public section

set_option maxRecDepth 16384

noncomputable section

namespace Cert.HeadIdeal.Value

open Cert.HeadIdeal Cert.HeadIdeal.Gen Idealize.ShloMosaic Idealize.ShloMosaic.TcCoe Idealize.SL.Sem
open Cert.HeadRefIdeal.Read Cert.Reals

set_option maxHeartbeats 4000000

/-- The precondition says of every argument that its entries are real numbers. -/
theorem finite_args [Cert.Pre_head_finite.Facts] (m : (ℓ : Loc nD τ sig) → Buf (Elt Ideal) ℓ) (h : Cert.Pre_HeadIdeal_head_finite m) (c : Dev nD) :
    (∀ i, IsReal (a0 m c i)) ∧ (∀ i, IsReal (a1 m c i)) ∧ (∀ i, IsReal (a2 m c i)) ∧ (∀ i, IsReal (a3 m c i)) ∧ (∀ i, IsReal (a4 m c i)) ∧ (∀ i, IsReal (a5 m c i)) ∧ (∀ i, IsReal (a6 m c i)) := by
  have h0 := congrFun (h c) ix0
  dsimp only [Cert.Pre_head_finite.fn, Cert.Pre_head_finite.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5, isReal_of_all _ _ _ _ _ _ _ h6⟩

/-- One is a real number. -/
theorem isReal_one : IsReal (1 : EReal) := ⟨1, EReal.coe_one.symm⟩

/-- Over real arguments the normalised rows are real. -/
theorem real_h (m : (ℓ : Loc nD τ sig) → Buf (Elt Ideal) ℓ) (c : Dev nD) (h0 : ∀ i, IsReal (a0 m c i)) (h1 : ∀ i, IsReal (a1 m c i)) (h2 : ∀ i, IsReal (a2 m c i)) (t : Fin 4096) (k : Fin 1024) :
    IsReal (val_main_v24 (F := Ideal) (a0 m c) (a1 m c) (a2 m c) (ix2 t k)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact isReal_add (isReal_mul (isReal_mul (isReal_mul (h0 _) (isReal_norm (fun k => a0 m c (ix2 t k)) fun _ => h0 _)) (h2 _)) (isReal_add isReal_one (h1 _))) (h1 _)

/-- Over real arguments the inner products are real. -/
theorem real_ab (m : (ℓ : Loc nD τ sig) → Buf (Elt Ideal) ℓ) (c : Dev nD) (h0 : ∀ i, IsReal (a0 m c i)) (h1 : ∀ i, IsReal (a1 m c i)) (h2 : ∀ i, IsReal (a2 m c i)) (h3 : ∀ i, IsReal (a3 m c i)) (t : Fin 4096) (k : Fin 5632) :
    IsReal (val_main_v25 (F := Ideal) (a0 m c) (a1 m c) (a2 m c) (a3 m c) (ix2 t k)) := by
  pointwise [val_main_v25]
  exact isReal_sum fun d => isReal_mul (real_h m c h0 h1 h2 t d) (h3 _)

/-- Over real arguments the block's output rows are real. -/
theorem real_y (m : (ℓ : Loc nD τ sig) → Buf (Elt Ideal) ℓ) (c : Dev nD) (h0 : ∀ i, IsReal (a0 m c i)) (h1 : ∀ i, IsReal (a1 m c i)) (h2 : ∀ i, IsReal (a2 m c i)) (h3 : ∀ i, IsReal (a3 m c i)) (h4 : ∀ i, IsReal (a4 m c i)) (i) :
    IsReal (val_main_v38 (F := Ideal) (a0 m c) (a1 m c) (a2 m c) (a3 m c) (a4 m c) i) := by
  obtain ⟨t, k, rfl⟩ : ∃ (t : Fin 4096) (k : Fin 1024), i = ix2 t k := ⟨i 0, i 1, eq_ix2 i⟩
  have ef : IsReal (val_main_v30 (F := Ideal) (a0 m c) (a1 m c) (a2 m c) (a3 m c) (a4 m c) (ix2 t k)) := by
    pointwise [val_main_v30, act_apply m c, val_main_v26, val_main_v27]
    refine isReal_sum fun d => isReal_mul (isReal_mul (isReal_mul (real_ab m c h0 h1 h2 h3 t _) (isReal_sig (real_ab m c h0 h1 h2 h3 t _))) (real_ab m c h0 h1 h2 h3 t _)) (h4 _)
  pointwise [val_main_v38, val_main_v37, val_main_v36, val_main_v35, val_main_v34, val_main_v33, val_main_v32, val_main_v31, val_main_cst_3]
  rw [word_half]
  exact isReal_add (h0 _) (isReal_mul (isReal_mul (isReal_coe _) (h1 _)) ef)

/-- Over real arguments the errors are real. -/
theorem real_e (m : (ℓ : Loc nD τ sig) → Buf (Elt Ideal) ℓ) (c : Dev nD) (h0 : ∀ i, IsReal (a0 m c i)) (h1 : ∀ i, IsReal (a1 m c i)) (h2 : ∀ i, IsReal (a2 m c i)) (h3 : ∀ i, IsReal (a3 m c i)) (h4 : ∀ i, IsReal (a4 m c i)) (h5 : ∀ i, IsReal (a5 m c i)) (h6 : ∀ i, IsReal (a6 m c i)) (i) :
    IsReal (val_main_v55 (F := Ideal) (a0 m c) (a1 m c) (a2 m c) (a3 m c) (a4 m c) (a5 m c) (a6 m c) i) := by
  obtain ⟨t, k, rfl⟩ : ∃ (t : Fin 4096) (k : Fin 1024), i = ix2 t k := ⟨i 0, i 1, eq_ix2 i⟩
  have ey := real_y m c h0 h1 h2 h3 h4
  pointwise [val_main_v55, val_main_v54, val_main_v53, val_main_v52, val_main_v51, val_main_v50, val_main_v46, val_main_v45, val_main_v44, val_main_v43, val_main_v42, val_main_v41, val_main_v40, val_main_v39, val_main_cst_4, val_main_cst_5, val_main_cst_6]
  exact isReal_sub (isReal_mul (isReal_mul (ey _) (isReal_norm (fun k => val_main_v38 (F := Ideal) (a0 m c) (a1 m c) (a2 m c) (a3 m c) (a4 m c) (ix2 t k)) fun _ => ey _)) (h6 _)) (h5 _)

/-- Over real arguments the cotangent of the rows scaled to length one is real. -/
theorem real_w (m : (ℓ : Loc nD τ sig) → Buf (Elt Ideal) ℓ) (c : Dev nD) (h0 : ∀ i, IsReal (a0 m c i)) (h1 : ∀ i, IsReal (a1 m c i)) (h2 : ∀ i, IsReal (a2 m c i)) (h3 : ∀ i, IsReal (a3 m c i)) (h4 : ∀ i, IsReal (a4 m c i)) (h5 : ∀ i, IsReal (a5 m c i)) (h6 : ∀ i, IsReal (a6 m c i)) (i) :
    IsReal (val_main_v74 (F := Ideal) (a0 m c) (a1 m c) (a2 m c) (a3 m c) (a4 m c) (a5 m c) (a6 m c) i) := by
  obtain ⟨t, k, rfl⟩ : ∃ (t : Fin 4096) (k : Fin 1024), i = ix2 t k := ⟨i 0, i 1, eq_ix2 i⟩
  have ee := real_e m c h0 h1 h2 h3 h4 h5 h6
  pointwise [val_main_v74, val_main_v73, val_main_v69, val_main_v68, val_main_v67, val_main_v66, val_main_v65, val_main_v64, val_main_v58, val_main_v57, val_main_v52, val_main_cst_8, val_main_cst_13, val_main_cst_14, val_main_cst_15]
  rw [word_half, word_1024, word_two, Ideal.div_coe (by norm_num)]
  exact isReal_mul (isReal_mul (isReal_mul (isReal_coe _) (isReal_coe _)) (isReal_mul (isReal_coe _) (ee _))) (h6 _)

/-- The kernel's run over real arguments: its results are the reference's terms. -/
theorem run_head [Cert.Pre_head_finite.Facts] (m : (ℓ : Loc nD τ sig) → Buf (Elt Ideal) ℓ) (h : Cert.Pre_HeadIdeal_head_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = val_main_v89 (F := Ideal) (a0 m c) (a1 m c) (a2 m c) (a3 m c) (a4 m c) (a5 m c) (a6 m c)
      ∧ r.2.mem ((c.tc : Thread nD τ).loc main_v6_1) = val_main_v96 (F := Ideal) (a0 m c) (a1 m c) (a2 m c) (a3 m c)
      ∧ r.2.mem ((c.tc : Thread nD τ).loc main_v6_2) = val_main_v97 (F := Ideal) (a0 m c) (a1 m c) (a2 m c) (a3 m c)
      ∧ r.2.mem ((c.tc : Thread nD τ).loc main_v6_3) = val_main_v30 (F := Ideal) (a0 m c) (a1 m c) (a2 m c) (a3 m c) (a4 m c)
      ∧ r.2.mem ((c.tc : Thread nD τ).loc main_v6_4) = val_main_v98 (F := Ideal) (a0 m c) (a1 m c) (a2 m c)
      ∧ r.2.mem ((c.tc : Thread nD τ).loc main_v6_5) = val_main_v99 (F := Ideal) (a0 m c) (a1 m c) (a2 m c) (a3 m c) (a4 m c) (a5 m c) (a6 m c)
      ∧ r.2.mem ((c.tc : Thread nD τ).loc main_v6_6) = val_main_v95 (F := Ideal) (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hp : ∀ c : Dev nD, (∀ i, IsReal (val_main_v38 (F := Ideal) (a0 m c) (a1 m c) (a2 m c) (a3 m c) (a4 m c) i)) ∧ (∀ i, IsReal (val_main_v55 (F := Ideal) (a0 m c) (a1 m c) (a2 m c) (a3 m c) (a4 m c) (a5 m c) (a6 m c) i))
      ∧ ∀ i, IsReal (val_main_v74 (F := Ideal) (a0 m c) (a1 m c) (a2 m c) (a3 m c) (a4 m c) (a5 m c) (a6 m c) i) := fun c => by
    obtain ⟨h0, h1, h2, h3, h4, h5, h6⟩ := finite_args m h c
    exact ⟨real_y m c h0 h1 h2 h3 h4, real_e m c h0 h1 h2 h3 h4 h5 h6, real_w m c h0 h1 h2 h3 h4 h5 h6⟩
  run_from run_main m ρ
  · exact final_dx m c (hp c).1 (hp c).2.2
  · exact final_a m c
  · exact final_b m c
  · exact final_f m c
  · exact final_h m c
  · exact final_df m c (hp c).1 (hp c).2.2
  · exact final_sm m c (hp c).2.1

/-- Over real arguments the two programs return the same arrays. -/
theorem algebraic_head [Cert.HeadIdeal.Facts] [Cert.HeadRefIdeal.Facts] [Cert.Pre_head_finite.Facts] : Cert.algebraic_HeadIdeal_HeadRefIdeal_pre_head_finite := by
  intro m g m' g' hpre hag
  refine ⟨fun c => val_main_v89 (F := Ideal) (a0 m c) (a1 m c) (a2 m c) (a3 m c) (a4 m c) (a5 m c) (a6 m c), fun c => val_main_v96 (F := Ideal) (a0 m c) (a1 m c) (a2 m c) (a3 m c), fun c => val_main_v97 (F := Ideal) (a0 m c) (a1 m c) (a2 m c) (a3 m c), fun c => val_main_v30 (F := Ideal) (a0 m c) (a1 m c) (a2 m c) (a3 m c) (a4 m c), fun c => val_main_v98 (F := Ideal) (a0 m c) (a1 m c) (a2 m c), fun c => val_main_v99 (F := Ideal) (a0 m c) (a1 m c) (a2 m c) (a3 m c) (a4 m c) (a5 m c) (a6 m c), fun c => val_main_v95 (F := Ideal) (a0 m c) (a1 m c) (a2 m c) (a3 m c) (a4 m c) (a5 m c) (a6 m c), run_head m hpre g, ?_⟩
  refine (θ_run _ _ _).mono (fun r h c => ?_) (Cert.HeadRefIdeal.Value.run m' g')
  obtain ⟨h0, h1, h2, h3, h4, h5, h6, h7⟩ := h c
  obtain ⟨e0, e1, e2, e3, e4, e5, e6⟩ := hag c
  replace e0 : StableHlo.launchContents m' c (Proc.devRef .tc Cert.HeadRefIdeal.main_arg0) = a0 m c := e0
  replace e1 : StableHlo.launchContents m' c (Proc.devRef .tc Cert.HeadRefIdeal.main_arg1) = a1 m c := e1
  replace e2 : StableHlo.launchContents m' c (Proc.devRef .tc Cert.HeadRefIdeal.main_arg2) = a2 m c := e2
  replace e3 : StableHlo.launchContents m' c (Proc.devRef .tc Cert.HeadRefIdeal.main_arg3) = a3 m c := e3
  replace e4 : StableHlo.launchContents m' c (Proc.devRef .tc Cert.HeadRefIdeal.main_arg4) = a4 m c := e4
  replace e5 : StableHlo.launchContents m' c (Proc.devRef .tc Cert.HeadRefIdeal.main_arg5) = a5 m c := e5
  replace e6 : StableHlo.launchContents m' c (Proc.devRef .tc Cert.HeadRefIdeal.main_arg6) = a6 m c := e6
  replace h0 := h0.trans (val_main_v89_eq (StableHlo.launchContents m' c))
  rw [e0, e1, e2, e3, e4, e5, e6] at h0
  replace h1 := h1.trans (val_main_v96_eq (StableHlo.launchContents m' c))
  rw [e0, e1, e2, e3] at h1
  replace h2 := h2.trans (val_main_v97_eq (StableHlo.launchContents m' c))
  rw [e0, e1, e2, e3] at h2
  replace h3 := h3.trans (val_main_v30_eq (StableHlo.launchContents m' c))
  rw [e0, e1, e2, e3, e4] at h3
  replace h4 := h4.trans (val_main_v98_eq (StableHlo.launchContents m' c))
  rw [e0, e1, e2] at h4
  replace h5 := h5.trans (val_main_v99_eq (StableHlo.launchContents m' c))
  rw [e0, e1, e2, e3, e4, e5, e6] at h5
  replace h6 := h6.trans (val_main_v95_eq (StableHlo.launchContents m' c))
  rw [e0, e1, e2, e3, e4, e5, e6] at h6
  exact ⟨h0, h1, h2, h3, h4, h5, h6, h7⟩

end Cert.HeadIdeal.Value

end
-- ==== Proof.MixRun.lean ====
module

public import proofs.«01_k».proof.Proof.Gen.MixIdeal.Frame
public import proofs.«01_k».proof.Proof.Gen.MixIdeal.Skeleton
public import proofs.«01_k».proof.Proof.Gen.MixIdeal.Points
public import proofs.«01_k».proof.Proof.Gen.MixIdeal.Launch
public import Idealize.ShloMosaic.Lib.VecWindow
public import Idealize.ShloMosaic.Lib.WholeRead

/-! The body of `_mixin_bwd` at one grid point, cut at its conditions, for any number format: what each part finds and leaves. -/

@[expose] public section

set_option maxRecDepth 16384

noncomputable section

namespace Cert.MixIdeal.Hand

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition under which a point starts a block of the weights' gradient. -/
def blockStarts (i : grid0.Coords) : BitVec 1 :=
  Scalar.cmpi .ne (Scalar.extui (Scalar.cmpi .eq (BitVec.ofNat 32 (i 1).val) 0#32) : BitVec 32) 0#32

/-! ## The parts of the body -/

/-- At the first block of rows the sum of products is set to zero. -/
def clearBlock (i : grid0.Coords) (arg14 : Memref sig .tc .vmem S1024x1024 .f32) (harg14 : arg14.IsWhole) :
    Prog (TpuEff nD τ sig (Elt F) Λ₀ .tc) PUnit := do
  if k0_h1 : blockStarts i = 1#1 then do
    let v39 : Vec F S1024x1024 .f32 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay17 (F := F)) Finset.univ (View.stores_vmem_bits_univ h_S1024x1024 rfl) (.inl rfl))
    pure ⟨⟩
  else do
    pure ⟨⟩

/-- In the first round the plane of the rows is set to zero. -/
def clearPlane (i : grid0.Coords) (arg13 : Memref sig .tc .vmem S8x512x1024 .f32) (harg13 : arg13.IsWhole) :
    Prog (TpuEff nD τ sig (Elt F) Λ₀ .tc) PUnit := do
  if k0_h2 : k0_cond2 i = 1#1 then do
    let v40 : Vec F S1x512x1024 .f32 ← Prog.lift (.load arg13 (Rect.unit (s := S8x512x1024) (k0_off1 i) S1x512x1024.size (k0_off1_inb i k0_h2)).toLoadRect (View.loadsAt_vmem h_S1x512x1024))
    Prog.lift (.store arg13 (Rect.unit (s := S8x512x1024) (k0_off1 i) S1x512x1024.size (k0_off1_inb i k0_h2)) (k0_pay18 (F := F)) Finset.univ (View.stores_vmem_bits_univ h_S1x512x1024 rfl) (.inl rfl))
    pure ⟨⟩
  else do
    pure ⟨⟩

/-- At the first point the sums over rows are set to zero. -/
def clearSums (i : grid0.Coords) (arg11 : Memref sig .tc .vmem S8x1024 .f32) (harg11 : arg11.IsWhole) :
    Prog (TpuEff nD τ sig (Elt F) Λ₀ .tc) PUnit := do
  if k0_h3 : k0_cond3 i = 1#1 then do
    let v39 : Vec F S8x1024 .f32 ← Prog.lift (.load arg11 (Rect.unit (s := S8x1024) ![0, 0] S8x1024.size inb_S8x1024_S8x1024_0_0).toLoadRect (View.loadsAt_vmem h_S8x1024))
    Prog.lift (.store arg11 (Rect.unit (s := S8x1024) ![0, 0] S8x1024.size inb_S8x1024_S8x1024_0_0) (k0_pay19 (F := F)) Finset.univ (View.stores_vmem_bits_univ h_S8x1024 rfl) (.inl rfl))
    pure ⟨⟩
  else do
    pure ⟨⟩

/-- Both products of the point are added. -/
def addProducts (i : grid0.Coords) (arg3 : Memref sig .tc .vmem S512x1024 .bf16) (harg3 : arg3.IsWhole) (arg5 : Memref sig .tc .vmem S1x512x1024 .bf16) (harg5 : arg5.IsWhole) (arg8 : Memref sig .tc .vmem S1x1024x1024 .bf16) (harg8 : arg8.IsWhole) (arg13 : Memref sig .tc .vmem S8x512x1024 .f32) (harg13 : arg13.IsWhole) (arg14 : Memref sig .tc .vmem S1024x1024 .f32) (harg14 : arg14.IsWhole) :
    Prog (TpuEff nD τ sig (Elt F) Λ₀ .tc) PUnit := do
  let v11 : Vec F S1x512x1024 .bf16 ← Prog.lift (.load arg5 (Rect.unit (s := S1x512x1024) ![0, 0, 0] S1x512x1024.size inb_S1x512x1024_S1x512x1024_0_0_0).toLoadRect (View.loadsAt_vmem h_S1x512x1024))
  let v13 : Vec F S1024x1024 .f32 ← Prog.lift (.load arg14 (Rect.unit (s := S1024x1024) ![0, 0] S1024x1024.size inb_S1024x1024_S1024x1024_0_0).toLoadRect (View.loadsAt_vmem h_S1024x1024))
  let v14 : Vec F S512x1024 .bf16 ← Prog.lift (.load arg3 (Rect.unit (s := S512x1024) ![0, 0] S512x1024.size inb_S512x1024_S512x1024_0_0).toLoadRect (View.loadsAt_vmem h_S512x1024))
  let v18 : Vec F S1024x1024 .f32 ← Prog.lift (.load arg14 (Rect.unit (s := S1024x1024) ![0, 0] S1024x1024.size inb_S1024x1024_S1024x1024_0_0).toLoadRect (View.loadsAt_vmem h_S1024x1024))
  Prog.lift (.store arg14 (Rect.unit (s := S1024x1024) ![0, 0] S1024x1024.size inb_S1024x1024_S1024x1024_0_0) (k0_pay21 v11 v13 v14) Finset.univ (View.stores_vmem_bits_univ h_S1024x1024 rfl) (.inl rfl))
  let v22 : Vec F S1x512x1024 .f32 ← Prog.lift (.load arg13 (Rect.unit (s := S8x512x1024) (k0_off2 i) S1x512x1024.size (k0_off2_inb i)).toLoadRect (View.loadsAt_vmem h_S1x512x1024))
  let v24 : Vec F S1x1024x1024 .bf16 ← Prog.lift (.load arg8 (Rect.unit (s := S1x1024x1024) ![0, 0, 0] S1x1024x1024.size inb_S1x1024x1024_S1x1024x1024_0_0_0).toLoadRect (View.loadsAt_vmem h_S1x1024x1024))
  let v29 : Vec F S1x512x1024 .f32 ← Prog.lift (.load arg13 (Rect.unit (s := S8x512x1024) (k0_off2 i) S1x512x1024.size (k0_off2_inb i)).toLoadRect (View.loadsAt_vmem h_S1x512x1024))
  Prog.lift (.store arg13 (Rect.unit (s := S8x512x1024) (k0_off2 i) S1x512x1024.size (k0_off2_inb i)) (k0_pay1 (k0_pay22 v11 v22 v24)) Finset.univ (View.stores_vmem_bits_univ h_S1x512x1024 rfl) (.inl rfl))
  pure ⟨⟩

/-- At the last block of rows the sum of products is stored. -/
def storeBlock (i : grid0.Coords) (arg10 : Memref sig .tc .vmem S1x1024x1024 .bf16) (harg10 : arg10.IsWhole) (arg14 : Memref sig .tc .vmem S1024x1024 .f32) (harg14 : arg14.IsWhole) :
    Prog (TpuEff nD τ sig (Elt F) Λ₀ .tc) PUnit := do
  if k0_h4 : k0_cond4 i = 1#1 then do
    let v38 : Vec F S1024x1024 .f32 ← Prog.lift (.load arg14 (Rect.unit (s := S1024x1024) ![0, 0] S1024x1024.size inb_S1024x1024_S1024x1024_0_0).toLoadRect (View.loadsAt_vmem h_S1024x1024))
    let v40 : Vec F S1x1024x1024 .bf16 ← Prog.lift (.load arg10 (Rect.unit (s := S1x1024x1024) ![0, 0, 0] S1x1024x1024.size inb_S1x1024x1024_S1x1024x1024_0_0_0).toLoadRect (View.loadsAt_vmem h_S1x1024x1024))
    Prog.lift (.store arg10 (Rect.unit (s := S1x1024x1024) ![0, 0, 0] S1x1024x1024.size inb_S1x1024x1024_S1x1024x1024_0_0_0) (k0_pay2 v38) Finset.univ (View.stores_vmem h_S1x1024x1024 (harg10.storeExact_slice rfl _ packedbf16_S1x1024x1024_S1x1024x1024_0_0_0) (fun _ => rfl)) (.inl rfl))
    pure ⟨⟩
  else do
    pure ⟨⟩

/-- In the last round the rows go back through the norm, and the sums over rows are added to. -/
def storeRows (i : grid0.Coords) (arg2 : Memref sig .tc .vmem S512x1024 .f32) (harg2 : arg2.IsWhole) (arg4 : Memref sig .tc .vmem S512x1024 .f32) (harg4 : arg4.IsWhole) (arg6 : Memref sig .tc .vmem S9x1024 .f32) (harg6 : arg6.IsWhole) (arg7 : Memref sig .tc .vmem S1x1024 .f32) (harg7 : arg7.IsWhole) (arg9 : Memref sig .tc .vmem S512x1024 .f32) (harg9 : arg9.IsWhole) (arg11 : Memref sig .tc .vmem S8x1024 .f32) (harg11 : arg11.IsWhole) (arg12 : Memref sig .tc .vmem S512x1024 .bf16) (harg12 : arg12.IsWhole) (arg13 : Memref sig .tc .vmem S8x512x1024 .f32) (harg13 : arg13.IsWhole) :
    Prog (TpuEff nD τ sig (Elt F) Λ₀ .tc) PUnit := do
  if k0_h5 : k0_cond5 i = 1#1 then do
    let v38 : Vec F S1x1024 .f32 ← Prog.lift (.load arg6 (Rect.unit (s := S9x1024) ![4, 0] S1x1024.size inb_S9x1024_S1x1024_4_0).toLoadRect (View.loadsAt_vmem h_S1x1024))
    let v39 : Vec F S512x1024 .f32 ← Prog.lift (.load arg2 (Rect.unit (s := S512x1024) ![0, 0] S512x1024.size inb_S512x1024_S512x1024_0_0).toLoadRect (View.loadsAt_vmem h_S512x1024))
    let v40 : Vec F S1x1024 .f32 ← Prog.lift (.load arg7 (Rect.unit (s := S1x1024) ![0, 0] S1x1024.size inb_S1x1024_S1x1024_0_0).toLoadRect (View.loadsAt_vmem h_S1x1024))
    let v55 : Vec F S1x512x1024 .f32 ← Prog.lift (.load arg13 (Rect.unit (s := S8x512x1024) (k0_off3 i) S1x512x1024.size (k0_off3_inb i k0_h5)).toLoadRect (View.loadsAt_vmem h_S1x512x1024))
    let v57 : Vec F S1x1024 .f32 ← Prog.lift (.load arg7 (Rect.unit (s := S1x1024) ![0, 0] S1x1024.size inb_S1x1024_S1x1024_0_0).toLoadRect (View.loadsAt_vmem h_S1x1024))
    let v83 : Vec F S512x1024 .f32 ← Prog.lift (.load arg4 (Rect.unit (s := S512x1024) ![0, 0] S512x1024.size inb_S512x1024_S512x1024_0_0).toLoadRect (View.loadsAt_vmem h_S512x1024))
    let v85 : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (k0_pay3 (k0_pay8 v39) (k0_pay9 v39) (k0_pay15 v38 v55 v57) (k0_pay16 v38 v39 v55 v57) v83) Finset.univ (View.stores_vmem_bits_univ h_S512x1024 rfl) (.inl rfl))
    let v86 : Vec F S1x1024 .f32 ← Prog.lift (.load arg6 (Rect.unit (s := S9x1024) ![2, 0] S1x1024.size inb_S9x1024_S1x1024_2_0).toLoadRect (View.loadsAt_vmem h_S1x1024))
    let v92 : Vec F S512x1024 .bf16 ← Prog.lift (.load arg12 (Rect.unit (s := S512x1024) ![0, 0] S512x1024.size inb_S512x1024_S512x1024_0_0).toLoadRect (View.loadsAt_vmem h_S512x1024))
    Prog.lift (.store arg12 (Rect.unit (s := S512x1024) ![0, 0] S512x1024.size inb_S512x1024_S512x1024_0_0) (k0_pay4 (k0_pay8 v39) (k0_pay9 v39) (k0_pay15 v38 v55 v57) (k0_pay16 v38 v39 v55 v57) v83 v86) Finset.univ (View.stores_vmem h_S512x1024 (harg12.storeExact_slice rfl _ packedbf16_S512x1024_S512x1024_0_0) (fun _ => rfl)) (.inl rfl))
    let v93 : Vec F S1x1024 .f32 ← Prog.lift (.load arg11 (Rect.unit (s := S8x1024) ![0, 0] S1x1024.size inb_S8x1024_S1x1024_0_0).toLoadRect (View.loadsAt_vmem h_S1x1024))
    let v96 : Vec F S1x1024 .f32 ← Prog.lift (.load arg11 (Rect.unit (s := S8x1024) ![0, 0] S1x1024.size inb_S8x1024_S1x1024_0_0).toLoadRect (View.loadsAt_vmem h_S1x1024))
    Prog.lift (.store arg11 (Rect.unit (s := S8x1024) ![0, 0] S1x1024.size inb_S8x1024_S1x1024_0_0) (k0_pay5 (k0_pay12 v55) v93) Finset.univ (View.stores_vmem_bits_univ h_S1x1024 rfl) (.inl rfl))
    let v97 : Vec F S1x1024 .f32 ← Prog.lift (.load arg11 (Rect.unit (s := S8x1024) ![1, 0] S1x1024.size inb_S8x1024_S1x1024_1_0).toLoadRect (View.loadsAt_vmem h_S1x1024))
    let v100 : Vec F S1x1024 .f32 ← Prog.lift (.load arg11 (Rect.unit (s := S8x1024) ![1, 0] S1x1024.size inb_S8x1024_S1x1024_1_0).toLoadRect (View.loadsAt_vmem h_S1x1024))
    Prog.lift (.store arg11 (Rect.unit (s := S8x1024) ![1, 0] S1x1024.size inb_S8x1024_S1x1024_1_0) (k0_pay6 (k0_pay11 v39 v40 v55) v97) Finset.univ (View.stores_vmem_bits_univ h_S1x1024 rfl) (.inl rfl))
    let v101 : Vec F S1x1024 .f32 ← Prog.lift (.load arg11 (Rect.unit (s := S8x1024) ![3, 0] S1x1024.size inb_S8x1024_S1x1024_3_0).toLoadRect (View.loadsAt_vmem h_S1x1024))
    let v104 : Vec F S1x1024 .f32 ← Prog.lift (.load arg11 (Rect.unit (s := S8x1024) ![3, 0] S1x1024.size inb_S8x1024_S1x1024_3_0).toLoadRect (View.loadsAt_vmem h_S1x1024))
    Prog.lift (.store arg11 (Rect.unit (s := S8x1024) ![3, 0] S1x1024.size inb_S8x1024_S1x1024_3_0) (k0_pay7 (k0_pay14 v38 v39 v55) v101) Finset.univ (View.stores_vmem_bits_univ h_S1x1024 rfl) (.inl rfl))
    pure ⟨⟩
  else do
    pure ⟨⟩

set_option maxHeartbeats 4000000 in
/-- The body is its parts one after another. -/
theorem body_parts (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x512x1024 .bf16) (harg5 : arg5.IsWhole) (arg6 : Memref sig .tc .vmem S9x1024 .f32) (harg6 : arg6.IsWhole) (arg7 : Memref sig .tc .vmem S1x1024 .f32) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S1x1024x1024 .bf16) (harg10 : arg10.IsWhole) (arg11 : Memref sig .tc .vmem S8x1024 .f32) (harg11 : arg11.IsWhole) (arg12 : Memref sig .tc .vmem S512x1024 .bf16) (harg12 : arg12.IsWhole) (arg13 : Memref sig .tc .vmem S8x512x1024 .f32) (harg13 : arg13.IsWhole) (arg14 : Memref sig .tc .vmem S1024x1024 .f32) (harg14 : arg14.IsWhole) :
    cc0_mixin_bwd (F := F) i arg2 harg2 arg3 harg3 arg4 harg4 arg5 harg5 arg6 harg6 arg7 harg7 arg8 harg8 arg9 harg9 arg10 harg10 arg11 harg11 arg12 harg12 arg13 harg13 arg14 harg14 = (do
      clearBlock i arg14 harg14
      clearPlane i arg13 harg13
      clearSums i arg11 harg11
      addProducts i arg3 harg3 arg5 harg5 arg8 harg8 arg13 harg13 arg14 harg14
      storeBlock i arg10 harg10 arg14 harg14
      storeRows i arg2 harg2 arg4 harg4 arg6 harg6 arg7 harg7 arg9 harg9 arg11 harg11 arg12 harg12 arg13 harg13) := by
  simp only [cc0_mixin_bwd_eq_skeleton]; unfold cc0_mixin_bwd_skel
  simp only [k0_part2_eq_skeleton, k0_part1_eq_skeleton]
  unfold k0_part2_skel k0_part1_skel clearBlock clearPlane clearSums storeBlock storeRows
  change (_ : Prog (TpuEff nD τ sig (Elt F) Λ₀ .tc) PUnit) = _
  by_cases h1 : blockStarts i = 1#1 <;> by_cases h2 : k0_cond2 i = 1#1 <;> by_cases h3 : k0_cond3 i = 1#1 <;>
    by_cases h4 : k0_cond4 i = 1#1 <;> by_cases h5 : k0_cond5 i = 1#1 <;>
    (have h1' := h1; unfold blockStarts at h1'; simp only [h1, h1', h2, h3, h4, h5, dif_pos, dif_neg, not_false_eq_true]; rfl)

end Cert.MixIdeal.Hand

end
-- ==== Proof.MixParts.lean ====
module

public import proofs.«01_k».proof.Proof.MixRun

/-! The body of `_mixin_bwd` at one grid point, part by part, for any number format: what each part finds and leaves. -/

@[expose] public section

set_option maxRecDepth 16384

noncomputable section

namespace Cert.MixIdeal.Hand

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the parts compute -/

/-- The scratch's plane of the point's rows. -/
def plane (i : grid0.Coords) (d : Vec F S8x512x1024 .f32) : Vec F S1x512x1024 .f32 :=
  View.ld d (Rect.unit (s := S8x512x1024) (k0_off2 i) S1x512x1024.size (k0_off2_inb i))

/-- The scratch with the plane of the point's rows replaced. -/
def setPlane (i : grid0.Coords) (d : Vec F S8x512x1024 .f32) (p : Vec F S1x512x1024 .f32) : Vec F S8x512x1024 .f32 :=
  VecWindow.put d (k0_off2 i) S1x512x1024.size p

/-- A plane with one round's product added. -/
def stepPlane (p : Vec F S1x512x1024 .f32) (dp : Vec F S1x512x1024 .bf16) (w : Vec F S1x1024x1024 .bf16) : Vec F S1x512x1024 .f32 :=
  k0_pay1 (k0_pay22 dp p w)

/-- One of the rows of the modulation. -/
def modRow4 (md : Vec F S9x1024 .f32) : Vec F S1x1024 .f32 :=
  View.ld md (Rect.unit (s := S9x1024) ![4, 0] S1x1024.size inb_S9x1024_S1x1024_4_0)
/-- The row that gates the block before. -/
def modRow2 (md : Vec F S9x1024 .f32) : Vec F S1x1024 .f32 :=
  View.ld md (Rect.unit (s := S9x1024) ![2, 0] S1x1024.size inb_S9x1024_S1x1024_2_0)

/-- The rows of the input's gradient. -/
def dxRows (x dxo : Vec F S512x1024 .f32) (md : Vec F S9x1024 .f32) (g : Vec F S1x1024 .f32) (p : Vec F S1x512x1024 .f32) :
    Vec F S512x1024 .f32 :=
  k0_pay3 (k0_pay8 x) (k0_pay9 x) (k0_pay15 (modRow4 md) p g) (k0_pay16 (modRow4 md) x p g) dxo

/-- The rows handed to the block before. -/
def dfRows (x dxo : Vec F S512x1024 .f32) (md : Vec F S9x1024 .f32) (g : Vec F S1x1024 .f32) (p : Vec F S1x512x1024 .f32) :
    Vec F S512x1024 .bf16 :=
  k0_pay4 (k0_pay8 x) (k0_pay9 x) (k0_pay15 (modRow4 md) p g) (k0_pay16 (modRow4 md) x p g) dxo (modRow2 md)

/-- The sums over rows with one block of rows added. -/
def addSums (s : Vec F S8x1024 .f32) (x : Vec F S512x1024 .f32) (md : Vec F S9x1024 .f32) (g : Vec F S1x1024 .f32)
    (p : Vec F S1x512x1024 .f32) : Vec F S8x1024 .f32 :=
  VecWindow.put
    (VecWindow.put
      (VecWindow.put s ![0, 0] S1x1024.size
        (k0_pay5 (k0_pay12 p) (View.ld s (Rect.unit (s := S8x1024) ![0, 0] S1x1024.size inb_S8x1024_S1x1024_0_0))))
      ![1, 0] S1x1024.size
      (k0_pay6 (k0_pay11 x g p) (View.ld s (Rect.unit (s := S8x1024) ![1, 0] S1x1024.size inb_S8x1024_S1x1024_1_0))))
    ![3, 0] S1x1024.size
    (k0_pay7 (k0_pay14 (modRow4 md) x p) (View.ld s (Rect.unit (s := S8x1024) ![3, 0] S1x1024.size inb_S8x1024_S1x1024_3_0)))

/-- A load of a box from a whole buffer holding `X` reads `X` there. -/
theorem load_unread {sp : Space} {s : Shape} {e : EltTy} {m : Memref sig .tc sp s e} (h : m.IsWhole) (X : s.Idx → Elt F e) (r : Rect s) :
    m.view.readAt (Elt F) r.toLoadRect (h.unread X) = View.ld X r :=
  funext fun x => h.readAt_unread X r.toLoadRect x

/-- A load of all of a buffer's contents reads the contents. -/
theorem load_whole {s : Shape} {e : EltTy} (X : s.Idx → Elt F e) {off : Fin s.rank → ℕ} (inb : ∀ a, off a + s.size a ≤ s.size a) : View.ld X (Rect.unit off s.size inb) = X :=
  funext fun x => congrArg X (Rect.emb_unit_full inb x)

variable (c : Dev nD) (i : grid0.Coords)
  (arg2 : Memref sig .tc .vmem S512x1024 .f32) (harg2 : arg2.IsWhole)
  (arg3 : Memref sig .tc .vmem S512x1024 .bf16) (harg3 : arg3.IsWhole)
  (arg4 : Memref sig .tc .vmem S512x1024 .f32) (harg4 : arg4.IsWhole)
  (arg5 : Memref sig .tc .vmem S1x512x1024 .bf16) (harg5 : arg5.IsWhole)
  (arg6 : Memref sig .tc .vmem S9x1024 .f32) (harg6 : arg6.IsWhole)
  (arg7 : Memref sig .tc .vmem S1x1024 .f32) (harg7 : arg7.IsWhole)
  (arg8 : Memref sig .tc .vmem S1x1024x1024 .bf16) (harg8 : arg8.IsWhole)
  (arg9 : Memref sig .tc .vmem S512x1024 .f32) (harg9 : arg9.IsWhole)
  (arg10 : Memref sig .tc .vmem S1x1024x1024 .bf16) (harg10 : arg10.IsWhole)
  (arg11 : Memref sig .tc .vmem S8x1024 .f32) (harg11 : arg11.IsWhole)
  (arg12 : Memref sig .tc .vmem S512x1024 .bf16) (harg12 : arg12.IsWhole)
  (arg13 : Memref sig .tc .vmem S8x512x1024 .f32) (harg13 : arg13.IsWhole)
  (arg14 : Memref sig .tc .vmem S1024x1024 .f32) (harg14 : arg14.IsWhole)
  (x : Vec F S512x1024 .f32) (h : Vec F S512x1024 .bf16) (dxo : Vec F S512x1024 .f32) (dp : Vec F S1x512x1024 .bf16) (md : Vec F S9x1024 .f32) (g : Vec F S1x1024 .f32) (w : Vec F S1x1024x1024 .bf16) (o9 : Vec F S512x1024 .f32) (o10 : Vec F S1x1024x1024 .bf16) (s : Vec F S8x1024 .f32) (o12 : Vec F S512x1024 .bf16) (d : Vec F S8x512x1024 .f32) (a : Vec F S1024x1024 .f32)
  (E : Set ℕ) (K : PUnit → sProp (MT nD τ sig Unit (Elt F) ℕ (UR sig nD τ) ℕ))

/-- Where a block of the weights' gradient starts, its sum is set to zero. -/
theorem run_clearBlock :
    iprop(owns (c : Thread nD τ) arg14 fullShare a ∗ (iprop(owns (c : Thread nD τ) arg14 fullShare (if blockStarts i = 1#1 then k0_pay17 else a)) -∗ K ⟨⟩))
      ⊢ wp frame (wpE (defs₀ (F := F)) Variants.none c none) E (clearBlock i arg14 harg14) K := by
  unfold clearBlock owns
  iintro ⟨⟨%f14, %hf14, H14⟩, Hk⟩
  obtain rfl := harg14.eq_unread hf14
  by_cases hc : blockStarts i = 1#1
  · simp only [if_pos hc]
    sl_exec (disch := sl_exact hc)
    sl_step
    iapply Hk
    iexists _; isplitr
    swap; · iexact H14
    ipureintro; exact View.read_writes_full _ _ _ _ _
  · simp only [if_neg hc]
    sl_exec (disch := sl_exact hc)
    sl_step
    iapply Hk
    iexists _; isplitr
    swap; · iexact H14
    ipureintro; exact harg14.read_unread _

/-- In the first round the plane of the rows is set to zero. -/
theorem run_clearPlane :
    iprop(owns (c : Thread nD τ) arg13 fullShare d ∗ (iprop(owns (c : Thread nD τ) arg13 fullShare (if k0_cond2 i = 1#1 then setPlane i d k0_pay18 else d)) -∗ K ⟨⟩))
      ⊢ wp frame (wpE (defs₀ (F := F)) Variants.none c none) E (clearPlane i arg13 harg13) K := by
  unfold clearPlane owns
  iintro ⟨⟨%f13, %hf13, H13⟩, Hk⟩
  obtain rfl := harg13.eq_unread hf13
  by_cases hc : k0_cond2 i = 1#1
  · simp only [if_pos hc]
    sl_exec (disch := sl_exact hc)
    sl_step
    iapply Hk
    iexists _; isplitr
    swap; · iexact H13
    ipureintro; rw [View.read_writes_cons_put _ _ _ _ _ (rfl : k0_off1 i = k0_off2 i), View.writes_nil, harg13.read_unread]
    rfl
  · simp only [if_neg hc]
    sl_exec (disch := sl_exact hc)
    sl_step
    iapply Hk
    iexists _; isplitr
    swap; · iexact H13
    ipureintro; exact harg13.read_unread _

/-- At the first point the sums over rows are set to zero. -/
theorem run_clearSums :
    iprop(owns (c : Thread nD τ) arg11 fullShare s ∗ (iprop(owns (c : Thread nD τ) arg11 fullShare (if k0_cond3 i = 1#1 then k0_pay19 else s)) -∗ K ⟨⟩))
      ⊢ wp frame (wpE (defs₀ (F := F)) Variants.none c none) E (clearSums i arg11 harg11) K := by
  unfold clearSums owns
  iintro ⟨⟨%f11, %hf11, H11⟩, Hk⟩
  obtain rfl := harg11.eq_unread hf11
  by_cases hc : k0_cond3 i = 1#1
  · simp only [if_pos hc]
    sl_exec (disch := sl_exact hc)
    sl_step
    iapply Hk
    iexists _; isplitr
    swap; · iexact H11
    ipureintro; exact View.read_writes_full _ _ _ _ _
  · simp only [if_neg hc]
    sl_exec (disch := sl_exact hc)
    sl_step
    iapply Hk
    iexists _; isplitr
    swap; · iexact H11
    ipureintro; exact harg11.read_unread _

/-- The point's products are added to the plane of the rows and to the block of the weights' gradient. -/
theorem run_addProducts :
    iprop(owns (c : Thread nD τ) arg3 fullShare h ∗ owns (c : Thread nD τ) arg5 fullShare dp ∗ owns (c : Thread nD τ) arg8 fullShare w ∗ owns (c : Thread nD τ) arg13 fullShare d ∗ owns (c : Thread nD τ) arg14 fullShare a ∗ (iprop(owns (c : Thread nD τ) arg3 fullShare h ∗ owns (c : Thread nD τ) arg5 fullShare dp ∗ owns (c : Thread nD τ) arg8 fullShare w ∗ owns (c : Thread nD τ) arg13 fullShare (setPlane i d (stepPlane (plane i d) dp w)) ∗ owns (c : Thread nD τ) arg14 fullShare (k0_pay21 dp a h)) -∗ K ⟨⟩))
      ⊢ wp frame (wpE (defs₀ (F := F)) Variants.none c none) E (addProducts i arg3 harg3 arg5 harg5 arg8 harg8 arg13 harg13 arg14 harg14) K := by
  unfold addProducts owns
  iintro ⟨⟨%f3, %hf3, H3⟩, ⟨%f5, %hf5, H5⟩, ⟨%f8, %hf8, H8⟩, ⟨%f13, %hf13, H13⟩, ⟨%f14, %hf14, H14⟩, Hk⟩
  obtain rfl := harg3.eq_unread hf3; obtain rfl := harg5.eq_unread hf5; obtain rfl := harg8.eq_unread hf8; obtain rfl := harg13.eq_unread hf13; obtain rfl := harg14.eq_unread hf14
  sl_exec
  sl_step
  iapply Hk
  have hh : View.ld h (Rect.unit ![0, 0] ![512, 1024] inb_S512x1024_S512x1024_0_0) = h := load_whole h _
  have hp : View.ld dp (Rect.unit ![0, 0, 0] ![1, 512, 1024] inb_S1x512x1024_S1x512x1024_0_0_0) = dp := load_whole dp _
  have hw : View.ld w (Rect.unit ![0, 0, 0] ![1, 1024, 1024] inb_S1x1024x1024_S1x1024x1024_0_0_0) = w := load_whole w _
  have ha : View.ld a (Rect.unit ![0, 0] ![1024, 1024] inb_S1024x1024_S1024x1024_0_0) = a := load_whole a _
  isplitl [H3]
  · iexists _; isplitr
    swap; · iexact H3
    ipureintro; exact harg3.read_unread _
  isplitl [H5]
  · iexists _; isplitr
    swap; · iexact H5
    ipureintro; exact harg5.read_unread _
  isplitl [H8]
  · iexists _; isplitr
    swap; · iexact H8
    ipureintro; exact harg8.read_unread _
  isplitl [H13]
  · iexists _; isplitr
    swap; · iexact H13
    ipureintro; rw [View.read_writes_cons_put _ _ _ _ _ rfl, View.writes_nil, harg13.read_unread]
    simp only [load_unread, hp, hw]
    rfl
  iexists _; isplitr
  swap; · iexact H14
  ipureintro; refine (View.read_writes_full _ _ _ _ _).trans ?_
  simp only [load_unread, hh, hp, ha]

/-- At the last block of rows the sum of products is stored. -/
theorem run_storeBlock :
    iprop(owns (c : Thread nD τ) arg10 fullShare o10 ∗ owns (c : Thread nD τ) arg14 fullShare a ∗ (iprop(owns (c : Thread nD τ) arg10 fullShare (if k0_cond4 i = 1#1 then k0_pay2 a else o10) ∗ owns (c : Thread nD τ) arg14 fullShare a) -∗ K ⟨⟩))
      ⊢ wp frame (wpE (defs₀ (F := F)) Variants.none c none) E (storeBlock i arg10 harg10 arg14 harg14) K := by
  unfold storeBlock owns
  iintro ⟨⟨%f10, %hf10, H10⟩, ⟨%f14, %hf14, H14⟩, Hk⟩
  obtain rfl := harg10.eq_unread hf10; obtain rfl := harg14.eq_unread hf14
  by_cases hc : k0_cond4 i = 1#1
  · simp only [if_pos hc]
    sl_exec (disch := sl_exact hc)
    sl_step
    iapply Hk
    isplitl [H10]
    · iexists _; isplitr
      swap; · iexact H10
      ipureintro; refine (View.read_writes_full _ _ _ _ _).trans ?_
      simp only [load_unread]
      exact congrArg k0_pay2 (load_whole a _)
    iexists _; isplitr
    swap; · iexact H14
    ipureintro; exact harg14.read_unread _
  · simp only [if_neg hc]
    sl_exec (disch := sl_exact hc)
    sl_step
    iapply Hk
    isplitl [H10]
    · iexists _; isplitr
      swap; · iexact H10
      ipureintro; exact harg10.read_unread _
    iexists _; isplitr
    swap; · iexact H14
    ipureintro; exact harg14.read_unread _

set_option maxHeartbeats 1000000 in
/-- In the last round the rows go back through the norm, and the sums over rows are added to. -/
theorem run_storeRows :
    iprop(owns (c : Thread nD τ) arg2 fullShare x ∗ owns (c : Thread nD τ) arg4 fullShare dxo ∗ owns (c : Thread nD τ) arg6 fullShare md ∗ owns (c : Thread nD τ) arg7 fullShare g ∗ owns (c : Thread nD τ) arg9 fullShare o9 ∗ owns (c : Thread nD τ) arg11 fullShare s ∗ owns (c : Thread nD τ) arg12 fullShare o12 ∗ owns (c : Thread nD τ) arg13 fullShare d ∗ (iprop(owns (c : Thread nD τ) arg2 fullShare x ∗ owns (c : Thread nD τ) arg4 fullShare dxo ∗ owns (c : Thread nD τ) arg6 fullShare md ∗ owns (c : Thread nD τ) arg7 fullShare g ∗ owns (c : Thread nD τ) arg9 fullShare (if k0_cond5 i = 1#1 then dxRows x dxo md g (plane i d) else o9) ∗ owns (c : Thread nD τ) arg11 fullShare (if k0_cond5 i = 1#1 then addSums s x md g (plane i d) else s) ∗ owns (c : Thread nD τ) arg12 fullShare (if k0_cond5 i = 1#1 then dfRows x dxo md g (plane i d) else o12) ∗ owns (c : Thread nD τ) arg13 fullShare d) -∗ K ⟨⟩))
      ⊢ wp frame (wpE (defs₀ (F := F)) Variants.none c none) E (storeRows i arg2 harg2 arg4 harg4 arg6 harg6 arg7 harg7 arg9 harg9 arg11 harg11 arg12 harg12 arg13 harg13) K := by
  unfold storeRows owns
  iintro ⟨⟨%f2, %hf2, H2⟩, ⟨%f4, %hf4, H4⟩, ⟨%f6, %hf6, H6⟩, ⟨%f7, %hf7, H7⟩, ⟨%f9, %hf9, H9⟩, ⟨%f11, %hf11, H11⟩, ⟨%f12, %hf12, H12⟩, ⟨%f13, %hf13, H13⟩, Hk⟩
  obtain rfl := harg2.eq_unread hf2; obtain rfl := harg4.eq_unread hf4; obtain rfl := harg6.eq_unread hf6; obtain rfl := harg7.eq_unread hf7; obtain rfl := harg9.eq_unread hf9; obtain rfl := harg11.eq_unread hf11; obtain rfl := harg12.eq_unread hf12; obtain rfl := harg13.eq_unread hf13
  by_cases hc : k0_cond5 i = 1#1
  · simp only [if_pos hc]
    sl_exec (disch := sl_exact hc)
    sl_step
    iapply Hk
    have e55 : run_storeRows.sl.v55 i arg13 harg13 d hc = plane i d := load_unread harg13 d _
    have hx : View.ld x (Rect.unit ![0, 0] ![512, 1024] inb_S512x1024_S512x1024_0_0) = x := load_whole x _
    have hd : View.ld dxo (Rect.unit ![0, 0] ![512, 1024] inb_S512x1024_S512x1024_0_0) = dxo := load_whole dxo _
    have hg : View.ld g (Rect.unit ![0, 0] ![1, 1024] inb_S1x1024_S1x1024_0_0) = g := load_whole g _
    isplitl [H2]
    · iexists _; isplitr
      swap; · iexact H2
      ipureintro; exact harg2.read_unread _
    isplitl [H4]
    · iexists _; isplitr
      swap; · iexact H4
      ipureintro; exact harg4.read_unread _
    isplitl [H6]
    · iexists _; isplitr
      swap; · iexact H6
      ipureintro; exact harg6.read_unread _
    isplitl [H7]
    · iexists _; isplitr
      swap; · iexact H7
      ipureintro; exact harg7.read_unread _
    isplitl [H9]
    · iexists _; isplitr
      swap; · iexact H9
      ipureintro; refine (View.read_writes_full _ _ _ _ _).trans ?_
      simp only [load_unread, hx, hd, hg, e55]
      rfl
    isplitl [H11]
    · iexists _; isplitr
      swap; · iexact H11
      ipureintro; rw [View.read_writes_cons_put _ _ _ _ _ rfl, View.read_writes_cons_put _ _ _ _ _ rfl, View.read_writes_cons_put _ _ _ _ _ rfl,
        View.writes_nil, harg11.read_unread]
      unfold run_storeRows.sl.v97 run_storeRows.sl.v101
      simp only [load_unread, hx, hg, e55]
      rfl
    isplitl [H12]
    · iexists _; isplitr
      swap; · iexact H12
      ipureintro; refine (View.read_writes_full _ _ _ _ _).trans ?_
      simp only [load_unread, hx, hd, hg, e55]
      rfl
    iexists _; isplitr
    swap; · iexact H13
    ipureintro; exact harg13.read_unread _
  · simp only [if_neg hc]
    sl_exec (disch := sl_exact hc)
    sl_step
    iapply Hk
    isplitl [H2]
    · iexists _; isplitr
      swap; · iexact H2
      ipureintro; exact harg2.read_unread _
    isplitl [H4]
    · iexists _; isplitr
      swap; · iexact H4
      ipureintro; exact harg4.read_unread _
    isplitl [H6]
    · iexists _; isplitr
      swap; · iexact H6
      ipureintro; exact harg6.read_unread _
    isplitl [H7]
    · iexists _; isplitr
      swap; · iexact H7
      ipureintro; exact harg7.read_unread _
    isplitl [H9]
    · iexists _; isplitr
      swap; · iexact H9
      ipureintro; exact harg9.read_unread _
    isplitl [H11]
    · iexists _; isplitr
      swap; · iexact H11
      ipureintro; exact harg11.read_unread _
    isplitl [H12]
    · iexists _; isplitr
      swap; · iexact H12
      ipureintro; exact harg12.read_unread _
    iexists _; isplitr
    swap; · iexact H13
    ipureintro; exact harg13.read_unread _

end Cert.MixIdeal.Hand

end
-- ==== Proof.MixFrame.lean ====
module

public import proofs.«01_k».proof.Proof.MixParts
public import Idealize.ShloMosaic.Lib.Claim
public import Idealize.ShloMosaic.Lib.WordCmp

/-! The frame of `_mixin_bwd`: what each grid point finds and leaves, for any number format. One scratch keeps a plane for
each block of rows, added to in every round; the other keeps the current block of the weights' gradient. -/

@[expose] public section

set_option maxRecDepth 16384

noncomputable section

namespace Cert.MixIdeal.Hand

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid -/

/-- There are sixty-four grid points. -/
theorem lt_64 (t : Fin cfg0.N) : t.val < 64 := Nat.lt_of_lt_of_eq t.isLt N_0

/-- The point of a round and a block of rows. -/
def point (k r : ℕ) : Fin cfg0.N := ⟨(8 * k + r) % 64, Nat.lt_of_lt_of_eq (Nat.mod_lt _ (by decide)) N_0.symm⟩

/-- Every point is the one of its round and its rows. -/
theorem point_self (t : Fin cfg0.N) : point (t.val / 8) (t.val % 8) = t := Fin.ext (by
  have := lt_64 t
  show (8 * (t.val / 8) + t.val % 8) % 64 = t.val
  omega)

/-- The inner coordinate of a point: which block of rows it takes. -/
theorem coord_rows (t : Fin cfg0.N) : (grid0.coords t 1).val = t.val / 1 % 8 := Pipeline.Grid.coords_val t 1 (by decide) rfl

/-- A block of the weights' gradient starts at the first block of rows. -/
theorem block_iff (t : Fin cfg0.N) : blockStarts (grid0.coords t) = 1#1 ↔ t.val % 8 = 0 :=
  (by decide +kernel : ∀ t : Fin grid0.N, blockStarts (grid0.coords t) = 1#1 ↔ t.val % 8 = 0) t
/-- The planes are set to zero in the first round. -/
theorem plane_iff (t : Fin cfg0.N) : k0_cond2 (grid0.coords t) = 1#1 ↔ t.val < 8 :=
  (by decide +kernel : ∀ t : Fin grid0.N, k0_cond2 (grid0.coords t) = 1#1 ↔ t.val < 8) t
/-- The sums are set to zero at the first point only. -/
theorem sums_iff (t : Fin cfg0.N) : k0_cond3 (grid0.coords t) = 1#1 ↔ t.val = 0 :=
  (by decide +kernel : ∀ t : Fin grid0.N, k0_cond3 (grid0.coords t) = 1#1 ↔ t.val = 0) t
/-- A block of the weights' gradient is stored at the last block of rows. -/
theorem store_iff (t : Fin cfg0.N) : k0_cond4 (grid0.coords t) = 1#1 ↔ t.val % 8 = 7 :=
  (by decide +kernel : ∀ t : Fin grid0.N, k0_cond4 (grid0.coords t) = 1#1 ↔ t.val % 8 = 7) t
/-- Rows are stored in the last round. -/
theorem last_iff (t : Fin cfg0.N) : k0_cond5 (grid0.coords t) = 1#1 ↔ 56 ≤ t.val :=
  (by decide +kernel : ∀ t : Fin grid0.N, k0_cond5 (grid0.coords t) = 1#1 ↔ 56 ≤ t.val) t

/-- Both row windows are idle until the last round. -/
theorem idle_rows (t : Fin cfg0.N) : (cfg0.idle 7 (grid0.coords t) = true ↔ t.val < 56) ∧ (cfg0.idle 10 (grid0.coords t) = true ↔ t.val < 56) :=
  (by decide +kernel : ∀ t : Fin grid0.N, (cfg0.idle 7 (grid0.coords t) = true ↔ t.val < 56) ∧ (cfg0.idle 10 (grid0.coords t) = true ↔ t.val < 56)) t
/-- The weights' window is idle but at the last block of rows. -/
theorem idle_block (t : Fin cfg0.N) : cfg0.idle 8 (grid0.coords t) = true ↔ t.val % 8 ≠ 7 :=
  (by decide +kernel : ∀ t : Fin grid0.N, cfg0.idle 8 (grid0.coords t) = true ↔ t.val % 8 ≠ 7) t
/-- The sums' window is idle but at the first point and in the last round. -/
theorem idle_sums (t : Fin cfg0.N) : cfg0.idle 9 (grid0.coords t) = true ↔ (t.val ≠ 0 ∧ t.val < 56) :=
  (by decide +kernel : ∀ t : Fin grid0.N, cfg0.idle 9 (grid0.coords t) = true ↔ (t.val ≠ 0 ∧ t.val < 56)) t
/-- Both row windows are written back in the last round only. -/
theorem flush_rows (t : Fin cfg0.N) : ((cfg0.win 7).flush t = true ↔ 56 ≤ t.val) ∧ ((cfg0.win 10).flush t = true ↔ 56 ≤ t.val) :=
  (by decide +kernel : ∀ t : Fin grid0.N, ((cfg0.win 7).flush t = true ↔ 56 ≤ t.val) ∧ ((cfg0.win 10).flush t = true ↔ 56 ≤ t.val)) t
/-- The sums are written back at the last point only. -/
theorem flush_sums (t : Fin cfg0.N) : (cfg0.win 9).flush t = true ↔ t.val = 63 :=
  (flush0_9 t).trans (by have := lt_64 t; omega)

/-! ## The scratch's planes -/

/-- The plane just replaced is the new one. -/
theorem plane_setPlane (i : grid0.Coords) (d : Vec F S8x512x1024 .f32) (p : Vec F S1x512x1024 .f32) : plane i (setPlane i d p) = p :=
  VecWindow.window_put_same d (k0_off2 i) S1x512x1024.size (k0_off2_inb i) p

/-- The planes of other rows are as before. -/
theorem plane_setPlane_of_ne (i j : grid0.Coords) (h : (i 1).val ≠ (j 1).val) (d : Vec F S8x512x1024 .f32) (p : Vec F S1x512x1024 .f32) :
    plane i (setPlane j d p) = plane i d := by
  have hi : k0_off2 i 0 = (i 1).val := congrFun (k0_off2_eq i) 0
  have hj : k0_off2 j 0 = (j 1).val := congrFun (k0_off2_eq j) 0
  exact VecWindow.window_put_of_disjoint d (k0_off2 j) S1x512x1024.size (k0_off2 i) S1x512x1024.size (k0_off2_inb i) p 0 (by
    have e : S1x512x1024.size 0 = 1 := rfl
    rw [hi, hj, e]; omega)

/-- Where a plane lies depends on the rows alone. -/
theorem plane_congr (i j : grid0.Coords) (h : (i 1).val = (j 1).val) (d : Vec F S8x512x1024 .f32) : plane i d = plane j d := by
  have e : k0_off2 i = k0_off2 j := by rw [k0_off2_eq, k0_off2_eq, h]
  unfold plane
  generalize k0_off2_inb i = p, k0_off2_inb j = q
  revert p q
  rw [e]
  exact fun _ _ => rfl

variable (m : (ℓ : Loc nD τ sig) → Buf (Elt F) ℓ) (ρ : Dev nD → PrngReg)

/-! ## What the points compute -/

/-- The plane of a block of rows after each round. -/
def planeAt (c : Dev nD) (r : ℕ) : ℕ → Vec F S1x512x1024 .f32
  | 0 => stepPlane k0_pay18 (iblk m c 3 (point 0 r)) (iblk m c 6 (point 0 r))
  | k + 1 => stepPlane (planeAt c r k) (iblk m c 3 (point (k + 1) r)) (iblk m c 6 (point (k + 1) r))

/-- The plane a point leaves. -/
def planeOf (c : Dev nD) (t : Fin cfg0.N) : Vec F S1x512x1024 .f32 := planeAt m c (t.val % 8) (t.val / 8)

/-- The block of the weights' gradient after each point. -/
def blockAt (c : Dev nD) : (n : ℕ) → n < cfg0.N → Vec F S1024x1024 .f32
  | 0, h => k0_pay21 (iblk m c 3 ⟨0, h⟩) k0_pay17 (iblk m c 1 ⟨0, h⟩)
  | n + 1, h => k0_pay21 (iblk m c 3 ⟨n + 1, h⟩) (if (n + 1) % 8 = 0 then k0_pay17 else blockAt c n (Nat.lt_of_succ_lt h)) (iblk m c 1 ⟨n + 1, h⟩)

/-- The rows of the input's gradient a point of the last round stores, -/
def rowsAt (c : Dev nD) (t : Fin cfg0.N) : Vec F S512x1024 .f32 :=
  dxRows (iblk m c 0 t) (iblk m c 2 t) (iblk m c 4 t) (iblk m c 5 t) (planeOf m c t)

/-- and those it hands to the block before. -/
def gatedAt (c : Dev nD) (t : Fin cfg0.N) : Vec F S512x1024 .bf16 :=
  dfRows (iblk m c 0 t) (iblk m c 2 t) (iblk m c 4 t) (iblk m c 5 t) (planeOf m c t)

/-- The sums with a point's rows added. -/
def sumsStep (c : Dev nD) (t : Fin cfg0.N) (s : Vec F S8x1024 .f32) : Vec F S8x1024 .f32 :=
  addSums s (iblk m c 0 t) (iblk m c 4 t) (iblk m c 5 t) (planeOf m c t)

/-- The sums after each point: zero until the last round. -/
def sumsAt (c : Dev nD) : (n : ℕ) → n < cfg0.N → Vec F S8x1024 .f32
  | 0, _ => k0_pay19
  | n + 1, h => if n + 1 < 56 then sumsAt c n (Nat.lt_of_succ_lt h) else sumsStep m c ⟨n + 1, h⟩ (sumsAt c n (Nat.lt_of_succ_lt h))

/-- The scratch that carries the planes of all blocks of rows. -/
abbrev scP : Memref sig .tc .vmem S8x512x1024 .f32 := Memref.whole cc0_scratch0
/-- The scratch that carries the block of the weights' gradient. -/
abbrev scB : Memref sig .tc .vmem S1024x1024 .f32 := Memref.whole cc0_scratch1

/-- Between points the first scratch holds the plane of every block of rows visited in the last eight points, -/
def PlanesHeld (c : Dev nD) (n : ℕ) (d : Vec F S8x512x1024 .f32) : Prop :=
  ∀ k : Fin cfg0.N, k.val < n → n ≤ k.val + 8 → plane (grid0.coords k) d = planeOf m c k

/-- and the second the block of the weights' gradient as the point before left it. -/
def BlockHeld (c : Dev nD) (n : ℕ) (a : Vec F S1024x1024 .f32) : Prop :=
  ∀ (k : ℕ) (h : k < cfg0.N), k + 1 = n → a = blockAt m c k h

/-- The world that the frame is stated in. -/
abbrev World (F : FTy → Type) [FloatOps F] := MT nD τ sig Unit (Elt F) ℕ (UR sig nD τ) ℕ

/-- What the body keeps between points. -/
def Keep (c : Dev nD) (n : ℕ) : sProp (World F) :=
  iprop(((∃ d, iprop(⌜PlanesHeld m c n d⌝ ∗ owns (c : Thread nD τ) scP fullShare d)) ∗ (∃ a, iprop(⌜BlockHeld m c n a⌝ ∗ owns (c : Thread nD τ) scB fullShare a)))
    ∗ (∃ r, prngReg c r))

/-- The resources at entry are the two scratch buffers, whatever they hold. -/
theorem entry_eq (c : Dev nD) :
    (Pipeline.ΦA spec0 c : sProp (World F)) = iprop(((∃ d, owns (c : Thread nD τ) scP fullShare d) ∗ (∃ a, owns (c : Thread nD τ) scB fullShare a)) ∗ (∃ r, prngReg c r)) := by
  unfold Pipeline.ΦA; rw [scopedRest0_eq]; simp only [scP, scB, owns_whole]; try rfl

/-- The proof data: the arrays as found, each input's buffer at its block, the results' at what the points compute. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAt m c t
    | ⟨8, _⟩ => k0_pay2 (blockAt m c t.val t.isLt)
    | ⟨9, _⟩ => sumsAt m c t.val t.isLt
    | ⟨10, _⟩ => gatedAt m c t
  Φ t := Keep m c t.val
  q _ := fullShare
  owed _ := 0

/-- The array of a window at entry is the launch entry of its buffer. -/
theorem A_eq (c : Dev nD) (w : Fin cfg0.W) : (dats m 0 c).A w = V m c (Pipeline.arrRef spec0 w) := by
  dsimp only [dats]

/-- What each window holds after a point: an input's block, or what the point computes. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsAt m c t := by dsimp only [dats]
theorem after_8 (c : Dev nD) (t : Fin cfg0.N) : (dats m 0 c).after 8 t = k0_pay2 (blockAt m c t.val t.isLt) := by dsimp only [dats]
theorem after_9 (c : Dev nD) (t : Fin cfg0.N) : (dats m 0 c).after 9 t = sumsAt m c t.val t.isLt := by dsimp only [dats]
theorem after_10 (c : Dev nD) (t : Fin cfg0.N) : (dats m 0 c).after 10 t = gatedAt m c t := by dsimp only [dats]

/-- What each input window holds before a point is its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The sums' buffer at a point: what the points before left there. -/
theorem before_sums (c : Dev nD) : ∀ (n : ℕ) (h : n + 1 < cfg0.N) (d), (dats m 0 c).before 9 ⟨n + 1, h⟩ d = sumsAt m c n (Nat.lt_of_succ_lt h)
  | n, h, d => by
    have hN : n + 1 < 64 := Nat.lt_of_lt_of_eq h N_0
    have hf : ¬(cfg0.win 9).flush ⟨n, Nat.lt_of_succ_lt h⟩ = true := fun e => by
      have := (flush_sums _).1 e; simp only at this; omega
    refine ((dats m 0 c).before_of_pos 9 ⟨n + 1, h⟩ (Nat.succ_ne_zero n) ((cfg0.win 9).fetch_out rfl _) d).trans ?_
    refine (if_neg hf).trans ?_
    show (dats m 0 c).left 9 ⟨n, Nat.lt_of_succ_lt h⟩ d = _
    unfold Dat.left
    by_cases hi : cfg0.idle 9 (grid0.coords ⟨n, Nat.lt_of_succ_lt h⟩) = true
    · have h8 := (idle_sums _).1 hi
      rw [hi]
      obtain ⟨k, rfl⟩ : ∃ k, n = k + 1 := Nat.exists_eq_succ_of_ne_zero h8.1
      refine (before_sums c k (Nat.lt_of_succ_lt h) d).trans ?_
      exact (if_pos h8.2).symm
    · rw [eq_false_of_ne_true hi]
      exact after_9 m c _

/-! ## The body at a point -/

/-- Each input window is left as it was found. -/
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]

/-- The row window after a point: stored in the last round, as found before. -/
theorem leaves_rows (c : Dev nD) (t : Fin cfg0.N) (d) :
    owns (c : Thread nD τ) (st0_7 t) fullShare (if k0_cond5 (grid0.coords t) = 1#1 then rowsAt m c t else (dats m 0 c).before 7 t d)
      ⊢ (dats m 0 c).leavesExact 7 t := by
  by_cases h : 56 ≤ t.val
  · unfold Dat.leavesExact
    rw [if_pos ((last_iff t).2 h), eq_false_of_ne_true fun e => absurd ((idle_rows t).1.1 e) (by omega), after_7]
  · rw [if_neg fun e => h ((last_iff t).1 e), Dat.leavesExact_idle (dats m 0 c) 7 t ((idle_rows t).1.2 (by omega)) (eq_false_of_ne_true fun e => h ((flush_rows t).1.1 e))]
    iintro H; iexists _; iexact H

/-- The gated rows' window likewise. -/
theorem leaves_gated (c : Dev nD) (t : Fin cfg0.N) (d) :
    owns (c : Thread nD τ) (st0_10 t) fullShare (if k0_cond5 (grid0.coords t) = 1#1 then gatedAt m c t else (dats m 0 c).before 10 t d)
      ⊢ (dats m 0 c).leavesExact 10 t := by
  by_cases h : 56 ≤ t.val
  · unfold Dat.leavesExact
    rw [if_pos ((last_iff t).2 h), eq_false_of_ne_true fun e => absurd ((idle_rows t).2.1 e) (by omega), after_10]
  · rw [if_neg fun e => h ((last_iff t).1 e), Dat.leavesExact_idle (dats m 0 c) 10 t ((idle_rows t).2.2 (by omega)) (eq_false_of_ne_true fun e => h ((flush_rows t).2.1 e))]
    iintro H; iexists _; iexact H

/-- The weights' window after a point: stored at the last block of rows. -/
theorem leaves_block (c : Dev nD) (t : Fin cfg0.N) (d) :
    owns (c : Thread nD τ) (st0_8 t) fullShare (if k0_cond4 (grid0.coords t) = 1#1 then k0_pay2 (blockAt m c t.val t.isLt) else (dats m 0 c).before 8 t d)
      ⊢ (dats m 0 c).leavesExact 8 t := by
  by_cases h : t.val % 8 = 7
  · unfold Dat.leavesExact
    rw [if_pos ((store_iff t).2 h), eq_false_of_ne_true fun e => absurd ((idle_block t).1 e) (by omega), after_8]
  · rw [if_neg fun e => h ((store_iff t).1 e), Dat.leavesExact_idle (dats m 0 c) 8 t ((idle_block t).2 h) (eq_false_of_ne_true fun e => h ((flush0_8 t).1 e))]
    iintro H; iexists _; iexact H

/-- The sums' window after a point. -/
theorem leaves_sums (c : Dev nD) (t : Fin cfg0.N) (d) :
    owns (c : Thread nD τ) (st0_9 t) fullShare
        (if k0_cond5 (grid0.coords t) = 1#1 then sumsStep m c t (if k0_cond3 (grid0.coords t) = 1#1 then k0_pay19 else (dats m 0 c).before 9 t d)
          else if k0_cond3 (grid0.coords t) = 1#1 then k0_pay19 else (dats m 0 c).before 9 t d)
      ⊢ (dats m 0 c).leavesExact 9 t := by
  obtain ⟨n, hn⟩ := t
  rcases n with _ | n
  · rw [if_neg fun e => absurd ((last_iff _).1 e) (by simp only; omega), if_pos ((sums_iff _).2 rfl)]
    unfold Dat.leavesExact
    rw [eq_false_of_ne_true fun e => absurd ((idle_sums _).1 e).1 (by simp only; omega), after_9]
    exact .rfl
  · rw [if_neg fun e => absurd ((sums_iff _).1 e) (Nat.succ_ne_zero n)]
    by_cases h : 56 ≤ n + 1
    · rw [if_pos ((last_iff _).2 h), before_sums]
      unfold Dat.leavesExact
      rw [eq_false_of_ne_true fun e => absurd ((idle_sums _).1 e).2 (Nat.not_lt.2 h), after_9]
      rw [show sumsAt m c (n + 1) hn = sumsStep m c ⟨n + 1, hn⟩ (sumsAt m c n (Nat.lt_of_succ_lt hn)) from if_neg (Nat.not_lt.2 h)]
    · rw [if_neg fun e => h ((last_iff _).1 e), Dat.leavesExact_idle (dats m 0 c) 9 _ ((idle_sums _).2 ⟨Nat.succ_ne_zero n, Nat.lt_of_not_le h⟩)
        (eq_false_of_ne_true fun e => h (by have := (flush_sums _).1 e; simp only at this; omega))]
      iintro H; iexists _; iexact H

/-- What the body is called with at a point, -/
def bodyPre (c : Dev nD) (t : Fin cfg0.N) : sProp (World F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The invariant that a point is entered with. -/
theorem enters (c : Dev nD) (t : Fin cfg0.N) : (dats m 0 c).Φ t.castSucc = Keep m c t.val := by dsimp only [dats]; rfl
/-- The invariant that a point is left with. -/
theorem leaves_kept (c : Dev nD) (t : Fin cfg0.N) : (dats m 0 c).Φ t.succ = Keep m c (t.val + 1) := by dsimp only [dats]; rfl
/-- No copy is owed across a point. -/
theorem owes_same (c : Dev nD) (t : Fin cfg0.N) : (dats m 0 c).owesAt () t.succ = (dats m 0 c).owesAt () t.castSucc := rfl

/-- The block of the weights' gradient a point computes from the one it finds. -/
theorem block_step (c : Dev nD) (t : Fin cfg0.N) (a : Vec F S1024x1024 .f32) (ha : BlockHeld m c t.val a) :
    k0_pay21 (iblk m c 3 t) (if blockStarts (grid0.coords t) = 1#1 then k0_pay17 else a) (iblk m c 1 t) = blockAt m c t.val t.isLt := by
  obtain ⟨n, hn⟩ := t
  rcases n with _ | n
  · rw [if_pos ((block_iff _).2 rfl)]; rfl
  · rw [ha n (Nat.lt_of_succ_lt hn) rfl]
    by_cases h : (n + 1) % 8 = 0
    · rw [if_pos ((block_iff _).2 h)]; show _ = k0_pay21 _ (if _ then _ else _) _; rw [if_pos h]
    · rw [if_neg fun e => h ((block_iff _).1 e)]; show _ = k0_pay21 _ (if _ then _ else _) _; rw [if_neg h]

/-- The scratch's planes as a point starts from them. -/
def cleared (t : Fin cfg0.N) (d : Vec F S8x512x1024 .f32) : Vec F S8x512x1024 .f32 :=
  if k0_cond2 (grid0.coords t) = 1#1 then setPlane (grid0.coords t) d k0_pay18 else d

/-- The plane a point computes from the one it finds. -/
theorem plane_step (c : Dev nD) (t : Fin cfg0.N) (d : Vec F S8x512x1024 .f32) (hd : PlanesHeld m c t.val d) :
    stepPlane (plane (grid0.coords t) (cleared t d)) (iblk m c 3 t) (iblk m c 6 t) = planeOf m c t := by
  have hN := lt_64 t
  unfold cleared
  by_cases h : t.val < 8
  · rw [if_pos ((plane_iff t).2 h), plane_setPlane]
    have e0 : t.val / 8 = 0 := by omega
    have ep : point 0 (t.val % 8) = t := by have := point_self t; rwa [e0] at this
    unfold planeOf; rw [e0]; unfold planeAt; rw [ep]
  · rw [if_neg fun e => h ((plane_iff t).1 e)]
    obtain ⟨k, hk⟩ : ∃ k, t.val / 8 = k + 1 := ⟨t.val / 8 - 1, by omega⟩
    have hb : t.val - 8 < cfg0.N := Nat.lt_of_le_of_lt (Nat.sub_le _ _) t.isLt
    have e1 := hd ⟨t.val - 8, hb⟩ (by simp only; omega) (by simp only; omega)
    rw [plane_congr (grid0.coords t) (grid0.coords ⟨t.val - 8, hb⟩) (by rw [coord_rows, coord_rows]; simp only; omega), e1]
    have ep : point (k + 1) (t.val % 8) = t := by have := point_self t; rwa [hk] at this
    have e2 : planeOf m c ⟨t.val - 8, hb⟩ = planeAt m c (t.val % 8) k := by
      unfold planeOf
      rw [show (⟨t.val - 8, hb⟩ : Fin cfg0.N).val = t.val - 8 from rfl, show (t.val - 8) % 8 = t.val % 8 by omega, show (t.val - 8) / 8 = k by omega]
    rw [e2]; unfold planeOf; rw [hk]; show _ = stepPlane _ _ _; rw [ep]

/-- What the planes are after a point. -/
theorem planes_kept (c : Dev nD) (t : Fin cfg0.N) (d : Vec F S8x512x1024 .f32) (hd : PlanesHeld m c t.val d) :
    PlanesHeld m c (t.val + 1) (setPlane (grid0.coords t) (cleared t d) (planeOf m c t)) := fun k hk hn => by
  have hN := lt_64 t
  by_cases e : k = t
  · subst e; exact plane_setPlane _ _ _
  · have hv : k.val ≠ t.val := fun h => e (Fin.ext h)
    have hne : (grid0.coords k 1).val ≠ (grid0.coords t 1).val := by rw [coord_rows, coord_rows]; omega
    rw [plane_setPlane_of_ne _ _ hne, ← hd k (by omega) (by omega)]
    unfold cleared
    by_cases h : k0_cond2 (grid0.coords t) = 1#1
    · rw [if_pos h, plane_setPlane_of_ne _ _ hne]
    · rw [if_neg h]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_parts]
  simp only [wp_bind]
  simp only [before_0, before_1, before_2, before_3, before_4, before_5, before_6, leaves_0, leaves_1, leaves_2, leaves_3,
    leaves_4, leaves_5, leaves_6, enters, leaves_kept, owes_same]
  unfold Keep
  iintro ⟨⟨⟨⟨%d, %hd, Hp⟩, ⟨%a, %ha, Hb⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_clearBlock (F := F) (c := c) (i := grid0.coords t))
  isplitl [Hb]; · iexact Hb
  iintro Hb
  iapply (run_clearPlane (F := F) (c := c) (i := grid0.coords t))
  isplitl [Hp]; · iexact Hp
  iintro Hp
  iapply (run_clearSums (F := F) (c := c) (i := grid0.coords t))
  isplitl [H9]; · iexact H9
  iintro H9
  iapply (run_addProducts (F := F) (c := c) (i := grid0.coords t))
  isplitl [H1]; · iexact H1
  isplitl [H3]; · iexact H3
  isplitl [H6]; · iexact H6
  isplitl [Hp]; · iexact Hp
  isplitl [Hb]; · iexact Hb
  iintro ⟨H1, H3, H6, Hp, Hb⟩
  rw [block_step m c t a ha, show (if k0_cond2 (grid0.coords t) = 1#1 then setPlane (grid0.coords t) d k0_pay18 else d) = cleared t d from rfl,
    plane_step m c t d hd]
  iapply (run_storeBlock (F := F) (c := c) (i := grid0.coords t))
  isplitl [H8]; · iexact H8
  isplitl [Hb]; · iexact Hb
  iintro ⟨H8, Hb⟩
  iapply (run_storeRows (F := F) (c := c) (i := grid0.coords t))
  isplitl [H0]; · iexact H0
  isplitl [H2]; · iexact H2
  isplitl [H4]; · iexact H4
  isplitl [H5]; · iexact H5
  isplitl [H7]; · iexact H7
  isplitl [H9]; · iexact H9
  isplitl [H10]; · iexact H10
  isplitl [Hp]; · iexact Hp
  iintro ⟨H0, H2, H4, H5, H7, H9, H10, Hp⟩
  rw [plane_setPlane]
  isplitl [Hp Hb Hg]
  · isplitl [Hp Hb]
    · isplitl [Hp]
      · iexists _; isplitr
        swap; · iexact Hp
        ipureintro; exact planes_kept m c t d hd
      iexists _; isplitr
      swap; · iexact Hb
      ipureintro; intro k hk e; obtain rfl : k = t.val := Nat.succ.inj e; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_rows m c t d7); iexact H7
  isplitl [H8]; · iapply (leaves_block m c t d8); iexact H8
  isplitl [H9]; · iapply (leaves_sums m c t d9); iexact H9
  iapply (leaves_gated m c t d10); iexact H10

/-- The body that the grid runs is the printed one. -/
theorem defs_row (t : Fin cfg0.N) : defs₀ (F := F) .tc cfg0.body (cfg0.bodyArgs t (cfg0.slots t)) = bodyAt0 t := by
  unfold defs₀; rw [Defs.onTc_tc]

/-- Every point runs from its invariant to the next. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- Before the first point nothing is held, -/
theorem hin (c : Dev nD) : Pipeline.ΦA spec0 c ⊢ (dats m 0 c).Φ 0 := by
  rw [show (dats m 0 c).Φ 0 = Keep m c 0 from rfl, entry_eq]
  unfold Keep
  iintro ⟨⟨⟨%d, Hp⟩, ⟨%a, Hb⟩⟩, Hg⟩
  isplitl [Hp Hb]
  · isplitl [Hp]
    · iexists _; isplitr
      swap; · iexact Hp
      ipureintro; exact fun k h => absurd h (Nat.not_lt_zero _)
    iexists _; isplitr
    swap; · iexact Hb
    ipureintro; exact fun k _ h => absurd h (Nat.succ_ne_zero k)
  iexact Hg

/-- and after the last what the scratch buffers hold is forgotten. -/
theorem hout (c : Dev nD) : (dats m 0 c).Φ (Fin.last cfg0.N) ⊢ Pipeline.ΦA spec0 c := by
  rw [show (dats m 0 c).Φ (Fin.last cfg0.N) = Keep m c cfg0.N from rfl, entry_eq]
  unfold Keep
  iintro ⟨⟨⟨%d, %hd, Hp⟩, ⟨%a, %ha, Hb⟩⟩, Hg⟩
  isplitl [Hp Hb]
  · isplitl [Hp]
    · iexists _; iexact Hp
    iexists _; iexact Hb
  iexact Hg

/-! ## The run -/

set_option backward.isDefEq.respectTransparency.types false in
/-- Every execution ends, with the arrays at what the points compute and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs to its frame. -/
theorem run_main : θ_run defs (onTc (τ := τ) (main (F := F))) (s₀ m ρ) (Pipeline.FramePost cfgs (dats m) 0 (V m)) :=
  (θ_run defs _ _).mono (fun _ h => h.1) (run_counters m ρ)

/-- The frame: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_counters m ρ))

end Cert.MixIdeal.Hand

end
-- ==== Proof.MixValue.lean ====
/- The value facts of the mixer's input projection backward: the weights' gradient, the input's gradient, the rows handed on and the sums over rows. -/
module

public import proofs.«01_k».proof.Proof.MixFrame
public import proofs.«01_k».proof.Proof.Gen.MixRefIdeal.Read
public import proofs.«01_k».proof.Proof.Rows
public import proofs.«01_k».proof.Proof.Norms
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.MixIdeal.Value

open Cert.MixIdeal Cert.MixIdeal.Gen Cert.MixIdeal.Hand Idealize.ShloMosaic Idealize.ShloMosaic.TcCoe Idealize.SL.Sem
open Idealize.ShloMosaic.Pipeline (Dat)

set_option maxHeartbeats 1000000

variable (m : (ℓ : Loc nD τ sig) → Buf (Elt Ideal) ℓ)

/-- The block index of the windows that move through all rounds, at every grid point. -/
theorem idx : ∀ t : Fin cfg0.N, win0_1.index t = ![t.val % 8, 0]
    ∧ win0_3.index t = ![t.val / 8, t.val % 8, 0]
    ∧ win0_4.index t = ![0, 0]
    ∧ win0_5.index t = ![0, 0]
    ∧ win0_6.index t = ![t.val / 8, 0, 0]
    ∧ win0_8.index t = ![t.val / 8, 0, 0]
    ∧ win0_9.index t = ![0, 0] :=
  (by decide +kernel : ∀ t : Fin grid0.N, _)

/-- At the points of the last round the windows of rows stand on the point's block of rows. -/
theorem idx_rows : ∀ t : Fin cfg0.N, 56 ≤ t.val → win0_0.index t = ![t.val % 8, 0]
    ∧ win0_2.index t = ![t.val % 8, 0]
    ∧ win0_7.index t = ![t.val % 8, 0]
    ∧ win0_10.index t = ![t.val % 8, 0] :=
  (by decide +kernel : ∀ t : Fin grid0.N, 56 ≤ t.val → _)

/-- Argument `main_arg0` on device `c`: the rows of the mixer's input. -/
abbrev a0 (c : Dev nD) : FVec Ideal S4096x1024 .f32 := m ((c : Thread nD τ).loc main_arg0)
/-- Argument `main_arg1`: shifts, scales and gates. -/
abbrev a1 (c : Dev nD) : FVec Ideal S9x1024 .f32 := m ((c : Thread nD τ).loc main_arg1)
/-- Argument `main_arg2`: the gain of the mixer's norm. -/
abbrev a2 (c : Dev nD) : FVec Ideal S1024 .f32 := m ((c : Thread nD τ).loc main_arg2)
/-- Argument `main_arg3`: the weights of the input projection. -/
abbrev a3 (c : Dev nD) : FVec Ideal S1024x8192 .f32 := m ((c : Thread nD τ).loc main_arg3)
/-- Argument `main_arg4`: the cotangent that passes the mixer by. -/
abbrev a4 (c : Dev nD) : FVec Ideal S4096x1024 .f32 := m ((c : Thread nD τ).loc main_arg4)
/-- Argument `main_arg5`: the cotangent of the projection. -/
abbrev a5 (c : Dev nD) : FVec Ideal S4096x8192 .f32 := m ((c : Thread nD τ).loc main_arg5)

open Cert.MixRefIdeal.Read Cert.Reals

/-- Row `r` of a grid point's block is a row of the whole array. -/
abbrev rowAt (t : Fin cfg0.N) (r : Fin 512) : Fin 4096 :=
  ⟨t.val % 8 * 512 + r.val, by omega⟩

/-- Column `x` of plane `k` is a column of the projection. -/
abbrev colAt (k : Fin 8) (x : Fin 1024) : Fin 8192 :=
  ⟨k.val * 1024 + x.val, by omega⟩

/-- The plane that a grid point takes. -/
abbrev planeNo (t : Fin cfg0.N) : Fin 8 := ⟨t.val / 8, by have := lt_64 t; omega⟩

/-- The input rows of a grid point at an entry. -/
theorem iblk_x (c : Dev nD) (t : Fin cfg0.N) (ht : 56 ≤ t.val) (r : Fin 512) (k : Fin 1024) : iblk m c 0 t (ix2 r k) = a0 m c (ix2 (rowAt t r) k) := by
  blk_ext [iblk, V, idx_rows t ht]

/-- The passing cotangent's rows of a grid point at an entry. -/
theorem iblk_dxo (c : Dev nD) (t : Fin cfg0.N) (ht : 56 ≤ t.val) (r : Fin 512) (k : Fin 1024) : iblk m c 2 t (ix2 r k) = a4 m c (ix2 (rowAt t r) k) := by
  blk_ext [iblk, V, idx_rows t ht]

/-- The shifts, scales and gates at an entry. -/
theorem iblk_mod (c : Dev nD) (t : Fin cfg0.N) (j : Fin 9) (k : Fin 1024) : iblk m c 4 t (ix2 j k) = a1 m c (ix2 j k) := by
  blk_ext [iblk, V, idx t]

/-- The norm's gain at an entry. -/
theorem iblk_g (c : Dev nD) (t : Fin cfg0.N) (k : Fin 1024) : iblk m c 5 t (ix2 0 k) = a2 m c (ix1 k) := by
  have h : ∀ i : S1x1024.Idx, V m c main_v32 i = a2 m c (ix1 (i 1)) := fun i => by
    simp only [V, hostOps0, List.flatten_cons, List.flatten_nil, List.append_nil, List.cons_append, List.nil_append]
    entry_read
    pointwise []
  exact Eq.trans (by blk_ext [iblk, idx t]) (h (ix2 0 k))

/-- The normalised, scaled and shifted rows, computed before the call, at an entry. -/
theorem iblk_h (c : Dev nD) (t : Fin cfg0.N) (r : Fin 512) (k : Fin 1024) :
    iblk m c 1 t (ix2 r k) = val_main_v27 (F := Ideal) (a0 m c) (a1 m c) (a2 m c) (ix2 (rowAt t r) k) := by
  have h : ∀ i, V m c main_v31 i = val_main_v27 (F := Ideal) (a0 m c) (a1 m c) (a2 m c) i := fun i => by
    simp only [V, hostOps0, List.flatten_cons, List.flatten_nil, List.append_nil, List.cons_append, List.nil_append]
    entry_read
    rfl
  exact Eq.trans (by blk_ext [iblk, idx t]) (h (ix2 (rowAt t r) k))

/-- The projection's cotangent at an entry of a plane. -/
theorem iblk_dp (c : Dev nD) (t : Fin cfg0.N) (r : Fin 512) (x : Fin 1024) : iblk m c 3 t (ix3 0 r x) = a5 m c (ix2 (rowAt t r) (colAt (planeNo t) x)) := by
  have h : ∀ i : S8x4096x1024.Idx, V m c main_v30 i = a5 m c (ix2 (i 1) (colAt (i 0) (i 2))) := fun i => by
    simp only [V, hostOps0, List.flatten_cons, List.flatten_nil, List.append_nil, List.cons_append, List.nil_append]
    entry_read
    pointwise []
  refine Eq.trans (by blk_ext [iblk, idx t]) (h (ix3 (planeNo t) (rowAt t r) x))

/-- The projection's weights at an entry of a plane. -/
theorem iblk_w (c : Dev nD) (t : Fin cfg0.N) (k : Fin 1024) (x : Fin 1024) : iblk m c 6 t (ix3 0 k x) = a3 m c (ix2 k (colAt (planeNo t) x)) := by
  have h : ∀ i : S8x1024x1024.Idx, V m c main_v27 i = a3 m c (ix2 (i 1) (colAt (i 0) (i 2))) := fun i => by
    simp only [V, hostOps0, List.flatten_cons, List.flatten_nil, List.append_nil, List.cons_append, List.nil_append]
    entry_read
    pointwise []
  refine Eq.trans (by blk_ext [iblk, idx t]) (h (ix3 (planeNo t) k x))

/-- What one plane of the projection adds to the cotangent of the normalised rows. -/
def planePart (c : Dev nD) (k : Fin 8) (R : Fin 4096) (d : Fin 1024) : EReal :=
  ∑ x : Fin 1024, a5 m c (ix2 R (colAt k x)) * a3 m c (ix2 d (colAt k x))

/-- A round adds its plane's part. -/
theorem stepPlane_apply (c : Dev nD) (t : Fin cfg0.N) (p : Vec Ideal S1x512x1024 .f32) (r : Fin 512) (d : Fin 1024) :
    stepPlane p (iblk m c 3 t) (iblk m c 6 t) (ix3 0 r d) = p (ix3 0 r d) + planePart m c (planeNo t) (rowAt t r) d := by
  rw [planePart]
  pointwise [stepPlane, k0_pay1, k0_pay22, k0_pay20, iblk_dp m c t, iblk_w m c t]

/-- The plane of a block of rows after a round is the sum of the planes' parts so far. -/
theorem planeAt_apply (c : Dev nD) (t : Fin cfg0.N) (r : Fin 512) (d : Fin 1024) : ∀ (k : ℕ) (hk : k < 8),
    planeAt m c (t.val % 8) k (ix3 0 r d) = ∑ p : Fin (k + 1), planePart m c ⟨p.val, by omega⟩ (rowAt t r) d
  | 0, hk => by
    have e0 : k0_pay18 (F := Ideal) (ix3 0 r d) = 0 := by pointwise [k0_pay18]
    have ep : planeNo (point 0 (t.val % 8)) = ⟨0, by omega⟩ := Fin.ext (show (8 * 0 + t.val % 8) % 64 / 8 = 0 by omega)
    have er : rowAt (point 0 (t.val % 8)) r = rowAt t r := Fin.ext (show (8 * 0 + t.val % 8) % 64 % 8 * 512 + r.val = t.val % 8 * 512 + r.val by omega)
    rw [planeAt, stepPlane_apply, e0, zero_add, ep, er, Fin.sum_univ_one]
    rfl
  | k + 1, hk => by
    have ep : planeNo (point (k + 1) (t.val % 8)) = ⟨k + 1, by omega⟩ := Fin.ext (show (8 * (k + 1) + t.val % 8) % 64 / 8 = k + 1 by omega)
    have er : rowAt (point (k + 1) (t.val % 8)) r = rowAt t r := Fin.ext (show (8 * (k + 1) + t.val % 8) % 64 % 8 * 512 + r.val = t.val % 8 * 512 + r.val by omega)
    rw [planeAt, stepPlane_apply, ep, er, Fin.sum_univ_castSucc, planeAt_apply c t r d k (by omega)]
    rfl

/-- The reference's cotangent of the normalised rows at an entry. -/
theorem dh_apply (c : Dev nD) (R : Fin 4096) (k : Fin 1024) :
    val_main_v31 (F := Ideal) (a3 m c) (a5 m c) (ix2 R k) = ∑ x : Fin 8192, a5 m c (ix2 R x) * a3 m c (ix2 k x) := by
  pointwise [val_main_v31]

/-- A sum over all columns is the sum over the planes and their columns. -/
theorem all_cols (f : Fin 8192 → EReal) : (∑ p : Fin 8, ∑ x : Fin 1024, f (colAt p x)) = ∑ i, f i :=
  Fin.sum_mul_add_congr (fun p r hl => rfl) (by decide)

/-- The plane after all rounds is the cotangent of the normalised rows. -/
theorem total_apply (c : Dev nD) (t : Fin cfg0.N) (ht : 56 ≤ t.val) (r : Fin 512) (k : Fin 1024) :
    planeOf m c t (ix3 0 r k) = val_main_v31 (F := Ideal) (a3 m c) (a5 m c) (ix2 (rowAt t r) k) := by
  have h7 : t.val / 8 = 7 := by have := lt_64 t; omega
  rw [dh_apply, planeOf, h7, planeAt_apply m c t r k 7 (by omega)]
  exact all_cols fun x => a5 m c (ix2 (rowAt t r) x) * a3 m c (ix2 k x)

/-- The rows scaled to length one at an entry. -/
theorem xh_apply (c : Dev nD) (t : Fin cfg0.N) (ht : 56 ≤ t.val) (r : Fin 512) (k : Fin 1024) :
    k0_pay9 (iblk m c 0 t) (ix2 r k) = val_main_v16 (F := Ideal) (a0 m c) (ix2 (rowAt t r) k) := by
  pointwise [k0_pay9, k0_pay8, iblk_x m c t ht, val_main_v16, val_main_v15, val_main_v11, val_main_v10, val_main_v9, val_main_v8, val_main_v7, val_main_v6, val_main_v5, val_main_v4, val_main_cst, val_main_cst_0, val_main_cst_1]

/-- The norm's factor at a row. -/
theorem r_apply (c : Dev nD) (t : Fin cfg0.N) (ht : 56 ≤ t.val) (r : Fin 512) :
    k0_pay8 (iblk m c 0 t) (ix2 r 0) = val_main_v11 (F := Ideal) (a0 m c) (ix2 (rowAt t r) 0) := by
  pointwise [k0_pay8, iblk_x m c t ht, val_main_v16, val_main_v15, val_main_v11, val_main_v10, val_main_v9, val_main_v8, val_main_v7, val_main_v6, val_main_v5, val_main_v4, val_main_cst, val_main_cst_0, val_main_cst_1]

/-- The cotangent times one plus the scale at an entry. -/
theorem sc_apply (c : Dev nD) (t : Fin cfg0.N) (ht : 56 ≤ t.val) (r : Fin 512) (k : Fin 1024) :
    k0_pay13 (modRow4 (iblk m c 4 t)) (planeOf m c t) (ix2 r k) = val_main_v39 (F := Ideal) (a1 m c) (a3 m c) (a5 m c) (ix2 (rowAt t r) k) := by
  have e := total_apply m c t ht r
  pointwise [k0_pay13, k0_pay10, modRow4, e, iblk_mod m c t, val_main_v39, val_main_v38, val_main_v22, val_main_v21, val_main_v20, val_main_v3, val_main_v2, val_main_cst_3]

/-- The cotangent of the rows scaled to length one at an entry. -/
theorem w_apply (c : Dev nD) (t : Fin cfg0.N) (ht : 56 ≤ t.val) (r : Fin 512) (k : Fin 1024) :
    k0_pay15 (modRow4 (iblk m c 4 t)) (planeOf m c t) (iblk m c 5 t) (ix2 r k) = val_main_v45 (F := Ideal) (a1 m c) (a2 m c) (a3 m c) (a5 m c) (ix2 (rowAt t r) k) := by
  have e := sc_apply m c t ht r
  pointwise [k0_pay15, e, iblk_g m c t, val_main_v45, val_main_v44, val_main_v17]

/-- The input's gradient at an entry. -/
theorem dx_apply (c : Dev nD) (hx : ∀ i, IsReal (a0 m c i)) (hw : ∀ i, IsReal (val_main_v45 (F := Ideal) (a1 m c) (a2 m c) (a3 m c) (a5 m c) i))
    (t : Fin cfg0.N) (ht : 56 ≤ t.val) (r : Fin 512) (k : Fin 1024) :
    rowsAt m c t (ix2 r k) = val_main_v61 (F := Ideal) (a0 m c) (a1 m c) (a2 m c) (a3 m c) (a4 m c) (a5 m c) (ix2 (rowAt t r) k) := by
  have e1 := w_apply m c t ht r
  have e2 := xh_apply m c t ht r
  have e3 := r_apply m c t ht r
  have ev : val_main_v10 (F := Ideal) (a0 m c) (ix2 (rowAt t r) 0)
      = Ideal.div (∑ k, a0 m c (ix2 (rowAt t r) k) * a0 m c (ix2 (rowAt t r) k)) (Ideal.ofBits .f32 0x44800000#32) + Ideal.ofBits .f32 0x358637BD#32 := by
    pointwise [val_main_v10, val_main_v9, val_main_v8, val_main_v7, val_main_v6, val_main_v5, val_main_v4, val_main_cst, val_main_cst_0, val_main_cst_1]
  have er : val_main_v11 (F := Ideal) (a0 m c) (ix2 (rowAt t r) 0) = Ideal.rsqrt (val_main_v10 (F := Ideal) (a0 m c) (ix2 (rowAt t r) 0)) := by
    pointwise [val_main_v11]
  pointwise [rowsAt, dxRows, k0_pay3, k0_pay16, e1, e2, e3, iblk_dxo m c t ht, val_main_v61, val_main_v60, val_main_v59, val_main_v58, val_main_v57, val_main_v56, val_main_v55, val_main_v54, val_main_v53, val_main_v52, val_main_v51, val_main_v50, val_main_v49, val_main_v48, val_main_v47, val_main_v16, val_main_v15, val_main_v14, val_main_v13, val_main_v12, val_main_cst_2, val_main_cst_10, val_main_cst_11, val_main_cst_12]
  simp only [Fin.sum_univ_one]
  refine congrArg₂ _ rfl ?_
  exact norm_law (fun k => a0 m c (ix2 (rowAt t r) k))
    (fun k => val_main_v45 (F := Ideal) (a1 m c) (a2 m c) (a3 m c) (a5 m c) (ix2 (rowAt t r) k)) (fun _ => hx _) (fun k => hw _) _ _ ev er _ rfl k

/-- The rows' gradient. -/
theorem final_dx (c : Dev nD) (hx : ∀ i, IsReal (a0 m c i)) (hw : ∀ i, IsReal (val_main_v45 (F := Ideal) (a1 m c) (a2 m c) (a3 m c) (a5 m c) i)) :
    (dats m 0 c).arrAt 7 (cfgs 0).N = val_main_v61 (F := Ideal) (a0 m c) (a1 m c) (a2 m c) (a3 m c) (a4 m c) (a5 m c) := by
  refine (dats m 0 c).arrAt_eq_of_covers 7 _ (by decide +kernel) fun t hf y => ?_
  have ht : 56 ≤ t.val := (flush_rows t).1.1 hf
  blk_simp
  rw [after_7]
  rw [eq_ix2 y]
  refine (dx_apply m c hx hw t ht (y 0) (y 1)).trans ?_
  blk_ext [idx t, idx_rows t ht]

/-- The rows handed to the block before, at an entry: the input's gradient times half that block's gate. -/
theorem df_apply (c : Dev nD) (hx : ∀ i, IsReal (a0 m c i)) (hw : ∀ i, IsReal (val_main_v45 (F := Ideal) (a1 m c) (a2 m c) (a3 m c) (a5 m c) i))
    (t : Fin cfg0.N) (ht : 56 ≤ t.val) (r : Fin 512) (k : Fin 1024) :
    gatedAt m c t (ix2 r k) = val_main_v83 (F := Ideal) (a0 m c) (a1 m c) (a2 m c) (a3 m c) (a4 m c) (a5 m c) (ix2 (rowAt t r) k) := by
  have e : k0_pay3 (k0_pay8 (iblk m c 0 t)) (k0_pay9 (iblk m c 0 t)) (k0_pay15 (modRow4 (iblk m c 4 t)) (planeOf m c t) (iblk m c 5 t))
      (k0_pay16 (modRow4 (iblk m c 4 t)) (iblk m c 0 t) (planeOf m c t) (iblk m c 5 t)) (iblk m c 2 t) (ix2 r k) = val_main_v61 (F := Ideal) (a0 m c) (a1 m c) (a2 m c) (a3 m c) (a4 m c) (a5 m c) (ix2 (rowAt t r) k) :=
    dx_apply m c hx hw t ht r k
  pointwise [gatedAt, dfRows, k0_pay4, e, modRow2, iblk_mod m c t, val_main_v83, val_main_v71, val_main_v70, val_main_v67, val_main_v66, val_main_v65, val_main_v64, val_main_v63, val_main_cst_14]

/-- The rows handed to the block before. -/
theorem final_df (c : Dev nD) (hx : ∀ i, IsReal (a0 m c i)) (hw : ∀ i, IsReal (val_main_v45 (F := Ideal) (a1 m c) (a2 m c) (a3 m c) (a5 m c) i)) :
    (dats m 0 c).arrAt 10 (cfgs 0).N = val_main_v83 (F := Ideal) (a0 m c) (a1 m c) (a2 m c) (a3 m c) (a4 m c) (a5 m c) := by
  refine (dats m 0 c).arrAt_eq_of_covers 10 _ (by decide +kernel) fun t hf y => ?_
  have ht : 56 ≤ t.val := (flush_rows t).2.1 hf
  blk_simp
  rw [after_10]
  rw [eq_ix2 y]
  refine (df_apply m c hx hw t ht (y 0) (y 1)).trans ?_
  blk_ext [idx t, idx_rows t ht]

/-- What one block of rows adds to an entry of the weights' gradient. -/
def blockPart (c : Dev nD) (t : Fin cfg0.N) (d z : Fin 1024) : EReal :=
  ∑ r : Fin 512, val_main_v27 (F := Ideal) (a0 m c) (a1 m c) (a2 m c) (ix2 (rowAt t r) d) * a5 m c (ix2 (rowAt t r) (colAt (planeNo t) z))

/-- A point adds its block's part. -/
theorem stepBlock_apply (c : Dev nD) (t : Fin cfg0.N) (a : Vec Ideal S1024x1024 .f32) (d z : Fin 1024) :
    k0_pay21 (iblk m c 3 t) a (iblk m c 1 t) (ix2 d z) = a (ix2 d z) + blockPart m c t d z := by
  rw [blockPart]
  have eh := iblk_h m c t
  pointwise [k0_pay21, k0_pay20, iblk_dp m c t, eh]

/-- Where a round starts the sum starts from zero. -/
theorem block_first (c : Dev nD) (d z : Fin 1024) (n : ℕ) (h : n < cfg0.N) (hn : n % 8 = 0) : blockAt m c n h (ix2 d z) = blockPart m c ⟨n, h⟩ d z := by
  have e0 : k0_pay17 (F := Ideal) (ix2 d z) = 0 := by pointwise [k0_pay17]
  rcases n with _ | n
  · rw [blockAt, stepBlock_apply, e0, zero_add]
  · rw [blockAt, if_pos hn, stepBlock_apply, e0, zero_add]

/-- Within a round a point adds to what the point before left. -/
theorem block_next (c : Dev nD) (d z : Fin 1024) (n : ℕ) (h : n + 1 < cfg0.N) (hn : (n + 1) % 8 ≠ 0) :
    blockAt m c (n + 1) h (ix2 d z) = blockAt m c n (Nat.lt_of_succ_lt h) (ix2 d z) + blockPart m c ⟨n + 1, h⟩ d z := by
  rw [blockAt, if_neg hn, stepBlock_apply]

/-- Within a round the block is the sum over the blocks of rows so far. -/
theorem block_sum (c : Dev nD) (d z : Fin 1024) (k : ℕ) (hk : k < 8) : ∀ (j : ℕ) (hj : j < 8) (h : 8 * k + j < cfg0.N),
    blockAt m c (8 * k + j) h (ix2 d z) = ∑ p : Fin (j + 1), blockPart m c (point k p.val) d z
  | 0, hj, h => by
    rw [block_first m c d z _ h (by omega), Fin.sum_univ_one]
    refine congrArg (fun t => blockPart m c t d z) (Fin.ext ?_)
    show 8 * k + 0 = (8 * k + 0) % 64
    omega
  | j + 1, hj, h => by
    refine (block_next m c d z (8 * k + j) h (by omega)).trans ?_
    rw [Fin.sum_univ_castSucc, block_sum c d z k hk j (by omega)]
    refine congrArg₂ _ rfl (congrArg (fun t => blockPart m c t d z) (Fin.ext ?_))
    show 8 * k + j + 1 = (8 * k + (j + 1)) % 64
    omega

/-- Sums over a round's points and their rows are sums over all rows. -/
theorem all_rows (k : ℕ) (f : Fin 4096 → EReal) : (∑ p : Fin 8, ∑ r : Fin 512, f (rowAt (point k p.val) r)) = ∑ i, f i :=
  Fin.sum_mul_add_congr (fun p r hl => congrArg f (Fin.ext (show (8 * k + p.val) % 64 % 8 * 512 + r.val = _ by simp only [] ; omega))) (by decide)

/-- At the last block of rows the block is the reference's product over all rows. -/
theorem dw_apply (c : Dev nD) (t : Fin cfg0.N) (ht : t.val % 8 = 7) (d z : Fin 1024) :
    k0_pay2 (blockAt m c t.val t.isLt) (ix3 0 d z) = val_main_v82 (F := Ideal) (a0 m c) (a1 m c) (a2 m c) (a5 m c) (ix3 (planeNo t) d z) := by
  have hN := lt_64 t
  have hc : ∀ (n : ℕ) (h : n < cfg0.N), n = t.val → blockAt m c n h = blockAt m c t.val t.isLt := by
    intro n h e
    subst e
    rfl
  have e : blockAt m c t.val t.isLt (ix2 d z) = ∑ i : Fin 4096, a5 m c (ix2 i (colAt (planeNo t) z)) * val_main_v27 (F := Ideal) (a0 m c) (a1 m c) (a2 m c) (ix2 i d) := by
    have h7 : 8 * (t.val / 8) + 7 = t.val := by omega
    rw [← hc _ (by rw [h7]; exact t.isLt) h7, block_sum m c d z (t.val / 8) (by omega) 7 (by omega)]
    refine Eq.trans ?_ (all_rows (t.val / 8) fun i => a5 m c (ix2 i (colAt (planeNo t) z)) * val_main_v27 (F := Ideal) (a0 m c) (a1 m c) (a2 m c) (ix2 i d))
    refine Finset.sum_congr rfl fun p _ => Finset.sum_congr rfl fun r _ => ?_
    have ep : planeNo (point (t.val / 8) p.val) = planeNo t := Fin.ext (show (8 * (t.val / 8) + p.val) % 64 / 8 = t.val / 8 by omega)
    rw [ep]
    exact @mul_comm EReal _ _ _
  pointwise [k0_pay2, e, val_main_v82, val_main_v81, val_main_v80, val_main_v30, val_main_v29]

/-- The weights' gradient, plane by plane. -/
theorem final_dw (c : Dev nD) :
    (dats m 0 c).arrAt 8 (cfgs 0).N = val_main_v82 (F := Ideal) (a0 m c) (a1 m c) (a2 m c) (a5 m c) := by
  refine (dats m 0 c).arrAt_eq_of_covers 8 _ (by decide +kernel) fun t hf y => ?_
  have ht : t.val % 8 = 7 := (flush0_8 t).1 hf
  blk_simp
  rw [after_8]
  obtain ⟨d, z, rfl⟩ : ∃ (d z : Fin 1024), y = ix3 0 d z := ⟨y 1, y 2, by blk_ext []⟩
  refine (dw_apply m c t ht d z).trans ?_
  blk_ext [idx t]

/-- A point's part of the sums, row by row: the gradients of shift, scale and gain. -/
def part (c : Dev nD) (t : Fin cfg0.N) (x : Fin 8) (k : Fin 1024) : EReal :=
  if x.val = 0 then ∑ r : Fin 512, val_main_v31 (F := Ideal) (a3 m c) (a5 m c) (ix2 (rowAt t r) k)
  else if x.val = 1 then ∑ r : Fin 512, val_main_v35 (F := Ideal) (a0 m c) (a2 m c) (a3 m c) (a5 m c) (ix2 (rowAt t r) k)
  else if x.val = 3 then ∑ r : Fin 512, val_main_v41 (F := Ideal) (a0 m c) (a1 m c) (a3 m c) (a5 m c) (ix2 (rowAt t r) k)
  else 0

/-- Row 0 of the sums belongs to the shift. -/
theorem part_0 (c : Dev nD) (t : Fin cfg0.N) (k : Fin 1024) :
    part m c t 0 k = ∑ r : Fin 512, val_main_v31 (F := Ideal) (a3 m c) (a5 m c) (ix2 (rowAt t r) k) := if_pos rfl
/-- Row 1 of the sums belongs to the scale. -/
theorem part_1 (c : Dev nD) (t : Fin cfg0.N) (k : Fin 1024) :
    part m c t 1 k = ∑ r : Fin 512, val_main_v35 (F := Ideal) (a0 m c) (a2 m c) (a3 m c) (a5 m c) (ix2 (rowAt t r) k) :=
  (if_neg (by decide)).trans (if_pos rfl)
/-- Row 3 of the sums belongs to the norm weight. -/
theorem part_3 (c : Dev nD) (t : Fin cfg0.N) (k : Fin 1024) :
    part m c t 3 k = ∑ r : Fin 512, val_main_v41 (F := Ideal) (a0 m c) (a1 m c) (a3 m c) (a5 m c) (ix2 (rowAt t r) k) :=
  (if_neg (by decide)).trans ((if_neg (by decide)).trans (if_pos rfl))

/-- What a point of the last round adds to the sums. -/
theorem step_apply (c : Dev nD) (t : Fin cfg0.N) (ht : 56 ≤ t.val) (s : Vec Ideal S8x1024 .f32) (x : Fin 8) (k : Fin 1024) :
    sumsStep m c t s (ix2 x k) = s (ix2 x k) + part m c t x k := by
  have ed := total_apply m c t ht
  have es := sc_apply m c t ht
  have eh := xh_apply m c t ht
  have e0 : ∀ v : Vec Ideal S1x1024 .f32, k0_pay5 (k0_pay12 (planeOf m c t)) v (ix2 0 k) = v (ix2 0 k) + part m c t 0 k := fun v => by
    rw [part_0]
    pointwise [k0_pay5, k0_pay12, k0_pay10, ed]
  have e1 : ∀ v : Vec Ideal S1x1024 .f32, k0_pay6 (k0_pay11 (iblk m c 0 t) (iblk m c 5 t) (planeOf m c t)) v (ix2 0 k) = v (ix2 0 k) + part m c t 1 k := fun v => by
    rw [part_1]
    pointwise [k0_pay6, k0_pay11, k0_pay10, ed, eh, iblk_g m c t, val_main_v35, val_main_v19, val_main_v18, val_main_v17]
    refine congrArg₂ _ rfl (Finset.sum_congr rfl fun r _ => ?_)
    exact @mul_comm EReal _ _ _
  have e3 : ∀ v : Vec Ideal S1x1024 .f32, k0_pay7 (k0_pay14 (modRow4 (iblk m c 4 t)) (iblk m c 0 t) (planeOf m c t)) v (ix2 0 k) = v (ix2 0 k) + part m c t 3 k := fun v => by
    rw [part_3]
    pointwise [k0_pay7, k0_pay14, es, eh, val_main_v41]
    refine congrArg₂ _ rfl (Finset.sum_congr rfl fun r _ => ?_)
    exact @mul_comm EReal _ _ _
  rw [sumsStep, addSums, Cert.Rows.put_row, Cert.Rows.put_row, Cert.Rows.put_row]
  by_cases h3 : x.val = 3
  · obtain rfl : x = 3 := Fin.ext h3
    refine (if_pos rfl).trans ((e3 _).trans ?_)
    rw [Cert.Rows.ld_row _ _ (by omega)]
    rfl
  rw [if_neg h3]
  by_cases h1 : x.val = 1
  · obtain rfl : x = 1 := Fin.ext h1
    refine (if_pos rfl).trans ((e1 _).trans ?_)
    rw [Cert.Rows.ld_row _ _ (by omega)]
    rfl
  rw [if_neg h1]
  by_cases h0 : x.val = 0
  · obtain rfl : x = 0 := Fin.ext h0
    refine (if_pos rfl).trans ((e0 _).trans ?_)
    rw [Cert.Rows.ld_row _ _ (by omega)]
    rfl
  rw [if_neg h0, part, if_neg h0, if_neg h1, if_neg h3, add_zero]

/-- Until the last round the sums are zero. -/
theorem sums_first (c : Dev nD) (x : Fin 8) (k : Fin 1024) : ∀ (n : ℕ) (h : n < cfg0.N), n < 56 → sumsAt m c n h (ix2 x k) = 0
  | 0, _, _ => by pointwise [sumsAt, k0_pay19]
  | n + 1, h, hn => by
    rw [sumsAt, if_pos hn]
    exact sums_first c x k n _ (by omega)

/-- The points of the last round, by number. -/
theorem last_lt {n : ℕ} (hn : n < 8) : 56 + n < cfg0.N := lt_of_lt_of_eq (by omega : 56 + n < 64) N_0.symm

/-- After a point of the last round the sums are those of the points so far. -/
theorem sums_last (c : Dev nD) (x : Fin 8) (k : Fin 1024) : ∀ (n : ℕ) (hn : n < 8), sumsAt m c (56 + n) (last_lt hn) (ix2 x k) = ∑ p : Fin (n + 1), part m c (point 7 p.val) x k
  | 0, hn => by
    show sumsAt m c (55 + 1) _ _ = _
    rw [sumsAt, if_neg (by omega), step_apply m c _ (by show 56 ≤ 55 + 1; omega), sums_first m c x k 55 _ (by omega), zero_add, Fin.sum_univ_one]
    rfl
  | n + 1, hn => by
    show sumsAt m c (56 + n + 1) _ _ = _
    rw [sumsAt, if_neg (by omega), step_apply m c _ (by show 56 ≤ 56 + n + 1; omega), Fin.sum_univ_castSucc]
    refine congrArg₂ _ (sums_last c x k n (by omega)) (congrArg (fun t => part m c t x k) (Fin.ext ?_))
    show 56 + n + 1 = (8 * 7 + (n + 1)) % 64
    omega

/-- The grid's last point. -/
def lastPoint : Fin cfg0.N := ⟨63, last_lt (n := 7) (by omega)⟩

/-- The sums over rows: the gradients of shift, scale and gain, zeros elsewhere. -/
theorem final_sm (c : Dev nD) :
    (dats m 0 c).arrAt 9 (cfgs 0).N = val_main_v79 (F := Ideal) (a0 m c) (a1 m c) (a2 m c) (a3 m c) (a5 m c) := by
  refine (dats m 0 c).arrAt_eq_of_after_last 9 lastPoint (by decide +kernel) _ fun j => ?_
  blk_simp
  rw [after_9]
  obtain ⟨x, k, rfl⟩ : ∃ (x : Fin 8) (k : Fin 1024), j = ix2 x k := ⟨j 0, j 1, eq_ix2 j⟩
  refine (sums_last m c x k 7 (by omega)).trans ?_
  show (∑ p : Fin 8, part m c (point 7 p.val) x k) = _
  by_cases h0 : x.val = 0
  · obtain rfl : x = 0 := Fin.ext h0
    refine (Finset.sum_congr rfl fun p _ => part_0 m c _ k).trans ((all_rows 7 fun i => val_main_v31 (F := Ideal) (a3 m c) (a5 m c) (ix2 i k)).trans ?_)
    pointwise [val_main_v79, val_main_v77, val_main_v73, val_main_v34, val_main_v33, val_main_v32, val_main_cst_4, val_main_cst_5]
    rw [Fin.sum_univ_one]
  by_cases h1 : x.val = 1
  · obtain rfl : x = 1 := Fin.ext h1
    refine (Finset.sum_congr rfl fun p _ => part_1 m c _ k).trans ((all_rows 7 fun i => val_main_v35 (F := Ideal) (a0 m c) (a2 m c) (a3 m c) (a5 m c) (ix2 i k)).trans ?_)
    pointwise [val_main_v79, val_main_v77, val_main_v74, val_main_v40, val_main_v37, val_main_v36, val_main_cst_6, val_main_cst_7]
    rw [Fin.sum_univ_one]
  by_cases h3 : x.val = 3
  · obtain rfl : x = 3 := Fin.ext h3
    refine (Finset.sum_congr rfl fun p _ => part_3 m c _ k).trans ((all_rows 7 fun i => val_main_v41 (F := Ideal) (a0 m c) (a1 m c) (a3 m c) (a5 m c) (ix2 i k)).trans ?_)
    pointwise [val_main_v79, val_main_v77, val_main_v76, val_main_v46, val_main_v43, val_main_v42, val_main_cst_8, val_main_cst_9]
    rw [Fin.sum_univ_one]
  refine (Finset.sum_congr rfl fun p _ => (if_neg h0).trans ((if_neg h1).trans (if_neg h3))).trans ?_
  rw [Finset.sum_const_zero]
  by_cases h2 : x.val = 2
  · obtain rfl : x = 2 := Fin.ext h2
    pointwise [val_main_v79, val_main_v77, val_main_v75, val_main_v72, val_main_cst_15]
  pointwise [val_main_v79, val_main_v78, val_main_cst_16]
  rw [dif_neg (by omega)]

end Cert.MixIdeal.Value

end
-- ==== Proof.MixClaim.lean ====
/- The claim about the mixer's input projection backward and its reference. -/
module

public import proofs.«01_k».proof.Defs
public import proofs.«01_k».proof.Proof.MixValue
public import proofs.«01_k».proof.Proof.Gen.MixRefIdeal.Run
public import proofs.«01_k».proof.Proof.Gen.Pre_mixin_finite

@[expose] public section

set_option maxRecDepth 16384

noncomputable section

namespace Cert.MixIdeal.Value

open Cert.MixIdeal Cert.MixIdeal.Gen Cert.MixIdeal.Hand Idealize.ShloMosaic Idealize.ShloMosaic.TcCoe Idealize.SL.Sem
open Cert.MixRefIdeal.Read Cert.Reals
open Idealize.ShloMosaic.Pipeline (Dat)

set_option maxHeartbeats 4000000

/-- The precondition says of five arguments that their entries are real numbers. -/
theorem finite_args [Cert.Pre_mixin_finite.Facts] (m : (ℓ : Loc nD τ sig) → Buf (Elt Ideal) ℓ) (h : Cert.Pre_MixIdeal_mixin_finite m) (c : Dev nD) :
    (∀ i, IsReal (a0 m c i)) ∧ (∀ i, IsReal (a1 m c i)) ∧ (∀ i, IsReal (a2 m c i)) ∧ (∀ i, IsReal (a3 m c i)) ∧ (∀ i, IsReal (a5 m c i)) := by
  have h0 := congrFun (h c) ix0
  dsimp only [Cert.Pre_mixin_finite.fn, Cert.Pre_mixin_finite.fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4⟩

/-- Over real arguments the cotangent of the rows scaled to length one is real. -/
theorem real_w (m : (ℓ : Loc nD τ sig) → Buf (Elt Ideal) ℓ) (c : Dev nD) (h1 : ∀ i, IsReal (a1 m c i)) (h2 : ∀ i, IsReal (a2 m c i)) (h3 : ∀ i, IsReal (a3 m c i)) (h5 : ∀ i, IsReal (a5 m c i)) (i) :
    IsReal (val_main_v45 (F := Ideal) (a1 m c) (a2 m c) (a3 m c) (a5 m c) i) := by
  obtain ⟨t, k, rfl⟩ : ∃ (t : Fin 4096) (k : Fin 1024), i = ix2 t k := ⟨i 0, i 1, eq_ix2 i⟩
  have ed : IsReal (val_main_v31 (F := Ideal) (a3 m c) (a5 m c) (ix2 t k)) := by
    rw [dh_apply]
    exact isReal_sum fun x => isReal_mul (h5 _) (h3 _)
  pointwise [val_main_v45, val_main_v44, val_main_v17, val_main_v39, val_main_v38, val_main_v22, val_main_v21, val_main_v20, val_main_v3, val_main_v2, val_main_cst_3]
  exact isReal_mul (isReal_mul ed (isReal_add ⟨1, EReal.coe_one.symm⟩ (h1 _))) (h2 _)

/-- The kernel's run: its four results are the arrays the grid leaves, its arguments unchanged. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33_0) = (dats m 0 c).arrAt 7 (cfgs 0).N
      ∧ r.2.mem ((c.tc : Thread nD τ).loc main_v33_1) = (dats m 0 c).arrAt 8 (cfgs 0).N
      ∧ r.2.mem ((c.tc : Thread nD τ).loc main_v33_2) = (dats m 0 c).arrAt 9 (cfgs 0).N
      ∧ r.2.mem ((c.tc : Thread nD τ).loc main_v33_3) = (dats m 0 c).arrAt 10 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 7, (h c).1 8, (h c).1 9, (h c).1 10,
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩) (run_main m ρ)

/-- The kernel's run over real arguments: its results are the reference's terms. -/
theorem run_mixin [Cert.Pre_mixin_finite.Facts] (m : (ℓ : Loc nD τ sig) → Buf (Elt Ideal) ℓ) (h : Cert.Pre_MixIdeal_mixin_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33_0) = val_main_v61 (F := Ideal) (a0 m c) (a1 m c) (a2 m c) (a3 m c) (a4 m c) (a5 m c)
      ∧ r.2.mem ((c.tc : Thread nD τ).loc main_v33_1) = val_main_v82 (F := Ideal) (a0 m c) (a1 m c) (a2 m c) (a5 m c)
      ∧ r.2.mem ((c.tc : Thread nD τ).loc main_v33_2) = val_main_v79 (F := Ideal) (a0 m c) (a1 m c) (a2 m c) (a3 m c) (a5 m c)
      ∧ r.2.mem ((c.tc : Thread nD τ).loc main_v33_3) = val_main_v83 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => by
    obtain ⟨h0, h1, h2, h3, h5⟩ := finite_args m h c
    have hw := real_w m c h1 h2 h3 h5
    exact ⟨(hr c).1.trans (final_dx m c h0 hw), (hr c).2.1.trans (final_dw m c), (hr c).2.2.1.trans (final_sm m c), (hr c).2.2.2.1.trans (final_df m c h0 hw), (hr c).2.2.2.2⟩) (run_blocks m ρ)

/-- Over real arguments the two programs return the same arrays. -/
theorem algebraic_mixin [Cert.MixIdeal.Facts] [Cert.MixRefIdeal.Facts] [Cert.Pre_mixin_finite.Facts] : Cert.algebraic_MixIdeal_MixRefIdeal_pre_mixin_finite := by
  intro m g m' g' hpre hag
  refine ⟨fun c => val_main_v61 (F := Ideal) (a0 m c) (a1 m c) (a2 m c) (a3 m c) (a4 m c) (a5 m c), fun c => val_main_v82 (F := Ideal) (a0 m c) (a1 m c) (a2 m c) (a5 m c), fun c => val_main_v79 (F := Ideal) (a0 m c) (a1 m c) (a2 m c) (a3 m c) (a5 m c), fun c => val_main_v83 (F := Ideal) (a0 m c) (a1 m c) (a2 m c) (a3 m c) (a4 m c) (a5 m c), run_mixin m hpre g, ?_⟩
  refine (θ_run _ _ _).mono (fun r h c => ?_) (Cert.MixRefIdeal.Value.run m' g')
  obtain ⟨h0, h1, h2, h3, h4⟩ := h c
  obtain ⟨e0, e1, e2, e3, e4, e5⟩ := hag c
  replace e0 : m' ((c.tc : Thread Cert.MixRefIdeal.nD Cert.MixRefIdeal.τ).loc Cert.MixRefIdeal.main_arg0) = a0 m c := e0
  replace e1 : m' ((c.tc : Thread Cert.MixRefIdeal.nD Cert.MixRefIdeal.τ).loc Cert.MixRefIdeal.main_arg1) = a1 m c := e1
  replace e2 : m' ((c.tc : Thread Cert.MixRefIdeal.nD Cert.MixRefIdeal.τ).loc Cert.MixRefIdeal.main_arg2) = a2 m c := e2
  replace e3 : m' ((c.tc : Thread Cert.MixRefIdeal.nD Cert.MixRefIdeal.τ).loc Cert.MixRefIdeal.main_arg3) = a3 m c := e3
  replace e4 : m' ((c.tc : Thread Cert.MixRefIdeal.nD Cert.MixRefIdeal.τ).loc Cert.MixRefIdeal.main_arg4) = a4 m c := e4
  replace e5 : m' ((c.tc : Thread Cert.MixRefIdeal.nD Cert.MixRefIdeal.τ).loc Cert.MixRefIdeal.main_arg5) = a5 m c := e5
  replace h0 := h0.trans (val_main_v61_eq m' c)
  rw [e0, e1, e2, e3, e4, e5] at h0
  replace h1 := h1.trans (val_main_v82_eq _ _ _ _)
  rw [e0, e1, e2, e5] at h1
  replace h2 := h2.trans (val_main_v79_eq _ _ _ _ _)
  rw [e0, e1, e2, e3, e5] at h2
  replace h3 := h3.trans (val_main_v83_eq m' c)
  rw [e0, e1, e2, e3, e4, e5] at h3
  exact ⟨h0, h1, h2, h3, h4⟩

end Cert.MixIdeal.Value

end
-- ==== Proof.OutValue.lean ====
/- The value facts of the gated merge's forward call, at exact arithmetic. -/
module

public import proofs.«01_k».proof.Proof.Gen.OutIdeal.Value
public import proofs.«01_k».proof.Proof.Gen.OutRefIdeal.Read
public import proofs.«01_k».proof.Proof.Norms
public import Idealize.ShloMosaic.Lib.Pipeline.ValueKit
public import Idealize.ShloMosaic.Lib.Pointwise
public import Idealize.ShloMosaic.Lib.Claim

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)
open Cert.OutRefIdeal.Read Cert.Reals

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![3, t.val, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

/-- Argument `main_arg0` on device `c`: the block's input rows. -/
abbrev a0 (c : Dev nD) : FVec Ideal S4096x1024 .f32 := m ((c : Thread nD τ).loc main_arg0)
/-- Argument `main_arg1` on device `c`: shifts, scales and gates. -/
abbrev a1 (c : Dev nD) : FVec Ideal S9x1024 .f32 := m ((c : Thread nD τ).loc main_arg1)
/-- Argument `main_arg2` on device `c`: the recurrence's output rows. -/
abbrev a2 (c : Dev nD) : FVec Ideal S4096x1024 .f32 := m ((c : Thread nD τ).loc main_arg2)
/-- Argument `main_arg3` on device `c`: the convolution's output rows. -/
abbrev a3 (c : Dev nD) : FVec Ideal S4096x1024 .f32 := m ((c : Thread nD τ).loc main_arg3)
/-- Argument `main_arg4` on device `c`: the eight planes side by side. -/
abbrev a4 (c : Dev nD) : FVec Ideal S4096x8192 .f32 := m ((c : Thread nD τ).loc main_arg4)
/-- Argument `main_arg5` on device `c`: the recurrence's output weights. -/
abbrev a5 (c : Dev nD) : FVec Ideal S1024x1024 .f32 := m ((c : Thread nD τ).loc main_arg5)
/-- Argument `main_arg6` on device `c`: the convolution's output weights. -/
abbrev a6 (c : Dev nD) : FVec Ideal S1024x1024 .f32 := m ((c : Thread nD τ).loc main_arg6)
/-- Argument `main_arg7` on device `c`: the merge's weights. -/
abbrev a7 (c : Dev nD) : FVec Ideal S1024x1024 .f32 := m ((c : Thread nD τ).loc main_arg7)

/-- Row `r` of grid point `t`'s block is a row of the whole array. -/
abbrev rowAt (t : Fin cfg0.N) (r : Fin 512) : Fin 4096 :=
  ⟨t.val * 512 + r.val, by have := lt_of_lt_of_eq t.isLt N_0; omega⟩

/-- The gate's row of a grid point's block. -/
abbrev M5 (c : Dev nD) (t : Fin cfg0.N) : Vec Ideal S1x1024 .f32 := View.ld (iblk m c 4 t) r0_4
/-- The first gate plane of a grid point's block. -/
abbrev Pa (c : Dev nD) (t : Fin cfg0.N) : Vec Ideal S1x512x1024 .f32 := View.ld (iblk m c 3 t) r0_2
/-- The second gate plane of a grid point's block. -/
abbrev Pb (c : Dev nD) (t : Fin cfg0.N) : Vec Ideal S1x512x1024 .f32 := View.ld (iblk m c 3 t) r0_3
/-- The merged rows' product with the merge's weights. -/
abbrev O (c : Dev nD) (t : Fin cfg0.N) : FVec Ideal S512x1024 .f32 :=
  k0_pay1 (k0_pay4 (iblk m c 2 t) (iblk m c 6 t)) (k0_pay7 (iblk m c 1 t) (iblk m c 5 t) (Pa m c t)) (k0_pay8 (Pb m c t)) (Scalar.ofBits .f32 0x3F800000#32) (iblk m c 7 t)

/-- The input rows of a grid point at an entry. -/
theorem iblk_x (c : Dev nD) (t : Fin cfg0.N) (r : Fin 512) (k : Fin 1024) : iblk m c 0 t (ix2 r k) = a0 m c (ix2 (rowAt t r) k) := by
  blk_ext [iblk, V, idx t]

/-- The shifts, scales and gates at an entry. -/
theorem iblk_mod (c : Dev nD) (t : Fin cfg0.N) (j : Fin 9) (k : Fin 1024) : iblk m c 4 t (ix2 j k) = a1 m c (ix2 j k) := by
  blk_ext [iblk, V, idx t]

/-- The recurrence's output rows at an entry. -/
theorem iblk_oa (c : Dev nD) (t : Fin cfg0.N) (r : Fin 512) (k : Fin 1024) : iblk m c 1 t (ix2 r k) = a2 m c (ix2 (rowAt t r) k) := by
  have h : ∀ i, V m c main_v2 i = a2 m c i := fun i => by
    entry_read
    pointwise []
  exact Eq.trans (by blk_ext [iblk, idx t]) (h (ix2 (rowAt t r) k))

/-- The convolution's output rows at an entry. -/
theorem iblk_u2 (c : Dev nD) (t : Fin cfg0.N) (r : Fin 512) (k : Fin 1024) : iblk m c 2 t (ix2 r k) = a3 m c (ix2 (rowAt t r) k) := by
  have h : ∀ i, V m c main_v3 i = a3 m c i := fun i => by
    entry_read
    pointwise []
  exact Eq.trans (by blk_ext [iblk, idx t]) (h (ix2 (rowAt t r) k))

/-- The recurrence's output weights at an entry. -/
theorem iblk_wa (c : Dev nD) (t : Fin cfg0.N) (r k : Fin 1024) : iblk m c 5 t (ix2 r k) = a5 m c (ix2 r k) := by
  have h : ∀ i, V m c main_v4 i = a5 m c i := fun i => by
    entry_read
    pointwise []
  exact Eq.trans (by blk_ext [iblk, idx t]) (h (ix2 r k))

/-- The convolution's output weights at an entry. -/
theorem iblk_wb (c : Dev nD) (t : Fin cfg0.N) (r k : Fin 1024) : iblk m c 6 t (ix2 r k) = a6 m c (ix2 r k) := by
  have h : ∀ i, V m c main_v5 i = a6 m c i := fun i => by
    entry_read
    pointwise []
  exact Eq.trans (by blk_ext [iblk, idx t]) (h (ix2 r k))

/-- The merge's weights at an entry. -/
theorem iblk_wo (c : Dev nD) (t : Fin cfg0.N) (r k : Fin 1024) : iblk m c 7 t (ix2 r k) = a7 m c (ix2 r k) := by
  have h : ∀ i, V m c main_v6 i = a7 m c i := fun i => by
    entry_read
    pointwise []
  exact Eq.trans (by blk_ext [iblk, idx t]) (h (ix2 r k))

/-- A gate plane's block at an entry. -/
theorem iblk_p (c : Dev nD) (t : Fin cfg0.N) (p : Fin 2) (r : Fin 512) (k : Fin 1024) (X : Fin 8192) (hX : X.val = 6144 + p.val * 1024 + k.val) :
    iblk m c 3 t (ix3 p r k) = a4 m c (ix2 (rowAt t r) X) := by
  have h : ∀ i : S8x4096x1024.Idx, V m c main_v1 i = a4 m c (ix2 (i 1) ⟨(i 0).val * 1024 + (i 2).val, by have h0 : (i 0).val < 8 := (i 0).isLt; have h1 : (i 2).val < 1024 := (i 2).isLt; omega⟩) := fun i => by
    entry_read
    pointwise []
  refine Eq.trans (by blk_ext [iblk, idx t]) ((h (ix3 ⟨6 + p.val, by omega⟩ (rowAt t r) k)).trans ?_)
  exact congrArg (fun z => a4 m c (ix2 (rowAt t r) z)) (Fin.ext (show (6 + p.val) * 1024 + k.val = X.val by omega))

/-- The recurrence's branch at an entry. -/
theorem ya_apply (c : Dev nD) (t : Fin cfg0.N) (r : Fin 512) (k : Fin 1024) :
    k0_pay3 (iblk m c 1 t) (iblk m c 5 t) (ix2 r k) = val_main_v2 (F := Ideal) (a2 m c) (a5 m c) (ix2 (rowAt t r) k) := by
  pointwise [k0_pay3, iblk_oa m c t, iblk_wa m c t, val_main_v2]

/-- The convolution's branch at an entry. -/
theorem yb_apply (c : Dev nD) (t : Fin cfg0.N) (r : Fin 512) (k : Fin 1024) :
    k0_pay4 (iblk m c 2 t) (iblk m c 6 t) (ix2 r k) = val_main_v3 (F := Ideal) (a3 m c) (a6 m c) (ix2 (rowAt t r) k) := by
  pointwise [k0_pay4, iblk_u2 m c t, iblk_wb m c t, val_main_v3]

/-- The first gate plane at an entry. -/
theorem pa_apply (c : Dev nD) (t : Fin cfg0.N) (r : Fin 512) (k : Fin 1024) :
    Pa m c t (ix3 0 r k) = val_main_v0 (F := Ideal) (a4 m c) (ix2 (rowAt t r) k) := by
  refine Eq.trans ?_ ((iblk_p m c t 0 r k ⟨6144 + k.val, by omega⟩ (by simp)).trans ?_)
  · pointwise [Pa]
  · pointwise [val_main_v0]

/-- The second gate plane at an entry. -/
theorem pb_apply (c : Dev nD) (t : Fin cfg0.N) (r : Fin 512) (k : Fin 1024) :
    Pb m c t (ix3 0 r k) = val_main_v1 (F := Ideal) (a4 m c) (ix2 (rowAt t r) k) := by
  refine Eq.trans ?_ ((iblk_p m c t 1 r k ⟨7168 + k.val, by omega⟩ (by simp)).trans ?_)
  · pointwise [Pb]
  · pointwise [val_main_v1]

/-- The merged rows of the reference at an entry. -/
theorem merge_apply (c : Dev nD) (i : Cert.OutRefIdeal.S4096x1024.Idx) :
    val_main_v18 (F := Ideal) (a2 m c) (a3 m c) (a4 m c) (a5 m c) (a6 m c) i
      = Ideal.div 1 (1 + Ideal.exp (-val_main_v0 (F := Ideal) (a4 m c) i)) * val_main_v2 (F := Ideal) (a2 m c) (a5 m c) i
          + Ideal.div 1 (1 + Ideal.exp (-val_main_v1 (F := Ideal) (a4 m c) i)) * val_main_v3 (F := Ideal) (a3 m c) (a6 m c) i := by
  pointwise [val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]

/-- The merged rows' product at an entry. -/
theorem o_apply (c : Dev nD) (t : Fin cfg0.N) (r : Fin 512) (k : Fin 1024) :
    O m c t (ix2 r k) = val_main_v19 (F := Ideal) (a2 m c) (a3 m c) (a4 m c) (a5 m c) (a6 m c) (a7 m c) (ix2 (rowAt t r) k) := by
  have ea := ya_apply m c t r
  have eb := yb_apply m c t r
  have pa := pa_apply m c t r
  have pb := pb_apply m c t r
  pointwise [O, k0_pay1, k0_pay7, k0_pay8, zero_sub', ea, eb, pa, pb, iblk_wo m c t, val_main_v19, merge_apply m c]

/-- The block's output rows at an entry. -/
theorem y_apply (c : Dev nD) (t : Fin cfg0.N) (r : Fin 512) (k : Fin 1024) :
    k0_pay2 (k0_pay4 (iblk m c 2 t) (iblk m c 6 t)) (k0_pay7 (iblk m c 1 t) (iblk m c 5 t) (Pa m c t)) (k0_pay8 (Pb m c t)) (Scalar.ofBits .f32 0x3F800000#32) (iblk m c 7 t) (iblk m c 0 t) (M5 m c t) (ix2 r k)
      = val_main_v25 (F := Ideal) (a0 m c) (a1 m c) (a2 m c) (a3 m c) (a4 m c) (a5 m c) (a6 m c) (a7 m c) (ix2 (rowAt t r) k) := by
  have h : ∀ o : FVec Ideal S512x1024 .f32, addf (iblk m c 0 t) (mulf (broadcastTo S512x1024 (M5 m c t) broadcasts_S1x1024_S512x1024) o) (ix2 r k)
      = a0 m c (ix2 (rowAt t r) k) + a1 m c (ix2 5 k) * o (ix2 r k) := fun o => by
    pointwise [M5, iblk_x m c t, iblk_mod m c t]
  refine (h (O m c t)).trans ?_
  rw [o_apply]
  pointwise [val_main_v25, val_main_v24, val_main_v23, val_main_v22, val_main_v21, val_main_v20]

/-- The block's output rows. -/
theorem final_y (c : Dev nD) : (dats m 0 c).arrAt 8 (cfgs 0).N = val_main_v25 (F := Ideal) (a0 m c) (a1 m c) (a2 m c) (a3 m c) (a4 m c) (a5 m c) (a6 m c) (a7 m c) := by
  refine (dats m 0 c).arrAt_eq_of_covers 8 _ (by decide +kernel) fun t hf y => ?_
  blk_simp
  rw [after0_8]
  unfold_out out0_8
  frame_out
  rw [eq_ix2 y]
  refine (y_apply m c t (y 0) (y 1)).trans ?_
  blk_ext [idx t]

/-- The recurrence's branch. -/
theorem final_ya (c : Dev nD) : (dats m 0 c).arrAt 9 (cfgs 0).N = val_main_v26 (F := Ideal) (a2 m c) (a5 m c) := by
  refine (dats m 0 c).arrAt_eq_of_covers 9 _ (by decide +kernel) fun t hf y => ?_
  blk_simp
  rw [after0_9]
  unfold_out out0_9
  frame_out
  rw [eq_ix2 y]
  refine (ya_apply m c t (y 0) (y 1)).trans ?_
  blk_ext [idx t]

/-- The convolution's branch. -/
theorem final_yb (c : Dev nD) : (dats m 0 c).arrAt 10 (cfgs 0).N = val_main_v27 (F := Ideal) (a3 m c) (a6 m c) := by
  refine (dats m 0 c).arrAt_eq_of_covers 10 _ (by decide +kernel) fun t hf y => ?_
  blk_simp
  rw [after0_10]
  unfold_out out0_10
  frame_out
  rw [eq_ix2 y]
  refine (yb_apply m c t (y 0) (y 1)).trans ?_
  blk_ext [idx t]

/-- The merged rows' product. -/
theorem final_o (c : Dev nD) : (dats m 0 c).arrAt 11 (cfgs 0).N = val_main_v19 (F := Ideal) (a2 m c) (a3 m c) (a4 m c) (a5 m c) (a6 m c) (a7 m c) := by
  refine (dats m 0 c).arrAt_eq_of_covers 11 _ (by decide +kernel) fun t hf y => ?_
  blk_simp
  rw [after0_11]
  unfold_out out0_11
  frame_out
  rw [eq_ix2 y]
  refine (o_apply m c t (y 0) (y 1)).trans ?_
  blk_ext [idx t]

end Cert.OutIdeal.Value

end
-- ==== Proof.OutClaim.lean ====
/- The claim about the gated merge's forward call and its reference. -/
module

public import proofs.«01_k».proof.Defs
public import proofs.«01_k».proof.Proof.OutValue
public import proofs.«01_k».proof.Proof.Gen.OutRefIdeal.Run

@[expose] public section

set_option maxRecDepth 16384

noncomputable section

namespace Cert.OutIdeal.Value

open Cert.OutIdeal Cert.OutIdeal.Gen Idealize.ShloMosaic Idealize.ShloMosaic.TcCoe Idealize.SL.Sem
open Cert.OutRefIdeal.Read

set_option maxHeartbeats 4000000

/-- The idealized call returns the reference's arrays and leaves its arguments. -/
theorem run_mixout (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7_0) = val_main_v25 (F := Ideal) (a0 m c) (a1 m c) (a2 m c) (a3 m c) (a4 m c) (a5 m c) (a6 m c) (a7 m c)
      ∧ r.2.mem ((c.tc : Thread nD τ).loc main_v7_1) = val_main_v26 (F := Ideal) (a2 m c) (a5 m c)
      ∧ r.2.mem ((c.tc : Thread nD τ).loc main_v7_2) = val_main_v27 (F := Ideal) (a3 m c) (a6 m c)
      ∧ r.2.mem ((c.tc : Thread nD τ).loc main_v7_3) = val_main_v19 (F := Ideal) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  run_from run_blocks m ρ
  · exact final_y m c
  · exact final_ya m c
  · exact final_yb m c
  · exact final_o m c

/-- The two programs return the same arrays. -/
theorem algebraic_mixout [Cert.OutIdeal.Facts] [Cert.OutRefIdeal.Facts] : Cert.algebraic_OutIdeal_OutRefIdeal := by
  intro m g m' g' _ hag
  refine ⟨fun c => val_main_v25 (F := Ideal) (a0 m c) (a1 m c) (a2 m c) (a3 m c) (a4 m c) (a5 m c) (a6 m c) (a7 m c), fun c => val_main_v26 (F := Ideal) (a2 m c) (a5 m c), fun c => val_main_v27 (F := Ideal) (a3 m c) (a6 m c), fun c => val_main_v19 (F := Ideal) (a2 m c) (a3 m c) (a4 m c) (a5 m c) (a6 m c) (a7 m c), run_mixout m g, ?_⟩
  refine (θ_run _ _ _).mono (fun r h c => ?_) (Cert.OutRefIdeal.Value.run m' g')
  obtain ⟨h0, h1, h2, h3, h4⟩ := h c
  obtain ⟨e0, e1, e2, e3, e4, e5, e6, e7⟩ := hag c
  replace e0 : m' ((c.tc : Thread Cert.OutRefIdeal.nD Cert.OutRefIdeal.τ).loc Cert.OutRefIdeal.main_arg0) = a0 m c := e0
  replace e1 : m' ((c.tc : Thread Cert.OutRefIdeal.nD Cert.OutRefIdeal.τ).loc Cert.OutRefIdeal.main_arg1) = a1 m c := e1
  replace e2 : m' ((c.tc : Thread Cert.OutRefIdeal.nD Cert.OutRefIdeal.τ).loc Cert.OutRefIdeal.main_arg2) = a2 m c := e2
  replace e3 : m' ((c.tc : Thread Cert.OutRefIdeal.nD Cert.OutRefIdeal.τ).loc Cert.OutRefIdeal.main_arg3) = a3 m c := e3
  replace e4 : m' ((c.tc : Thread Cert.OutRefIdeal.nD Cert.OutRefIdeal.τ).loc Cert.OutRefIdeal.main_arg4) = a4 m c := e4
  replace e5 : m' ((c.tc : Thread Cert.OutRefIdeal.nD Cert.OutRefIdeal.τ).loc Cert.OutRefIdeal.main_arg5) = a5 m c := e5
  replace e6 : m' ((c.tc : Thread Cert.OutRefIdeal.nD Cert.OutRefIdeal.τ).loc Cert.OutRefIdeal.main_arg6) = a6 m c := e6
  replace e7 : m' ((c.tc : Thread Cert.OutRefIdeal.nD Cert.OutRefIdeal.τ).loc Cert.OutRefIdeal.main_arg7) = a7 m c := e7
  replace h0 := h0.trans (val_main_v25_eq _ _ _ _ _ _ _ _)
  rw [e0, e1, e2, e3, e4, e5, e6, e7] at h0
  replace h1 := h1.trans (val_main_v26_eq _ _)
  rw [e2, e5] at h1
  replace h2 := h2.trans (val_main_v27_eq _ _)
  rw [e3, e6] at h2
  replace h3 := h3.trans (val_main_v19_eq _ _ _ _ _ _)
  rw [e2, e3, e4, e5, e6, e7] at h3
  exact ⟨h0, h1, h2, h3, h4⟩

end Cert.OutIdeal.Value

end
-- ==== Proof.SmallRun.lean ====
module

public import proofs.«01_k».proof.Proof.Gen.SmallIdeal.Launch
public import proofs.«01_k».proof.Proof.Gen.SmallIdeal.Skeleton
public import proofs.«01_k».proof.Proof.Gen.SmallIdeal.Points
public import Idealize.ShloMosaic.Lib.Pipeline.FrameBody
public import Idealize.ShloMosaic.Lib.Pipeline.Value
public import Idealize.ShloMosaic.Lib.Pointwise
public import Idealize.ShloMosaic.Lib.Claim
public import Idealize.ShloMosaic.Lib.Ring
public import Idealize.ShloMosaic.Lib.Tactic
public import Idealize.ShloMosaic.Lib.WordCmp

/-! The optimiser of the small parameters, one body: what it stores, for any number format. -/

@[expose] public section

set_option maxRecDepth 16384

noncomputable section

namespace Cert.SmallIdeal.Hand

open Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The formulas -/

/-- The running mean of the gradients, one step on. -/
def firstMoment {s : Shape} (g m : FVec F s .f32) : FVec F s .f32 :=
  addf (mulf (broadcast s (Scalar.ofBits .f32 0x3F666666#32)) m) (mulf (broadcast s (Scalar.ofBits .f32 0x3DCCCCCD#32)) g)

/-- The running mean of the squared gradients, one step on. -/
def secondMoment {s : Shape} (g v : FVec F s .f32) : FVec F s .f32 :=
  addf (mulf (broadcast s (Scalar.ofBits .f32 0x3F7FBE77#32)) v) (mulf (broadcast s (Scalar.ofBits .f32 0x3A83126F#32)) (mulf g g))

/-- The change of a parameter: both means corrected, their quotient, the decay, the rate. -/
def step {s : Shape} (g w m v : FVec F s .f32) : FVec F s .f32 :=
  mulf (broadcast s (Scalar.ofBits .f32 0xBA83126F#32))
    (addf (divf (divf (firstMoment g m) (broadcast s (Scalar.ofBits .f32 0x3F26BD02#32)))
        (addf (sqrt (divf (secondMoment g v) (broadcast s (Scalar.ofBits .f32 0x3C231ACC#32)))) (broadcast s (Scalar.ofBits .f32 0x322BCC77#32))))
      (mulf (broadcast s (Scalar.ofBits .f32 0x3C23D70A#32)) w))

/-- The rectangle of one row of the packed gradients lies inside. -/
theorem row_inb (k : ℕ) (h : k < 24) : ∀ a, (![k, 0] : Fin 2 → ℕ) a + S1x1024.size a ≤ S24x1024.size a := fun a => by
  match a with
  | 0 => exact h
  | 1 => exact le_refl 1024

/-- One row of the packed gradients. -/
def row (k : ℕ) (h : k < 24) (x : Vec F S24x1024 .f32) : Vec F S1x1024 .f32 :=
  View.ld x (Rect.unit (s := S24x1024) ![k, 0] S1x1024.size (row_inb k h))

/-- The rectangle of one piece of the long row lies inside. -/
theorem tile_inb (k : ℕ) (h : k < 9) : ∀ a, (![0, 1024 * k] : Fin 2 → ℕ) a + S1x1024.size a ≤ S1x9216.size a := fun a => by
  match a with
  | 0 => exact le_refl 1
  | 1 => show 1024 * k + 1024 ≤ 9216; omega

/-- One piece of the long row. -/
abbrev tile (k : ℕ) (h : k < 9) : Rect S1x9216 := Rect.unit (s := S1x9216) ![0, 1024 * k] S1x1024.size (tile_inb k h)

/-- The nine rows of the long gradient, one after another. -/
def flatRows (x : Vec F S24x1024 .f32) : Vec F S1x9216 .f32 := fun y =>
  x (ix2 ⟨(y 1).val / 1024, by have h : (y 1).val < 9216 := (y 1).isLt; omega⟩ ⟨(y 1).val % 1024, Nat.mod_lt _ (by decide)⟩)

/-- The gradient of the forget gates' bounds, a difference of two rows' softmax. -/
def boundGrad (x : Vec F S24x1024 .f32) (w : Vec F S2x1024 .f32) : Vec F S2x1024 .f32 := k0_pay37 (row 11 (by decide) x) w

/-- A piece of a long row. -/
abbrev piece (k : ℕ) (h : k < 9) (m : Vec F S1x9216 .f32) : Vec F S1x1024 .f32 := View.ld m (tile k h)

/-- A piece of the long gradient is its row. -/
theorem row_flat (k : ℕ) (h : k < 9) (x : Vec F S24x1024 .f32) : row k (by omega) x = piece k h (flatRows x) := by
  funext y
  have hy : (y 1).val < 1024 := (y 1).isLt
  have hz : (y 0).val < 1 := (y 0).isLt
  refine congrArg x (funext fun a => Fin.ext ?_)
  match a with
  | 0 => show k + 1 * (y 0).val = (1024 * k + 1 * (y 1).val) / 1024; omega
  | 1 => show 0 + 1 * (y 1).val = (1024 * k + 1 * (y 1).val) % 1024; omega

/-- What is stored in each piece is that piece of the formula over the long row. -/
theorem first_tile (k : ℕ) (h : k < 9) (x : Vec F S24x1024 .f32) (m : Vec F S1x9216 .f32) :
    firstMoment (row k (by omega) x) (piece k h m) = piece k h (firstMoment (flatRows x) m) := by
  rw [row_flat k h]; rfl
theorem second_tile (k : ℕ) (h : k < 9) (x : Vec F S24x1024 .f32) (v : Vec F S1x9216 .f32) :
    secondMoment (row k (by omega) x) (piece k h v) = piece k h (secondMoment (flatRows x) v) := by
  rw [row_flat k h]; rfl
theorem step_tile (k : ℕ) (h : k < 9) (x : Vec F S24x1024 .f32) (w m v : Vec F S1x9216 .f32) :
    step (row k (by omega) x) (piece k h w) (piece k h m) (piece k h v) = piece k h (step (flatRows x) w m v) := by
  rw [row_flat k h]; rfl

/-! ## Reading back what was stored -/

variable {sp : Space}

/-- Nine pieces stored one after another hold the long row they are the pieces of. -/
theorem read_tiles (v : View sig .tc sp S1x9216 .f32) (f : v.ty.Contents (Elt F)) (G : Vec F S1x9216 .f32) {p0 p1 p2 p3 p4 p5 p6 p7 p8 : Vec F S1x1024 .f32}
    (h0 : p0 = View.ld G (tile 0 (by decide))) (h1 : p1 = View.ld G (tile 1 (by decide))) (h2 : p2 = View.ld G (tile 2 (by decide)))
    (h3 : p3 = View.ld G (tile 3 (by decide))) (h4 : p4 = View.ld G (tile 4 (by decide))) (h5 : p5 = View.ld G (tile 5 (by decide)))
    (h6 : p6 = View.ld G (tile 6 (by decide))) (h7 : p7 = View.ld G (tile 7 (by decide))) (h8 : p8 = View.ld G (tile 8 (by decide))) :
    v.read (Elt F) (v.writes (Elt F) f [⟨tile 8 (by decide), p8⟩, ⟨tile 7 (by decide), p7⟩, ⟨tile 6 (by decide), p6⟩, ⟨tile 5 (by decide), p5⟩,
      ⟨tile 4 (by decide), p4⟩, ⟨tile 3 (by decide), p3⟩, ⟨tile 2 (by decide), p2⟩, ⟨tile 1 (by decide), p1⟩, ⟨tile 0 (by decide), p0⟩]) = G := by
  subst h0 h1 h2 h3 h4 h5 h6 h7 h8
  have hc := fun y => View.cover_of_tiled (Val := Elt F) [⟨tile 8 (by decide), View.ld G (tile 8 (by decide))⟩, ⟨tile 7 (by decide), View.ld G (tile 7 (by decide))⟩,
    ⟨tile 6 (by decide), View.ld G (tile 6 (by decide))⟩, ⟨tile 5 (by decide), View.ld G (tile 5 (by decide))⟩, ⟨tile 4 (by decide), View.ld G (tile 4 (by decide))⟩,
    ⟨tile 3 (by decide), View.ld G (tile 3 (by decide))⟩, ⟨tile 2 (by decide), View.ld G (tile 2 (by decide))⟩, ⟨tile 1 (by decide), View.ld G (tile 1 (by decide))⟩,
    ⟨tile 0 (by decide), View.ld G (tile 0 (by decide))⟩] S1x1024.size (by rfl) y
  refine (View.read_writes_eq_canon v f _ hc).trans (funext fun y => View.canon_apply_of_pieces G _ ?_ y (hc y))
  intro p hp x
  simp only [List.mem_cons, List.not_mem_nil, or_false] at hp
  rcases hp with rfl | rfl | rfl | rfl | rfl | rfl | rfl | rfl | rfl <;> rfl

/-- A whole block stored at once is what was stored. -/
theorem read_whole {S : Shape} (v : View sig .tc sp S .f32) (f : v.ty.Contents (Elt F)) {off : Fin S.rank → ℕ} (h : off = fun _ => 0)
    (inb : ∀ a, off a + S.size a ≤ S.size a) {p G : S.Idx → Elt F .f32} (hp : p = G) :
    v.read (Elt F) (v.writes (Elt F) f [⟨Rect.unit off S.size inb, p⟩]) = G := by
  subst hp
  refine (View.read_writes_eq_canon v f _ fun y => ⟨_, List.mem_singleton_self _, View.mem_set_unit_zero h inb y⟩).trans ?_
  exact View.canon_unit_zero h inb p

/-- A whole block read at once. -/
abbrev full {S : Shape} {off : Fin S.rank → ℕ} (inb : ∀ a, off a + S.size a ≤ S.size a) (x : S.Idx → Elt F .f32) : S.Idx → Elt F .f32 :=
  View.ld x (Rect.unit off S.size inb)

/-- A whole block read at once is the block. -/
theorem full_eq {S : Shape} {off : Fin S.rank → ℕ} (h : off = fun _ => 0) (inb : ∀ a, off a + S.size a ≤ S.size a) (x : S.Idx → Elt F .f32) :
    full inb x = x := View.ld_unit_zero h inb x

/-- The two zero offsets. -/
theorem zero2 : (![0, 0] : Fin 2 → ℕ) = fun _ => 0 := by decide

/-- A block of one row read at once is the block, and so is one of two. -/
theorem full_one (x : Vec F S1x1024 .f32) : full inb_S1x1024_S1x1024_0_0 x = x := full_eq (S := S1x1024) zero2 _ x
theorem full_two (x : Vec F S2x1024 .f32) : full inb_S2x1024_S2x1024_0_0 x = x := full_eq (S := S2x1024) zero2 _ x

/-- What is stored for a parameter of one row, -/
theorem first_full (g m : Vec F S1x1024 .f32) : firstMoment g (full inb_S1x1024_S1x1024_0_0 m) = firstMoment g m := by rw [full_one]
theorem second_full (g v : Vec F S1x1024 .f32) : secondMoment g (full inb_S1x1024_S1x1024_0_0 v) = secondMoment g v := by rw [full_one]
theorem step_full (g w m v : Vec F S1x1024 .f32) :
    step g (full inb_S1x1024_S1x1024_0_0 w) (full inb_S1x1024_S1x1024_0_0 m) (full inb_S1x1024_S1x1024_0_0 v) = step g w m v := by
  simp only [full_one]

/-- and for the forget gates' bounds, whose gradient reads the parameter too. -/
theorem bound_full (x : Vec F S24x1024 .f32) (w : Vec F S2x1024 .f32) : boundGrad x (full inb_S2x1024_S2x1024_0_0 w) = boundGrad x w := by
  rw [full_two]
theorem first_bound (x : Vec F S24x1024 .f32) (w m : Vec F S2x1024 .f32) :
    firstMoment (boundGrad x (full inb_S2x1024_S2x1024_0_0 w)) (full inb_S2x1024_S2x1024_0_0 m) = firstMoment (boundGrad x w) m := by
  simp only [full_two]
theorem second_bound (x : Vec F S24x1024 .f32) (w v : Vec F S2x1024 .f32) :
    secondMoment (boundGrad x (full inb_S2x1024_S2x1024_0_0 w)) (full inb_S2x1024_S2x1024_0_0 v) = secondMoment (boundGrad x w) v := by
  simp only [full_two]
theorem step_bound (x : Vec F S24x1024 .f32) (w m v : Vec F S2x1024 .f32) :
    step (boundGrad x (full inb_S2x1024_S2x1024_0_0 w)) (full inb_S2x1024_S2x1024_0_0 w) (full inb_S2x1024_S2x1024_0_0 m)
        (full inb_S2x1024_S2x1024_0_0 v) = step (boundGrad x w) w m v := by
  simp only [full_two]

end Cert.SmallIdeal.Hand

end
-- ==== Proof.SmallBound.lean ====
/- The gradient of the forget gates' bounds: the kernel's closed form and the derivative of the softmax. -/
module

public import proofs.«01_k».proof.Proof.SmallRun
public import proofs.«01_k».proof.Proof.Gen.SmallRefIdeal.Read
public import proofs.«01_k».proof.Proof.Rows
public import proofs.«01_k».proof.Proof.Reals

@[expose] public section

set_option maxRecDepth 16384

noncomputable section

namespace Cert.SmallIdeal.Value

open Cert.SmallIdeal Cert.SmallIdeal.Gen Cert.SmallIdeal.Hand Idealize.ShloMosaic Idealize.ShloMosaic.TcCoe Idealize.SL.Sem
open Cert.SmallRefIdeal.Read Cert.Reals

set_option maxHeartbeats 4000000

variable (x0 : FVec Ideal S24x1024 .f32) (w : FVec Ideal S2x1024 .f32)

/-- The word of negative infinity. -/
theorem neg_inf_word : Ideal.ofBits .f32 0xFF800000#32 = (⊥ : EReal) := by
  simp [Ideal.ofBits, Ideal.ieee]

/-- The larger of two real numbers, the fold begun at negative infinity, is real. -/
theorem top_real (k : Fin 1024) (h : ∀ r, IsReal (w (ix2 r k))) : IsReal (val_main_v83 (F := Ideal) w (ix1 k)) := by
  obtain ⟨a, ha⟩ := h 0
  obtain ⟨b, hb⟩ := h 1
  have e : val_main_v76 (F := Ideal) w (ix1 k) = max (w (ix2 0 k)) (max (w (ix2 1 k)) ⊥) := by
    unfold val_main_v76
    rw [Host.reduce_eq_fold_single (FloatOps.maximumf (F := Ideal) (φ := .f32)) w _ _ (by decide) _ (ix1 k), ← neg_inf_word]
    refine (show _ = max ((w ∘ _) (0 : Fin 2)) (max ((w ∘ _) (1 : Fin 2)) (Ideal.ofBits .f32 0xFF800000#32)) from rfl).trans ?_
    exact congrArg₂ max (congrArg w (funext fun a => Fin.ext (by match a with | 0 => rfl | 1 => rfl)))
      (congrArg₂ max (congrArg w (funext fun a => Fin.ext (by match a with | 0 => rfl | 1 => rfl))) rfl)
  have e2 : val_main_v83 (F := Ideal) w (ix1 k) = max ⊥ (val_main_v76 (F := Ideal) w (ix1 k)) := by
    pointwise [val_main_v83, val_main_v82, val_main_cst_28]
    rw [neg_inf_word]
  rw [e2, e, ha, hb]
  rw [max_bot_left, max_bot_right]
  rcases le_total (a : EReal) b with hab | hab
  · exact ⟨b, max_eq_right hab⟩
  · exact ⟨a, max_eq_left hab⟩

/-- One position of a window of two rows: the entry so many rows below, or the value beyond the last row. -/
theorem window_at (y : S2x1024.Idx → EReal) (r : Fin 2) (k : Fin 1024) (c : ℕ) (n : (⟨2, ![2, 1]⟩ : Shape).Idx) (h0 : (n 0).val = c) (h1 : (n 1).val = 0) :
    (if hin : ∀ a : Fin 2, (![0, 0] : Fin 2 → ℕ) a ≤ ((ix2 r k : S2x1024.Idx) a).val * (![1, 1] : Fin 2 → ℕ) a + (n a).val
        ∧ ((ix2 r k : S2x1024.Idx) a).val * (![1, 1] : Fin 2 → ℕ) a + (n a).val - (![0, 0] : Fin 2 → ℕ) a < S2x1024.size a then
      y fun a => ⟨((ix2 r k : S2x1024.Idx) a).val * (![1, 1] : Fin 2 → ℕ) a + (n a).val - (![0, 0] : Fin 2 → ℕ) a, (hin a).2⟩ else 0)
      = if h : r.val + c < 2 then y (ix2 ⟨r.val + c, h⟩ k) else 0 := by
  by_cases h : r.val + c < 2
  · rw [dif_pos h, dif_pos]
    · refine congrArg y (funext fun a => Fin.ext ?_)
      match a with
      | 0 => show r.val * 1 + (n 0).val - 0 = r.val + c; omega
      | 1 => show k.val * 1 + (n 1).val - 0 = k.val; omega
    · intro a
      match a with
      | 0 => exact ⟨Nat.zero_le _, by show r.val * 1 + (n 0).val - 0 < 2; omega⟩
      | 1 => exact ⟨Nat.zero_le _, by show k.val * 1 + (n 1).val - 0 < 1024; omega⟩
  · rw [dif_neg h, dif_neg]
    intro hin
    have h2 : r.val * 1 + (n 0).val - 0 < 2 := (hin 0).2
    omega

/-- The reversed running sum of a row over a row of zeros is that row over that row of zeros. -/
theorem sums_apply (k : Fin 1024) :
    val_main_v111 (F := Ideal) x0 (ix2 0 k) = x0 (ix2 11 k) ∧ val_main_v111 (F := Ideal) x0 (ix2 1 k) = 0 := by
  have e0 : val_main_v110 (F := Ideal) x0 (ix2 0 k) = x0 (ix2 11 k) := by
    pointwise [val_main_v110, val_main_v109, val_main_v108, val_main_v107]
  have e1 : val_main_v110 (F := Ideal) x0 (ix2 1 k) = 0 := by
    pointwise [val_main_v110, val_main_v109, val_main_v108, val_main_v107, val_main_cst_36]
  have hl : List.finRange (⟨2, ![2, 1]⟩ : Shape).numel = [⟨0, by decide⟩, ⟨1, by decide⟩] := by decide
  have v : val_main_call1_call0_v0 (F := Ideal) (Shape.Idx.first Cert.SmallRefIdeal.Gen.h_S_) = (0 : EReal) := by
    pointwise [val_main_call1_call0_v0, val_main_call1_call0_cst]
  have r0 : ((⟨2, ![2, 1]⟩ : Shape).rowMajor.symm (⟨0, by decide⟩ : Fin (⟨2, ![2, 1]⟩ : Shape).numel)) = ix2 0 0 := by decide
  have r1 : ((⟨2, ![2, 1]⟩ : Shape).rowMajor.symm (⟨1, by decide⟩ : Fin (⟨2, ![2, 1]⟩ : Shape).numel)) = ix2 1 0 := by decide
  have sum : ∀ r : Fin 2, val_main_v111 (F := Ideal) x0 (ix2 r k)
      = 0 + (if h : r.val + 0 < 2 then val_main_v110 (F := Ideal) x0 (ix2 ⟨r.val + 0, h⟩ k) else 0)
        + (if h : r.val + 1 < 2 then val_main_v110 (F := Ideal) x0 (ix2 ⟨r.val + 1, h⟩ k) else 0) := fun r => by
    unfold val_main_v111
    simp only [Host.reduceWindowAdd, Ideal.hostReduceWindowAdd_def]
    unfold Ideal.hostReduceWindowAdd Host.reduceWindow
    dsimp only
    rw [v]
    change List.foldl _ _ (List.finRange (⟨2, ![2, 1]⟩ : Shape).numel) = _
    rw [hl]
    simp only [List.foldl]
    have p0 := window_at (val_main_v110 (F := Ideal) x0) r k 0 _ (congrArg (fun n => (n 0).val) r0) (congrArg (fun n => (n 1).val) r0)
    have p1 := window_at (val_main_v110 (F := Ideal) x0) r k 1 _ (congrArg (fun n => (n 0).val) r1) (congrArg (fun n => (n 1).val) r1)
    rw [← p0, ← p1]
    exact congrArg₂ (· + ·) (congrArg (0 + ·) (dite_congr rfl (fun _ => rfl) fun _ => rfl)) (dite_congr rfl (fun _ => rfl) fun _ => rfl)
  constructor
  · rw [sum, dif_pos (by decide), dif_pos (by decide)]
    exact (congrArg₂ (· + ·) ((zero_add _).trans e0) e1).trans (add_zero _)
  · rw [sum, dif_pos (by decide), dif_neg (by decide)]
    exact (add_zero _).trans ((zero_add _).trans e1)

/-- The kernel's closed form read at an index. -/
theorem bound_apply (k : Fin 1024) (p : EReal) (hp : p = Ideal.div 1 (1 + Ideal.exp (0 - (w (ix2 0 k) - w (ix2 1 k))))) :
    boundGrad (F := Ideal) x0 w (ix2 0 k) = p * (1 - p) * x0 (ix2 11 k) ∧ boundGrad (F := Ideal) x0 w (ix2 1 k) = 0 - p * (1 - p) * x0 (ix2 11 k) := by
  subst hp
  constructor
  · pointwise [boundGrad, k0_pay37, row]
    skip
  · pointwise [boundGrad, k0_pay37, row]
    skip

/-- The closed form is the derivative of the softmax, over real numbers. -/
theorem softmax_law (g a b m : ℝ) (p e0 e1 : EReal) (hp : p = Ideal.div 1 (1 + Ideal.exp (0 - ((a : EReal) - b))))
    (h0 : e0 = Ideal.exp ((a : EReal) - m)) (h1 : e1 = Ideal.exp ((b : EReal) - m)) :
    (Ideal.div g (e0 + e1) + -(g * Ideal.div 1 ((e0 + e1) * (e0 + e1)) * e0 + 0 * Ideal.div 1 ((e0 + e1) * (e0 + e1)) * e1)) * e0 = p * (1 - p) * g
    ∧ (Ideal.div 0 (e0 + e1) + -(g * Ideal.div 1 ((e0 + e1) * (e0 + e1)) * e0 + 0 * Ideal.div 1 ((e0 + e1) * (e0 + e1)) * e1)) * e1 = 0 - p * (1 - p) * g := by
  have hs : Real.exp (a - m) + Real.exp (b - m) ≠ 0 := by positivity
  have hq : Real.exp (b - m) = Real.exp (a - m) * Real.exp (0 - (a - b)) := by rw [← Real.exp_add]; congr 1; ring
  have hx : Real.exp (a - m) ≠ 0 := (Real.exp_pos _).ne'
  have hy : 1 + Real.exp (0 - (a - b)) ≠ 0 := by positivity
  rw [← EReal.coe_sub, Ideal.exp_coe] at h0 h1
  rw [← EReal.coe_sub, ← EReal.coe_zero, ← EReal.coe_sub, Ideal.exp_coe, ← EReal.coe_one, ← EReal.coe_add, Ideal.div_coe hy, ← EReal.coe_mul] at hp
  subst h0 h1 hp
  rw [← EReal.coe_zero, ← EReal.coe_one]
  simp only [← EReal.coe_add, ← EReal.coe_mul]
  rw [Ideal.div_coe hs, Ideal.div_coe hs, Ideal.div_coe (mul_ne_zero hs hs)]
  simp only [← EReal.coe_add, ← EReal.coe_mul, ← EReal.coe_neg, ← EReal.coe_sub]
  rw [hq] at hs ⊢
  constructor
  · congr 1
    field_simp
    ring
  · congr 1
    field_simp
    ring

/-- The reference's derivative is the kernel's closed form. -/
theorem bound_grad (h0 : ∀ k, IsReal (x0 (ix2 11 k))) (h1 : ∀ i, IsReal (w i)) : boundGrad (F := Ideal) x0 w = val_main_v123 (F := Ideal) x0 w := by
  funext i
  obtain ⟨r, k, rfl⟩ : ∃ (r : Fin 2) (k : Fin 1024), i = ix2 r k := ⟨i 0, i 1, eq_ix2 i⟩
  obtain ⟨m, hm⟩ := top_real w k fun r => h1 _
  obtain ⟨g, hg⟩ := h0 k
  obtain ⟨a, ha⟩ := h1 (ix2 0 k)
  obtain ⟨b, hb⟩ := h1 (ix2 1 k)
  obtain ⟨s0, s1⟩ := sums_apply x0 k
  obtain ⟨l0, l1⟩ := softmax_law g a b m _ _ _ rfl rfl rfl
  obtain ⟨b0, b1⟩ := bound_apply x0 w k _ rfl
  rw [ha, hb, hg] at b0 b1
  have e : ∀ r : Fin 2, val_main_v123 (F := Ideal) x0 w (ix2 r k) = _ := fun r => by
    pointwise [val_main_v123, val_main_v122, val_main_v121, val_main_v120, val_main_v119, val_main_v118, val_main_v117, val_main_v116, val_main_v115, val_main_v114, val_main_v113, val_main_v112, val_main_v103, val_main_v102, val_main_v101, val_main_v98, val_main_v97, val_main_v96, val_main_v95, val_main_v94, val_main_v93, val_main_cst_34, val_main_cst_35, val_main_cst_37, val_main_cst_38]
    simp only [Fin.sum_univ_two, Fin.sum_univ_one, ha, hb, hm, s0, s1, hg]
    rfl
  rw [e]
  match r with
  | 0 => rw [b0, s0, hg, ha]; exact l0.symm
  | 1 => rw [b1, s1, hb]; exact l1.symm

end Cert.SmallIdeal.Value

end
-- ==== Proof.SmallParts.lean ====
/- The optimiser of the small parameters: the reference's terms are the kernel's formulas. -/
module

public import proofs.«01_k».proof.Defs
public import proofs.«01_k».proof.Proof.SmallBound
public import proofs.«01_k».proof.Proof.Gen.SmallRefIdeal.Run

@[expose] public section

set_option maxRecDepth 16384

noncomputable section

namespace Cert.SmallIdeal.Value

open Cert.SmallIdeal Cert.SmallIdeal.Gen Cert.SmallIdeal.Hand Idealize.ShloMosaic Idealize.ShloMosaic.TcCoe Idealize.SL.Sem
open Cert.SmallRefIdeal.Read Cert.Reals

set_option maxHeartbeats 4000000

/-- One row cut from the packed gradients is that row. -/
theorem cut_row (k : ℕ) (hk : k < 24) (x : FVec Ideal S24x1024 .f32) (h : S24x1024.Slices ![k, 0] S1x1024) :
    extractStridedSlice S1x1024 ![k, 0] x h = row (F := Ideal) k hk x := by
  have hi : ∀ i : S1x1024.Idx, (i 0).val < 1 := fun i => (i 0).isLt
  have hj : ∀ i : S1x1024.Idx, (i 1).val < 1024 := fun i => (i 1).isLt
  funext i
  refine (extractStridedSlice_apply ![k, 0] x h i (ix2 ⟨k + (i 0).val, by have := hi i; omega⟩ ⟨(i 1).val, hj i⟩) fun a => by
    match a with
    | 0 => rfl
    | 1 => exact (Nat.zero_add _).symm).trans (congrArg x (funext fun a => Fin.ext ?_))
  match a with
  | 0 => exact congrArg (k + ·) (Nat.one_mul _).symm
  | 1 => exact ((Nat.zero_add _).trans (Nat.one_mul _)).symm

/-- The first nine rows laid flat. -/
theorem flat_rows (x : FVec Ideal S24x1024 .f32) : val_main_v1 (F := Ideal) x = flatRows (F := Ideal) x := by
  funext i
  have h0 : (i 0).val < 1 := (i 0).isLt
  rw [val_main_v1_apply, val_main_v0_apply]
  refine congrArg x (funext fun a => Fin.ext ?_)
  match a with
  | 0 =>
    show ((i 0).val * 9216 + (i 1).val) / 1024 = (i 1).val / 1024
    rw [show (i 0).val = 0 by omega]; simp
  | 1 =>
    show ((i 0).val * 9216 + (i 1).val) % 1024 = (i 1).val % 1024
    rw [show (i 0).val = 0 by omega]; simp

/-- The real entries of the eleventh row, said of the row cut out. -/
theorem cut_real (x : FVec Ideal S24x1024 .f32) (h : S24x1024.Slices ![11, 0] S1x1024)
    (r : ∀ i, IsReal (extractStridedSlice S1x1024 ![11, 0] x h i)) (k : Fin 1024) : IsReal (x (ix2 11 k)) := by
  have e := r (ix2 0 k)
  rwa [extractStridedSlice_apply ![11, 0] x h (ix2 0 k) (ix2 11 k) fun a => by
    match a with
    | 0 => rfl
    | 1 => exact (Nat.zero_add _).symm] at e

variable {s : Shape} (b : (⟨0, ![]⟩ : Shape).BroadcastsInDim s ![]) {g w m v g' w' m' v' : FVec Ideal s .f32}

/-- The reference's new running mean is the kernel's. -/
theorem ref_first (eg : g = g') (em : m = m') :
    addf (mulf (broadcastInDim s ![] b (constant ⟨0, ![]⟩ .f32 0x3F666666#32)) m) (mulf (broadcastInDim s ![] b (constant ⟨0, ![]⟩ .f32 0x3DCCCCCD#32)) g) = firstMoment g' m' := by
  subst eg em; rfl

/-- The reference's new running mean of squares is the kernel's. -/
theorem ref_second (eg : g = g') (ev : v = v') :
    addf (mulf (broadcastInDim s ![] b (constant ⟨0, ![]⟩ .f32 0x3F7FBE77#32)) v) (mulf (broadcastInDim s ![] b (constant ⟨0, ![]⟩ .f32 0x3A83126F#32)) (mulf g g)) = secondMoment g' v' := by
  subst eg ev; rfl

/-- The reference's change of the parameter is the kernel's. -/
theorem ref_step (eg : g = g') (ew : w = w') (em : m = m') (ev : v = v') :
    mulf (broadcastInDim s ![] b (constant ⟨0, ![]⟩ .f32 0xBA83126F#32))
      (addf (Host.divf (Host.divf (addf (mulf (broadcastInDim s ![] b (constant ⟨0, ![]⟩ .f32 0x3F666666#32)) m) (mulf (broadcastInDim s ![] b (constant ⟨0, ![]⟩ .f32 0x3DCCCCCD#32)) g))
              (broadcastInDim s ![] b (constant ⟨0, ![]⟩ .f32 0x3F26BD02#32)))
          (addf (Host.sqrt (Host.divf (addf (mulf (broadcastInDim s ![] b (constant ⟨0, ![]⟩ .f32 0x3F7FBE77#32)) v)
                (mulf (broadcastInDim s ![] b (constant ⟨0, ![]⟩ .f32 0x3A83126F#32)) (mulf g g))) (broadcastInDim s ![] b (constant ⟨0, ![]⟩ .f32 0x3C231ACC#32))))
            (broadcastInDim s ![] b (constant ⟨0, ![]⟩ .f32 0x322BCC77#32))))
        (mulf (broadcastInDim s ![] b (constant ⟨0, ![]⟩ .f32 0x3C23D70A#32)) w)) = step g' w' m' v' := by
  subst eg ew em ev; rfl

end Cert.SmallIdeal.Value

end
-- ==== Proof.SmallBody.lean ====
module

public import proofs.«01_k».proof.Proof.SmallRun

/-! The body of the optimiser of the small parameters, run once: what each buffer holds before and after. -/

@[expose] public section

set_option maxRecDepth 16384

noncomputable section

namespace Cert.SmallIdeal.Hand

open Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The world that the frame is stated in. -/
abbrev World (F : FTy → Type) [FloatOps F] := MT nD τ sig Unit (Elt F) ℕ (UR sig nD τ) ℕ

set_option maxHeartbeats 4000000 in
/-- The body from the blocks of its thirty-one arguments: it leaves them and stores, for each parameter, the gradient, the change and
both means. -/
theorem body (c : Dev nD) (E : Set ℕ)
      (arg0 : Memref sig .tc .vmem S24x1024 .f32) (arg1 arg2 arg3 arg31 arg32 arg33 arg34 : Memref sig .tc .vmem S1x9216 .f32) (arg4 arg5 arg6 arg7 arg8 arg9 arg13 arg14 arg15 arg16 arg17 arg18 arg19 arg20 arg21 arg22 arg23 arg24 arg25 arg26 arg27 arg28 arg29 arg30 arg35 arg36 arg37 arg38 arg39 arg40 arg41 arg42 arg47 arg48 arg49 arg50 arg51 arg52 arg53 arg54 arg55 arg56 arg57 arg58 arg59 arg60 arg61 arg62 arg63 arg64 arg65 arg66 arg67 arg68 arg69 arg70 : Memref sig .tc .vmem S1x1024 .f32) (arg10 arg11 arg12 arg43 arg44 arg45 arg46 : Memref sig .tc .vmem S2x1024 .f32)
    (harg0 : arg0.IsWhole) (harg1 : arg1.IsWhole) (harg2 : arg2.IsWhole) (harg3 : arg3.IsWhole) (harg4 : arg4.IsWhole) (harg5 : arg5.IsWhole)
       (harg6 : arg6.IsWhole) (harg7 : arg7.IsWhole) (harg8 : arg8.IsWhole) (harg9 : arg9.IsWhole) (harg10 : arg10.IsWhole) (harg11 : arg11.IsWhole)
       (harg12 : arg12.IsWhole) (harg13 : arg13.IsWhole) (harg14 : arg14.IsWhole) (harg15 : arg15.IsWhole) (harg16 : arg16.IsWhole) (harg17 : arg17.IsWhole)
       (harg18 : arg18.IsWhole) (harg19 : arg19.IsWhole) (harg20 : arg20.IsWhole) (harg21 : arg21.IsWhole) (harg22 : arg22.IsWhole) (harg23 : arg23.IsWhole)
       (harg24 : arg24.IsWhole) (harg25 : arg25.IsWhole) (harg26 : arg26.IsWhole) (harg27 : arg27.IsWhole) (harg28 : arg28.IsWhole) (harg29 : arg29.IsWhole)
       (harg30 : arg30.IsWhole) (harg31 : arg31.IsWhole) (harg32 : arg32.IsWhole) (harg33 : arg33.IsWhole) (harg34 : arg34.IsWhole) (harg35 : arg35.IsWhole)
       (harg36 : arg36.IsWhole) (harg37 : arg37.IsWhole) (harg38 : arg38.IsWhole) (harg39 : arg39.IsWhole) (harg40 : arg40.IsWhole) (harg41 : arg41.IsWhole)
       (harg42 : arg42.IsWhole) (harg43 : arg43.IsWhole) (harg44 : arg44.IsWhole) (harg45 : arg45.IsWhole) (harg46 : arg46.IsWhole) (harg47 : arg47.IsWhole)
       (harg48 : arg48.IsWhole) (harg49 : arg49.IsWhole) (harg50 : arg50.IsWhole) (harg51 : arg51.IsWhole) (harg52 : arg52.IsWhole) (harg53 : arg53.IsWhole)
       (harg54 : arg54.IsWhole) (harg55 : arg55.IsWhole) (harg56 : arg56.IsWhole) (harg57 : arg57.IsWhole) (harg58 : arg58.IsWhole) (harg59 : arg59.IsWhole)
       (harg60 : arg60.IsWhole) (harg61 : arg61.IsWhole) (harg62 : arg62.IsWhole) (harg63 : arg63.IsWhole) (harg64 : arg64.IsWhole) (harg65 : arg65.IsWhole)
       (harg66 : arg66.IsWhole) (harg67 : arg67.IsWhole) (harg68 : arg68.IsWhole) (harg69 : arg69.IsWhole) (harg70 : arg70.IsWhole)
    (x0 : Vec F S24x1024 .f32) (x1 x2 x3 : Vec F S1x9216 .f32) (x4 x5 x6 x7 x8 x9 x13 x14 x15 x16 x17 x18 x19 x20 x21 x22 x23 x24 x25 x26 x27 x28 x29 x30 : Vec F S1x1024 .f32) (x10 x11 x12 : Vec F S2x1024 .f32) :
    (iprop(owns (c : Thread nD τ) arg0 fullShare x0 ∗ owns (c : Thread nD τ) arg1 fullShare x1 ∗ owns (c : Thread nD τ) arg2 fullShare x2
       ∗ owns (c : Thread nD τ) arg3 fullShare x3 ∗ owns (c : Thread nD τ) arg4 fullShare x4 ∗ owns (c : Thread nD τ) arg5 fullShare x5
       ∗ owns (c : Thread nD τ) arg6 fullShare x6 ∗ owns (c : Thread nD τ) arg7 fullShare x7 ∗ owns (c : Thread nD τ) arg8 fullShare x8
       ∗ owns (c : Thread nD τ) arg9 fullShare x9 ∗ owns (c : Thread nD τ) arg10 fullShare x10 ∗ owns (c : Thread nD τ) arg11 fullShare x11
       ∗ owns (c : Thread nD τ) arg12 fullShare x12 ∗ owns (c : Thread nD τ) arg13 fullShare x13 ∗ owns (c : Thread nD τ) arg14 fullShare x14
       ∗ owns (c : Thread nD τ) arg15 fullShare x15 ∗ owns (c : Thread nD τ) arg16 fullShare x16 ∗ owns (c : Thread nD τ) arg17 fullShare x17
       ∗ owns (c : Thread nD τ) arg18 fullShare x18 ∗ owns (c : Thread nD τ) arg19 fullShare x19 ∗ owns (c : Thread nD τ) arg20 fullShare x20
       ∗ owns (c : Thread nD τ) arg21 fullShare x21 ∗ owns (c : Thread nD τ) arg22 fullShare x22 ∗ owns (c : Thread nD τ) arg23 fullShare x23
       ∗ owns (c : Thread nD τ) arg24 fullShare x24 ∗ owns (c : Thread nD τ) arg25 fullShare x25 ∗ owns (c : Thread nD τ) arg26 fullShare x26
       ∗ owns (c : Thread nD τ) arg27 fullShare x27 ∗ owns (c : Thread nD τ) arg28 fullShare x28 ∗ owns (c : Thread nD τ) arg29 fullShare x29
       ∗ owns (c : Thread nD τ) arg30 fullShare x30 ∗ (∃ d, owns (c : Thread nD τ) arg31 fullShare d) ∗ (∃ d, owns (c : Thread nD τ) arg32 fullShare d)
       ∗ (∃ d, owns (c : Thread nD τ) arg33 fullShare d) ∗ (∃ d, owns (c : Thread nD τ) arg34 fullShare d) ∗ (∃ d, owns (c : Thread nD τ) arg35 fullShare d)
       ∗ (∃ d, owns (c : Thread nD τ) arg36 fullShare d) ∗ (∃ d, owns (c : Thread nD τ) arg37 fullShare d) ∗ (∃ d, owns (c : Thread nD τ) arg38 fullShare d)
       ∗ (∃ d, owns (c : Thread nD τ) arg39 fullShare d) ∗ (∃ d, owns (c : Thread nD τ) arg40 fullShare d) ∗ (∃ d, owns (c : Thread nD τ) arg41 fullShare d)
       ∗ (∃ d, owns (c : Thread nD τ) arg42 fullShare d) ∗ (∃ d, owns (c : Thread nD τ) arg43 fullShare d) ∗ (∃ d, owns (c : Thread nD τ) arg44 fullShare d)
       ∗ (∃ d, owns (c : Thread nD τ) arg45 fullShare d) ∗ (∃ d, owns (c : Thread nD τ) arg46 fullShare d) ∗ (∃ d, owns (c : Thread nD τ) arg47 fullShare d)
       ∗ (∃ d, owns (c : Thread nD τ) arg48 fullShare d) ∗ (∃ d, owns (c : Thread nD τ) arg49 fullShare d) ∗ (∃ d, owns (c : Thread nD τ) arg50 fullShare d)
       ∗ (∃ d, owns (c : Thread nD τ) arg51 fullShare d) ∗ (∃ d, owns (c : Thread nD τ) arg52 fullShare d) ∗ (∃ d, owns (c : Thread nD τ) arg53 fullShare d)
       ∗ (∃ d, owns (c : Thread nD τ) arg54 fullShare d) ∗ (∃ d, owns (c : Thread nD τ) arg55 fullShare d) ∗ (∃ d, owns (c : Thread nD τ) arg56 fullShare d)
       ∗ (∃ d, owns (c : Thread nD τ) arg57 fullShare d) ∗ (∃ d, owns (c : Thread nD τ) arg58 fullShare d) ∗ (∃ d, owns (c : Thread nD τ) arg59 fullShare d)
       ∗ (∃ d, owns (c : Thread nD τ) arg60 fullShare d) ∗ (∃ d, owns (c : Thread nD τ) arg61 fullShare d) ∗ (∃ d, owns (c : Thread nD τ) arg62 fullShare d)
       ∗ (∃ d, owns (c : Thread nD τ) arg63 fullShare d) ∗ (∃ d, owns (c : Thread nD τ) arg64 fullShare d) ∗ (∃ d, owns (c : Thread nD τ) arg65 fullShare d)
       ∗ (∃ d, owns (c : Thread nD τ) arg66 fullShare d) ∗ (∃ d, owns (c : Thread nD τ) arg67 fullShare d) ∗ (∃ d, owns (c : Thread nD τ) arg68 fullShare d)
       ∗ (∃ d, owns (c : Thread nD τ) arg69 fullShare d) ∗ (∃ d, owns (c : Thread nD τ) arg70 fullShare d)) : sProp (World F))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12
       arg13 harg13 arg14 harg14 arg15 harg15 arg16 harg16 arg17 harg17 arg18 harg18 arg19 harg19 arg20 harg20 arg21 harg21 arg22 harg22 arg23 harg23 arg24
       harg24 arg25 harg25 arg26 harg26 arg27 harg27 arg28 harg28 arg29 harg29 arg30 harg30 arg31 harg31 arg32 harg32 arg33 harg33 arg34 harg34 arg35 harg35
       arg36 harg36 arg37 harg37 arg38 harg38 arg39 harg39 arg40 harg40 arg41 harg41 arg42 harg42 arg43 harg43 arg44 harg44 arg45 harg45 arg46 harg46 arg47
       harg47 arg48 harg48 arg49 harg49 arg50 harg50 arg51 harg51 arg52 harg52 arg53 harg53 arg54 harg54 arg55 harg55 arg56 harg56 arg57 harg57 arg58 harg58
       arg59 harg59 arg60 harg60 arg61 harg61 arg62 harg62 arg63 harg63 arg64 harg64 arg65 harg65 arg66 harg66 arg67 harg67 arg68 harg68 arg69 harg69 arg70
       harg70)
        (fun _ => iprop(owns (c : Thread nD τ) arg0 fullShare x0 ∗ owns (c : Thread nD τ) arg1 fullShare x1 ∗ owns (c : Thread nD τ) arg2 fullShare x2
       ∗ owns (c : Thread nD τ) arg3 fullShare x3 ∗ owns (c : Thread nD τ) arg4 fullShare x4 ∗ owns (c : Thread nD τ) arg5 fullShare x5
       ∗ owns (c : Thread nD τ) arg6 fullShare x6 ∗ owns (c : Thread nD τ) arg7 fullShare x7 ∗ owns (c : Thread nD τ) arg8 fullShare x8
       ∗ owns (c : Thread nD τ) arg9 fullShare x9 ∗ owns (c : Thread nD τ) arg10 fullShare x10 ∗ owns (c : Thread nD τ) arg11 fullShare x11
       ∗ owns (c : Thread nD τ) arg12 fullShare x12 ∗ owns (c : Thread nD τ) arg13 fullShare x13 ∗ owns (c : Thread nD τ) arg14 fullShare x14
       ∗ owns (c : Thread nD τ) arg15 fullShare x15 ∗ owns (c : Thread nD τ) arg16 fullShare x16 ∗ owns (c : Thread nD τ) arg17 fullShare x17
       ∗ owns (c : Thread nD τ) arg18 fullShare x18 ∗ owns (c : Thread nD τ) arg19 fullShare x19 ∗ owns (c : Thread nD τ) arg20 fullShare x20
       ∗ owns (c : Thread nD τ) arg21 fullShare x21 ∗ owns (c : Thread nD τ) arg22 fullShare x22 ∗ owns (c : Thread nD τ) arg23 fullShare x23
       ∗ owns (c : Thread nD τ) arg24 fullShare x24 ∗ owns (c : Thread nD τ) arg25 fullShare x25 ∗ owns (c : Thread nD τ) arg26 fullShare x26
       ∗ owns (c : Thread nD τ) arg27 fullShare x27 ∗ owns (c : Thread nD τ) arg28 fullShare x28 ∗ owns (c : Thread nD τ) arg29 fullShare x29
       ∗ owns (c : Thread nD τ) arg30 fullShare x30 ∗ owns (c : Thread nD τ) arg31 fullShare (flatRows x0)
       ∗ owns (c : Thread nD τ) arg32 fullShare (step (flatRows x0) x1 x2 x3) ∗ owns (c : Thread nD τ) arg33 fullShare (firstMoment (flatRows x0) x2)
       ∗ owns (c : Thread nD τ) arg34 fullShare (secondMoment (flatRows x0) x3) ∗ owns (c : Thread nD τ) arg35 fullShare (row 9 (by decide) x0)
       ∗ owns (c : Thread nD τ) arg36 fullShare (step (row 9 (by decide) x0) x4 x5 x6)
       ∗ owns (c : Thread nD τ) arg37 fullShare (firstMoment (row 9 (by decide) x0) x5)
       ∗ owns (c : Thread nD τ) arg38 fullShare (secondMoment (row 9 (by decide) x0) x6) ∗ owns (c : Thread nD τ) arg39 fullShare (row 10 (by decide) x0)
       ∗ owns (c : Thread nD τ) arg40 fullShare (step (row 10 (by decide) x0) x7 x8 x9)
       ∗ owns (c : Thread nD τ) arg41 fullShare (firstMoment (row 10 (by decide) x0) x8)
       ∗ owns (c : Thread nD τ) arg42 fullShare (secondMoment (row 10 (by decide) x0) x9) ∗ owns (c : Thread nD τ) arg43 fullShare (boundGrad x0 x10)
       ∗ owns (c : Thread nD τ) arg44 fullShare (step (boundGrad x0 x10) x10 x11 x12)
       ∗ owns (c : Thread nD τ) arg45 fullShare (firstMoment (boundGrad x0 x10) x11)
       ∗ owns (c : Thread nD τ) arg46 fullShare (secondMoment (boundGrad x0 x10) x12) ∗ owns (c : Thread nD τ) arg47 fullShare (row 12 (by decide) x0)
       ∗ owns (c : Thread nD τ) arg48 fullShare (step (row 12 (by decide) x0) x13 x14 x15)
       ∗ owns (c : Thread nD τ) arg49 fullShare (firstMoment (row 12 (by decide) x0) x14)
       ∗ owns (c : Thread nD τ) arg50 fullShare (secondMoment (row 12 (by decide) x0) x15) ∗ owns (c : Thread nD τ) arg51 fullShare (row 13 (by decide) x0)
       ∗ owns (c : Thread nD τ) arg52 fullShare (step (row 13 (by decide) x0) x16 x17 x18)
       ∗ owns (c : Thread nD τ) arg53 fullShare (firstMoment (row 13 (by decide) x0) x17)
       ∗ owns (c : Thread nD τ) arg54 fullShare (secondMoment (row 13 (by decide) x0) x18) ∗ owns (c : Thread nD τ) arg55 fullShare (row 14 (by decide) x0)
       ∗ owns (c : Thread nD τ) arg56 fullShare (step (row 14 (by decide) x0) x19 x20 x21)
       ∗ owns (c : Thread nD τ) arg57 fullShare (firstMoment (row 14 (by decide) x0) x20)
       ∗ owns (c : Thread nD τ) arg58 fullShare (secondMoment (row 14 (by decide) x0) x21) ∗ owns (c : Thread nD τ) arg59 fullShare (row 15 (by decide) x0)
       ∗ owns (c : Thread nD τ) arg60 fullShare (step (row 15 (by decide) x0) x22 x23 x24)
       ∗ owns (c : Thread nD τ) arg61 fullShare (firstMoment (row 15 (by decide) x0) x23)
       ∗ owns (c : Thread nD τ) arg62 fullShare (secondMoment (row 15 (by decide) x0) x24) ∗ owns (c : Thread nD τ) arg63 fullShare (row 16 (by decide) x0)
       ∗ owns (c : Thread nD τ) arg64 fullShare (step (row 16 (by decide) x0) x25 x26 x27)
       ∗ owns (c : Thread nD τ) arg65 fullShare (firstMoment (row 16 (by decide) x0) x26)
       ∗ owns (c : Thread nD τ) arg66 fullShare (secondMoment (row 16 (by decide) x0) x27) ∗ owns (c : Thread nD τ) arg67 fullShare (row 17 (by decide) x0)
       ∗ owns (c : Thread nD τ) arg68 fullShare (step (row 17 (by decide) x0) x28 x29 x30)
       ∗ owns (c : Thread nD τ) arg69 fullShare (firstMoment (row 17 (by decide) x0) x29)
       ∗ owns (c : Thread nD τ) arg70 fullShare (secondMoment (row 17 (by decide) x0) x30))) := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩
      , ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩
      , ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩
      , ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩
      , ⟨%f29, %hf29, H29⟩, ⟨%f30, %hf30, H30⟩, ⟨%d31, %f31, -, H31⟩, ⟨%d32, %f32, -, H32⟩, ⟨%d33, %f33, -, H33⟩, ⟨%d34, %f34, -, H34⟩, ⟨%d35, %f35, -, H35⟩
      , ⟨%d36, %f36, -, H36⟩, ⟨%d37, %f37, -, H37⟩, ⟨%d38, %f38, -, H38⟩, ⟨%d39, %f39, -, H39⟩, ⟨%d40, %f40, -, H40⟩, ⟨%d41, %f41, -, H41⟩
      , ⟨%d42, %f42, -, H42⟩, ⟨%d43, %f43, -, H43⟩, ⟨%d44, %f44, -, H44⟩, ⟨%d45, %f45, -, H45⟩, ⟨%d46, %f46, -, H46⟩, ⟨%d47, %f47, -, H47⟩
      , ⟨%d48, %f48, -, H48⟩, ⟨%d49, %f49, -, H49⟩, ⟨%d50, %f50, -, H50⟩, ⟨%d51, %f51, -, H51⟩, ⟨%d52, %f52, -, H52⟩, ⟨%d53, %f53, -, H53⟩
      , ⟨%d54, %f54, -, H54⟩, ⟨%d55, %f55, -, H55⟩, ⟨%d56, %f56, -, H56⟩, ⟨%d57, %f57, -, H57⟩, ⟨%d58, %f58, -, H58⟩, ⟨%d59, %f59, -, H59⟩
      , ⟨%d60, %f60, -, H60⟩, ⟨%d61, %f61, -, H61⟩, ⟨%d62, %f62, -, H62⟩, ⟨%d63, %f63, -, H63⟩, ⟨%d64, %f64, -, H64⟩, ⟨%d65, %f65, -, H65⟩
      , ⟨%d66, %f66, -, H66⟩, ⟨%d67, %f67, -, H67⟩, ⟨%d68, %f68, -, H68⟩, ⟨%d69, %f69, -, H69⟩, ⟨%d70, %f70, -, H70⟩⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists _; isplitr
    swap; · iexact H31
    ipureintro
    exact read_tiles _ _ (flatRows (arg0.view.read (Elt F) f0)) (row_flat 0 (by decide) (arg0.view.read (Elt F) f0)) (row_flat 1 (by decide) (arg0.view.read (Elt F) f0)) (row_flat 2 (by decide) (arg0.view.read (Elt F) f0)) (row_flat 3 (by decide) (arg0.view.read (Elt F) f0)) (row_flat 4 (by decide) (arg0.view.read (Elt F) f0)) (row_flat 5 (by decide) (arg0.view.read (Elt F) f0)) (row_flat 6 (by decide) (arg0.view.read (Elt F) f0)) (row_flat 7 (by decide) (arg0.view.read (Elt F) f0)) (row_flat 8 (by decide) (arg0.view.read (Elt F) f0))
  isplitl [H32]
  · iexists _; isplitr
    swap; · iexact H32
    ipureintro
    exact read_tiles _ _ (step (flatRows (arg0.view.read (Elt F) f0)) (arg1.view.read (Elt F) f1) (arg2.view.read (Elt F) f2) (arg3.view.read (Elt F) f3)) (step_tile 0 (by decide) (arg0.view.read (Elt F) f0) (arg1.view.read (Elt F) f1) (arg2.view.read (Elt F) f2) (arg3.view.read (Elt F) f3)) (step_tile 1 (by decide) (arg0.view.read (Elt F) f0) (arg1.view.read (Elt F) f1) (arg2.view.read (Elt F) f2) (arg3.view.read (Elt F) f3)) (step_tile 2 (by decide) (arg0.view.read (Elt F) f0) (arg1.view.read (Elt F) f1) (arg2.view.read (Elt F) f2) (arg3.view.read (Elt F) f3)) (step_tile 3 (by decide) (arg0.view.read (Elt F) f0) (arg1.view.read (Elt F) f1) (arg2.view.read (Elt F) f2) (arg3.view.read (Elt F) f3)) (step_tile 4 (by decide) (arg0.view.read (Elt F) f0) (arg1.view.read (Elt F) f1) (arg2.view.read (Elt F) f2) (arg3.view.read (Elt F) f3)) (step_tile 5 (by decide) (arg0.view.read (Elt F) f0) (arg1.view.read (Elt F) f1) (arg2.view.read (Elt F) f2) (arg3.view.read (Elt F) f3)) (step_tile 6 (by decide) (arg0.view.read (Elt F) f0) (arg1.view.read (Elt F) f1) (arg2.view.read (Elt F) f2) (arg3.view.read (Elt F) f3)) (step_tile 7 (by decide) (arg0.view.read (Elt F) f0) (arg1.view.read (Elt F) f1) (arg2.view.read (Elt F) f2) (arg3.view.read (Elt F) f3)) (step_tile 8 (by decide) (arg0.view.read (Elt F) f0) (arg1.view.read (Elt F) f1) (arg2.view.read (Elt F) f2) (arg3.view.read (Elt F) f3))
  isplitl [H33]
  · iexists _; isplitr
    swap; · iexact H33
    ipureintro
    exact read_tiles _ _ (firstMoment (flatRows (arg0.view.read (Elt F) f0)) (arg2.view.read (Elt F) f2)) (first_tile 0 (by decide) (arg0.view.read (Elt F) f0) (arg2.view.read (Elt F) f2)) (first_tile 1 (by decide) (arg0.view.read (Elt F) f0) (arg2.view.read (Elt F) f2)) (first_tile 2 (by decide) (arg0.view.read (Elt F) f0) (arg2.view.read (Elt F) f2)) (first_tile 3 (by decide) (arg0.view.read (Elt F) f0) (arg2.view.read (Elt F) f2)) (first_tile 4 (by decide) (arg0.view.read (Elt F) f0) (arg2.view.read (Elt F) f2)) (first_tile 5 (by decide) (arg0.view.read (Elt F) f0) (arg2.view.read (Elt F) f2)) (first_tile 6 (by decide) (arg0.view.read (Elt F) f0) (arg2.view.read (Elt F) f2)) (first_tile 7 (by decide) (arg0.view.read (Elt F) f0) (arg2.view.read (Elt F) f2)) (first_tile 8 (by decide) (arg0.view.read (Elt F) f0) (arg2.view.read (Elt F) f2))
  isplitl [H34]
  · iexists _; isplitr
    swap; · iexact H34
    ipureintro
    exact read_tiles _ _ (secondMoment (flatRows (arg0.view.read (Elt F) f0)) (arg3.view.read (Elt F) f3)) (second_tile 0 (by decide) (arg0.view.read (Elt F) f0) (arg3.view.read (Elt F) f3)) (second_tile 1 (by decide) (arg0.view.read (Elt F) f0) (arg3.view.read (Elt F) f3)) (second_tile 2 (by decide) (arg0.view.read (Elt F) f0) (arg3.view.read (Elt F) f3)) (second_tile 3 (by decide) (arg0.view.read (Elt F) f0) (arg3.view.read (Elt F) f3)) (second_tile 4 (by decide) (arg0.view.read (Elt F) f0) (arg3.view.read (Elt F) f3)) (second_tile 5 (by decide) (arg0.view.read (Elt F) f0) (arg3.view.read (Elt F) f3)) (second_tile 6 (by decide) (arg0.view.read (Elt F) f0) (arg3.view.read (Elt F) f3)) (second_tile 7 (by decide) (arg0.view.read (Elt F) f0) (arg3.view.read (Elt F) f3)) (second_tile 8 (by decide) (arg0.view.read (Elt F) f0) (arg3.view.read (Elt F) f3))
  isplitl [H35]
  · iexists _; isplitr
    swap; · iexact H35
    ipureintro
    exact read_whole _ _ zero2 _ rfl
  isplitl [H36]
  · iexists _; isplitr
    swap; · iexact H36
    ipureintro
    exact read_whole _ _ zero2 _ (step_full (row 9 (by decide) (arg0.view.read (Elt F) f0)) (arg4.view.read (Elt F) f4) (arg5.view.read (Elt F) f5) (arg6.view.read (Elt F) f6))
  isplitl [H37]
  · iexists _; isplitr
    swap; · iexact H37
    ipureintro
    exact read_whole _ _ zero2 _ (first_full (row 9 (by decide) (arg0.view.read (Elt F) f0)) (arg5.view.read (Elt F) f5))
  isplitl [H38]
  · iexists _; isplitr
    swap; · iexact H38
    ipureintro
    exact read_whole _ _ zero2 _ (second_full (row 9 (by decide) (arg0.view.read (Elt F) f0)) (arg6.view.read (Elt F) f6))
  isplitl [H39]
  · iexists _; isplitr
    swap; · iexact H39
    ipureintro
    exact read_whole _ _ zero2 _ rfl
  isplitl [H40]
  · iexists _; isplitr
    swap; · iexact H40
    ipureintro
    exact read_whole _ _ zero2 _ (step_full (row 10 (by decide) (arg0.view.read (Elt F) f0)) (arg7.view.read (Elt F) f7) (arg8.view.read (Elt F) f8) (arg9.view.read (Elt F) f9))
  isplitl [H41]
  · iexists _; isplitr
    swap; · iexact H41
    ipureintro
    exact read_whole _ _ zero2 _ (first_full (row 10 (by decide) (arg0.view.read (Elt F) f0)) (arg8.view.read (Elt F) f8))
  isplitl [H42]
  · iexists _; isplitr
    swap; · iexact H42
    ipureintro
    exact read_whole _ _ zero2 _ (second_full (row 10 (by decide) (arg0.view.read (Elt F) f0)) (arg9.view.read (Elt F) f9))
  isplitl [H43]
  · iexists _; isplitr
    swap; · iexact H43
    ipureintro
    exact read_whole _ _ zero2 _ (bound_full (arg0.view.read (Elt F) f0) (arg10.view.read (Elt F) f10))
  isplitl [H44]
  · iexists _; isplitr
    swap; · iexact H44
    ipureintro
    exact read_whole _ _ zero2 _ (step_bound (arg0.view.read (Elt F) f0) (arg10.view.read (Elt F) f10) (arg11.view.read (Elt F) f11) (arg12.view.read (Elt F) f12))
  isplitl [H45]
  · iexists _; isplitr
    swap; · iexact H45
    ipureintro
    exact read_whole _ _ zero2 _ (first_bound (arg0.view.read (Elt F) f0) (arg10.view.read (Elt F) f10) (arg11.view.read (Elt F) f11))
  isplitl [H46]
  · iexists _; isplitr
    swap; · iexact H46
    ipureintro
    exact read_whole _ _ zero2 _ (second_bound (arg0.view.read (Elt F) f0) (arg10.view.read (Elt F) f10) (arg12.view.read (Elt F) f12))
  isplitl [H47]
  · iexists _; isplitr
    swap; · iexact H47
    ipureintro
    exact read_whole _ _ zero2 _ rfl
  isplitl [H48]
  · iexists _; isplitr
    swap; · iexact H48
    ipureintro
    exact read_whole _ _ zero2 _ (step_full (row 12 (by decide) (arg0.view.read (Elt F) f0)) (arg13.view.read (Elt F) f13) (arg14.view.read (Elt F) f14) (arg15.view.read (Elt F) f15))
  isplitl [H49]
  · iexists _; isplitr
    swap; · iexact H49
    ipureintro
    exact read_whole _ _ zero2 _ (first_full (row 12 (by decide) (arg0.view.read (Elt F) f0)) (arg14.view.read (Elt F) f14))
  isplitl [H50]
  · iexists _; isplitr
    swap; · iexact H50
    ipureintro
    exact read_whole _ _ zero2 _ (second_full (row 12 (by decide) (arg0.view.read (Elt F) f0)) (arg15.view.read (Elt F) f15))
  isplitl [H51]
  · iexists _; isplitr
    swap; · iexact H51
    ipureintro
    exact read_whole _ _ zero2 _ rfl
  isplitl [H52]
  · iexists _; isplitr
    swap; · iexact H52
    ipureintro
    exact read_whole _ _ zero2 _ (step_full (row 13 (by decide) (arg0.view.read (Elt F) f0)) (arg16.view.read (Elt F) f16) (arg17.view.read (Elt F) f17) (arg18.view.read (Elt F) f18))
  isplitl [H53]
  · iexists _; isplitr
    swap; · iexact H53
    ipureintro
    exact read_whole _ _ zero2 _ (first_full (row 13 (by decide) (arg0.view.read (Elt F) f0)) (arg17.view.read (Elt F) f17))
  isplitl [H54]
  · iexists _; isplitr
    swap; · iexact H54
    ipureintro
    exact read_whole _ _ zero2 _ (second_full (row 13 (by decide) (arg0.view.read (Elt F) f0)) (arg18.view.read (Elt F) f18))
  isplitl [H55]
  · iexists _; isplitr
    swap; · iexact H55
    ipureintro
    exact read_whole _ _ zero2 _ rfl
  isplitl [H56]
  · iexists _; isplitr
    swap; · iexact H56
    ipureintro
    exact read_whole _ _ zero2 _ (step_full (row 14 (by decide) (arg0.view.read (Elt F) f0)) (arg19.view.read (Elt F) f19) (arg20.view.read (Elt F) f20) (arg21.view.read (Elt F) f21))
  isplitl [H57]
  · iexists _; isplitr
    swap; · iexact H57
    ipureintro
    exact read_whole _ _ zero2 _ (first_full (row 14 (by decide) (arg0.view.read (Elt F) f0)) (arg20.view.read (Elt F) f20))
  isplitl [H58]
  · iexists _; isplitr
    swap; · iexact H58
    ipureintro
    exact read_whole _ _ zero2 _ (second_full (row 14 (by decide) (arg0.view.read (Elt F) f0)) (arg21.view.read (Elt F) f21))
  isplitl [H59]
  · iexists _; isplitr
    swap; · iexact H59
    ipureintro
    exact read_whole _ _ zero2 _ rfl
  isplitl [H60]
  · iexists _; isplitr
    swap; · iexact H60
    ipureintro
    exact read_whole _ _ zero2 _ (step_full (row 15 (by decide) (arg0.view.read (Elt F) f0)) (arg22.view.read (Elt F) f22) (arg23.view.read (Elt F) f23) (arg24.view.read (Elt F) f24))
  isplitl [H61]
  · iexists _; isplitr
    swap; · iexact H61
    ipureintro
    exact read_whole _ _ zero2 _ (first_full (row 15 (by decide) (arg0.view.read (Elt F) f0)) (arg23.view.read (Elt F) f23))
  isplitl [H62]
  · iexists _; isplitr
    swap; · iexact H62
    ipureintro
    exact read_whole _ _ zero2 _ (second_full (row 15 (by decide) (arg0.view.read (Elt F) f0)) (arg24.view.read (Elt F) f24))
  isplitl [H63]
  · iexists _; isplitr
    swap; · iexact H63
    ipureintro
    exact read_whole _ _ zero2 _ rfl
  isplitl [H64]
  · iexists _; isplitr
    swap; · iexact H64
    ipureintro
    exact read_whole _ _ zero2 _ (step_full (row 16 (by decide) (arg0.view.read (Elt F) f0)) (arg25.view.read (Elt F) f25) (arg26.view.read (Elt F) f26) (arg27.view.read (Elt F) f27))
  isplitl [H65]
  · iexists _; isplitr
    swap; · iexact H65
    ipureintro
    exact read_whole _ _ zero2 _ (first_full (row 16 (by decide) (arg0.view.read (Elt F) f0)) (arg26.view.read (Elt F) f26))
  isplitl [H66]
  · iexists _; isplitr
    swap; · iexact H66
    ipureintro
    exact read_whole _ _ zero2 _ (second_full (row 16 (by decide) (arg0.view.read (Elt F) f0)) (arg27.view.read (Elt F) f27))
  isplitl [H67]
  · iexists _; isplitr
    swap; · iexact H67
    ipureintro
    exact read_whole _ _ zero2 _ rfl
  isplitl [H68]
  · iexists _; isplitr
    swap; · iexact H68
    ipureintro
    exact read_whole _ _ zero2 _ (step_full (row 17 (by decide) (arg0.view.read (Elt F) f0)) (arg28.view.read (Elt F) f28) (arg29.view.read (Elt F) f29) (arg30.view.read (Elt F) f30))
  isplitl [H69]
  · iexists _; isplitr
    swap; · iexact H69
    ipureintro
    exact read_whole _ _ zero2 _ (first_full (row 17 (by decide) (arg0.view.read (Elt F) f0)) (arg29.view.read (Elt F) f29))
  iexists _; isplitr
  swap; · iexact H70
  ipureintro
  exact read_whole _ _ zero2 _ (second_full (row 17 (by decide) (arg0.view.read (Elt F) f0)) (arg30.view.read (Elt F) f30))

end Cert.SmallIdeal.Hand

end
-- ==== Proof.SmallFrame.lean ====
module

public import proofs.«01_k».proof.Proof.SmallBody

/-! The frame of the optimiser of the small parameters, for any number format. -/

@[expose] public section

set_option maxRecDepth 16384

noncomputable section

namespace Cert.SmallIdeal.Hand

open Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a core's buffers hold when the body is reached: what they were launched with. -/
abbrev V (c : Dev nD) (b : Ref sig .tc) : Buf (Elt F) ((c : Thread nD τ).loc b) := m ((c : Thread nD τ).loc b)

set_option maxHeartbeats 1600000 in
/-- The program is its one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as found, each argument's buffer at its block, the results' at the formulas. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => flatRows (iblk m c 0 t)
    | ⟨32, _⟩ => step (flatRows (iblk m c 0 t)) (iblk m c 1 t) (iblk m c 2 t) (iblk m c 3 t)
    | ⟨33, _⟩ => firstMoment (flatRows (iblk m c 0 t)) (iblk m c 2 t)
    | ⟨34, _⟩ => secondMoment (flatRows (iblk m c 0 t)) (iblk m c 3 t)
    | ⟨35, _⟩ => row 9 (by decide) (iblk m c 0 t)
    | ⟨36, _⟩ => step (row 9 (by decide) (iblk m c 0 t)) (iblk m c 4 t) (iblk m c 5 t) (iblk m c 6 t)
    | ⟨37, _⟩ => firstMoment (row 9 (by decide) (iblk m c 0 t)) (iblk m c 5 t)
    | ⟨38, _⟩ => secondMoment (row 9 (by decide) (iblk m c 0 t)) (iblk m c 6 t)
    | ⟨39, _⟩ => row 10 (by decide) (iblk m c 0 t)
    | ⟨40, _⟩ => step (row 10 (by decide) (iblk m c 0 t)) (iblk m c 7 t) (iblk m c 8 t) (iblk m c 9 t)
    | ⟨41, _⟩ => firstMoment (row 10 (by decide) (iblk m c 0 t)) (iblk m c 8 t)
    | ⟨42, _⟩ => secondMoment (row 10 (by decide) (iblk m c 0 t)) (iblk m c 9 t)
    | ⟨43, _⟩ => boundGrad (iblk m c 0 t) (iblk m c 10 t)
    | ⟨44, _⟩ => step (boundGrad (iblk m c 0 t) (iblk m c 10 t)) (iblk m c 10 t) (iblk m c 11 t) (iblk m c 12 t)
    | ⟨45, _⟩ => firstMoment (boundGrad (iblk m c 0 t) (iblk m c 10 t)) (iblk m c 11 t)
    | ⟨46, _⟩ => secondMoment (boundGrad (iblk m c 0 t) (iblk m c 10 t)) (iblk m c 12 t)
    | ⟨47, _⟩ => row 12 (by decide) (iblk m c 0 t)
    | ⟨48, _⟩ => step (row 12 (by decide) (iblk m c 0 t)) (iblk m c 13 t) (iblk m c 14 t) (iblk m c 15 t)
    | ⟨49, _⟩ => firstMoment (row 12 (by decide) (iblk m c 0 t)) (iblk m c 14 t)
    | ⟨50, _⟩ => secondMoment (row 12 (by decide) (iblk m c 0 t)) (iblk m c 15 t)
    | ⟨51, _⟩ => row 13 (by decide) (iblk m c 0 t)
    | ⟨52, _⟩ => step (row 13 (by decide) (iblk m c 0 t)) (iblk m c 16 t) (iblk m c 17 t) (iblk m c 18 t)
    | ⟨53, _⟩ => firstMoment (row 13 (by decide) (iblk m c 0 t)) (iblk m c 17 t)
    | ⟨54, _⟩ => secondMoment (row 13 (by decide) (iblk m c 0 t)) (iblk m c 18 t)
    | ⟨55, _⟩ => row 14 (by decide) (iblk m c 0 t)
    | ⟨56, _⟩ => step (row 14 (by decide) (iblk m c 0 t)) (iblk m c 19 t) (iblk m c 20 t) (iblk m c 21 t)
    | ⟨57, _⟩ => firstMoment (row 14 (by decide) (iblk m c 0 t)) (iblk m c 20 t)
    | ⟨58, _⟩ => secondMoment (row 14 (by decide) (iblk m c 0 t)) (iblk m c 21 t)
    | ⟨59, _⟩ => row 15 (by decide) (iblk m c 0 t)
    | ⟨60, _⟩ => step (row 15 (by decide) (iblk m c 0 t)) (iblk m c 22 t) (iblk m c 23 t) (iblk m c 24 t)
    | ⟨61, _⟩ => firstMoment (row 15 (by decide) (iblk m c 0 t)) (iblk m c 23 t)
    | ⟨62, _⟩ => secondMoment (row 15 (by decide) (iblk m c 0 t)) (iblk m c 24 t)
    | ⟨63, _⟩ => row 16 (by decide) (iblk m c 0 t)
    | ⟨64, _⟩ => step (row 16 (by decide) (iblk m c 0 t)) (iblk m c 25 t) (iblk m c 26 t) (iblk m c 27 t)
    | ⟨65, _⟩ => firstMoment (row 16 (by decide) (iblk m c 0 t)) (iblk m c 26 t)
    | ⟨66, _⟩ => secondMoment (row 16 (by decide) (iblk m c 0 t)) (iblk m c 27 t)
    | ⟨67, _⟩ => row 17 (by decide) (iblk m c 0 t)
    | ⟨68, _⟩ => step (row 17 (by decide) (iblk m c 0 t)) (iblk m c 28 t) (iblk m c 29 t) (iblk m c 30 t)
    | ⟨69, _⟩ => firstMoment (row 17 (by decide) (iblk m c 0 t)) (iblk m c 29 t)
    | ⟨70, _⟩ => secondMoment (row 17 (by decide) (iblk m c 0 t)) (iblk m c 30 t)
    | ⟨_ + 71, h⟩ => absurd h (Nat.not_lt.2 (Nat.le_add_left _ _))
  Φ _ := Pipeline.ΦA spec0 c
  q _ := fullShare
  owed _ := 0

/-- The array of a window at entry is the launch entry of its buffer. -/
theorem A_eq (c : Dev nD) (w : Fin cfg0.W) : (dats m 0 c).A w = V m c (Pipeline.arrRef spec0 w) := by
  dsimp only [dats]

/-- What each window holds after the body. -/
theorem after_0 (c : Dev nD) (t : Fin cfg0.N) : (dats m 0 c).after 0 t = (iblk m c 0 t) := by dsimp only [dats]
theorem after_1 (c : Dev nD) (t : Fin cfg0.N) : (dats m 0 c).after 1 t = (iblk m c 1 t) := by dsimp only [dats]
theorem after_2 (c : Dev nD) (t : Fin cfg0.N) : (dats m 0 c).after 2 t = (iblk m c 2 t) := by dsimp only [dats]
theorem after_3 (c : Dev nD) (t : Fin cfg0.N) : (dats m 0 c).after 3 t = (iblk m c 3 t) := by dsimp only [dats]
theorem after_4 (c : Dev nD) (t : Fin cfg0.N) : (dats m 0 c).after 4 t = (iblk m c 4 t) := by dsimp only [dats]
theorem after_5 (c : Dev nD) (t : Fin cfg0.N) : (dats m 0 c).after 5 t = (iblk m c 5 t) := by dsimp only [dats]
theorem after_6 (c : Dev nD) (t : Fin cfg0.N) : (dats m 0 c).after 6 t = (iblk m c 6 t) := by dsimp only [dats]
theorem after_7 (c : Dev nD) (t : Fin cfg0.N) : (dats m 0 c).after 7 t = (iblk m c 7 t) := by dsimp only [dats]
theorem after_8 (c : Dev nD) (t : Fin cfg0.N) : (dats m 0 c).after 8 t = (iblk m c 8 t) := by dsimp only [dats]
theorem after_9 (c : Dev nD) (t : Fin cfg0.N) : (dats m 0 c).after 9 t = (iblk m c 9 t) := by dsimp only [dats]
theorem after_10 (c : Dev nD) (t : Fin cfg0.N) : (dats m 0 c).after 10 t = (iblk m c 10 t) := by dsimp only [dats]
theorem after_11 (c : Dev nD) (t : Fin cfg0.N) : (dats m 0 c).after 11 t = (iblk m c 11 t) := by dsimp only [dats]
theorem after_12 (c : Dev nD) (t : Fin cfg0.N) : (dats m 0 c).after 12 t = (iblk m c 12 t) := by dsimp only [dats]
theorem after_13 (c : Dev nD) (t : Fin cfg0.N) : (dats m 0 c).after 13 t = (iblk m c 13 t) := by dsimp only [dats]
theorem after_14 (c : Dev nD) (t : Fin cfg0.N) : (dats m 0 c).after 14 t = (iblk m c 14 t) := by dsimp only [dats]
theorem after_15 (c : Dev nD) (t : Fin cfg0.N) : (dats m 0 c).after 15 t = (iblk m c 15 t) := by dsimp only [dats]
theorem after_16 (c : Dev nD) (t : Fin cfg0.N) : (dats m 0 c).after 16 t = (iblk m c 16 t) := by dsimp only [dats]
theorem after_17 (c : Dev nD) (t : Fin cfg0.N) : (dats m 0 c).after 17 t = (iblk m c 17 t) := by dsimp only [dats]
theorem after_18 (c : Dev nD) (t : Fin cfg0.N) : (dats m 0 c).after 18 t = (iblk m c 18 t) := by dsimp only [dats]
theorem after_19 (c : Dev nD) (t : Fin cfg0.N) : (dats m 0 c).after 19 t = (iblk m c 19 t) := by dsimp only [dats]
theorem after_20 (c : Dev nD) (t : Fin cfg0.N) : (dats m 0 c).after 20 t = (iblk m c 20 t) := by dsimp only [dats]
theorem after_21 (c : Dev nD) (t : Fin cfg0.N) : (dats m 0 c).after 21 t = (iblk m c 21 t) := by dsimp only [dats]
theorem after_22 (c : Dev nD) (t : Fin cfg0.N) : (dats m 0 c).after 22 t = (iblk m c 22 t) := by dsimp only [dats]
theorem after_23 (c : Dev nD) (t : Fin cfg0.N) : (dats m 0 c).after 23 t = (iblk m c 23 t) := by dsimp only [dats]
theorem after_24 (c : Dev nD) (t : Fin cfg0.N) : (dats m 0 c).after 24 t = (iblk m c 24 t) := by dsimp only [dats]
theorem after_25 (c : Dev nD) (t : Fin cfg0.N) : (dats m 0 c).after 25 t = (iblk m c 25 t) := by dsimp only [dats]
theorem after_26 (c : Dev nD) (t : Fin cfg0.N) : (dats m 0 c).after 26 t = (iblk m c 26 t) := by dsimp only [dats]
theorem after_27 (c : Dev nD) (t : Fin cfg0.N) : (dats m 0 c).after 27 t = (iblk m c 27 t) := by dsimp only [dats]
theorem after_28 (c : Dev nD) (t : Fin cfg0.N) : (dats m 0 c).after 28 t = (iblk m c 28 t) := by dsimp only [dats]
theorem after_29 (c : Dev nD) (t : Fin cfg0.N) : (dats m 0 c).after 29 t = (iblk m c 29 t) := by dsimp only [dats]
theorem after_30 (c : Dev nD) (t : Fin cfg0.N) : (dats m 0 c).after 30 t = (iblk m c 30 t) := by dsimp only [dats]
theorem after_31 (c : Dev nD) (t : Fin cfg0.N) : (dats m 0 c).after 31 t = flatRows (iblk m c 0 t) := by dsimp only [dats]
theorem after_32 (c : Dev nD) (t : Fin cfg0.N) : (dats m 0 c).after 32 t = step (flatRows (iblk m c 0 t)) (iblk m c 1 t) (iblk m c 2 t) (iblk m c 3 t) := by dsimp only [dats]
theorem after_33 (c : Dev nD) (t : Fin cfg0.N) : (dats m 0 c).after 33 t = firstMoment (flatRows (iblk m c 0 t)) (iblk m c 2 t) := by dsimp only [dats]
theorem after_34 (c : Dev nD) (t : Fin cfg0.N) : (dats m 0 c).after 34 t = secondMoment (flatRows (iblk m c 0 t)) (iblk m c 3 t) := by dsimp only [dats]
theorem after_35 (c : Dev nD) (t : Fin cfg0.N) : (dats m 0 c).after 35 t = row 9 (by decide) (iblk m c 0 t) := by dsimp only [dats]
theorem after_36 (c : Dev nD) (t : Fin cfg0.N) : (dats m 0 c).after 36 t = step (row 9 (by decide) (iblk m c 0 t)) (iblk m c 4 t) (iblk m c 5 t) (iblk m c 6 t) := by dsimp only [dats]
theorem after_37 (c : Dev nD) (t : Fin cfg0.N) : (dats m 0 c).after 37 t = firstMoment (row 9 (by decide) (iblk m c 0 t)) (iblk m c 5 t) := by dsimp only [dats]
theorem after_38 (c : Dev nD) (t : Fin cfg0.N) : (dats m 0 c).after 38 t = secondMoment (row 9 (by decide) (iblk m c 0 t)) (iblk m c 6 t) := by dsimp only [dats]
theorem after_39 (c : Dev nD) (t : Fin cfg0.N) : (dats m 0 c).after 39 t = row 10 (by decide) (iblk m c 0 t) := by dsimp only [dats]
theorem after_40 (c : Dev nD) (t : Fin cfg0.N) : (dats m 0 c).after 40 t = step (row 10 (by decide) (iblk m c 0 t)) (iblk m c 7 t) (iblk m c 8 t) (iblk m c 9 t) := by dsimp only [dats]
theorem after_41 (c : Dev nD) (t : Fin cfg0.N) : (dats m 0 c).after 41 t = firstMoment (row 10 (by decide) (iblk m c 0 t)) (iblk m c 8 t) := by dsimp only [dats]
theorem after_42 (c : Dev nD) (t : Fin cfg0.N) : (dats m 0 c).after 42 t = secondMoment (row 10 (by decide) (iblk m c 0 t)) (iblk m c 9 t) := by dsimp only [dats]
theorem after_43 (c : Dev nD) (t : Fin cfg0.N) : (dats m 0 c).after 43 t = boundGrad (iblk m c 0 t) (iblk m c 10 t) := by dsimp only [dats]
theorem after_44 (c : Dev nD) (t : Fin cfg0.N) : (dats m 0 c).after 44 t = step (boundGrad (iblk m c 0 t) (iblk m c 10 t)) (iblk m c 10 t) (iblk m c 11 t) (iblk m c 12 t) := by dsimp only [dats]
theorem after_45 (c : Dev nD) (t : Fin cfg0.N) : (dats m 0 c).after 45 t = firstMoment (boundGrad (iblk m c 0 t) (iblk m c 10 t)) (iblk m c 11 t) := by dsimp only [dats]
theorem after_46 (c : Dev nD) (t : Fin cfg0.N) : (dats m 0 c).after 46 t = secondMoment (boundGrad (iblk m c 0 t) (iblk m c 10 t)) (iblk m c 12 t) := by dsimp only [dats]
theorem after_47 (c : Dev nD) (t : Fin cfg0.N) : (dats m 0 c).after 47 t = row 12 (by decide) (iblk m c 0 t) := by dsimp only [dats]
theorem after_48 (c : Dev nD) (t : Fin cfg0.N) : (dats m 0 c).after 48 t = step (row 12 (by decide) (iblk m c 0 t)) (iblk m c 13 t) (iblk m c 14 t) (iblk m c 15 t) := by dsimp only [dats]
theorem after_49 (c : Dev nD) (t : Fin cfg0.N) : (dats m 0 c).after 49 t = firstMoment (row 12 (by decide) (iblk m c 0 t)) (iblk m c 14 t) := by dsimp only [dats]
theorem after_50 (c : Dev nD) (t : Fin cfg0.N) : (dats m 0 c).after 50 t = secondMoment (row 12 (by decide) (iblk m c 0 t)) (iblk m c 15 t) := by dsimp only [dats]
theorem after_51 (c : Dev nD) (t : Fin cfg0.N) : (dats m 0 c).after 51 t = row 13 (by decide) (iblk m c 0 t) := by dsimp only [dats]
theorem after_52 (c : Dev nD) (t : Fin cfg0.N) : (dats m 0 c).after 52 t = step (row 13 (by decide) (iblk m c 0 t)) (iblk m c 16 t) (iblk m c 17 t) (iblk m c 18 t) := by dsimp only [dats]
theorem after_53 (c : Dev nD) (t : Fin cfg0.N) : (dats m 0 c).after 53 t = firstMoment (row 13 (by decide) (iblk m c 0 t)) (iblk m c 17 t) := by dsimp only [dats]
theorem after_54 (c : Dev nD) (t : Fin cfg0.N) : (dats m 0 c).after 54 t = secondMoment (row 13 (by decide) (iblk m c 0 t)) (iblk m c 18 t) := by dsimp only [dats]
theorem after_55 (c : Dev nD) (t : Fin cfg0.N) : (dats m 0 c).after 55 t = row 14 (by decide) (iblk m c 0 t) := by dsimp only [dats]
theorem after_56 (c : Dev nD) (t : Fin cfg0.N) : (dats m 0 c).after 56 t = step (row 14 (by decide) (iblk m c 0 t)) (iblk m c 19 t) (iblk m c 20 t) (iblk m c 21 t) := by dsimp only [dats]
theorem after_57 (c : Dev nD) (t : Fin cfg0.N) : (dats m 0 c).after 57 t = firstMoment (row 14 (by decide) (iblk m c 0 t)) (iblk m c 20 t) := by dsimp only [dats]
theorem after_58 (c : Dev nD) (t : Fin cfg0.N) : (dats m 0 c).after 58 t = secondMoment (row 14 (by decide) (iblk m c 0 t)) (iblk m c 21 t) := by dsimp only [dats]
theorem after_59 (c : Dev nD) (t : Fin cfg0.N) : (dats m 0 c).after 59 t = row 15 (by decide) (iblk m c 0 t) := by dsimp only [dats]
theorem after_60 (c : Dev nD) (t : Fin cfg0.N) : (dats m 0 c).after 60 t = step (row 15 (by decide) (iblk m c 0 t)) (iblk m c 22 t) (iblk m c 23 t) (iblk m c 24 t) := by dsimp only [dats]
theorem after_61 (c : Dev nD) (t : Fin cfg0.N) : (dats m 0 c).after 61 t = firstMoment (row 15 (by decide) (iblk m c 0 t)) (iblk m c 23 t) := by dsimp only [dats]
theorem after_62 (c : Dev nD) (t : Fin cfg0.N) : (dats m 0 c).after 62 t = secondMoment (row 15 (by decide) (iblk m c 0 t)) (iblk m c 24 t) := by dsimp only [dats]
theorem after_63 (c : Dev nD) (t : Fin cfg0.N) : (dats m 0 c).after 63 t = row 16 (by decide) (iblk m c 0 t) := by dsimp only [dats]
theorem after_64 (c : Dev nD) (t : Fin cfg0.N) : (dats m 0 c).after 64 t = step (row 16 (by decide) (iblk m c 0 t)) (iblk m c 25 t) (iblk m c 26 t) (iblk m c 27 t) := by dsimp only [dats]
theorem after_65 (c : Dev nD) (t : Fin cfg0.N) : (dats m 0 c).after 65 t = firstMoment (row 16 (by decide) (iblk m c 0 t)) (iblk m c 26 t) := by dsimp only [dats]
theorem after_66 (c : Dev nD) (t : Fin cfg0.N) : (dats m 0 c).after 66 t = secondMoment (row 16 (by decide) (iblk m c 0 t)) (iblk m c 27 t) := by dsimp only [dats]
theorem after_67 (c : Dev nD) (t : Fin cfg0.N) : (dats m 0 c).after 67 t = row 17 (by decide) (iblk m c 0 t) := by dsimp only [dats]
theorem after_68 (c : Dev nD) (t : Fin cfg0.N) : (dats m 0 c).after 68 t = step (row 17 (by decide) (iblk m c 0 t)) (iblk m c 28 t) (iblk m c 29 t) (iblk m c 30 t) := by dsimp only [dats]
theorem after_69 (c : Dev nD) (t : Fin cfg0.N) : (dats m 0 c).after 69 t = firstMoment (row 17 (by decide) (iblk m c 0 t)) (iblk m c 29 t) := by dsimp only [dats]
theorem after_70 (c : Dev nD) (t : Fin cfg0.N) : (dats m 0 c).after 70 t = secondMoment (row 17 (by decide) (iblk m c 0 t)) (iblk m c 30 t) := by dsimp only [dats]

/-- An argument's buffer holds its block before the body. -/
theorem held_0 (c : Dev nD) (t : Fin cfg0.N) : iprop(∃ d, owns (c : Thread nD τ) (st0_0 t) fullShare ((dats m 0 c).before 0 t d)) ⊢ (owns (c : Thread nD τ) (st0_0 t) fullShare (iblk m c 0 t) : sProp (World F)) :=
  exists_elim fun d => Entails.of_eq (congrArg _ (((dats m 0 c).before_in_eq_fetched 0 rfl (fun _ => rfl) (fun _ _ _ => rfl)
    (fun t => (after_0 m c t).trans rfl) t d).trans rfl))
theorem held_1 (c : Dev nD) (t : Fin cfg0.N) : iprop(∃ d, owns (c : Thread nD τ) (st0_1 t) fullShare ((dats m 0 c).before 1 t d)) ⊢ (owns (c : Thread nD τ) (st0_1 t) fullShare (iblk m c 1 t) : sProp (World F)) :=
  exists_elim fun d => Entails.of_eq (congrArg _ (((dats m 0 c).before_in_eq_fetched 1 rfl (fun _ => rfl) (fun _ _ _ => rfl)
    (fun t => (after_1 m c t).trans rfl) t d).trans rfl))
theorem held_2 (c : Dev nD) (t : Fin cfg0.N) : iprop(∃ d, owns (c : Thread nD τ) (st0_2 t) fullShare ((dats m 0 c).before 2 t d)) ⊢ (owns (c : Thread nD τ) (st0_2 t) fullShare (iblk m c 2 t) : sProp (World F)) :=
  exists_elim fun d => Entails.of_eq (congrArg _ (((dats m 0 c).before_in_eq_fetched 2 rfl (fun _ => rfl) (fun _ _ _ => rfl)
    (fun t => (after_2 m c t).trans rfl) t d).trans rfl))
theorem held_3 (c : Dev nD) (t : Fin cfg0.N) : iprop(∃ d, owns (c : Thread nD τ) (st0_3 t) fullShare ((dats m 0 c).before 3 t d)) ⊢ (owns (c : Thread nD τ) (st0_3 t) fullShare (iblk m c 3 t) : sProp (World F)) :=
  exists_elim fun d => Entails.of_eq (congrArg _ (((dats m 0 c).before_in_eq_fetched 3 rfl (fun _ => rfl) (fun _ _ _ => rfl)
    (fun t => (after_3 m c t).trans rfl) t d).trans rfl))
theorem held_4 (c : Dev nD) (t : Fin cfg0.N) : iprop(∃ d, owns (c : Thread nD τ) (st0_4 t) fullShare ((dats m 0 c).before 4 t d)) ⊢ (owns (c : Thread nD τ) (st0_4 t) fullShare (iblk m c 4 t) : sProp (World F)) :=
  exists_elim fun d => Entails.of_eq (congrArg _ (((dats m 0 c).before_in_eq_fetched 4 rfl (fun _ => rfl) (fun _ _ _ => rfl)
    (fun t => (after_4 m c t).trans rfl) t d).trans rfl))
theorem held_5 (c : Dev nD) (t : Fin cfg0.N) : iprop(∃ d, owns (c : Thread nD τ) (st0_5 t) fullShare ((dats m 0 c).before 5 t d)) ⊢ (owns (c : Thread nD τ) (st0_5 t) fullShare (iblk m c 5 t) : sProp (World F)) :=
  exists_elim fun d => Entails.of_eq (congrArg _ (((dats m 0 c).before_in_eq_fetched 5 rfl (fun _ => rfl) (fun _ _ _ => rfl)
    (fun t => (after_5 m c t).trans rfl) t d).trans rfl))
theorem held_6 (c : Dev nD) (t : Fin cfg0.N) : iprop(∃ d, owns (c : Thread nD τ) (st0_6 t) fullShare ((dats m 0 c).before 6 t d)) ⊢ (owns (c : Thread nD τ) (st0_6 t) fullShare (iblk m c 6 t) : sProp (World F)) :=
  exists_elim fun d => Entails.of_eq (congrArg _ (((dats m 0 c).before_in_eq_fetched 6 rfl (fun _ => rfl) (fun _ _ _ => rfl)
    (fun t => (after_6 m c t).trans rfl) t d).trans rfl))
theorem held_7 (c : Dev nD) (t : Fin cfg0.N) : iprop(∃ d, owns (c : Thread nD τ) (st0_7 t) fullShare ((dats m 0 c).before 7 t d)) ⊢ (owns (c : Thread nD τ) (st0_7 t) fullShare (iblk m c 7 t) : sProp (World F)) :=
  exists_elim fun d => Entails.of_eq (congrArg _ (((dats m 0 c).before_in_eq_fetched 7 rfl (fun _ => rfl) (fun _ _ _ => rfl)
    (fun t => (after_7 m c t).trans rfl) t d).trans rfl))
theorem held_8 (c : Dev nD) (t : Fin cfg0.N) : iprop(∃ d, owns (c : Thread nD τ) (st0_8 t) fullShare ((dats m 0 c).before 8 t d)) ⊢ (owns (c : Thread nD τ) (st0_8 t) fullShare (iblk m c 8 t) : sProp (World F)) :=
  exists_elim fun d => Entails.of_eq (congrArg _ (((dats m 0 c).before_in_eq_fetched 8 rfl (fun _ => rfl) (fun _ _ _ => rfl)
    (fun t => (after_8 m c t).trans rfl) t d).trans rfl))
theorem held_9 (c : Dev nD) (t : Fin cfg0.N) : iprop(∃ d, owns (c : Thread nD τ) (st0_9 t) fullShare ((dats m 0 c).before 9 t d)) ⊢ (owns (c : Thread nD τ) (st0_9 t) fullShare (iblk m c 9 t) : sProp (World F)) :=
  exists_elim fun d => Entails.of_eq (congrArg _ (((dats m 0 c).before_in_eq_fetched 9 rfl (fun _ => rfl) (fun _ _ _ => rfl)
    (fun t => (after_9 m c t).trans rfl) t d).trans rfl))
theorem held_10 (c : Dev nD) (t : Fin cfg0.N) : iprop(∃ d, owns (c : Thread nD τ) (st0_10 t) fullShare ((dats m 0 c).before 10 t d)) ⊢ (owns (c : Thread nD τ) (st0_10 t) fullShare (iblk m c 10 t) : sProp (World F)) :=
  exists_elim fun d => Entails.of_eq (congrArg _ (((dats m 0 c).before_in_eq_fetched 10 rfl (fun _ => rfl) (fun _ _ _ => rfl)
    (fun t => (after_10 m c t).trans rfl) t d).trans rfl))
theorem held_11 (c : Dev nD) (t : Fin cfg0.N) : iprop(∃ d, owns (c : Thread nD τ) (st0_11 t) fullShare ((dats m 0 c).before 11 t d)) ⊢ (owns (c : Thread nD τ) (st0_11 t) fullShare (iblk m c 11 t) : sProp (World F)) :=
  exists_elim fun d => Entails.of_eq (congrArg _ (((dats m 0 c).before_in_eq_fetched 11 rfl (fun _ => rfl) (fun _ _ _ => rfl)
    (fun t => (after_11 m c t).trans rfl) t d).trans rfl))
theorem held_12 (c : Dev nD) (t : Fin cfg0.N) : iprop(∃ d, owns (c : Thread nD τ) (st0_12 t) fullShare ((dats m 0 c).before 12 t d)) ⊢ (owns (c : Thread nD τ) (st0_12 t) fullShare (iblk m c 12 t) : sProp (World F)) :=
  exists_elim fun d => Entails.of_eq (congrArg _ (((dats m 0 c).before_in_eq_fetched 12 rfl (fun _ => rfl) (fun _ _ _ => rfl)
    (fun t => (after_12 m c t).trans rfl) t d).trans rfl))
theorem held_13 (c : Dev nD) (t : Fin cfg0.N) : iprop(∃ d, owns (c : Thread nD τ) (st0_13 t) fullShare ((dats m 0 c).before 13 t d)) ⊢ (owns (c : Thread nD τ) (st0_13 t) fullShare (iblk m c 13 t) : sProp (World F)) :=
  exists_elim fun d => Entails.of_eq (congrArg _ (((dats m 0 c).before_in_eq_fetched 13 rfl (fun _ => rfl) (fun _ _ _ => rfl)
    (fun t => (after_13 m c t).trans rfl) t d).trans rfl))
theorem held_14 (c : Dev nD) (t : Fin cfg0.N) : iprop(∃ d, owns (c : Thread nD τ) (st0_14 t) fullShare ((dats m 0 c).before 14 t d)) ⊢ (owns (c : Thread nD τ) (st0_14 t) fullShare (iblk m c 14 t) : sProp (World F)) :=
  exists_elim fun d => Entails.of_eq (congrArg _ (((dats m 0 c).before_in_eq_fetched 14 rfl (fun _ => rfl) (fun _ _ _ => rfl)
    (fun t => (after_14 m c t).trans rfl) t d).trans rfl))
theorem held_15 (c : Dev nD) (t : Fin cfg0.N) : iprop(∃ d, owns (c : Thread nD τ) (st0_15 t) fullShare ((dats m 0 c).before 15 t d)) ⊢ (owns (c : Thread nD τ) (st0_15 t) fullShare (iblk m c 15 t) : sProp (World F)) :=
  exists_elim fun d => Entails.of_eq (congrArg _ (((dats m 0 c).before_in_eq_fetched 15 rfl (fun _ => rfl) (fun _ _ _ => rfl)
    (fun t => (after_15 m c t).trans rfl) t d).trans rfl))
theorem held_16 (c : Dev nD) (t : Fin cfg0.N) : iprop(∃ d, owns (c : Thread nD τ) (st0_16 t) fullShare ((dats m 0 c).before 16 t d)) ⊢ (owns (c : Thread nD τ) (st0_16 t) fullShare (iblk m c 16 t) : sProp (World F)) :=
  exists_elim fun d => Entails.of_eq (congrArg _ (((dats m 0 c).before_in_eq_fetched 16 rfl (fun _ => rfl) (fun _ _ _ => rfl)
    (fun t => (after_16 m c t).trans rfl) t d).trans rfl))
theorem held_17 (c : Dev nD) (t : Fin cfg0.N) : iprop(∃ d, owns (c : Thread nD τ) (st0_17 t) fullShare ((dats m 0 c).before 17 t d)) ⊢ (owns (c : Thread nD τ) (st0_17 t) fullShare (iblk m c 17 t) : sProp (World F)) :=
  exists_elim fun d => Entails.of_eq (congrArg _ (((dats m 0 c).before_in_eq_fetched 17 rfl (fun _ => rfl) (fun _ _ _ => rfl)
    (fun t => (after_17 m c t).trans rfl) t d).trans rfl))
theorem held_18 (c : Dev nD) (t : Fin cfg0.N) : iprop(∃ d, owns (c : Thread nD τ) (st0_18 t) fullShare ((dats m 0 c).before 18 t d)) ⊢ (owns (c : Thread nD τ) (st0_18 t) fullShare (iblk m c 18 t) : sProp (World F)) :=
  exists_elim fun d => Entails.of_eq (congrArg _ (((dats m 0 c).before_in_eq_fetched 18 rfl (fun _ => rfl) (fun _ _ _ => rfl)
    (fun t => (after_18 m c t).trans rfl) t d).trans rfl))
theorem held_19 (c : Dev nD) (t : Fin cfg0.N) : iprop(∃ d, owns (c : Thread nD τ) (st0_19 t) fullShare ((dats m 0 c).before 19 t d)) ⊢ (owns (c : Thread nD τ) (st0_19 t) fullShare (iblk m c 19 t) : sProp (World F)) :=
  exists_elim fun d => Entails.of_eq (congrArg _ (((dats m 0 c).before_in_eq_fetched 19 rfl (fun _ => rfl) (fun _ _ _ => rfl)
    (fun t => (after_19 m c t).trans rfl) t d).trans rfl))
theorem held_20 (c : Dev nD) (t : Fin cfg0.N) : iprop(∃ d, owns (c : Thread nD τ) (st0_20 t) fullShare ((dats m 0 c).before 20 t d)) ⊢ (owns (c : Thread nD τ) (st0_20 t) fullShare (iblk m c 20 t) : sProp (World F)) :=
  exists_elim fun d => Entails.of_eq (congrArg _ (((dats m 0 c).before_in_eq_fetched 20 rfl (fun _ => rfl) (fun _ _ _ => rfl)
    (fun t => (after_20 m c t).trans rfl) t d).trans rfl))
theorem held_21 (c : Dev nD) (t : Fin cfg0.N) : iprop(∃ d, owns (c : Thread nD τ) (st0_21 t) fullShare ((dats m 0 c).before 21 t d)) ⊢ (owns (c : Thread nD τ) (st0_21 t) fullShare (iblk m c 21 t) : sProp (World F)) :=
  exists_elim fun d => Entails.of_eq (congrArg _ (((dats m 0 c).before_in_eq_fetched 21 rfl (fun _ => rfl) (fun _ _ _ => rfl)
    (fun t => (after_21 m c t).trans rfl) t d).trans rfl))
theorem held_22 (c : Dev nD) (t : Fin cfg0.N) : iprop(∃ d, owns (c : Thread nD τ) (st0_22 t) fullShare ((dats m 0 c).before 22 t d)) ⊢ (owns (c : Thread nD τ) (st0_22 t) fullShare (iblk m c 22 t) : sProp (World F)) :=
  exists_elim fun d => Entails.of_eq (congrArg _ (((dats m 0 c).before_in_eq_fetched 22 rfl (fun _ => rfl) (fun _ _ _ => rfl)
    (fun t => (after_22 m c t).trans rfl) t d).trans rfl))
theorem held_23 (c : Dev nD) (t : Fin cfg0.N) : iprop(∃ d, owns (c : Thread nD τ) (st0_23 t) fullShare ((dats m 0 c).before 23 t d)) ⊢ (owns (c : Thread nD τ) (st0_23 t) fullShare (iblk m c 23 t) : sProp (World F)) :=
  exists_elim fun d => Entails.of_eq (congrArg _ (((dats m 0 c).before_in_eq_fetched 23 rfl (fun _ => rfl) (fun _ _ _ => rfl)
    (fun t => (after_23 m c t).trans rfl) t d).trans rfl))
theorem held_24 (c : Dev nD) (t : Fin cfg0.N) : iprop(∃ d, owns (c : Thread nD τ) (st0_24 t) fullShare ((dats m 0 c).before 24 t d)) ⊢ (owns (c : Thread nD τ) (st0_24 t) fullShare (iblk m c 24 t) : sProp (World F)) :=
  exists_elim fun d => Entails.of_eq (congrArg _ (((dats m 0 c).before_in_eq_fetched 24 rfl (fun _ => rfl) (fun _ _ _ => rfl)
    (fun t => (after_24 m c t).trans rfl) t d).trans rfl))
theorem held_25 (c : Dev nD) (t : Fin cfg0.N) : iprop(∃ d, owns (c : Thread nD τ) (st0_25 t) fullShare ((dats m 0 c).before 25 t d)) ⊢ (owns (c : Thread nD τ) (st0_25 t) fullShare (iblk m c 25 t) : sProp (World F)) :=
  exists_elim fun d => Entails.of_eq (congrArg _ (((dats m 0 c).before_in_eq_fetched 25 rfl (fun _ => rfl) (fun _ _ _ => rfl)
    (fun t => (after_25 m c t).trans rfl) t d).trans rfl))
theorem held_26 (c : Dev nD) (t : Fin cfg0.N) : iprop(∃ d, owns (c : Thread nD τ) (st0_26 t) fullShare ((dats m 0 c).before 26 t d)) ⊢ (owns (c : Thread nD τ) (st0_26 t) fullShare (iblk m c 26 t) : sProp (World F)) :=
  exists_elim fun d => Entails.of_eq (congrArg _ (((dats m 0 c).before_in_eq_fetched 26 rfl (fun _ => rfl) (fun _ _ _ => rfl)
    (fun t => (after_26 m c t).trans rfl) t d).trans rfl))
theorem held_27 (c : Dev nD) (t : Fin cfg0.N) : iprop(∃ d, owns (c : Thread nD τ) (st0_27 t) fullShare ((dats m 0 c).before 27 t d)) ⊢ (owns (c : Thread nD τ) (st0_27 t) fullShare (iblk m c 27 t) : sProp (World F)) :=
  exists_elim fun d => Entails.of_eq (congrArg _ (((dats m 0 c).before_in_eq_fetched 27 rfl (fun _ => rfl) (fun _ _ _ => rfl)
    (fun t => (after_27 m c t).trans rfl) t d).trans rfl))
theorem held_28 (c : Dev nD) (t : Fin cfg0.N) : iprop(∃ d, owns (c : Thread nD τ) (st0_28 t) fullShare ((dats m 0 c).before 28 t d)) ⊢ (owns (c : Thread nD τ) (st0_28 t) fullShare (iblk m c 28 t) : sProp (World F)) :=
  exists_elim fun d => Entails.of_eq (congrArg _ (((dats m 0 c).before_in_eq_fetched 28 rfl (fun _ => rfl) (fun _ _ _ => rfl)
    (fun t => (after_28 m c t).trans rfl) t d).trans rfl))
theorem held_29 (c : Dev nD) (t : Fin cfg0.N) : iprop(∃ d, owns (c : Thread nD τ) (st0_29 t) fullShare ((dats m 0 c).before 29 t d)) ⊢ (owns (c : Thread nD τ) (st0_29 t) fullShare (iblk m c 29 t) : sProp (World F)) :=
  exists_elim fun d => Entails.of_eq (congrArg _ (((dats m 0 c).before_in_eq_fetched 29 rfl (fun _ => rfl) (fun _ _ _ => rfl)
    (fun t => (after_29 m c t).trans rfl) t d).trans rfl))
theorem held_30 (c : Dev nD) (t : Fin cfg0.N) : iprop(∃ d, owns (c : Thread nD τ) (st0_30 t) fullShare ((dats m 0 c).before 30 t d)) ⊢ (owns (c : Thread nD τ) (st0_30 t) fullShare (iblk m c 30 t) : sProp (World F)) :=
  exists_elim fun d => Entails.of_eq (congrArg _ (((dats m 0 c).before_in_eq_fetched 30 rfl (fun _ => rfl) (fun _ _ _ => rfl)
    (fun t => (after_30 m c t).trans rfl) t d).trans rfl))

end Cert.SmallIdeal.Hand

end
-- ==== Proof.SmallWhole.lean ====
module

public import proofs.«01_k».proof.Proof.SmallFrame

/-! The run of the optimiser of the small parameters, for any number format. -/

@[expose] public section

set_option maxRecDepth 16384

noncomputable section

namespace Cert.SmallIdeal.Hand

open Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A result's buffer holds something before the body. -/
theorem some_held {α : Type} {P : α → sProp (World F)} {β : Type} {b : β → α} : iprop(∃ d, P (b d)) ⊢ (iprop(∃ x, P x) : sProp (World F)) :=
  exists_elim fun d => exists_intro (b d)

/-- What the body is called with, -/
def bodyPre (c : Dev nD) (t : Fin cfg0.N) : sProp (World F) :=
  iprop((dats m 0 c).Φ t.castSucc ∗ (dats m 0 c).owesAt () t.castSucc ∗ (∃ d, owns (c : Thread nD τ) (st0_0 t) fullShare ((dats m 0 c).before 0 t d))
       ∗ (∃ d, owns (c : Thread nD τ) (st0_1 t) fullShare ((dats m 0 c).before 1 t d))
       ∗ (∃ d, owns (c : Thread nD τ) (st0_2 t) fullShare ((dats m 0 c).before 2 t d))
       ∗ (∃ d, owns (c : Thread nD τ) (st0_3 t) fullShare ((dats m 0 c).before 3 t d))
       ∗ (∃ d, owns (c : Thread nD τ) (st0_4 t) fullShare ((dats m 0 c).before 4 t d))
       ∗ (∃ d, owns (c : Thread nD τ) (st0_5 t) fullShare ((dats m 0 c).before 5 t d))
       ∗ (∃ d, owns (c : Thread nD τ) (st0_6 t) fullShare ((dats m 0 c).before 6 t d))
       ∗ (∃ d, owns (c : Thread nD τ) (st0_7 t) fullShare ((dats m 0 c).before 7 t d))
       ∗ (∃ d, owns (c : Thread nD τ) (st0_8 t) fullShare ((dats m 0 c).before 8 t d))
       ∗ (∃ d, owns (c : Thread nD τ) (st0_9 t) fullShare ((dats m 0 c).before 9 t d))
       ∗ (∃ d, owns (c : Thread nD τ) (st0_10 t) fullShare ((dats m 0 c).before 10 t d))
       ∗ (∃ d, owns (c : Thread nD τ) (st0_11 t) fullShare ((dats m 0 c).before 11 t d))
       ∗ (∃ d, owns (c : Thread nD τ) (st0_12 t) fullShare ((dats m 0 c).before 12 t d))
       ∗ (∃ d, owns (c : Thread nD τ) (st0_13 t) fullShare ((dats m 0 c).before 13 t d))
       ∗ (∃ d, owns (c : Thread nD τ) (st0_14 t) fullShare ((dats m 0 c).before 14 t d))
       ∗ (∃ d, owns (c : Thread nD τ) (st0_15 t) fullShare ((dats m 0 c).before 15 t d))
       ∗ (∃ d, owns (c : Thread nD τ) (st0_16 t) fullShare ((dats m 0 c).before 16 t d))
       ∗ (∃ d, owns (c : Thread nD τ) (st0_17 t) fullShare ((dats m 0 c).before 17 t d))
       ∗ (∃ d, owns (c : Thread nD τ) (st0_18 t) fullShare ((dats m 0 c).before 18 t d))
       ∗ (∃ d, owns (c : Thread nD τ) (st0_19 t) fullShare ((dats m 0 c).before 19 t d))
       ∗ (∃ d, owns (c : Thread nD τ) (st0_20 t) fullShare ((dats m 0 c).before 20 t d))
       ∗ (∃ d, owns (c : Thread nD τ) (st0_21 t) fullShare ((dats m 0 c).before 21 t d))
       ∗ (∃ d, owns (c : Thread nD τ) (st0_22 t) fullShare ((dats m 0 c).before 22 t d))
       ∗ (∃ d, owns (c : Thread nD τ) (st0_23 t) fullShare ((dats m 0 c).before 23 t d))
       ∗ (∃ d, owns (c : Thread nD τ) (st0_24 t) fullShare ((dats m 0 c).before 24 t d))
       ∗ (∃ d, owns (c : Thread nD τ) (st0_25 t) fullShare ((dats m 0 c).before 25 t d))
       ∗ (∃ d, owns (c : Thread nD τ) (st0_26 t) fullShare ((dats m 0 c).before 26 t d))
       ∗ (∃ d, owns (c : Thread nD τ) (st0_27 t) fullShare ((dats m 0 c).before 27 t d))
       ∗ (∃ d, owns (c : Thread nD τ) (st0_28 t) fullShare ((dats m 0 c).before 28 t d))
       ∗ (∃ d, owns (c : Thread nD τ) (st0_29 t) fullShare ((dats m 0 c).before 29 t d))
       ∗ (∃ d, owns (c : Thread nD τ) (st0_30 t) fullShare ((dats m 0 c).before 30 t d))
       ∗ (∃ d, owns (c : Thread nD τ) (st0_31 t) fullShare ((dats m 0 c).before 31 t d))
       ∗ (∃ d, owns (c : Thread nD τ) (st0_32 t) fullShare ((dats m 0 c).before 32 t d))
       ∗ (∃ d, owns (c : Thread nD τ) (st0_33 t) fullShare ((dats m 0 c).before 33 t d))
       ∗ (∃ d, owns (c : Thread nD τ) (st0_34 t) fullShare ((dats m 0 c).before 34 t d))
       ∗ (∃ d, owns (c : Thread nD τ) (st0_35 t) fullShare ((dats m 0 c).before 35 t d))
       ∗ (∃ d, owns (c : Thread nD τ) (st0_36 t) fullShare ((dats m 0 c).before 36 t d))
       ∗ (∃ d, owns (c : Thread nD τ) (st0_37 t) fullShare ((dats m 0 c).before 37 t d))
       ∗ (∃ d, owns (c : Thread nD τ) (st0_38 t) fullShare ((dats m 0 c).before 38 t d))
       ∗ (∃ d, owns (c : Thread nD τ) (st0_39 t) fullShare ((dats m 0 c).before 39 t d))
       ∗ (∃ d, owns (c : Thread nD τ) (st0_40 t) fullShare ((dats m 0 c).before 40 t d))
       ∗ (∃ d, owns (c : Thread nD τ) (st0_41 t) fullShare ((dats m 0 c).before 41 t d))
       ∗ (∃ d, owns (c : Thread nD τ) (st0_42 t) fullShare ((dats m 0 c).before 42 t d))
       ∗ (∃ d, owns (c : Thread nD τ) (st0_43 t) fullShare ((dats m 0 c).before 43 t d))
       ∗ (∃ d, owns (c : Thread nD τ) (st0_44 t) fullShare ((dats m 0 c).before 44 t d))
       ∗ (∃ d, owns (c : Thread nD τ) (st0_45 t) fullShare ((dats m 0 c).before 45 t d))
       ∗ (∃ d, owns (c : Thread nD τ) (st0_46 t) fullShare ((dats m 0 c).before 46 t d))
       ∗ (∃ d, owns (c : Thread nD τ) (st0_47 t) fullShare ((dats m 0 c).before 47 t d))
       ∗ (∃ d, owns (c : Thread nD τ) (st0_48 t) fullShare ((dats m 0 c).before 48 t d))
       ∗ (∃ d, owns (c : Thread nD τ) (st0_49 t) fullShare ((dats m 0 c).before 49 t d))
       ∗ (∃ d, owns (c : Thread nD τ) (st0_50 t) fullShare ((dats m 0 c).before 50 t d))
       ∗ (∃ d, owns (c : Thread nD τ) (st0_51 t) fullShare ((dats m 0 c).before 51 t d))
       ∗ (∃ d, owns (c : Thread nD τ) (st0_52 t) fullShare ((dats m 0 c).before 52 t d))
       ∗ (∃ d, owns (c : Thread nD τ) (st0_53 t) fullShare ((dats m 0 c).before 53 t d))
       ∗ (∃ d, owns (c : Thread nD τ) (st0_54 t) fullShare ((dats m 0 c).before 54 t d))
       ∗ (∃ d, owns (c : Thread nD τ) (st0_55 t) fullShare ((dats m 0 c).before 55 t d))
       ∗ (∃ d, owns (c : Thread nD τ) (st0_56 t) fullShare ((dats m 0 c).before 56 t d))
       ∗ (∃ d, owns (c : Thread nD τ) (st0_57 t) fullShare ((dats m 0 c).before 57 t d))
       ∗ (∃ d, owns (c : Thread nD τ) (st0_58 t) fullShare ((dats m 0 c).before 58 t d))
       ∗ (∃ d, owns (c : Thread nD τ) (st0_59 t) fullShare ((dats m 0 c).before 59 t d))
       ∗ (∃ d, owns (c : Thread nD τ) (st0_60 t) fullShare ((dats m 0 c).before 60 t d))
       ∗ (∃ d, owns (c : Thread nD τ) (st0_61 t) fullShare ((dats m 0 c).before 61 t d))
       ∗ (∃ d, owns (c : Thread nD τ) (st0_62 t) fullShare ((dats m 0 c).before 62 t d))
       ∗ (∃ d, owns (c : Thread nD τ) (st0_63 t) fullShare ((dats m 0 c).before 63 t d))
       ∗ (∃ d, owns (c : Thread nD τ) (st0_64 t) fullShare ((dats m 0 c).before 64 t d))
       ∗ (∃ d, owns (c : Thread nD τ) (st0_65 t) fullShare ((dats m 0 c).before 65 t d))
       ∗ (∃ d, owns (c : Thread nD τ) (st0_66 t) fullShare ((dats m 0 c).before 66 t d))
       ∗ (∃ d, owns (c : Thread nD τ) (st0_67 t) fullShare ((dats m 0 c).before 67 t d))
       ∗ (∃ d, owns (c : Thread nD τ) (st0_68 t) fullShare ((dats m 0 c).before 68 t d))
       ∗ (∃ d, owns (c : Thread nD τ) (st0_69 t) fullShare ((dats m 0 c).before 69 t d))
       ∗ (∃ d, owns (c : Thread nD τ) (st0_70 t) fullShare ((dats m 0 c).before 70 t d)))

/-- and what it returns. -/
def bodyPost (c : Dev nD) (t : Fin cfg0.N) : sProp (World F) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t)
       ∗ owns (c : Thread nD τ) (st0_2 t) fullShare ((dats m 0 c).after 2 t) ∗ owns (c : Thread nD τ) (st0_3 t) fullShare ((dats m 0 c).after 3 t)
       ∗ owns (c : Thread nD τ) (st0_4 t) fullShare ((dats m 0 c).after 4 t) ∗ owns (c : Thread nD τ) (st0_5 t) fullShare ((dats m 0 c).after 5 t)
       ∗ owns (c : Thread nD τ) (st0_6 t) fullShare ((dats m 0 c).after 6 t) ∗ owns (c : Thread nD τ) (st0_7 t) fullShare ((dats m 0 c).after 7 t)
       ∗ owns (c : Thread nD τ) (st0_8 t) fullShare ((dats m 0 c).after 8 t) ∗ owns (c : Thread nD τ) (st0_9 t) fullShare ((dats m 0 c).after 9 t)
       ∗ owns (c : Thread nD τ) (st0_10 t) fullShare ((dats m 0 c).after 10 t) ∗ owns (c : Thread nD τ) (st0_11 t) fullShare ((dats m 0 c).after 11 t)
       ∗ owns (c : Thread nD τ) (st0_12 t) fullShare ((dats m 0 c).after 12 t) ∗ owns (c : Thread nD τ) (st0_13 t) fullShare ((dats m 0 c).after 13 t)
       ∗ owns (c : Thread nD τ) (st0_14 t) fullShare ((dats m 0 c).after 14 t) ∗ owns (c : Thread nD τ) (st0_15 t) fullShare ((dats m 0 c).after 15 t)
       ∗ owns (c : Thread nD τ) (st0_16 t) fullShare ((dats m 0 c).after 16 t) ∗ owns (c : Thread nD τ) (st0_17 t) fullShare ((dats m 0 c).after 17 t)
       ∗ owns (c : Thread nD τ) (st0_18 t) fullShare ((dats m 0 c).after 18 t) ∗ owns (c : Thread nD τ) (st0_19 t) fullShare ((dats m 0 c).after 19 t)
       ∗ owns (c : Thread nD τ) (st0_20 t) fullShare ((dats m 0 c).after 20 t) ∗ owns (c : Thread nD τ) (st0_21 t) fullShare ((dats m 0 c).after 21 t)
       ∗ owns (c : Thread nD τ) (st0_22 t) fullShare ((dats m 0 c).after 22 t) ∗ owns (c : Thread nD τ) (st0_23 t) fullShare ((dats m 0 c).after 23 t)
       ∗ owns (c : Thread nD τ) (st0_24 t) fullShare ((dats m 0 c).after 24 t) ∗ owns (c : Thread nD τ) (st0_25 t) fullShare ((dats m 0 c).after 25 t)
       ∗ owns (c : Thread nD τ) (st0_26 t) fullShare ((dats m 0 c).after 26 t) ∗ owns (c : Thread nD τ) (st0_27 t) fullShare ((dats m 0 c).after 27 t)
       ∗ owns (c : Thread nD τ) (st0_28 t) fullShare ((dats m 0 c).after 28 t) ∗ owns (c : Thread nD τ) (st0_29 t) fullShare ((dats m 0 c).after 29 t)
       ∗ owns (c : Thread nD τ) (st0_30 t) fullShare ((dats m 0 c).after 30 t) ∗ owns (c : Thread nD τ) (st0_31 t) fullShare ((dats m 0 c).after 31 t)
       ∗ owns (c : Thread nD τ) (st0_32 t) fullShare ((dats m 0 c).after 32 t) ∗ owns (c : Thread nD τ) (st0_33 t) fullShare ((dats m 0 c).after 33 t)
       ∗ owns (c : Thread nD τ) (st0_34 t) fullShare ((dats m 0 c).after 34 t) ∗ owns (c : Thread nD τ) (st0_35 t) fullShare ((dats m 0 c).after 35 t)
       ∗ owns (c : Thread nD τ) (st0_36 t) fullShare ((dats m 0 c).after 36 t) ∗ owns (c : Thread nD τ) (st0_37 t) fullShare ((dats m 0 c).after 37 t)
       ∗ owns (c : Thread nD τ) (st0_38 t) fullShare ((dats m 0 c).after 38 t) ∗ owns (c : Thread nD τ) (st0_39 t) fullShare ((dats m 0 c).after 39 t)
       ∗ owns (c : Thread nD τ) (st0_40 t) fullShare ((dats m 0 c).after 40 t) ∗ owns (c : Thread nD τ) (st0_41 t) fullShare ((dats m 0 c).after 41 t)
       ∗ owns (c : Thread nD τ) (st0_42 t) fullShare ((dats m 0 c).after 42 t) ∗ owns (c : Thread nD τ) (st0_43 t) fullShare ((dats m 0 c).after 43 t)
       ∗ owns (c : Thread nD τ) (st0_44 t) fullShare ((dats m 0 c).after 44 t) ∗ owns (c : Thread nD τ) (st0_45 t) fullShare ((dats m 0 c).after 45 t)
       ∗ owns (c : Thread nD τ) (st0_46 t) fullShare ((dats m 0 c).after 46 t) ∗ owns (c : Thread nD τ) (st0_47 t) fullShare ((dats m 0 c).after 47 t)
       ∗ owns (c : Thread nD τ) (st0_48 t) fullShare ((dats m 0 c).after 48 t) ∗ owns (c : Thread nD τ) (st0_49 t) fullShare ((dats m 0 c).after 49 t)
       ∗ owns (c : Thread nD τ) (st0_50 t) fullShare ((dats m 0 c).after 50 t) ∗ owns (c : Thread nD τ) (st0_51 t) fullShare ((dats m 0 c).after 51 t)
       ∗ owns (c : Thread nD τ) (st0_52 t) fullShare ((dats m 0 c).after 52 t) ∗ owns (c : Thread nD τ) (st0_53 t) fullShare ((dats m 0 c).after 53 t)
       ∗ owns (c : Thread nD τ) (st0_54 t) fullShare ((dats m 0 c).after 54 t) ∗ owns (c : Thread nD τ) (st0_55 t) fullShare ((dats m 0 c).after 55 t)
       ∗ owns (c : Thread nD τ) (st0_56 t) fullShare ((dats m 0 c).after 56 t) ∗ owns (c : Thread nD τ) (st0_57 t) fullShare ((dats m 0 c).after 57 t)
       ∗ owns (c : Thread nD τ) (st0_58 t) fullShare ((dats m 0 c).after 58 t) ∗ owns (c : Thread nD τ) (st0_59 t) fullShare ((dats m 0 c).after 59 t)
       ∗ owns (c : Thread nD τ) (st0_60 t) fullShare ((dats m 0 c).after 60 t) ∗ owns (c : Thread nD τ) (st0_61 t) fullShare ((dats m 0 c).after 61 t)
       ∗ owns (c : Thread nD τ) (st0_62 t) fullShare ((dats m 0 c).after 62 t) ∗ owns (c : Thread nD τ) (st0_63 t) fullShare ((dats m 0 c).after 63 t)
       ∗ owns (c : Thread nD τ) (st0_64 t) fullShare ((dats m 0 c).after 64 t) ∗ owns (c : Thread nD τ) (st0_65 t) fullShare ((dats m 0 c).after 65 t)
       ∗ owns (c : Thread nD τ) (st0_66 t) fullShare ((dats m 0 c).after 66 t) ∗ owns (c : Thread nD τ) (st0_67 t) fullShare ((dats m 0 c).after 67 t)
       ∗ owns (c : Thread nD τ) (st0_68 t) fullShare ((dats m 0 c).after 68 t) ∗ owns (c : Thread nD τ) (st0_69 t) fullShare ((dats m 0 c).after 69 t)
       ∗ owns (c : Thread nD τ) (st0_70 t) fullShare ((dats m 0 c).after 70 t))

/-- Every window's buffer before the body. -/
theorem entry (c : Dev nD) (t : Fin cfg0.N) :
    iprop((∃ d, owns (c : Thread nD τ) (st0_0 t) fullShare ((dats m 0 c).before 0 t d))
       ∗ (∃ d, owns (c : Thread nD τ) (st0_1 t) fullShare ((dats m 0 c).before 1 t d))
       ∗ (∃ d, owns (c : Thread nD τ) (st0_2 t) fullShare ((dats m 0 c).before 2 t d))
       ∗ (∃ d, owns (c : Thread nD τ) (st0_3 t) fullShare ((dats m 0 c).before 3 t d))
       ∗ (∃ d, owns (c : Thread nD τ) (st0_4 t) fullShare ((dats m 0 c).before 4 t d))
       ∗ (∃ d, owns (c : Thread nD τ) (st0_5 t) fullShare ((dats m 0 c).before 5 t d))
       ∗ (∃ d, owns (c : Thread nD τ) (st0_6 t) fullShare ((dats m 0 c).before 6 t d))
       ∗ (∃ d, owns (c : Thread nD τ) (st0_7 t) fullShare ((dats m 0 c).before 7 t d))
       ∗ (∃ d, owns (c : Thread nD τ) (st0_8 t) fullShare ((dats m 0 c).before 8 t d))
       ∗ (∃ d, owns (c : Thread nD τ) (st0_9 t) fullShare ((dats m 0 c).before 9 t d))
       ∗ (∃ d, owns (c : Thread nD τ) (st0_10 t) fullShare ((dats m 0 c).before 10 t d))
       ∗ (∃ d, owns (c : Thread nD τ) (st0_11 t) fullShare ((dats m 0 c).before 11 t d))
       ∗ (∃ d, owns (c : Thread nD τ) (st0_12 t) fullShare ((dats m 0 c).before 12 t d))
       ∗ (∃ d, owns (c : Thread nD τ) (st0_13 t) fullShare ((dats m 0 c).before 13 t d))
       ∗ (∃ d, owns (c : Thread nD τ) (st0_14 t) fullShare ((dats m 0 c).before 14 t d))
       ∗ (∃ d, owns (c : Thread nD τ) (st0_15 t) fullShare ((dats m 0 c).before 15 t d))
       ∗ (∃ d, owns (c : Thread nD τ) (st0_16 t) fullShare ((dats m 0 c).before 16 t d))
       ∗ (∃ d, owns (c : Thread nD τ) (st0_17 t) fullShare ((dats m 0 c).before 17 t d))
       ∗ (∃ d, owns (c : Thread nD τ) (st0_18 t) fullShare ((dats m 0 c).before 18 t d))
       ∗ (∃ d, owns (c : Thread nD τ) (st0_19 t) fullShare ((dats m 0 c).before 19 t d))
       ∗ (∃ d, owns (c : Thread nD τ) (st0_20 t) fullShare ((dats m 0 c).before 20 t d))
       ∗ (∃ d, owns (c : Thread nD τ) (st0_21 t) fullShare ((dats m 0 c).before 21 t d))
       ∗ (∃ d, owns (c : Thread nD τ) (st0_22 t) fullShare ((dats m 0 c).before 22 t d))
       ∗ (∃ d, owns (c : Thread nD τ) (st0_23 t) fullShare ((dats m 0 c).before 23 t d))
       ∗ (∃ d, owns (c : Thread nD τ) (st0_24 t) fullShare ((dats m 0 c).before 24 t d))
       ∗ (∃ d, owns (c : Thread nD τ) (st0_25 t) fullShare ((dats m 0 c).before 25 t d))
       ∗ (∃ d, owns (c : Thread nD τ) (st0_26 t) fullShare ((dats m 0 c).before 26 t d))
       ∗ (∃ d, owns (c : Thread nD τ) (st0_27 t) fullShare ((dats m 0 c).before 27 t d))
       ∗ (∃ d, owns (c : Thread nD τ) (st0_28 t) fullShare ((dats m 0 c).before 28 t d))
       ∗ (∃ d, owns (c : Thread nD τ) (st0_29 t) fullShare ((dats m 0 c).before 29 t d))
       ∗ (∃ d, owns (c : Thread nD τ) (st0_30 t) fullShare ((dats m 0 c).before 30 t d))
       ∗ (∃ d, owns (c : Thread nD τ) (st0_31 t) fullShare ((dats m 0 c).before 31 t d))
       ∗ (∃ d, owns (c : Thread nD τ) (st0_32 t) fullShare ((dats m 0 c).before 32 t d))
       ∗ (∃ d, owns (c : Thread nD τ) (st0_33 t) fullShare ((dats m 0 c).before 33 t d))
       ∗ (∃ d, owns (c : Thread nD τ) (st0_34 t) fullShare ((dats m 0 c).before 34 t d))
       ∗ (∃ d, owns (c : Thread nD τ) (st0_35 t) fullShare ((dats m 0 c).before 35 t d))
       ∗ (∃ d, owns (c : Thread nD τ) (st0_36 t) fullShare ((dats m 0 c).before 36 t d))
       ∗ (∃ d, owns (c : Thread nD τ) (st0_37 t) fullShare ((dats m 0 c).before 37 t d))
       ∗ (∃ d, owns (c : Thread nD τ) (st0_38 t) fullShare ((dats m 0 c).before 38 t d))
       ∗ (∃ d, owns (c : Thread nD τ) (st0_39 t) fullShare ((dats m 0 c).before 39 t d))
       ∗ (∃ d, owns (c : Thread nD τ) (st0_40 t) fullShare ((dats m 0 c).before 40 t d))
       ∗ (∃ d, owns (c : Thread nD τ) (st0_41 t) fullShare ((dats m 0 c).before 41 t d))
       ∗ (∃ d, owns (c : Thread nD τ) (st0_42 t) fullShare ((dats m 0 c).before 42 t d))
       ∗ (∃ d, owns (c : Thread nD τ) (st0_43 t) fullShare ((dats m 0 c).before 43 t d))
       ∗ (∃ d, owns (c : Thread nD τ) (st0_44 t) fullShare ((dats m 0 c).before 44 t d))
       ∗ (∃ d, owns (c : Thread nD τ) (st0_45 t) fullShare ((dats m 0 c).before 45 t d))
       ∗ (∃ d, owns (c : Thread nD τ) (st0_46 t) fullShare ((dats m 0 c).before 46 t d))
       ∗ (∃ d, owns (c : Thread nD τ) (st0_47 t) fullShare ((dats m 0 c).before 47 t d))
       ∗ (∃ d, owns (c : Thread nD τ) (st0_48 t) fullShare ((dats m 0 c).before 48 t d))
       ∗ (∃ d, owns (c : Thread nD τ) (st0_49 t) fullShare ((dats m 0 c).before 49 t d))
       ∗ (∃ d, owns (c : Thread nD τ) (st0_50 t) fullShare ((dats m 0 c).before 50 t d))
       ∗ (∃ d, owns (c : Thread nD τ) (st0_51 t) fullShare ((dats m 0 c).before 51 t d))
       ∗ (∃ d, owns (c : Thread nD τ) (st0_52 t) fullShare ((dats m 0 c).before 52 t d))
       ∗ (∃ d, owns (c : Thread nD τ) (st0_53 t) fullShare ((dats m 0 c).before 53 t d))
       ∗ (∃ d, owns (c : Thread nD τ) (st0_54 t) fullShare ((dats m 0 c).before 54 t d))
       ∗ (∃ d, owns (c : Thread nD τ) (st0_55 t) fullShare ((dats m 0 c).before 55 t d))
       ∗ (∃ d, owns (c : Thread nD τ) (st0_56 t) fullShare ((dats m 0 c).before 56 t d))
       ∗ (∃ d, owns (c : Thread nD τ) (st0_57 t) fullShare ((dats m 0 c).before 57 t d))
       ∗ (∃ d, owns (c : Thread nD τ) (st0_58 t) fullShare ((dats m 0 c).before 58 t d))
       ∗ (∃ d, owns (c : Thread nD τ) (st0_59 t) fullShare ((dats m 0 c).before 59 t d))
       ∗ (∃ d, owns (c : Thread nD τ) (st0_60 t) fullShare ((dats m 0 c).before 60 t d))
       ∗ (∃ d, owns (c : Thread nD τ) (st0_61 t) fullShare ((dats m 0 c).before 61 t d))
       ∗ (∃ d, owns (c : Thread nD τ) (st0_62 t) fullShare ((dats m 0 c).before 62 t d))
       ∗ (∃ d, owns (c : Thread nD τ) (st0_63 t) fullShare ((dats m 0 c).before 63 t d))
       ∗ (∃ d, owns (c : Thread nD τ) (st0_64 t) fullShare ((dats m 0 c).before 64 t d))
       ∗ (∃ d, owns (c : Thread nD τ) (st0_65 t) fullShare ((dats m 0 c).before 65 t d))
       ∗ (∃ d, owns (c : Thread nD τ) (st0_66 t) fullShare ((dats m 0 c).before 66 t d))
       ∗ (∃ d, owns (c : Thread nD τ) (st0_67 t) fullShare ((dats m 0 c).before 67 t d))
       ∗ (∃ d, owns (c : Thread nD τ) (st0_68 t) fullShare ((dats m 0 c).before 68 t d))
       ∗ (∃ d, owns (c : Thread nD τ) (st0_69 t) fullShare ((dats m 0 c).before 69 t d))
       ∗ (∃ d, owns (c : Thread nD τ) (st0_70 t) fullShare ((dats m 0 c).before 70 t d)))
      ⊢ (iprop(owns (c : Thread nD τ) (st0_0 t) fullShare (iblk m c 0 t) ∗ owns (c : Thread nD τ) (st0_1 t) fullShare (iblk m c 1 t)
       ∗ owns (c : Thread nD τ) (st0_2 t) fullShare (iblk m c 2 t) ∗ owns (c : Thread nD τ) (st0_3 t) fullShare (iblk m c 3 t)
       ∗ owns (c : Thread nD τ) (st0_4 t) fullShare (iblk m c 4 t) ∗ owns (c : Thread nD τ) (st0_5 t) fullShare (iblk m c 5 t)
       ∗ owns (c : Thread nD τ) (st0_6 t) fullShare (iblk m c 6 t) ∗ owns (c : Thread nD τ) (st0_7 t) fullShare (iblk m c 7 t)
       ∗ owns (c : Thread nD τ) (st0_8 t) fullShare (iblk m c 8 t) ∗ owns (c : Thread nD τ) (st0_9 t) fullShare (iblk m c 9 t)
       ∗ owns (c : Thread nD τ) (st0_10 t) fullShare (iblk m c 10 t) ∗ owns (c : Thread nD τ) (st0_11 t) fullShare (iblk m c 11 t)
       ∗ owns (c : Thread nD τ) (st0_12 t) fullShare (iblk m c 12 t) ∗ owns (c : Thread nD τ) (st0_13 t) fullShare (iblk m c 13 t)
       ∗ owns (c : Thread nD τ) (st0_14 t) fullShare (iblk m c 14 t) ∗ owns (c : Thread nD τ) (st0_15 t) fullShare (iblk m c 15 t)
       ∗ owns (c : Thread nD τ) (st0_16 t) fullShare (iblk m c 16 t) ∗ owns (c : Thread nD τ) (st0_17 t) fullShare (iblk m c 17 t)
       ∗ owns (c : Thread nD τ) (st0_18 t) fullShare (iblk m c 18 t) ∗ owns (c : Thread nD τ) (st0_19 t) fullShare (iblk m c 19 t)
       ∗ owns (c : Thread nD τ) (st0_20 t) fullShare (iblk m c 20 t) ∗ owns (c : Thread nD τ) (st0_21 t) fullShare (iblk m c 21 t)
       ∗ owns (c : Thread nD τ) (st0_22 t) fullShare (iblk m c 22 t) ∗ owns (c : Thread nD τ) (st0_23 t) fullShare (iblk m c 23 t)
       ∗ owns (c : Thread nD τ) (st0_24 t) fullShare (iblk m c 24 t) ∗ owns (c : Thread nD τ) (st0_25 t) fullShare (iblk m c 25 t)
       ∗ owns (c : Thread nD τ) (st0_26 t) fullShare (iblk m c 26 t) ∗ owns (c : Thread nD τ) (st0_27 t) fullShare (iblk m c 27 t)
       ∗ owns (c : Thread nD τ) (st0_28 t) fullShare (iblk m c 28 t) ∗ owns (c : Thread nD τ) (st0_29 t) fullShare (iblk m c 29 t)
       ∗ owns (c : Thread nD τ) (st0_30 t) fullShare (iblk m c 30 t) ∗ (∃ d, owns (c : Thread nD τ) (st0_31 t) fullShare d)
       ∗ (∃ d, owns (c : Thread nD τ) (st0_32 t) fullShare d) ∗ (∃ d, owns (c : Thread nD τ) (st0_33 t) fullShare d)
       ∗ (∃ d, owns (c : Thread nD τ) (st0_34 t) fullShare d) ∗ (∃ d, owns (c : Thread nD τ) (st0_35 t) fullShare d)
       ∗ (∃ d, owns (c : Thread nD τ) (st0_36 t) fullShare d) ∗ (∃ d, owns (c : Thread nD τ) (st0_37 t) fullShare d)
       ∗ (∃ d, owns (c : Thread nD τ) (st0_38 t) fullShare d) ∗ (∃ d, owns (c : Thread nD τ) (st0_39 t) fullShare d)
       ∗ (∃ d, owns (c : Thread nD τ) (st0_40 t) fullShare d) ∗ (∃ d, owns (c : Thread nD τ) (st0_41 t) fullShare d)
       ∗ (∃ d, owns (c : Thread nD τ) (st0_42 t) fullShare d) ∗ (∃ d, owns (c : Thread nD τ) (st0_43 t) fullShare d)
       ∗ (∃ d, owns (c : Thread nD τ) (st0_44 t) fullShare d) ∗ (∃ d, owns (c : Thread nD τ) (st0_45 t) fullShare d)
       ∗ (∃ d, owns (c : Thread nD τ) (st0_46 t) fullShare d) ∗ (∃ d, owns (c : Thread nD τ) (st0_47 t) fullShare d)
       ∗ (∃ d, owns (c : Thread nD τ) (st0_48 t) fullShare d) ∗ (∃ d, owns (c : Thread nD τ) (st0_49 t) fullShare d)
       ∗ (∃ d, owns (c : Thread nD τ) (st0_50 t) fullShare d) ∗ (∃ d, owns (c : Thread nD τ) (st0_51 t) fullShare d)
       ∗ (∃ d, owns (c : Thread nD τ) (st0_52 t) fullShare d) ∗ (∃ d, owns (c : Thread nD τ) (st0_53 t) fullShare d)
       ∗ (∃ d, owns (c : Thread nD τ) (st0_54 t) fullShare d) ∗ (∃ d, owns (c : Thread nD τ) (st0_55 t) fullShare d)
       ∗ (∃ d, owns (c : Thread nD τ) (st0_56 t) fullShare d) ∗ (∃ d, owns (c : Thread nD τ) (st0_57 t) fullShare d)
       ∗ (∃ d, owns (c : Thread nD τ) (st0_58 t) fullShare d) ∗ (∃ d, owns (c : Thread nD τ) (st0_59 t) fullShare d)
       ∗ (∃ d, owns (c : Thread nD τ) (st0_60 t) fullShare d) ∗ (∃ d, owns (c : Thread nD τ) (st0_61 t) fullShare d)
       ∗ (∃ d, owns (c : Thread nD τ) (st0_62 t) fullShare d) ∗ (∃ d, owns (c : Thread nD τ) (st0_63 t) fullShare d)
       ∗ (∃ d, owns (c : Thread nD τ) (st0_64 t) fullShare d) ∗ (∃ d, owns (c : Thread nD τ) (st0_65 t) fullShare d)
       ∗ (∃ d, owns (c : Thread nD τ) (st0_66 t) fullShare d) ∗ (∃ d, owns (c : Thread nD τ) (st0_67 t) fullShare d)
       ∗ (∃ d, owns (c : Thread nD τ) (st0_68 t) fullShare d) ∗ (∃ d, owns (c : Thread nD τ) (st0_69 t) fullShare d)
       ∗ (∃ d, owns (c : Thread nD τ) (st0_70 t) fullShare d)) : sProp (World F)) := by
  refine BIClass.sep_mono (held_0 m c t) ?_
  refine BIClass.sep_mono (held_1 m c t) ?_
  refine BIClass.sep_mono (held_2 m c t) ?_
  refine BIClass.sep_mono (held_3 m c t) ?_
  refine BIClass.sep_mono (held_4 m c t) ?_
  refine BIClass.sep_mono (held_5 m c t) ?_
  refine BIClass.sep_mono (held_6 m c t) ?_
  refine BIClass.sep_mono (held_7 m c t) ?_
  refine BIClass.sep_mono (held_8 m c t) ?_
  refine BIClass.sep_mono (held_9 m c t) ?_
  refine BIClass.sep_mono (held_10 m c t) ?_
  refine BIClass.sep_mono (held_11 m c t) ?_
  refine BIClass.sep_mono (held_12 m c t) ?_
  refine BIClass.sep_mono (held_13 m c t) ?_
  refine BIClass.sep_mono (held_14 m c t) ?_
  refine BIClass.sep_mono (held_15 m c t) ?_
  refine BIClass.sep_mono (held_16 m c t) ?_
  refine BIClass.sep_mono (held_17 m c t) ?_
  refine BIClass.sep_mono (held_18 m c t) ?_
  refine BIClass.sep_mono (held_19 m c t) ?_
  refine BIClass.sep_mono (held_20 m c t) ?_
  refine BIClass.sep_mono (held_21 m c t) ?_
  refine BIClass.sep_mono (held_22 m c t) ?_
  refine BIClass.sep_mono (held_23 m c t) ?_
  refine BIClass.sep_mono (held_24 m c t) ?_
  refine BIClass.sep_mono (held_25 m c t) ?_
  refine BIClass.sep_mono (held_26 m c t) ?_
  refine BIClass.sep_mono (held_27 m c t) ?_
  refine BIClass.sep_mono (held_28 m c t) ?_
  refine BIClass.sep_mono (held_29 m c t) ?_
  refine BIClass.sep_mono (held_30 m c t) ?_
  iterate 39 refine BIClass.sep_mono some_held ?_
  exact some_held

set_option maxHeartbeats 4000000 in
/-- The body at the one point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  refine (BIClass.sep_mono .rfl (BIClass.sep_mono .rfl ((entry m c t).trans (body c Set.univ (st0_0 t) (st0_1 t) (st0_2 t) (st0_3 t) (st0_31 t) (st0_32 t) (st0_33 t) (st0_34 t) (st0_4 t) (st0_5 t) (st0_6 t) (st0_7 t) (st0_8 t) (st0_9 t)
       (st0_13 t) (st0_14 t) (st0_15 t) (st0_16 t) (st0_17 t) (st0_18 t) (st0_19 t) (st0_20 t) (st0_21 t) (st0_22 t) (st0_23 t) (st0_24 t) (st0_25 t)
       (st0_26 t) (st0_27 t) (st0_28 t) (st0_29 t) (st0_30 t) (st0_35 t) (st0_36 t) (st0_37 t) (st0_38 t) (st0_39 t) (st0_40 t) (st0_41 t) (st0_42 t)
       (st0_47 t) (st0_48 t) (st0_49 t) (st0_50 t) (st0_51 t) (st0_52 t) (st0_53 t) (st0_54 t) (st0_55 t) (st0_56 t) (st0_57 t) (st0_58 t) (st0_59 t)
       (st0_60 t) (st0_61 t) (st0_62 t) (st0_63 t) (st0_64 t) (st0_65 t) (st0_66 t) (st0_67 t) (st0_68 t) (st0_69 t) (st0_70 t) (st0_10 t) (st0_11 t)
       (st0_12 t) (st0_43 t) (st0_44 t) (st0_45 t) (st0_46 t) (hstage0_0 0) (hstage0_1 0) (hstage0_2 0) (hstage0_3 0) (hstage0_4 0) (hstage0_5 0)
       (hstage0_6 0) (hstage0_7 0) (hstage0_8 0) (hstage0_9 0) (hstage0_10 0) (hstage0_11 0) (hstage0_12 0) (hstage0_13 0) (hstage0_14 0) (hstage0_15 0)
       (hstage0_16 0) (hstage0_17 0) (hstage0_18 0) (hstage0_19 0) (hstage0_20 0) (hstage0_21 0) (hstage0_22 0) (hstage0_23 0) (hstage0_24 0) (hstage0_25 0)
       (hstage0_26 0) (hstage0_27 0) (hstage0_28 0) (hstage0_29 0) (hstage0_30 0) (hstage0_31 0) (hstage0_32 0) (hstage0_33 0) (hstage0_34 0) (hstage0_35 0)
       (hstage0_36 0) (hstage0_37 0) (hstage0_38 0) (hstage0_39 0) (hstage0_40 0) (hstage0_41 0) (hstage0_42 0) (hstage0_43 0) (hstage0_44 0) (hstage0_45 0)
       (hstage0_46 0) (hstage0_47 0) (hstage0_48 0) (hstage0_49 0) (hstage0_50 0) (hstage0_51 0) (hstage0_52 0) (hstage0_53 0) (hstage0_54 0) (hstage0_55 0)
       (hstage0_56 0) (hstage0_57 0) (hstage0_58 0) (hstage0_59 0) (hstage0_60 0) (hstage0_61 0) (hstage0_62 0) (hstage0_63 0) (hstage0_64 0) (hstage0_65 0)
       (hstage0_66 0) (hstage0_67 0) (hstage0_68 0) (hstage0_69 0) (hstage0_70 0) _ _ _ _ _ _ _ _ _ _ _ _ _ _ _ _ _ _ _ _ _ _ _ _ _ _ _ _ _ _ _)))).trans ?_
  refine (BIClass.sep_mono .rfl (wp_frame_l _ _ _)).trans ((wp_frame_l _ _ _).trans (wp_mono _ _ _ fun _ => ?_))
  rw [show (dats m 0 c).Φ t.succ = (dats m 0 c).Φ t.castSucc from rfl, show (dats m 0 c).owesAt () t.succ = (dats m 0 c).owesAt () t.castSucc from rfl]
  simp only [after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50, after_51, after_52, after_53, after_54, after_55, after_56, after_57, after_58, after_59, after_60, after_61, after_62, after_63, after_64, after_65, after_66, after_67, after_68, after_69, after_70]
  exact .rfl

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- What the run asks of the body. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

set_option backward.isDefEq.respectTransparency.types false in
set_option maxHeartbeats 1600000 in
/-- The run: every array ends as the library computes it from the proof data, every semaphore at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument ends as it began, and every semaphore at zero. -/
theorem kept : θ_run defs (onTc (τ := τ) (main (F := F))) (s₀ m ρ) (fun r => (∀ (c : Dev nD) (w : Fin cfg0.W), (cfg0.win w).isOut = false →
      r.2.mem ((c : Thread nD τ).loc (Pipeline.arrRef spec0 w)) = m ((c : Thread nD τ).loc (Pipeline.arrRef spec0 w))) ∧ r.2.sem = fun _ => 0) :=
  (θ_run defs _ _).mono (fun _ h => ⟨fun c w hw => ((h.1 c).1 w).trans (((dats m 0 c).arrAt_in w hw _).trans (A_eq m c w)), h.2⟩) (run m ρ)

end Cert.SmallIdeal.Hand

end
-- ==== Proof.SmallBlocks.lean ====
/- The optimiser of the small parameters: its arguments, and the blocks of the windows which hold them. -/
module

public import proofs.«01_k».proof.Proof.SmallFrame
public import proofs.«01_k».proof.Proof.Rows

@[expose] public section

set_option maxRecDepth 16384

noncomputable section

namespace Cert.SmallIdeal.Value

open Cert.SmallIdeal Cert.SmallIdeal.Gen Cert.SmallIdeal.Hand Idealize.ShloMosaic Idealize.ShloMosaic.TcCoe Idealize.SL.Sem
open Idealize.ShloMosaic.Pipeline (Dat)

set_option maxHeartbeats 4000000

variable {F : FTy → Type} [FloatOps F] (m : (ℓ : Loc nD τ sig) → Buf (Elt F) ℓ)

/-- Argument `main_arg0`: the packed sums of gradient rows. -/
abbrev a0 (c : Dev nD) : FVec F S24x1024 .f32 := m ((c : Thread nD τ).loc main_arg0)
/-- Argument `main_arg1`: the parameter (`ada_b`). -/
abbrev a1 (c : Dev nD) : FVec F S1x9216 .f32 := m ((c : Thread nD τ).loc main_arg1)
/-- Argument `main_arg2`: its mean (`ada_b`). -/
abbrev a2 (c : Dev nD) : FVec F S1x9216 .f32 := m ((c : Thread nD τ).loc main_arg2)
/-- Argument `main_arg3`: its mean of squares (`ada_b`). -/
abbrev a3 (c : Dev nD) : FVec F S1x9216 .f32 := m ((c : Thread nD τ).loc main_arg3)
/-- Argument `main_arg4`: the parameter (`norm_ffn1`). -/
abbrev a4 (c : Dev nD) : FVec F S1x1024 .f32 := m ((c : Thread nD τ).loc main_arg4)
/-- Argument `main_arg5`: its mean (`norm_ffn1`). -/
abbrev a5 (c : Dev nD) : FVec F S1x1024 .f32 := m ((c : Thread nD τ).loc main_arg5)
/-- Argument `main_arg6`: its mean of squares (`norm_ffn1`). -/
abbrev a6 (c : Dev nD) : FVec F S1x1024 .f32 := m ((c : Thread nD τ).loc main_arg6)
/-- Argument `main_arg7`: the parameter (`norm_mix`). -/
abbrev a7 (c : Dev nD) : FVec F S1x1024 .f32 := m ((c : Thread nD τ).loc main_arg7)
/-- Argument `main_arg8`: its mean (`norm_mix`). -/
abbrev a8 (c : Dev nD) : FVec F S1x1024 .f32 := m ((c : Thread nD τ).loc main_arg8)
/-- Argument `main_arg9`: its mean of squares (`norm_mix`). -/
abbrev a9 (c : Dev nD) : FVec F S1x1024 .f32 := m ((c : Thread nD τ).loc main_arg9)
/-- Argument `main_arg10`: the parameter (`hgrn_lb`). -/
abbrev a10 (c : Dev nD) : FVec F S2x1024 .f32 := m ((c : Thread nD τ).loc main_arg10)
/-- Argument `main_arg11`: its mean (`hgrn_lb`). -/
abbrev a11 (c : Dev nD) : FVec F S2x1024 .f32 := m ((c : Thread nD τ).loc main_arg11)
/-- Argument `main_arg12`: its mean of squares (`hgrn_lb`). -/
abbrev a12 (c : Dev nD) : FVec F S2x1024 .f32 := m ((c : Thread nD τ).loc main_arg12)
/-- Argument `main_arg13`: the parameter (`hgrn_g`). -/
abbrev a13 (c : Dev nD) : FVec F S1x1024 .f32 := m ((c : Thread nD τ).loc main_arg13)
/-- Argument `main_arg14`: its mean (`hgrn_g`). -/
abbrev a14 (c : Dev nD) : FVec F S1x1024 .f32 := m ((c : Thread nD τ).loc main_arg14)
/-- Argument `main_arg15`: its mean of squares (`hgrn_g`). -/
abbrev a15 (c : Dev nD) : FVec F S1x1024 .f32 := m ((c : Thread nD τ).loc main_arg15)
/-- Argument `main_arg16`: the parameter (`conv_b`). -/
abbrev a16 (c : Dev nD) : FVec F S1x1024 .f32 := m ((c : Thread nD τ).loc main_arg16)
/-- Argument `main_arg17`: its mean (`conv_b`). -/
abbrev a17 (c : Dev nD) : FVec F S1x1024 .f32 := m ((c : Thread nD τ).loc main_arg17)
/-- Argument `main_arg18`: its mean of squares (`conv_b`). -/
abbrev a18 (c : Dev nD) : FVec F S1x1024 .f32 := m ((c : Thread nD τ).loc main_arg18)
/-- Argument `main_arg19`: the parameter (`conv_ln_g`). -/
abbrev a19 (c : Dev nD) : FVec F S1x1024 .f32 := m ((c : Thread nD τ).loc main_arg19)
/-- Argument `main_arg20`: its mean (`conv_ln_g`). -/
abbrev a20 (c : Dev nD) : FVec F S1x1024 .f32 := m ((c : Thread nD τ).loc main_arg20)
/-- Argument `main_arg21`: its mean of squares (`conv_ln_g`). -/
abbrev a21 (c : Dev nD) : FVec F S1x1024 .f32 := m ((c : Thread nD τ).loc main_arg21)
/-- Argument `main_arg22`: the parameter (`conv_ln_b`). -/
abbrev a22 (c : Dev nD) : FVec F S1x1024 .f32 := m ((c : Thread nD τ).loc main_arg22)
/-- Argument `main_arg23`: its mean (`conv_ln_b`). -/
abbrev a23 (c : Dev nD) : FVec F S1x1024 .f32 := m ((c : Thread nD τ).loc main_arg23)
/-- Argument `main_arg24`: its mean of squares (`conv_ln_b`). -/
abbrev a24 (c : Dev nD) : FVec F S1x1024 .f32 := m ((c : Thread nD τ).loc main_arg24)
/-- Argument `main_arg25`: the parameter (`norm_ffn2`). -/
abbrev a25 (c : Dev nD) : FVec F S1x1024 .f32 := m ((c : Thread nD τ).loc main_arg25)
/-- Argument `main_arg26`: its mean (`norm_ffn2`). -/
abbrev a26 (c : Dev nD) : FVec F S1x1024 .f32 := m ((c : Thread nD τ).loc main_arg26)
/-- Argument `main_arg27`: its mean of squares (`norm_ffn2`). -/
abbrev a27 (c : Dev nD) : FVec F S1x1024 .f32 := m ((c : Thread nD τ).loc main_arg27)
/-- Argument `main_arg28`: the parameter (`norm_final`). -/
abbrev a28 (c : Dev nD) : FVec F S1x1024 .f32 := m ((c : Thread nD τ).loc main_arg28)
/-- Argument `main_arg29`: its mean (`norm_final`). -/
abbrev a29 (c : Dev nD) : FVec F S1x1024 .f32 := m ((c : Thread nD τ).loc main_arg29)
/-- Argument `main_arg30`: its mean of squares (`norm_final`). -/
abbrev a30 (c : Dev nD) : FVec F S1x1024 .f32 := m ((c : Thread nD τ).loc main_arg30)

/-- The only grid point. -/
def only : Fin cfg0.N := ⟨0, by decide⟩

/-- Every argument's window stands on its whole array. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0]
    ∧ win0_25.index t = ![0, 0]
    ∧ win0_26.index t = ![0, 0]
    ∧ win0_27.index t = ![0, 0]
    ∧ win0_28.index t = ![0, 0]
    ∧ win0_29.index t = ![0, 0]
    ∧ win0_30.index t = ![0, 0] :=
  fun t => by
  obtain rfl : t = only := Fin.ext (by have h : t.val < 1 := t.isLt; show t.val = 0; omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide +kernel

/-- An argument's block is the argument. -/
theorem block (c : Dev nD) (t : Fin cfg0.N) :
    iblk m c 0 t = a0 m c
    ∧ iblk m c 1 t = a1 m c
    ∧ iblk m c 2 t = a2 m c
    ∧ iblk m c 3 t = a3 m c
    ∧ iblk m c 4 t = a4 m c
    ∧ iblk m c 5 t = a5 m c
    ∧ iblk m c 6 t = a6 m c
    ∧ iblk m c 7 t = a7 m c
    ∧ iblk m c 8 t = a8 m c
    ∧ iblk m c 9 t = a9 m c
    ∧ iblk m c 10 t = a10 m c
    ∧ iblk m c 11 t = a11 m c
    ∧ iblk m c 12 t = a12 m c
    ∧ iblk m c 13 t = a13 m c
    ∧ iblk m c 14 t = a14 m c
    ∧ iblk m c 15 t = a15 m c
    ∧ iblk m c 16 t = a16 m c
    ∧ iblk m c 17 t = a17 m c
    ∧ iblk m c 18 t = a18 m c
    ∧ iblk m c 19 t = a19 m c
    ∧ iblk m c 20 t = a20 m c
    ∧ iblk m c 21 t = a21 m c
    ∧ iblk m c 22 t = a22 m c
    ∧ iblk m c 23 t = a23 m c
    ∧ iblk m c 24 t = a24 m c
    ∧ iblk m c 25 t = a25 m c
    ∧ iblk m c 26 t = a26 m c
    ∧ iblk m c 27 t = a27 m c
    ∧ iblk m c 28 t = a28 m c
    ∧ iblk m c 29 t = a29 m c
    ∧ iblk m c 30 t = a30 m c := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (funext y; blk_ext [iblk, V, idx t])

end Cert.SmallIdeal.Value

end
-- ==== Proof.SmallValue.lean ====
/- The optimiser of the small parameters: what the call leaves in its forty results. -/
module

public import proofs.«01_k».proof.Proof.SmallWhole
public import proofs.«01_k».proof.Proof.SmallBlocks

@[expose] public section

set_option maxRecDepth 16384

noncomputable section

namespace Cert.SmallIdeal.Value

open Cert.SmallIdeal Cert.SmallIdeal.Gen Cert.SmallIdeal.Hand Idealize.ShloMosaic Idealize.ShloMosaic.TcCoe Idealize.SL.Sem
open Idealize.ShloMosaic.Pipeline (Dat)

set_option maxHeartbeats 4000000

variable {F : FTy → Type} [FloatOps F] (m : (ℓ : Loc nD τ sig) → Buf (Elt F) ℓ)

/-- The run leaves the formulas in its results and its arguments unchanged. -/
theorem run_formulas (ρ : Dev nD → PrngReg) :
    θ_run (defs (F := F)) (onTc (τ := τ) (main (F := F))) ⟨m, fun _ => 0, ρ⟩ fun r => ∀ c : Dev nD,
      r.2.mem ((c.tc : Thread nD τ).loc main_v0_0) = flatRows (a0 m c)
      ∧ r.2.mem ((c.tc : Thread nD τ).loc main_v0_1) = step (flatRows (a0 m c)) (a1 m c) (a2 m c) (a3 m c)
      ∧ r.2.mem ((c.tc : Thread nD τ).loc main_v0_2) = firstMoment (flatRows (a0 m c)) (a2 m c)
      ∧ r.2.mem ((c.tc : Thread nD τ).loc main_v0_3) = secondMoment (flatRows (a0 m c)) (a3 m c)
      ∧ r.2.mem ((c.tc : Thread nD τ).loc main_v0_4) = row 9 (by decide) (a0 m c)
      ∧ r.2.mem ((c.tc : Thread nD τ).loc main_v0_5) = step (row 9 (by decide) (a0 m c)) (a4 m c) (a5 m c) (a6 m c)
      ∧ r.2.mem ((c.tc : Thread nD τ).loc main_v0_6) = firstMoment (row 9 (by decide) (a0 m c)) (a5 m c)
      ∧ r.2.mem ((c.tc : Thread nD τ).loc main_v0_7) = secondMoment (row 9 (by decide) (a0 m c)) (a6 m c)
      ∧ r.2.mem ((c.tc : Thread nD τ).loc main_v0_8) = row 10 (by decide) (a0 m c)
      ∧ r.2.mem ((c.tc : Thread nD τ).loc main_v0_9) = step (row 10 (by decide) (a0 m c)) (a7 m c) (a8 m c) (a9 m c)
      ∧ r.2.mem ((c.tc : Thread nD τ).loc main_v0_10) = firstMoment (row 10 (by decide) (a0 m c)) (a8 m c)
      ∧ r.2.mem ((c.tc : Thread nD τ).loc main_v0_11) = secondMoment (row 10 (by decide) (a0 m c)) (a9 m c)
      ∧ r.2.mem ((c.tc : Thread nD τ).loc main_v0_12) = boundGrad (a0 m c) (a10 m c)
      ∧ r.2.mem ((c.tc : Thread nD τ).loc main_v0_13) = step (boundGrad (a0 m c) (a10 m c)) (a10 m c) (a11 m c) (a12 m c)
      ∧ r.2.mem ((c.tc : Thread nD τ).loc main_v0_14) = firstMoment (boundGrad (a0 m c) (a10 m c)) (a11 m c)
      ∧ r.2.mem ((c.tc : Thread nD τ).loc main_v0_15) = secondMoment (boundGrad (a0 m c) (a10 m c)) (a12 m c)
      ∧ r.2.mem ((c.tc : Thread nD τ).loc main_v0_16) = row 12 (by decide) (a0 m c)
      ∧ r.2.mem ((c.tc : Thread nD τ).loc main_v0_17) = step (row 12 (by decide) (a0 m c)) (a13 m c) (a14 m c) (a15 m c)
      ∧ r.2.mem ((c.tc : Thread nD τ).loc main_v0_18) = firstMoment (row 12 (by decide) (a0 m c)) (a14 m c)
      ∧ r.2.mem ((c.tc : Thread nD τ).loc main_v0_19) = secondMoment (row 12 (by decide) (a0 m c)) (a15 m c)
      ∧ r.2.mem ((c.tc : Thread nD τ).loc main_v0_20) = row 13 (by decide) (a0 m c)
      ∧ r.2.mem ((c.tc : Thread nD τ).loc main_v0_21) = step (row 13 (by decide) (a0 m c)) (a16 m c) (a17 m c) (a18 m c)
      ∧ r.2.mem ((c.tc : Thread nD τ).loc main_v0_22) = firstMoment (row 13 (by decide) (a0 m c)) (a17 m c)
      ∧ r.2.mem ((c.tc : Thread nD τ).loc main_v0_23) = secondMoment (row 13 (by decide) (a0 m c)) (a18 m c)
      ∧ r.2.mem ((c.tc : Thread nD τ).loc main_v0_24) = row 14 (by decide) (a0 m c)
      ∧ r.2.mem ((c.tc : Thread nD τ).loc main_v0_25) = step (row 14 (by decide) (a0 m c)) (a19 m c) (a20 m c) (a21 m c)
      ∧ r.2.mem ((c.tc : Thread nD τ).loc main_v0_26) = firstMoment (row 14 (by decide) (a0 m c)) (a20 m c)
      ∧ r.2.mem ((c.tc : Thread nD τ).loc main_v0_27) = secondMoment (row 14 (by decide) (a0 m c)) (a21 m c)
      ∧ r.2.mem ((c.tc : Thread nD τ).loc main_v0_28) = row 15 (by decide) (a0 m c)
      ∧ r.2.mem ((c.tc : Thread nD τ).loc main_v0_29) = step (row 15 (by decide) (a0 m c)) (a22 m c) (a23 m c) (a24 m c)
      ∧ r.2.mem ((c.tc : Thread nD τ).loc main_v0_30) = firstMoment (row 15 (by decide) (a0 m c)) (a23 m c)
      ∧ r.2.mem ((c.tc : Thread nD τ).loc main_v0_31) = secondMoment (row 15 (by decide) (a0 m c)) (a24 m c)
      ∧ r.2.mem ((c.tc : Thread nD τ).loc main_v0_32) = row 16 (by decide) (a0 m c)
      ∧ r.2.mem ((c.tc : Thread nD τ).loc main_v0_33) = step (row 16 (by decide) (a0 m c)) (a25 m c) (a26 m c) (a27 m c)
      ∧ r.2.mem ((c.tc : Thread nD τ).loc main_v0_34) = firstMoment (row 16 (by decide) (a0 m c)) (a26 m c)
      ∧ r.2.mem ((c.tc : Thread nD τ).loc main_v0_35) = secondMoment (row 16 (by decide) (a0 m c)) (a27 m c)
      ∧ r.2.mem ((c.tc : Thread nD τ).loc main_v0_36) = row 17 (by decide) (a0 m c)
      ∧ r.2.mem ((c.tc : Thread nD τ).loc main_v0_37) = step (row 17 (by decide) (a0 m c)) (a28 m c) (a29 m c) (a30 m c)
      ∧ r.2.mem ((c.tc : Thread nD τ).loc main_v0_38) = firstMoment (row 17 (by decide) (a0 m c)) (a29 m c)
      ∧ r.2.mem ((c.tc : Thread nD τ).loc main_v0_39) = secondMoment (row 17 (by decide) (a0 m c)) (a30 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) := by
  refine (θ_run defs _ _).mono (fun r h c => ?_) (run m ρ)
  have hw := fun w => (h.1 c).1 w
  have arg := fun w (hi : (cfg0.win w).isOut = false) => (hw w).trans (((dats m 0 c).arrAt_in w hi _).trans (A_eq m c w))
  obtain ⟨b0, b1, b2, b3, b4, b5, b6, b7, b8, b9, b10, b11, b12, b13, b14, b15, b16, b17, b18, b19, b20, b21, b22, b23, b24, b25, b26, b27, b28, b29, b30⟩ := block m c only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    arg 0 rfl, arg 1 rfl, arg 2 rfl, arg 3 rfl, arg 4 rfl, arg 5 rfl, arg 6 rfl, arg 7 rfl, arg 8 rfl, arg 9 rfl, arg 10 rfl, arg 11 rfl, arg 12 rfl, arg 13 rfl,
    arg 14 rfl, arg 15 rfl, arg 16 rfl, arg 17 rfl, arg 18 rfl, arg 19 rfl, arg 20 rfl, arg 21 rfl, arg 22 rfl, arg 23 rfl, arg 24 rfl, arg 25 rfl, arg 26 rfl,
    arg 27 rfl, arg 28 rfl, arg 29 rfl, arg 30 rfl⟩
  · exact (hw 31).trans ((dats m 0 c).arrAt_eq_of_after_last 31 only (by decide +kernel) _ fun j => by blk_simp; rw [after_31, b0])
  · exact (hw 32).trans ((dats m 0 c).arrAt_eq_of_after_last 32 only (by decide +kernel) _ fun j => by blk_simp; rw [after_32, b0, b1, b2, b3])
  · exact (hw 33).trans ((dats m 0 c).arrAt_eq_of_after_last 33 only (by decide +kernel) _ fun j => by blk_simp; rw [after_33, b0, b2])
  · exact (hw 34).trans ((dats m 0 c).arrAt_eq_of_after_last 34 only (by decide +kernel) _ fun j => by blk_simp; rw [after_34, b0, b3])
  · exact (hw 35).trans ((dats m 0 c).arrAt_eq_of_after_last 35 only (by decide +kernel) _ fun j => by blk_simp; rw [after_35, b0])
  · exact (hw 36).trans ((dats m 0 c).arrAt_eq_of_after_last 36 only (by decide +kernel) _ fun j => by blk_simp; rw [after_36, b0, b4, b5, b6])
  · exact (hw 37).trans ((dats m 0 c).arrAt_eq_of_after_last 37 only (by decide +kernel) _ fun j => by blk_simp; rw [after_37, b0, b5])
  · exact (hw 38).trans ((dats m 0 c).arrAt_eq_of_after_last 38 only (by decide +kernel) _ fun j => by blk_simp; rw [after_38, b0, b6])
  · exact (hw 39).trans ((dats m 0 c).arrAt_eq_of_after_last 39 only (by decide +kernel) _ fun j => by blk_simp; rw [after_39, b0])
  · exact (hw 40).trans ((dats m 0 c).arrAt_eq_of_after_last 40 only (by decide +kernel) _ fun j => by blk_simp; rw [after_40, b0, b7, b8, b9])
  · exact (hw 41).trans ((dats m 0 c).arrAt_eq_of_after_last 41 only (by decide +kernel) _ fun j => by blk_simp; rw [after_41, b0, b8])
  · exact (hw 42).trans ((dats m 0 c).arrAt_eq_of_after_last 42 only (by decide +kernel) _ fun j => by blk_simp; rw [after_42, b0, b9])
  · exact (hw 43).trans ((dats m 0 c).arrAt_eq_of_after_last 43 only (by decide +kernel) _ fun j => by blk_simp; rw [after_43, b0, b10])
  · exact (hw 44).trans ((dats m 0 c).arrAt_eq_of_after_last 44 only (by decide +kernel) _ fun j => by blk_simp; rw [after_44, b0, b10, b11, b12])
  · exact (hw 45).trans ((dats m 0 c).arrAt_eq_of_after_last 45 only (by decide +kernel) _ fun j => by blk_simp; rw [after_45, b0, b10, b11])
  · exact (hw 46).trans ((dats m 0 c).arrAt_eq_of_after_last 46 only (by decide +kernel) _ fun j => by blk_simp; rw [after_46, b0, b10, b12])
  · exact (hw 47).trans ((dats m 0 c).arrAt_eq_of_after_last 47 only (by decide +kernel) _ fun j => by blk_simp; rw [after_47, b0])
  · exact (hw 48).trans ((dats m 0 c).arrAt_eq_of_after_last 48 only (by decide +kernel) _ fun j => by blk_simp; rw [after_48, b0, b13, b14, b15])
  · exact (hw 49).trans ((dats m 0 c).arrAt_eq_of_after_last 49 only (by decide +kernel) _ fun j => by blk_simp; rw [after_49, b0, b14])
  · exact (hw 50).trans ((dats m 0 c).arrAt_eq_of_after_last 50 only (by decide +kernel) _ fun j => by blk_simp; rw [after_50, b0, b15])
  · exact (hw 51).trans ((dats m 0 c).arrAt_eq_of_after_last 51 only (by decide +kernel) _ fun j => by blk_simp; rw [after_51, b0])
  · exact (hw 52).trans ((dats m 0 c).arrAt_eq_of_after_last 52 only (by decide +kernel) _ fun j => by blk_simp; rw [after_52, b0, b16, b17, b18])
  · exact (hw 53).trans ((dats m 0 c).arrAt_eq_of_after_last 53 only (by decide +kernel) _ fun j => by blk_simp; rw [after_53, b0, b17])
  · exact (hw 54).trans ((dats m 0 c).arrAt_eq_of_after_last 54 only (by decide +kernel) _ fun j => by blk_simp; rw [after_54, b0, b18])
  · exact (hw 55).trans ((dats m 0 c).arrAt_eq_of_after_last 55 only (by decide +kernel) _ fun j => by blk_simp; rw [after_55, b0])
  · exact (hw 56).trans ((dats m 0 c).arrAt_eq_of_after_last 56 only (by decide +kernel) _ fun j => by blk_simp; rw [after_56, b0, b19, b20, b21])
  · exact (hw 57).trans ((dats m 0 c).arrAt_eq_of_after_last 57 only (by decide +kernel) _ fun j => by blk_simp; rw [after_57, b0, b20])
  · exact (hw 58).trans ((dats m 0 c).arrAt_eq_of_after_last 58 only (by decide +kernel) _ fun j => by blk_simp; rw [after_58, b0, b21])
  · exact (hw 59).trans ((dats m 0 c).arrAt_eq_of_after_last 59 only (by decide +kernel) _ fun j => by blk_simp; rw [after_59, b0])
  · exact (hw 60).trans ((dats m 0 c).arrAt_eq_of_after_last 60 only (by decide +kernel) _ fun j => by blk_simp; rw [after_60, b0, b22, b23, b24])
  · exact (hw 61).trans ((dats m 0 c).arrAt_eq_of_after_last 61 only (by decide +kernel) _ fun j => by blk_simp; rw [after_61, b0, b23])
  · exact (hw 62).trans ((dats m 0 c).arrAt_eq_of_after_last 62 only (by decide +kernel) _ fun j => by blk_simp; rw [after_62, b0, b24])
  · exact (hw 63).trans ((dats m 0 c).arrAt_eq_of_after_last 63 only (by decide +kernel) _ fun j => by blk_simp; rw [after_63, b0])
  · exact (hw 64).trans ((dats m 0 c).arrAt_eq_of_after_last 64 only (by decide +kernel) _ fun j => by blk_simp; rw [after_64, b0, b25, b26, b27])
  · exact (hw 65).trans ((dats m 0 c).arrAt_eq_of_after_last 65 only (by decide +kernel) _ fun j => by blk_simp; rw [after_65, b0, b26])
  · exact (hw 66).trans ((dats m 0 c).arrAt_eq_of_after_last 66 only (by decide +kernel) _ fun j => by blk_simp; rw [after_66, b0, b27])
  · exact (hw 67).trans ((dats m 0 c).arrAt_eq_of_after_last 67 only (by decide +kernel) _ fun j => by blk_simp; rw [after_67, b0])
  · exact (hw 68).trans ((dats m 0 c).arrAt_eq_of_after_last 68 only (by decide +kernel) _ fun j => by blk_simp; rw [after_68, b0, b28, b29, b30])
  · exact (hw 69).trans ((dats m 0 c).arrAt_eq_of_after_last 69 only (by decide +kernel) _ fun j => by blk_simp; rw [after_69, b0, b29])
  · exact (hw 70).trans ((dats m 0 c).arrAt_eq_of_after_last 70 only (by decide +kernel) _ fun j => by blk_simp; rw [after_70, b0, b30])

end Cert.SmallIdeal.Value

end
-- ==== Proof.SmallClaim.lean ====
/- The claim about the optimiser of the small parameters and its reference. -/
module

public import proofs.«01_k».proof.Proof.SmallParts
public import proofs.«01_k».proof.Proof.SmallValue
public import proofs.«01_k».proof.Proof.Gen.Pre_small_finite

@[expose] public section

set_option maxRecDepth 16384

noncomputable section

namespace Cert.SmallIdeal.Value

open Cert.SmallIdeal Cert.SmallIdeal.Gen Cert.SmallIdeal.Hand Idealize.ShloMosaic Idealize.ShloMosaic.TcCoe Idealize.SL.Sem
open Cert.SmallRefIdeal.Read Cert.Reals

set_option maxHeartbeats 16000000

/-- The precondition says that the row of the bounds' gradient and the bounds' parameter hold real numbers. -/
theorem finite_args [Cert.Pre_small_finite.Facts] (m : (ℓ : Loc nD τ sig) → Buf (Elt Ideal) ℓ) (h : Cert.Pre_SmallIdeal_small_finite m) (c : Dev nD) :
    (∀ k, IsReal (a0 m c (ix2 11 k))) ∧ (∀ i, IsReal (a10 m c i)) := by
  have h0 := congrFun (h c) ix0
  dsimp only [Cert.Pre_small_finite.fn] at h0
  obtain ⟨h0, h1⟩ := IntOp.andi_eq_one.1 h0
  exact ⟨cut_real _ _ (isReal_of_all _ _ _ _ _ _ _ h0), isReal_of_all _ _ _ _ _ _ _ h1⟩

/-- Both programs leave the same gradients, changes and running means of the ten small parameters, over real numbers, where the row of the bounds' gradient
and the bounds' parameter are finite. -/
theorem algebraic_small : Cert.algebraic_SmallIdeal_SmallRefIdeal_pre_small_finite := by
  intro m g m' g' hpre hag
  refine ⟨
    fun c => flatRows (F := Ideal) (a0 m c),
    fun c => step (F := Ideal) (flatRows (F := Ideal) (a0 m c)) (a1 m c) (a2 m c) (a3 m c),
    fun c => firstMoment (F := Ideal) (flatRows (F := Ideal) (a0 m c)) (a2 m c),
    fun c => secondMoment (F := Ideal) (flatRows (F := Ideal) (a0 m c)) (a3 m c),
    fun c => row (F := Ideal) 9 (by decide) (a0 m c),
    fun c => step (F := Ideal) (row (F := Ideal) 9 (by decide) (a0 m c)) (a4 m c) (a5 m c) (a6 m c),
    fun c => firstMoment (F := Ideal) (row (F := Ideal) 9 (by decide) (a0 m c)) (a5 m c),
    fun c => secondMoment (F := Ideal) (row (F := Ideal) 9 (by decide) (a0 m c)) (a6 m c),
    fun c => row (F := Ideal) 10 (by decide) (a0 m c),
    fun c => step (F := Ideal) (row (F := Ideal) 10 (by decide) (a0 m c)) (a7 m c) (a8 m c) (a9 m c),
    fun c => firstMoment (F := Ideal) (row (F := Ideal) 10 (by decide) (a0 m c)) (a8 m c),
    fun c => secondMoment (F := Ideal) (row (F := Ideal) 10 (by decide) (a0 m c)) (a9 m c),
    fun c => boundGrad (F := Ideal) (a0 m c) (a10 m c),
    fun c => step (F := Ideal) (boundGrad (F := Ideal) (a0 m c) (a10 m c)) (a10 m c) (a11 m c) (a12 m c),
    fun c => firstMoment (F := Ideal) (boundGrad (F := Ideal) (a0 m c) (a10 m c)) (a11 m c),
    fun c => secondMoment (F := Ideal) (boundGrad (F := Ideal) (a0 m c) (a10 m c)) (a12 m c),
    fun c => row (F := Ideal) 12 (by decide) (a0 m c),
    fun c => step (F := Ideal) (row (F := Ideal) 12 (by decide) (a0 m c)) (a13 m c) (a14 m c) (a15 m c),
    fun c => firstMoment (F := Ideal) (row (F := Ideal) 12 (by decide) (a0 m c)) (a14 m c),
    fun c => secondMoment (F := Ideal) (row (F := Ideal) 12 (by decide) (a0 m c)) (a15 m c),
    fun c => row (F := Ideal) 13 (by decide) (a0 m c),
    fun c => step (F := Ideal) (row (F := Ideal) 13 (by decide) (a0 m c)) (a16 m c) (a17 m c) (a18 m c),
    fun c => firstMoment (F := Ideal) (row (F := Ideal) 13 (by decide) (a0 m c)) (a17 m c),
    fun c => secondMoment (F := Ideal) (row (F := Ideal) 13 (by decide) (a0 m c)) (a18 m c),
    fun c => row (F := Ideal) 14 (by decide) (a0 m c),
    fun c => step (F := Ideal) (row (F := Ideal) 14 (by decide) (a0 m c)) (a19 m c) (a20 m c) (a21 m c),
    fun c => firstMoment (F := Ideal) (row (F := Ideal) 14 (by decide) (a0 m c)) (a20 m c),
    fun c => secondMoment (F := Ideal) (row (F := Ideal) 14 (by decide) (a0 m c)) (a21 m c),
    fun c => row (F := Ideal) 15 (by decide) (a0 m c),
    fun c => step (F := Ideal) (row (F := Ideal) 15 (by decide) (a0 m c)) (a22 m c) (a23 m c) (a24 m c),
    fun c => firstMoment (F := Ideal) (row (F := Ideal) 15 (by decide) (a0 m c)) (a23 m c),
    fun c => secondMoment (F := Ideal) (row (F := Ideal) 15 (by decide) (a0 m c)) (a24 m c),
    fun c => row (F := Ideal) 16 (by decide) (a0 m c),
    fun c => step (F := Ideal) (row (F := Ideal) 16 (by decide) (a0 m c)) (a25 m c) (a26 m c) (a27 m c),
    fun c => firstMoment (F := Ideal) (row (F := Ideal) 16 (by decide) (a0 m c)) (a26 m c),
    fun c => secondMoment (F := Ideal) (row (F := Ideal) 16 (by decide) (a0 m c)) (a27 m c),
    fun c => row (F := Ideal) 17 (by decide) (a0 m c),
    fun c => step (F := Ideal) (row (F := Ideal) 17 (by decide) (a0 m c)) (a28 m c) (a29 m c) (a30 m c),
    fun c => firstMoment (F := Ideal) (row (F := Ideal) 17 (by decide) (a0 m c)) (a29 m c),
    fun c => secondMoment (F := Ideal) (row (F := Ideal) 17 (by decide) (a0 m c)) (a30 m c),
    run_formulas m g, ?_⟩
  refine (θ_run _ _ _).mono (fun r h c => ?_) (Cert.SmallRefIdeal.Value.run m' g')
  obtain ⟨
    h0, h1, h2, h3, h4, h5, h6, h7, h8, h9, h10, h11, h12, h13, h14, h15, h16, h17, h18, h19, h20, h21, h22, h23, h24, h25, h26, h27, h28, h29, h30,
    h31, h32, h33, h34, h35, h36, h37, h38, h39, hargs⟩ := h c
  obtain ⟨
    e0, e1, e2, e3, e4, e5, e6, e7, e8, e9, e10, e11, e12, e13, e14, e15, e16, e17, e18, e19, e20, e21, e22, e23, e24, e25, e26, e27, e28, e29, e30⟩ := hag c
  obtain ⟨r0, r1⟩ := finite_args m hpre c
  have g0 : Cert.SmallRefIdeal.Value.res_main_v1 (StableHlo.launchContents m' c) = flatRows (F := Ideal) (a0 m c) := (val_main_v1_eq _).trans ((flat_rows _).trans (congrArg _ e0))
  have g1 : Cert.SmallRefIdeal.Value.res_main_v26 (StableHlo.launchContents m' c) = row (F := Ideal) 9 (by decide) (a0 m c) := (cut_row 9 (by decide) _ _).trans (congrArg _ e0)
  have g2 : Cert.SmallRefIdeal.Value.res_main_v51 (StableHlo.launchContents m' c) = row (F := Ideal) 10 (by decide) (a0 m c) := (cut_row 10 (by decide) _ _).trans (congrArg _ e0)
  have g3 : Cert.SmallRefIdeal.Value.res_main_v123 (StableHlo.launchContents m' c) = boundGrad (F := Ideal) (a0 m c) (a10 m c) := (val_main_v123_eq _).trans (((bound_grad _ _ (fun k => (congrArg IsReal (congrFun e0 (ix2 11 k))).mpr (r0 k)) fun i => (congrArg IsReal (congrFun e10 i)).mpr (r1 i)).symm).trans (congrArg₂ _ e0 e10))
  have g4 : Cert.SmallRefIdeal.Value.res_main_v148 (StableHlo.launchContents m' c) = row (F := Ideal) 12 (by decide) (a0 m c) := (cut_row 12 (by decide) _ _).trans (congrArg _ e0)
  have g5 : Cert.SmallRefIdeal.Value.res_main_v173 (StableHlo.launchContents m' c) = row (F := Ideal) 13 (by decide) (a0 m c) := (cut_row 13 (by decide) _ _).trans (congrArg _ e0)
  have g6 : Cert.SmallRefIdeal.Value.res_main_v198 (StableHlo.launchContents m' c) = row (F := Ideal) 14 (by decide) (a0 m c) := (cut_row 14 (by decide) _ _).trans (congrArg _ e0)
  have g7 : Cert.SmallRefIdeal.Value.res_main_v223 (StableHlo.launchContents m' c) = row (F := Ideal) 15 (by decide) (a0 m c) := (cut_row 15 (by decide) _ _).trans (congrArg _ e0)
  have g8 : Cert.SmallRefIdeal.Value.res_main_v248 (StableHlo.launchContents m' c) = row (F := Ideal) 16 (by decide) (a0 m c) := (cut_row 16 (by decide) _ _).trans (congrArg _ e0)
  have g9 : Cert.SmallRefIdeal.Value.res_main_v273 (StableHlo.launchContents m' c) = row (F := Ideal) 17 (by decide) (a0 m c) := (cut_row 17 (by decide) _ _).trans (congrArg _ e0)
  exact ⟨
    h0.trans g0, h1.trans (ref_step _ g0 e1 e2 e3), h2.trans (ref_first _ g0 e2), h3.trans (ref_second _ g0 e3), h4.trans g1,
    h5.trans (ref_step _ g1 e4 e5 e6), h6.trans (ref_first _ g1 e5), h7.trans (ref_second _ g1 e6), h8.trans g2, h9.trans (ref_step _ g2 e7 e8 e9),
    h10.trans (ref_first _ g2 e8), h11.trans (ref_second _ g2 e9), h12.trans g3, h13.trans (ref_step _ g3 e10 e11 e12), h14.trans (ref_first _ g3 e11),
    h15.trans (ref_second _ g3 e12), h16.trans g4, h17.trans (ref_step _ g4 e13 e14 e15), h18.trans (ref_first _ g4 e14),
    h19.trans (ref_second _ g4 e15), h20.trans g5, h21.trans (ref_step _ g5 e16 e17 e18), h22.trans (ref_first _ g5 e17),
    h23.trans (ref_second _ g5 e18), h24.trans g6, h25.trans (ref_step _ g6 e19 e20 e21), h26.trans (ref_first _ g6 e20),
    h27.trans (ref_second _ g6 e21), h28.trans g7, h29.trans (ref_step _ g7 e22 e23 e24), h30.trans (ref_first _ g7 e23),
    h31.trans (ref_second _ g7 e24), h32.trans g8, h33.trans (ref_step _ g8 e25 e26 e27), h34.trans (ref_first _ g8 e26),
    h35.trans (ref_second _ g8 e27), h36.trans g9, h37.trans (ref_step _ g9 e28 e29 e30), h38.trans (ref_first _ g9 e29),
    h39.trans (ref_second _ g9 e30), hargs⟩

end Cert.SmallIdeal.Value

end
-- ==== Proof.FfnXSame.lean ====
module

public import proofs.«01_k».proof.Defs
public import proofs.«01_k».proof.Proof.FfnXFrame
public import proofs.«01_k».proof.Proof.Gen.FfnX

/-! The printed program and its idealization have one text: the frame of one is the frame of the other. -/

@[expose] public section

set_option maxRecDepth 16384

namespace Cert.FfnX.Hand

open Idealize.ShloMosaic Idealize.ShloMosaic.TcCoe

variable {F : FTy → Type} [FloatOps F]

/-- The two printed bodies are the same text. -/
theorem body_eq : @Cert.FfnX.cc0_ffn2_bwd_x F _ _ = @Cert.FfnXIdeal.cc0_ffn2_bwd_x F _ _ := rfl

set_option maxHeartbeats 4000000 in
/-- The two body tables are one. -/
theorem table_eq : (Cert.FfnX.defs₀ (F := F)) = Cert.FfnXIdeal.defs₀ (F := F) := by
  refine congrArg Defs.onTc ?_
  funext l x
  match l, x with
  | 0, (t, s) =>
    dsimp only
    rw [body_eq]
    rfl
  | ⟨_ + 1, h⟩, _ => exact absurd h (Nat.not_lt.2 (Nat.le_add_left _ _))

/-- The two tables of functions are the same. -/
theorem defs_eq : (Cert.FfnX.defs (F := F)) = Cert.FfnXIdeal.defs (F := F) :=
  congrArg (Pipeline.defs Cert.FfnXIdeal.pcfgs) table_eq

set_option maxHeartbeats 4000000 in
/-- The frame of `_ffn_bwd_x` as printed. -/
theorem frame : Cert.quiescent_FfnX := fun m ρ _ => by
  rw [defs_eq]
  exact Cert.FfnXIdeal.Hand.frame (F := Bits) m ρ

end Cert.FfnX.Hand
-- ==== Proof.MixSame.lean ====
module

public import proofs.«01_k».proof.Defs
public import proofs.«01_k».proof.Proof.MixFrame
public import proofs.«01_k».proof.Proof.Gen.Mix

/-! The printed program and its idealization have one text: the frame of one is the frame of the other. -/

@[expose] public section

set_option maxRecDepth 16384

namespace Cert.Mix.Hand

open Idealize.ShloMosaic Idealize.ShloMosaic.TcCoe

variable {F : FTy → Type} [FloatOps F]

/-- The two printed bodies are the same text. -/
theorem body_eq : @Cert.Mix.cc0_mixin_bwd F _ _ = @Cert.MixIdeal.cc0_mixin_bwd F _ _ := rfl

set_option maxHeartbeats 4000000 in
/-- The two body tables are one. -/
theorem table_eq : (Cert.Mix.defs₀ (F := F)) = Cert.MixIdeal.defs₀ (F := F) := by
  refine congrArg Defs.onTc ?_
  funext l x
  match l, x with
  | 0, (t, s) =>
    dsimp only
    rw [body_eq]
    rfl
  | ⟨_ + 1, h⟩, _ => exact absurd h (Nat.not_lt.2 (Nat.le_add_left _ _))

/-- The two tables of functions are the same. -/
theorem defs_eq : (Cert.Mix.defs (F := F)) = Cert.MixIdeal.defs (F := F) :=
  congrArg (Pipeline.defs Cert.MixIdeal.pcfgs) table_eq

set_option maxHeartbeats 4000000 in
/-- The frame of `_mixin_bwd` as printed. -/
theorem frame : Cert.quiescent_Mix := fun m ρ _ => by
  rw [defs_eq]
  exact Cert.MixIdeal.Hand.frame (F := Bits) m ρ

end Cert.Mix.Hand
-- ==== Proof.SmallSame.lean ====
module

public import proofs.«01_k».proof.Defs
public import proofs.«01_k».proof.Proof.SmallWhole
public import proofs.«01_k».proof.Proof.Gen.Small

/-! The printed program and its idealization have one text: the run of one is the run of the other. -/

@[expose] public section

set_option maxRecDepth 16384

namespace Cert.SmallIdeal.Hand

open Idealize.ShloMosaic Idealize.ShloMosaic.TcCoe

/-- The frame of the idealized `_adamw_small`. -/
theorem frame : Cert.quiescent_SmallIdeal := fun m ρ _ =>
  (θ_run Cert.SmallIdeal.defs _ _).mono (fun _ h => ⟨fun c => ⟨
    h.1 c 0 rfl, h.1 c 1 rfl, h.1 c 2 rfl, h.1 c 3 rfl, h.1 c 4 rfl, h.1 c 5 rfl, h.1 c 6 rfl, h.1 c 7 rfl, h.1 c 8 rfl, h.1 c 9 rfl, h.1 c 10 rfl, h.1 c 11 rfl,
    h.1 c 12 rfl, h.1 c 13 rfl, h.1 c 14 rfl, h.1 c 15 rfl, h.1 c 16 rfl, h.1 c 17 rfl, h.1 c 18 rfl, h.1 c 19 rfl, h.1 c 20 rfl, h.1 c 21 rfl, h.1 c 22 rfl,
    h.1 c 23 rfl, h.1 c 24 rfl, h.1 c 25 rfl, h.1 c 26 rfl, h.1 c 27 rfl, h.1 c 28 rfl, h.1 c 29 rfl, h.1 c 30 rfl⟩, h.2⟩) (kept (F := Ideal) m ρ)

end Cert.SmallIdeal.Hand

namespace Cert.Small.Hand

open Idealize.ShloMosaic Idealize.ShloMosaic.TcCoe

variable {F : FTy → Type} [FloatOps F]

set_option maxHeartbeats 40000000 in
/-- The two printed bodies are the same text. -/
theorem body_eq : @Cert.Small.cc0_adamw_small F _ _ = @Cert.SmallIdeal.cc0_adamw_small F _ _ := rfl

set_option maxHeartbeats 40000000 in
/-- The two body tables are one. -/
theorem table_eq : (Cert.Small.defs₀ (F := F)) = Cert.SmallIdeal.defs₀ (F := F) := by
  refine congrArg Defs.onTc ?_
  funext l x
  match l, x with
  | 0, (t, s) =>
    dsimp only
    rw [body_eq]
  | ⟨_ + 1, h⟩, _ => exact absurd h (Nat.not_lt.2 (Nat.le_add_left _ _))

set_option maxHeartbeats 40000000 in
/-- The two tables of functions are the same. -/
theorem defs_eq : (Cert.Small.defs (F := F)) = Cert.SmallIdeal.defs (F := F) :=
  congrArg (Pipeline.defs Cert.SmallIdeal.pcfgs) table_eq

set_option maxHeartbeats 40000000 in
/-- The frame of `_adamw_small` as printed. -/
theorem frame : Cert.quiescent_Small := fun m ρ _ => by
  rw [defs_eq]
  exact (θ_run Cert.SmallIdeal.defs _ _).mono (fun _ h => ⟨fun c => ⟨
    h.1 c 0 rfl, h.1 c 1 rfl, h.1 c 2 rfl, h.1 c 3 rfl, h.1 c 4 rfl, h.1 c 5 rfl, h.1 c 6 rfl, h.1 c 7 rfl, h.1 c 8 rfl, h.1 c 9 rfl, h.1 c 10 rfl, h.1 c 11 rfl,
    h.1 c 12 rfl, h.1 c 13 rfl, h.1 c 14 rfl, h.1 c 15 rfl, h.1 c 16 rfl, h.1 c 17 rfl, h.1 c 18 rfl, h.1 c 19 rfl, h.1 c 20 rfl, h.1 c 21 rfl, h.1 c 22 rfl,
    h.1 c 23 rfl, h.1 c 24 rfl, h.1 c 25 rfl, h.1 c 26 rfl, h.1 c 27 rfl, h.1 c 28 rfl, h.1 c 29 rfl, h.1 c 30 rfl⟩, h.2⟩) (Cert.SmallIdeal.Hand.kept (F := Bits) m ρ)

end Cert.Small.Hand
-- ==== Proof.lean ====
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.FfnW
public import proofs.«01_k».proof.Proof.Gen.FfnW.Frame
public import proofs.«01_k».proof.Proof.Gen.FfnWIdeal
public import proofs.«01_k».proof.Proof.Gen.FfnWIdeal.Frame
public import proofs.«01_k».proof.Proof.Gen.FfnWRefIdeal
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.FfnX
public import proofs.«01_k».proof.Proof.Gen.FfnX.Frame
public import proofs.«01_k».proof.Proof.Gen.FfnXIdeal
public import proofs.«01_k».proof.Proof.Gen.FfnXIdeal.Frame
public import proofs.«01_k».proof.Proof.Gen.FfnXRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.Small
public import proofs.«01_k».proof.Proof.Gen.SmallIdeal
public import proofs.«01_k».proof.Proof.Gen.SmallRefIdeal
public import proofs.«01_k».proof.Proof.Gen.Pre_ffn_w_finite
public import proofs.«01_k».proof.Proof.Gen.Pre_head_finite
public import proofs.«01_k».proof.Proof.Gen.Pre_ffn_x_finite
public import proofs.«01_k».proof.Proof.Gen.Pre_mixin_finite
public import proofs.«01_k».proof.Proof.Gen.Pre_small_finite
public import proofs.«01_k».proof.Proof.Gen.On_gate_planes
public import proofs.«01_k».proof.Proof.Gen.GateIdeal.Value
public import proofs.«01_k».proof.Proof.Gen.FfnWIdeal.Value
public import proofs.«01_k».proof.Proof.Gen.HeadIdeal.Value
public import proofs.«01_k».proof.Proof.Gen.FfnIdeal.Value
public import proofs.«01_k».proof.Proof.Gen.OutIdeal.Value
public import proofs.«01_k».proof.Proof.Gen.GateRefIdeal.Run
public import proofs.«01_k».proof.Proof.Gen.GateRefIdeal.Read
public import proofs.«01_k».proof.Proof.Gen.FfnWRefIdeal.Run
public import proofs.«01_k».proof.Proof.Gen.FfnWRefIdeal.Read
public import proofs.«01_k».proof.Proof.Gen.HeadRefIdeal.Run
public import proofs.«01_k».proof.Proof.Gen.HeadRefIdeal.Read
public import proofs.«01_k».proof.Proof.Gen.FfnXRefIdeal.Run
public import proofs.«01_k».proof.Proof.Gen.FfnXRefIdeal.Read
public import proofs.«01_k».proof.Proof.Gen.MixRefIdeal.Run
public import proofs.«01_k».proof.Proof.Gen.MixRefIdeal.Read
public import proofs.«01_k».proof.Proof.Gen.FfnRefIdeal.Run
public import proofs.«01_k».proof.Proof.Gen.FfnRefIdeal.Read
public import proofs.«01_k».proof.Proof.Gen.OutRefIdeal.Run
public import proofs.«01_k».proof.Proof.Gen.OutRefIdeal.Read
public import proofs.«01_k».proof.Proof.Gen.SmallRefIdeal.Run
public import proofs.«01_k».proof.Proof.Gen.SmallRefIdeal.Read
public import proofs.«01_k».proof.Proof.FfnClaim
public import proofs.«01_k».proof.Proof.FfnWClaim
public import proofs.«01_k».proof.Proof.FfnXClaim
public import proofs.«01_k».proof.Proof.GateClaim
public import proofs.«01_k».proof.Proof.HeadClaim
public import proofs.«01_k».proof.Proof.MixClaim
public import proofs.«01_k».proof.Proof.OutClaim
public import proofs.«01_k».proof.Proof.SmallClaim
public import proofs.«01_k».proof.Proof.FfnXSame
public import proofs.«01_k».proof.Proof.MixSame
public import proofs.«01_k».proof.Proof.SmallSame
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The reference of the gated merge runs to its end, leaves its arguments as they were and every counter at zero. -/
theorem frame_gate_ref [Cert.GateRefIdeal.Facts] : Cert.quiescent_GateRefIdeal := by
  exact fun m g _ => (θ_run _ _ _).mono (fun r h => ⟨fun c => (h c).2.2.2.2.2.2.2, sem_eq_zero_of_no_sems rfl r.2⟩) (Cert.GateRefIdeal.Value.run m g)

/-- The same of the reference of the feed-forward weights' gradients. -/
theorem frame_ffn_w_ref [Cert.FfnWRefIdeal.Facts] : Cert.quiescent_FfnWRefIdeal := by
  exact fun m g _ => (θ_run _ _ _).mono (fun r h => ⟨fun c => (h c).2.2.2.2, sem_eq_zero_of_no_sems rfl r.2⟩) (Cert.FfnWRefIdeal.Value.run m g)

/-- The same of the reference of the second feed-forward block with the loss. -/
theorem frame_head_ref [Cert.HeadRefIdeal.Facts] : Cert.quiescent_HeadRefIdeal := by
  exact fun m g _ => (θ_run _ _ _).mono (fun r h => ⟨fun c => (h c).2.2.2.2.2.2.2, sem_eq_zero_of_no_sems rfl r.2⟩) (Cert.HeadRefIdeal.Value.run m g)

/-- The same of the reference of the feed-forward block's rows. -/
theorem frame_ffn_x_ref [Cert.FfnXRefIdeal.Facts] : Cert.quiescent_FfnXRefIdeal := by
  exact fun m g _ => (θ_run _ _ _).mono (fun r h => ⟨fun c => (h c).2.2, sem_eq_zero_of_no_sems rfl r.2⟩) (Cert.FfnXRefIdeal.Value.run m g)

/-- The same of the reference of the mixer input. -/
theorem frame_mix_ref [Cert.MixRefIdeal.Facts] : Cert.quiescent_MixRefIdeal := by
  exact fun m g _ => (θ_run _ _ _).mono (fun r h => ⟨fun c => (h c).2.2.2.2, sem_eq_zero_of_no_sems rfl r.2⟩) (Cert.MixRefIdeal.Value.run m g)

/-- The same of the reference of the first feed-forward block. -/
theorem frame_ffn_ref [Cert.FfnRefIdeal.Facts] : Cert.quiescent_FfnRefIdeal := by
  exact fun m g _ => (θ_run _ _ _).mono (fun r h => ⟨fun c => (h c).2.2.2.2.2.2, sem_eq_zero_of_no_sems rfl r.2⟩) (Cert.FfnRefIdeal.Value.run m g)

/-- The same of the reference of the gated merge's forward call. -/
theorem frame_out_ref [Cert.OutRefIdeal.Facts] : Cert.quiescent_OutRefIdeal := by
  exact fun m g _ => (θ_run _ _ _).mono (fun r h => ⟨fun c => (h c).2.2.2.2, sem_eq_zero_of_no_sems rfl r.2⟩) (Cert.OutRefIdeal.Value.run m g)

/-- The same of the reference of the small arguments' update. -/
theorem frame_small_ref [Cert.SmallRefIdeal.Facts] : Cert.quiescent_SmallRefIdeal := by
  exact fun m g _ => (θ_run _ _ _).mono (fun r h => ⟨fun c => (h c).2.2.2.2.2.2.2.2.2.2.2.2.2.2.2.2.2.2.2.2.2.2.2.2.2.2.2.2.2.2.2.2.2.2.2.2.2.2.2.2, sem_eq_zero_of_no_sems rfl r.2⟩) (Cert.SmallRefIdeal.Value.run m g)

/-- Every claim of the file. -/
theorem claim : Cert.Claim := ⟨Cert.Gate.Gen.facts,
    Cert.GateIdeal.Gen.facts,
    Cert.GateRefIdeal.Gen.facts,
    Cert.FfnW.Gen.facts,
    Cert.FfnWIdeal.Gen.facts,
    Cert.FfnWRefIdeal.Gen.facts,
    Cert.Head.Gen.facts,
    Cert.HeadIdeal.Gen.facts,
    Cert.HeadRefIdeal.Gen.facts,
    Cert.FfnX.Gen.facts,
    Cert.FfnXIdeal.Gen.facts,
    Cert.FfnXRefIdeal.Gen.facts,
    Cert.Mix.Gen.facts,
    Cert.MixIdeal.Gen.facts,
    Cert.MixRefIdeal.Gen.facts,
    Cert.Ffn.Gen.facts,
    Cert.FfnIdeal.Gen.facts,
    Cert.FfnRefIdeal.Gen.facts,
    Cert.Out.Gen.facts,
    Cert.OutIdeal.Gen.facts,
    Cert.OutRefIdeal.Gen.facts,
    Cert.Small.Gen.facts,
    Cert.SmallIdeal.Gen.facts,
    Cert.SmallRefIdeal.Gen.facts,
    Cert.Pre_ffn_w_finite.Gen.facts,
    Cert.Pre_head_finite.Gen.facts,
    Cert.Pre_ffn_x_finite.Gen.facts,
    Cert.Pre_mixin_finite.Gen.facts,
    Cert.Pre_small_finite.Gen.facts,
    Cert.On_gate_planes.Gen.facts, by
  exact ⟨fun m ρ _ => Cert.Gate.Gen.frame m ρ,
    fun m ρ _ => Cert.GateIdeal.Gen.frame m ρ,
    frame_gate_ref,
    fun m ρ _ => Cert.FfnW.Gen.frame m ρ,
    fun m ρ _ => Cert.FfnWIdeal.Gen.frame m ρ,
    fun m ρ _ => Cert.FfnWIdeal.Gen.frame m ρ,
    frame_ffn_w_ref,
    fun m ρ _ => frame_ffn_w_ref m ρ trivial,
    fun m ρ _ => Cert.Head.Gen.frame m ρ,
    fun m ρ _ => Cert.HeadIdeal.Gen.frame m ρ,
    fun m ρ _ => Cert.HeadIdeal.Gen.frame m ρ,
    frame_head_ref,
    fun m ρ _ => frame_head_ref m ρ trivial,
    Cert.FfnX.Hand.frame,
    fun m ρ _ => Cert.FfnXIdeal.Hand.frame m ρ,
    fun m ρ _ => Cert.FfnXIdeal.Hand.frame m ρ,
    frame_ffn_x_ref,
    fun m ρ _ => frame_ffn_x_ref m ρ trivial,
    Cert.Mix.Hand.frame,
    fun m ρ _ => Cert.MixIdeal.Hand.frame m ρ,
    fun m ρ _ => Cert.MixIdeal.Hand.frame m ρ,
    frame_mix_ref,
    fun m ρ _ => frame_mix_ref m ρ trivial,
    fun m ρ _ => Cert.Ffn.Gen.frame m ρ,
    fun m ρ _ => Cert.FfnIdeal.Gen.frame m ρ,
    frame_ffn_ref,
    fun m ρ _ => Cert.Out.Gen.frame m ρ,
    fun m ρ _ => Cert.OutIdeal.Gen.frame m ρ,
    frame_out_ref,
    Cert.Small.Hand.frame,
    fun m ρ _ => Cert.SmallIdeal.Hand.frame m ρ trivial,
    fun m ρ _ => Cert.SmallIdeal.Hand.frame m ρ trivial,
    frame_small_ref,
    fun m ρ _ => frame_small_ref m ρ trivial,
    trivial,
    Cert.GateIdeal.Value.algebraic_gate,
    trivial,
    Cert.FfnWIdeal.Value.algebraic_ffn_w,
    trivial,
    Cert.HeadIdeal.Value.algebraic_head,
    trivial,
    Cert.FfnXIdeal.Value.algebraic_ffn_x,
    trivial,
    Cert.MixIdeal.Value.algebraic_mixin,
    trivial,
    Cert.FfnIdeal.Value.algebraic_ffn,
    trivial,
    Cert.OutIdeal.Value.algebraic_mixout,
    trivial,
    Cert.SmallIdeal.Value.algebraic_small⟩⟩

end Cert.Proof

end
